-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x8x128 : S_.BroadcastsInDim S1x32768x8x128 (![] : Fin 0 → Fin S1x32768x8x128.rank)
  reducesTo_S1x32768x8x128_S_d0_1_2_3 : S1x32768x8x128.ReducesTo [0, 1, 2, 3] S_

variable [Facts]

def fn {F : FTy → Type} [FloatOps F] (main_arg0 : FVec F S1x256x1024 .f32) (main_arg1 : FVec F S1024x1024 .f32) (main_arg2 : FVec F S1x32768x8x128 .f32) (main_arg3 : FVec F S1x32768x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x8x128 .f32 := Host.absf main_arg2
  let main_cst_2 : FVec F S_ .f32 := constant S_ .f32 0x7F800000#32
  let main_v10 : FVec F S1x32768x8x128 .f32 := broadcastInDim S1x32768x8x128 ![] bcast_S_S1x32768x8x128 main_cst_2
  let main_v11 : IVec S1x32768x8x128 1 := cmpf .olt main_v9 main_v10
  let main_c_3 : IVec S_ 1 := constantI S_ 1 1#1
  let main_v12 : IVec S_ 1 := (fun x v => Host.reduce IntOp.andi x v reducesTo_S1x32768x8x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S1x4096x1024 : Shape := ⟨3, ![1, 4096, 1024]⟩
abbrev S1x512x8x128 : Shape := ⟨4, ![1, 512, 8, 128]⟩
abbrev S1x512x1024 : Shape := ⟨3, ![1, 512, 1024]⟩
abbrev S512x8x128 : Shape := ⟨3, ![512, 8, 128]⟩
abbrev S512x1024 : Shape := ⟨2, ![512, 1024]⟩
abbrev S1024x128 : Shape := ⟨2, ![1024, 128]⟩
abbrev S1x4096x128 : Shape := ⟨3, ![1, 4096, 128]⟩
abbrev S8x256x128 : Shape := ⟨3, ![8, 256, 128]⟩
abbrev S256x8 : Shape := ⟨2, ![256, 8]⟩
abbrev S3x1408x128 : Shape := ⟨3, ![3, 1408, 128]⟩
abbrev S8x8x32x128 : Shape := ⟨4, ![8, 8, 32, 128]⟩
abbrev S8x32x8 : Shape := ⟨3, ![8, 32, 8]⟩
abbrev S8x32x1024 : Shape := ⟨3, ![8, 32, 1024]⟩
abbrev S8 : Shape := ⟨1, ![8]⟩
abbrev S_ : Shape := ⟨0, ![]⟩
abbrev S256x1024 : Shape := ⟨2, ![256, 1024]⟩
abbrev S256x128 : Shape := ⟨2, ![256, 128]⟩
abbrev S4096x128 : Shape := ⟨2, ![4096, 128]⟩
abbrev S64x128 : Shape := ⟨2, ![64, 128]⟩
abbrev S1x64x128 : Shape := ⟨3, ![1, 64, 128]⟩
abbrev S1408x128 : Shape := ⟨2, ![1408, 128]⟩
abbrev S1x1408x128 : Shape := ⟨3, ![1, 1408, 128]⟩
abbrev S1344x128 : Shape := ⟨2, ![1344, 128]⟩
abbrev S1x1344x128 : Shape := ⟨3, ![1, 1344, 128]⟩
abbrev S64x1408 : Shape := ⟨2, ![64, 1408]⟩
abbrev S64 : Shape := ⟨1, ![64]⟩
abbrev S128x128 : Shape := ⟨2, ![128, 128]⟩
abbrev S256 : Shape := ⟨1, ![256]⟩
abbrev S1x256x128 : Shape := ⟨3, ![1, 256, 128]⟩
abbrev S256x1 : Shape := ⟨2, ![256, 1]⟩
abbrev S1 : Shape := ⟨1, ![1]⟩
abbrev S1x8x32x128 : Shape := ⟨4, ![1, 8, 32, 128]⟩
abbrev S8x32x128 : Shape := ⟨3, ![8, 32, 128]⟩
abbrev S1x32x8 : Shape := ⟨3, ![1, 32, 8]⟩
abbrev S32x8 : Shape := ⟨2, ![32, 8]⟩
abbrev S8x32 : Shape := ⟨2, ![8, 32]⟩
abbrev S8x32x1 : Shape := ⟨3, ![8, 32, 1]⟩
abbrev S1x32x128 : Shape := ⟨3, ![1, 32, 128]⟩
abbrev S32x128 : Shape := ⟨2, ![32, 128]⟩
abbrev S32x1024 : Shape := ⟨2, ![32, 1024]⟩
abbrev S1x32x1024 : Shape := ⟨3, ![1, 32, 1024]⟩

abbrev nBuf : Space → Nat
  | .hbm => 8
  | .vmem => 24
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x4096x1024, .bf16⟩
  | .hbm, ⟨6, _⟩ => ⟨S1x4096x1024, .bf16⟩
  | .hbm, ⟨7, _⟩ => ⟨S1x256x1024, .f32⟩
  | .local _ .vmem, ⟨0, _⟩ => ⟨S1x512x8x128, .f32⟩
  | .local _ .vmem, ⟨1, _⟩ => ⟨S1x512x8x128, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x8x128, .f32⟩
  | .local _ .vmem, ⟨5, _⟩ => ⟨S1x512x8x128, .f32⟩
  | .local _ .vmem, ⟨6, _⟩ => ⟨S1x512x1024, .bf16⟩
  | .local _ .vmem, ⟨7, _⟩ => ⟨S1x512x1024, .bf16⟩
  | .local _ .vmem, ⟨8, _⟩ => ⟨S1x256x1024, .f32⟩
  | .local _ .vmem, ⟨9, _⟩ => ⟨S1024x128, .f32⟩
  | .local _ .vmem, ⟨10, _⟩ => ⟨S1024x128, .f32⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1024x1024, .f32⟩
  | .local _ .vmem, ⟨16, _⟩ => ⟨S1x256x1024, .f32⟩
  | .local _ .vmem, ⟨17, _⟩ => ⟨S8x256x128, .bf16⟩
  | .local _ .vmem, ⟨18, _⟩ => ⟨S256x8, .f32⟩
  | .local _ .vmem, ⟨19, _⟩ => ⟨S3x1408x128, .bf16⟩
  | .local _ .vmem, ⟨20, _⟩ => ⟨S3x1408x128, .bf16⟩
  | .local _ .vmem, ⟨21, _⟩ => ⟨S8x8x32x128, .bf16⟩
  | .local _ .vmem, ⟨22, _⟩ => ⟨S8x32x8, .f32⟩
  | .local _ .vmem, ⟨23, _⟩ => ⟨S8x32x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg5_0 : Ref sig .tc := ⟨.vmem, 16, rfl⟩
abbrev cc2_scratch0 : Ref sig .tc := ⟨.vmem, 17, rfl⟩
abbrev cc2_scratch1 : Ref sig .tc := ⟨.vmem, 18, rfl⟩
abbrev cc2_scratch2 : Ref sig .tc := ⟨.vmem, 19, rfl⟩
abbrev cc2_scratch3 : Ref sig .tc := ⟨.vmem, 20, rfl⟩
abbrev cc2_scratch4 : Ref sig .tc := ⟨.vmem, 21, rfl⟩
abbrev cc2_scratch5 : Ref sig .tc := ⟨.vmem, 22, rfl⟩
abbrev cc2_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem5_0 : DmaSem sig := 16
abbrev barrier0 : Sem sig := 0

abbrev nD : Nat := 8
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x512x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k2_dev1 : Nat :=
  let c0_i32_119 : BitVec 32 := 0#32
  let c0_i32_117 : BitVec 32 := 0#32
  let c1_i32_118 : BitVec 32 := 1#32
  let v360 : BitVec 32 := Scalar.muli c0_i32_117 c1_i32_118
  let v361 : BitVec 32 := Scalar.addi c0_i32_119 v360
  v361.toNat
def k2_dev2 : Nat :=
  let c0_i32_123 : BitVec 32 := 0#32
  let c1_i32_121 : BitVec 32 := 1#32
  let c1_i32_122 : BitVec 32 := 1#32
  let v362 : BitVec 32 := Scalar.muli c1_i32_121 c1_i32_122
  let v363 : BitVec 32 := Scalar.addi c0_i32_123 v362
  v363.toNat
def k2_dev3 : Nat :=
  let c0_i32_127 : BitVec 32 := 0#32
  let c2_i32_125 : BitVec 32 := 2#32
  let c1_i32_126 : BitVec 32 := 1#32
  let v364 : BitVec 32 := Scalar.muli c2_i32_125 c1_i32_126
  let v365 : BitVec 32 := Scalar.addi c0_i32_127 v364
  v365.toNat
def k2_dev4 : Nat :=
  let c0_i32_131 : BitVec 32 := 0#32
  let c3_i32_129 : BitVec 32 := 3#32
  let c1_i32_130 : BitVec 32 := 1#32
  let v366 : BitVec 32 := Scalar.muli c3_i32_129 c1_i32_130
  let v367 : BitVec 32 := Scalar.addi c0_i32_131 v366
  v367.toNat
def k2_dev5 : Nat :=
  let c0_i32_134 : BitVec 32 := 0#32
  let c4_i32 : BitVec 32 := 4#32
  let c1_i32_133 : BitVec 32 := 1#32
  let v368 : BitVec 32 := Scalar.muli c4_i32 c1_i32_133
  let v369 : BitVec 32 := Scalar.addi c0_i32_134 v368
  v369.toNat
def k2_dev6 : Nat :=
  let c0_i32_137 : BitVec 32 := 0#32
  let c5_i32 : BitVec 32 := 5#32
  let c1_i32_136 : BitVec 32 := 1#32
  let v370 : BitVec 32 := Scalar.muli c5_i32 c1_i32_136
  let v371 : BitVec 32 := Scalar.addi c0_i32_137 v370
  v371.toNat
def k2_dev7 : Nat :=
  let c0_i32_140 : BitVec 32 := 0#32
  let c6_i32 : BitVec 32 := 6#32
  let c1_i32_139 : BitVec 32 := 1#32
  let v372 : BitVec 32 := Scalar.muli c6_i32 c1_i32_139
  let v373 : BitVec 32 := Scalar.addi c0_i32_140 v372
  v373.toNat
def k2_dev8 : Nat :=
  let c0_i32_144 : BitVec 32 := 0#32
  let c7_i32_142 : BitVec 32 := 7#32
  let c1_i32_143 : BitVec 32 := 1#32
  let v374 : BitVec 32 := Scalar.muli c7_i32_142 c1_i32_143
  let v375 : BitVec 32 := Scalar.addi c0_i32_144 v374
  v375.toNat
def k2_off1 (d0 : Dev nD) (c0_i32_30 : BitVec 32) : Fin 3 → Nat :=
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v176 : BitVec 32 := Scalar.addi c0_i32_30 v2
  let v177 : BitVec 32 := Scalar.muli c2_i32 v176
  let c3_i32 : BitVec 32 := 3#32
  let c0_i32_31 : BitVec 32 := 0#32
  let v178 : BitVec 1 := Scalar.cmpi .eq c3_i32 c0_i32_31
  let c1_i32_32 : BitVec 32 := 1#32
  let v179 : BitVec 32 := Scalar.select v178 c1_i32_32 c3_i32
  let v180 : BitVec 32 := Scalar.remsi v177 v179
  let c0_i32_34 : BitVec 32 := 0#32
  let v182 : BitVec 1 := Scalar.cmpi .slt v180 c0_i32_34
  let c0_i32_35 : BitVec 32 := 0#32
  let v183 : BitVec 1 := Scalar.cmpi .slt v179 c0_i32_35
  let v184 : BitVec 1 := Scalar.xori v182 v183
  let c0_i32_33 : BitVec 32 := 0#32
  let v181 : BitVec 1 := Scalar.cmpi .ne v180 c0_i32_33
  let v185 : BitVec 1 := Scalar.andi v184 v181
  let v186 : BitVec 32 := Scalar.addi v180 v179
  let v187 : BitVec 32 := Scalar.select v185 v186 v180
  let v188 : Index := Scalar.indexCast v187
  let c0_36 : Index := 0#32
  let c0_37 : Index := 0#32
  ![v188.toNat, 0, 0]
def k2_off2 (i : grid2.Coords) : Fin 3 → Nat :=
  let arg0 : BitVec 32 := BitVec.ofNat 32 (i 0).val
  let v341 : Index := Scalar.indexCast arg0
  let c0_109 : Index := 0#32
  let c0_110 : Index := 0#32
  ![v341.toNat, 0, 0]
def k2_cond3 (i : grid2.Coords) : BitVec 1 :=
  let arg0 : BitVec 32 := BitVec.ofNat 32 (i 0).val
  let c7_i32 : BitVec 32 := 7#32
  let v356 : BitVec 1 := Scalar.cmpi .eq arg0 c7_i32
  let v357 : BitVec 32 := Scalar.extui v356
  let c0_i32_115 : BitVec 32 := 0#32
  let v358 : BitVec 1 := Scalar.cmpi .ne v357 c0_i32_115
  v358

def k2_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let v359 : BitVec 1 := Scalar.cmpi .ne v2 c0_i32_116
  let v360 : BitVec 32 := Scalar.extui v359
  let c0_i32_117 : BitVec 32 := 0#32
  let v361 : BitVec 1 := Scalar.cmpi .ne v360 c0_i32_117
  v361

def k2_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev9 : Nat :=
  let c0_i32_244 : BitVec 32 := 0#32
  let c0_i32_242 : BitVec 32 := 0#32
  let c1_i32_243 : BitVec 32 := 1#32
  let v562 : BitVec 32 := Scalar.muli c0_i32_242 c1_i32_243
  let v563 : BitVec 32 := Scalar.addi c0_i32_244 v562
  v563.toNat
def k2_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_255 : BitVec 32 := 0#32
  let c0_i32_256 : BitVec 32 := 0#32
  ![v2.toNat, 0, 0]
def k2_dev10 : Nat :=
  let c0_i32_254 : BitVec 32 := 0#32
  let c0_i32_252 : BitVec 32 := 0#32
  let c1_i32_253 : BitVec 32 := 1#32
  let v571 : BitVec 32 := Scalar.muli c0_i32_252 c1_i32_253
  let v572 : BitVec 32 := Scalar.addi c0_i32_254 v571
  v572.toNat
def k2_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v362 : BitVec 1 := Scalar.cmpi .ne v2 c1_i32_118
  let v363 : BitVec 32 := Scalar.extui v362
  let c0_i32_119 : BitVec 32 := 0#32
  let v364 : BitVec 1 := Scalar.cmpi .ne v363 c0_i32_119
  v364

def k2_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off7 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev11 : Nat :=
  let c0_i32_244 : BitVec 32 := 0#32
  let c1_i32_242 : BitVec 32 := 1#32
  let c1_i32_243 : BitVec 32 := 1#32
  let v562 : BitVec 32 := Scalar.muli c1_i32_242 c1_i32_243
  let v563 : BitVec 32 := Scalar.addi c0_i32_244 v562
  v563.toNat
def k2_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_255 : BitVec 32 := 0#32
  let c0_i32_256 : BitVec 32 := 0#32
  ![v2.toNat, 0, 0]
def k2_dev12 : Nat :=
  let c0_i32_254 : BitVec 32 := 0#32
  let c1_i32_252 : BitVec 32 := 1#32
  let c1_i32_253 : BitVec 32 := 1#32
  let v571 : BitVec 32 := Scalar.muli c1_i32_252 c1_i32_253
  let v572 : BitVec 32 := Scalar.addi c0_i32_254 v571
  v572.toNat
def k2_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_120 : BitVec 32 := 2#32
  let v365 : BitVec 1 := Scalar.cmpi .ne v2 c2_i32_120
  let v366 : BitVec 32 := Scalar.extui v365
  let c0_i32_121 : BitVec 32 := 0#32
  let v367 : BitVec 1 := Scalar.cmpi .ne v366 c0_i32_121
  v367

def k2_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev13 : Nat :=
  let c0_i32_244 : BitVec 32 := 0#32
  let c2_i32_242 : BitVec 32 := 2#32
  let c1_i32_243 : BitVec 32 := 1#32
  let v562 : BitVec 32 := Scalar.muli c2_i32_242 c1_i32_243
  let v563 : BitVec 32 := Scalar.addi c0_i32_244 v562
  v563.toNat
def k2_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_dev14 : Nat :=
  let c0_i32_253 : BitVec 32 := 0#32
  let c2_i32_251 : BitVec 32 := 2#32
  let c1_i32_252 : BitVec 32 := 1#32
  let v571 : BitVec 32 := Scalar.muli c2_i32_251 c1_i32_252
  let v572 : BitVec 32 := Scalar.addi c0_i32_253 v571
  v572.toNat
def k2_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v368 : BitVec 1 := Scalar.cmpi .ne v2 c3_i32_122
  let v369 : BitVec 32 := Scalar.extui v368
  let c0_i32_123 : BitVec 32 := 0#32
  let v370 : BitVec 1 := Scalar.cmpi .ne v369 c0_i32_123
  v370

def k2_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev15 : Nat :=
  let c0_i32_244 : BitVec 32 := 0#32
  let c3_i32_242 : BitVec 32 := 3#32
  let c1_i32_243 : BitVec 32 := 1#32
  let v562 : BitVec 32 := Scalar.muli c3_i32_242 c1_i32_243
  let v563 : BitVec 32 := Scalar.addi c0_i32_244 v562
  v563.toNat
def k2_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_dev16 : Nat :=
  let c0_i32_253 : BitVec 32 := 0#32
  let c3_i32_251 : BitVec 32 := 3#32
  let c1_i32_252 : BitVec 32 := 1#32
  let v571 : BitVec 32 := Scalar.muli c3_i32_251 c1_i32_252
  let v572 : BitVec 32 := Scalar.addi c0_i32_253 v571
  v572.toNat
def k2_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v371 : BitVec 1 := Scalar.cmpi .ne v2 c4_i32
  let v372 : BitVec 32 := Scalar.extui v371
  let c0_i32_124 : BitVec 32 := 0#32
  let v373 : BitVec 1 := Scalar.cmpi .ne v372 c0_i32_124
  v373

def k2_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev17 : Nat :=
  let c0_i32_244 : BitVec 32 := 0#32
  let c4_i32_242 : BitVec 32 := 4#32
  let c1_i32_243 : BitVec 32 := 1#32
  let v562 : BitVec 32 := Scalar.muli c4_i32_242 c1_i32_243
  let v563 : BitVec 32 := Scalar.addi c0_i32_244 v562
  v563.toNat
def k2_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_dev18 : Nat :=
  let c0_i32_253 : BitVec 32 := 0#32
  let c4_i32_251 : BitVec 32 := 4#32
  let c1_i32_252 : BitVec 32 := 1#32
  let v571 : BitVec 32 := Scalar.muli c4_i32_251 c1_i32_252
  let v572 : BitVec 32 := Scalar.addi c0_i32_253 v571
  v572.toNat
def k2_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v374 : BitVec 1 := Scalar.cmpi .ne v2 c5_i32
  let v375 : BitVec 32 := Scalar.extui v374
  let c0_i32_125 : BitVec 32 := 0#32
  let v376 : BitVec 1 := Scalar.cmpi .ne v375 c0_i32_125
  v376

def k2_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev19 : Nat :=
  let c0_i32_244 : BitVec 32 := 0#32
  let c5_i32_242 : BitVec 32 := 5#32
  let c1_i32_243 : BitVec 32 := 1#32
  let v562 : BitVec 32 := Scalar.muli c5_i32_242 c1_i32_243
  let v563 : BitVec 32 := Scalar.addi c0_i32_244 v562
  v563.toNat
def k2_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_dev20 : Nat :=
  let c0_i32_253 : BitVec 32 := 0#32
  let c5_i32_251 : BitVec 32 := 5#32
  let c1_i32_252 : BitVec 32 := 1#32
  let v571 : BitVec 32 := Scalar.muli c5_i32_251 c1_i32_252
  let v572 : BitVec 32 := Scalar.addi c0_i32_253 v571
  v572.toNat
def k2_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v377 : BitVec 1 := Scalar.cmpi .ne v2 c6_i32
  let v378 : BitVec 32 := Scalar.extui v377
  let c0_i32_126 : BitVec 32 := 0#32
  let v379 : BitVec 1 := Scalar.cmpi .ne v378 c0_i32_126
  v379

def k2_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev21 : Nat :=
  let c0_i32_244 : BitVec 32 := 0#32
  let c6_i32_242 : BitVec 32 := 6#32
  let c1_i32_243 : BitVec 32 := 1#32
  let v562 : BitVec 32 := Scalar.muli c6_i32_242 c1_i32_243
  let v563 : BitVec 32 := Scalar.addi c0_i32_244 v562
  v563.toNat
def k2_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_dev22 : Nat :=
  let c0_i32_253 : BitVec 32 := 0#32
  let c6_i32_251 : BitVec 32 := 6#32
  let c1_i32_252 : BitVec 32 := 1#32
  let v571 : BitVec 32 := Scalar.muli c6_i32_251 c1_i32_252
  let v572 : BitVec 32 := Scalar.addi c0_i32_253 v571
  v572.toNat
def k2_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_127 : BitVec 32 := 7#32
  let v380 : BitVec 1 := Scalar.cmpi .ne v2 c7_i32_127
  let v381 : BitVec 32 := Scalar.extui v380
  let c0_i32_128 : BitVec 32 := 0#32
  let v382 : BitVec 1 := Scalar.cmpi .ne v381 c0_i32_128
  v382

def k2_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  let c0_i32_247 : BitVec 32 := 0#32
  ![v2.toNat, 0, 0, 0]
def k2_dev23 : Nat :=
  let c0_i32_244 : BitVec 32 := 0#32
  let c7_i32_242 : BitVec 32 := 7#32
  let c1_i32_243 : BitVec 32 := 1#32
  let v562 : BitVec 32 := Scalar.muli c7_i32_242 c1_i32_243
  let v563 : BitVec 32 := Scalar.addi c0_i32_244 v562
  v563.toNat
def k2_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_dev24 : Nat :=
  let c0_i32_253 : BitVec 32 := 0#32
  let c7_i32_251 : BitVec 32 := 7#32
  let c1_i32_252 : BitVec 32 := 1#32
  let v571 : BitVec 32 := Scalar.muli c7_i32_251 c1_i32_252
  let v572 : BitVec 32 := Scalar.addi c0_i32_253 v571
  v572.toNat
def k2_off27 (d0 : Dev nD) : Fin 3 → Nat :=
  let c0_129 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v383 : BitVec 32 := Scalar.muli v2 c32_i32
  let v384 : Index := Scalar.indexCast v383
  let c0_130 : Index := 0#32
  ![0, v384.toNat, 0]
def k2_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v386 : Index := Scalar.indexCast v2
  let c0_131 : Index := 0#32
  let c0_132 : Index := 0#32
  let c0_133 : Index := 0#32
  ![v386.toNat, 0, 0, 0]
def k2_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_134 : BitVec 32 := 32#32
  let v390 : BitVec 32 := Scalar.muli v2 c32_i32_134
  let v391 : Index := Scalar.indexCast v390
  let c0_135 : Index := 0#32
  ![v391.toNat, 0]
def k2_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v393 : Index := Scalar.indexCast v2
  let c0_136 : Index := 0#32
  let c0_137 : Index := 0#32
  ![v393.toNat, 0, 0]
def k2_off31 (d0 : Dev nD) : Fin 3 → Nat :=
  let c0_189 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_188 : BitVec 32 := 32#32
  let v480 : BitVec 32 := Scalar.muli v2 c32_i32_188
  let v481 : Index := Scalar.indexCast v480
  let c0_190 : Index := 0#32
  ![0, v481.toNat, 0]
def k2_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v486 : Index := Scalar.indexCast v2
  let c0_191 : Index := 0#32
  let c0_192 : Index := 0#32
  ![v486.toNat, 0, 0]
def k2_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_193 : BitVec 32 := 0#32
  let v490 : BitVec 1 := Scalar.cmpi .ne v2 c0_i32_193
  let v491 : BitVec 32 := Scalar.extui v490
  let c0_i32_194 : BitVec 32 := 0#32
  let v492 : BitVec 1 := Scalar.cmpi .ne v491 c0_i32_194
  v492

def k2_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev25 : Nat :=
  let c0_i32_244 : BitVec 32 := 0#32
  let c0_i32_242 : BitVec 32 := 0#32
  let c1_i32_243 : BitVec 32 := 1#32
  let v562 : BitVec 32 := Scalar.muli c0_i32_242 c1_i32_243
  let v563 : BitVec 32 := Scalar.addi c0_i32_244 v562
  v563.toNat
def k2_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v493 : BitVec 1 := Scalar.cmpi .ne v2 c1_i32_195
  let v494 : BitVec 32 := Scalar.extui v493
  let c0_i32_196 : BitVec 32 := 0#32
  let v495 : BitVec 1 := Scalar.cmpi .ne v494 c0_i32_196
  v495

def k2_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev26 : Nat :=
  let c0_i32_244 : BitVec 32 := 0#32
  let c1_i32_242 : BitVec 32 := 1#32
  let c1_i32_243 : BitVec 32 := 1#32
  let v562 : BitVec 32 := Scalar.muli c1_i32_242 c1_i32_243
  let v563 : BitVec 32 := Scalar.addi c0_i32_244 v562
  v563.toNat
def k2_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_197 : BitVec 32 := 2#32
  let v496 : BitVec 1 := Scalar.cmpi .ne v2 c2_i32_197
  let v497 : BitVec 32 := Scalar.extui v496
  let c0_i32_198 : BitVec 32 := 0#32
  let v498 : BitVec 1 := Scalar.cmpi .ne v497 c0_i32_198
  v498

def k2_off37 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev27 : Nat :=
  let c0_i32_244 : BitVec 32 := 0#32
  let c2_i32_242 : BitVec 32 := 2#32
  let c1_i32_243 : BitVec 32 := 1#32
  let v562 : BitVec 32 := Scalar.muli c2_i32_242 c1_i32_243
  let v563 : BitVec 32 := Scalar.addi c0_i32_244 v562
  v563.toNat
def k2_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_199 : BitVec 32 := 3#32
  let v499 : BitVec 1 := Scalar.cmpi .ne v2 c3_i32_199
  let v500 : BitVec 32 := Scalar.extui v499
  let c0_i32_200 : BitVec 32 := 0#32
  let v501 : BitVec 1 := Scalar.cmpi .ne v500 c0_i32_200
  v501

def k2_off39 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev28 : Nat :=
  let c0_i32_244 : BitVec 32 := 0#32
  let c3_i32_242 : BitVec 32 := 3#32
  let c1_i32_243 : BitVec 32 := 1#32
  let v562 : BitVec 32 := Scalar.muli c3_i32_242 c1_i32_243
  let v563 : BitVec 32 := Scalar.addi c0_i32_244 v562
  v563.toNat
def k2_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_201 : BitVec 32 := 4#32
  let v502 : BitVec 1 := Scalar.cmpi .ne v2 c4_i32_201
  let v503 : BitVec 32 := Scalar.extui v502
  let c0_i32_202 : BitVec 32 := 0#32
  let v504 : BitVec 1 := Scalar.cmpi .ne v503 c0_i32_202
  v504

def k2_off41 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev29 : Nat :=
  let c0_i32_244 : BitVec 32 := 0#32
  let c4_i32_242 : BitVec 32 := 4#32
  let c1_i32_243 : BitVec 32 := 1#32
  let v562 : BitVec 32 := Scalar.muli c4_i32_242 c1_i32_243
  let v563 : BitVec 32 := Scalar.addi c0_i32_244 v562
  v563.toNat
def k2_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_203 : BitVec 32 := 5#32
  let v505 : BitVec 1 := Scalar.cmpi .ne v2 c5_i32_203
  let v506 : BitVec 32 := Scalar.extui v505
  let c0_i32_204 : BitVec 32 := 0#32
  let v507 : BitVec 1 := Scalar.cmpi .ne v506 c0_i32_204
  v507

def k2_off43 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev30 : Nat :=
  let c0_i32_244 : BitVec 32 := 0#32
  let c5_i32_242 : BitVec 32 := 5#32
  let c1_i32_243 : BitVec 32 := 1#32
  let v562 : BitVec 32 := Scalar.muli c5_i32_242 c1_i32_243
  let v563 : BitVec 32 := Scalar.addi c0_i32_244 v562
  v563.toNat
def k2_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_205 : BitVec 32 := 6#32
  let v508 : BitVec 1 := Scalar.cmpi .ne v2 c6_i32_205
  let v509 : BitVec 32 := Scalar.extui v508
  let c0_i32_206 : BitVec 32 := 0#32
  let v510 : BitVec 1 := Scalar.cmpi .ne v509 c0_i32_206
  v510

def k2_off45 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev31 : Nat :=
  let c0_i32_244 : BitVec 32 := 0#32
  let c6_i32_242 : BitVec 32 := 6#32
  let c1_i32_243 : BitVec 32 := 1#32
  let v562 : BitVec 32 := Scalar.muli c6_i32_242 c1_i32_243
  let v563 : BitVec 32 := Scalar.addi c0_i32_244 v562
  v563.toNat
def k2_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_207 : BitVec 32 := 7#32
  let v511 : BitVec 1 := Scalar.cmpi .ne v2 c7_i32_207
  let v512 : BitVec 32 := Scalar.extui v511
  let c0_i32_208 : BitVec 32 := 0#32
  let v513 : BitVec 1 := Scalar.cmpi .ne v512 c0_i32_208
  v513

def k2_off47 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k2_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_245 : BitVec 32 := 0#32
  let c0_i32_246 : BitVec 32 := 0#32
  ![v2.toNat, 0, 0]
def k2_dev32 : Nat :=
  let c0_i32_244 : BitVec 32 := 0#32
  let c7_i32_242 : BitVec 32 := 7#32
  let c1_i32_243 : BitVec 32 := 1#32
  let v562 : BitVec 32 := Scalar.muli c7_i32_242 c1_i32_243
  let v563 : BitVec 32 := Scalar.addi c0_i32_244 v562
  v563.toNat
def k2_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_225 : BitVec 32 := 0#32
  let v538 : BitVec 1 := Scalar.cmpi .ne v2 c0_i32_225
  let v539 : BitVec 32 := Scalar.extui v538
  let c0_i32_226 : BitVec 32 := 0#32
  let v540 : BitVec 1 := Scalar.cmpi .ne v539 c0_i32_226
  v540

def k2_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_247 : BitVec 32 := 0#32
  let c0_i32_248 : BitVec 32 := 0#32
  let c0_i32_249 : BitVec 32 := 0#32
  ![v2.toNat, 0, 0, 0]
def k2_off50 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_255 : BitVec 32 := 0#32
  let c0_i32_256 : BitVec 32 := 0#32
  ![v2.toNat, 0, 0]
def k2_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k2_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_227 : BitVec 32 := 1#32
  let v541 : BitVec 1 := Scalar.cmpi .ne v2 c1_i32_227
  let v542 : BitVec 32 := Scalar.extui v541
  let c0_i32_228 : BitVec 32 := 0#32
  let v543 : BitVec 1 := Scalar.cmpi .ne v542 c0_i32_228
  v543

def k2_off52 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_247 : BitVec 32 := 0#32
  let c0_i32_248 : BitVec 32 := 0#32
  let c0_i32_249 : BitVec 32 := 0#32
  ![v2.toNat, 0, 0, 0]
def k2_off53 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_255 : BitVec 32 := 0#32
  let c0_i32_256 : BitVec 32 := 0#32
  ![v2.toNat, 0, 0]
def k2_off54 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k2_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_229 : BitVec 32 := 2#32
  let v544 : BitVec 1 := Scalar.cmpi .ne v2 c2_i32_229
  let v545 : BitVec 32 := Scalar.extui v544
  let c0_i32_230 : BitVec 32 := 0#32
  let v546 : BitVec 1 := Scalar.cmpi .ne v545 c0_i32_230
  v546

def k2_off55 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_246 : BitVec 32 := 0#32
  let c0_i32_247 : BitVec 32 := 0#32
  let c0_i32_248 : BitVec 32 := 0#32
  ![v2.toNat, 0, 0, 0]
def k2_off56 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_off57 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k2_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_231 : BitVec 32 := 3#32
  let v547 : BitVec 1 := Scalar.cmpi .ne v2 c3_i32_231
  let v548 : BitVec 32 := Scalar.extui v547
  let c0_i32_232 : BitVec 32 := 0#32
  let v549 : BitVec 1 := Scalar.cmpi .ne v548 c0_i32_232
  v549

def k2_off58 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_246 : BitVec 32 := 0#32
  let c0_i32_247 : BitVec 32 := 0#32
  let c0_i32_248 : BitVec 32 := 0#32
  ![v2.toNat, 0, 0, 0]
def k2_off59 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_off60 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k2_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_233 : BitVec 32 := 4#32
  let v550 : BitVec 1 := Scalar.cmpi .ne v2 c4_i32_233
  let v551 : BitVec 32 := Scalar.extui v550
  let c0_i32_234 : BitVec 32 := 0#32
  let v552 : BitVec 1 := Scalar.cmpi .ne v551 c0_i32_234
  v552

def k2_off61 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_246 : BitVec 32 := 0#32
  let c0_i32_247 : BitVec 32 := 0#32
  let c0_i32_248 : BitVec 32 := 0#32
  ![v2.toNat, 0, 0, 0]
def k2_off62 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_off63 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k2_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_235 : BitVec 32 := 5#32
  let v553 : BitVec 1 := Scalar.cmpi .ne v2 c5_i32_235
  let v554 : BitVec 32 := Scalar.extui v553
  let c0_i32_236 : BitVec 32 := 0#32
  let v555 : BitVec 1 := Scalar.cmpi .ne v554 c0_i32_236
  v555

def k2_off64 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_246 : BitVec 32 := 0#32
  let c0_i32_247 : BitVec 32 := 0#32
  let c0_i32_248 : BitVec 32 := 0#32
  ![v2.toNat, 0, 0, 0]
def k2_off65 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_off66 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k2_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_237 : BitVec 32 := 6#32
  let v556 : BitVec 1 := Scalar.cmpi .ne v2 c6_i32_237
  let v557 : BitVec 32 := Scalar.extui v556
  let c0_i32_238 : BitVec 32 := 0#32
  let v558 : BitVec 1 := Scalar.cmpi .ne v557 c0_i32_238
  v558

def k2_off67 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_246 : BitVec 32 := 0#32
  let c0_i32_247 : BitVec 32 := 0#32
  let c0_i32_248 : BitVec 32 := 0#32
  ![v2.toNat, 0, 0, 0]
def k2_off68 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_off69 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k2_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_239 : BitVec 32 := 7#32
  let v559 : BitVec 1 := Scalar.cmpi .ne v2 c7_i32_239
  let v560 : BitVec 32 := Scalar.extui v559
  let c0_i32_240 : BitVec 32 := 0#32
  let v561 : BitVec 1 := Scalar.cmpi .ne v560 c0_i32_240
  v561

def k2_off70 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_246 : BitVec 32 := 0#32
  let c0_i32_247 : BitVec 32 := 0#32
  let c0_i32_248 : BitVec 32 := 0#32
  ![v2.toNat, 0, 0, 0]
def k2_off71 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k2_off72 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k2_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_209 : BitVec 32 := 0#32
  let v514 : BitVec 1 := Scalar.cmpi .ne v2 c0_i32_209
  let v515 : BitVec 32 := Scalar.extui v514
  let c0_i32_210 : BitVec 32 := 0#32
  let v516 : BitVec 1 := Scalar.cmpi .ne v515 c0_i32_210
  v516

def k2_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v517 : BitVec 1 := Scalar.cmpi .ne v2 c1_i32_211
  let v518 : BitVec 32 := Scalar.extui v517
  let c0_i32_212 : BitVec 32 := 0#32
  let v519 : BitVec 1 := Scalar.cmpi .ne v518 c0_i32_212
  v519

def k2_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_213 : BitVec 32 := 2#32
  let v520 : BitVec 1 := Scalar.cmpi .ne v2 c2_i32_213
  let v521 : BitVec 32 := Scalar.extui v520
  let c0_i32_214 : BitVec 32 := 0#32
  let v522 : BitVec 1 := Scalar.cmpi .ne v521 c0_i32_214
  v522

def k2_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_215 : BitVec 32 := 3#32
  let v523 : BitVec 1 := Scalar.cmpi .ne v2 c3_i32_215
  let v524 : BitVec 32 := Scalar.extui v523
  let c0_i32_216 : BitVec 32 := 0#32
  let v525 : BitVec 1 := Scalar.cmpi .ne v524 c0_i32_216
  v525

def k2_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_217 : BitVec 32 := 4#32
  let v526 : BitVec 1 := Scalar.cmpi .ne v2 c4_i32_217
  let v527 : BitVec 32 := Scalar.extui v526
  let c0_i32_218 : BitVec 32 := 0#32
  let v528 : BitVec 1 := Scalar.cmpi .ne v527 c0_i32_218
  v528

def k2_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_219 : BitVec 32 := 5#32
  let v529 : BitVec 1 := Scalar.cmpi .ne v2 c5_i32_219
  let v530 : BitVec 32 := Scalar.extui v529
  let c0_i32_220 : BitVec 32 := 0#32
  let v531 : BitVec 1 := Scalar.cmpi .ne v530 c0_i32_220
  v531

def k2_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_221 : BitVec 32 := 6#32
  let v532 : BitVec 1 := Scalar.cmpi .ne v2 c6_i32_221
  let v533 : BitVec 32 := Scalar.extui v532
  let c0_i32_222 : BitVec 32 := 0#32
  let v534 : BitVec 1 := Scalar.cmpi .ne v533 c0_i32_222
  v534

def k2_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_223 : BitVec 32 := 7#32
  let v535 : BitVec 1 := Scalar.cmpi .ne v2 c7_i32_223
  let v536 : BitVec 32 := Scalar.extui v535
  let c0_i32_224 : BitVec 32 := 0#32
  let v537 : BitVec 1 := Scalar.cmpi .ne v536 c0_i32_224
  v537

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S1x256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S32768 : Shape := ⟨1, ![32768]⟩
abbrev S1x32768 : Shape := ⟨2, ![1, 32768]⟩
abbrev S256x32768 : Shape := ⟨2, ![256, 32768]⟩
abbrev S1x8x256x32768 : Shape := ⟨4, ![1, 8, 256, 32768]⟩
abbrev S1x1x256x32768 : Shape := ⟨4, ![1, 1, 256, 32768]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x256x1024, .f32⟩
  | .hbm, ⟨6, _⟩ => ⟨S1x256x8x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S32768, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S1x32768, .i32⟩
  | .hbm, ⟨47, _⟩ => ⟨S256x32768, .i32⟩
  | .hbm, ⟨48, _⟩ => ⟨S256x32768, .i32⟩
  | .hbm, ⟨49, _⟩ => ⟨S256x32768, .i1⟩
  | .hbm, ⟨50, _⟩ => ⟨S_, .i32⟩
  | .hbm, ⟨51, _⟩ => ⟨S1x32768, .i32⟩
  | .hbm, ⟨52, _⟩ => ⟨S1x32768, .i1⟩
  | .hbm, ⟨53, _⟩ => ⟨S256x32768, .i1⟩
  | .hbm, ⟨54, _⟩ => ⟨S256x32768, .i1⟩
  | .hbm, ⟨55, _⟩ => ⟨S256x32768, .i32⟩
  | .hbm, ⟨56, _⟩ => ⟨S256x32768, .i32⟩
  | .hbm, ⟨57, _⟩ => ⟨S256x32768, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x32768, .i32⟩
  | .hbm, ⟨65, _⟩ => ⟨S256x32768, .i32⟩
  | .hbm, ⟨66, _⟩ => ⟨S_, .i32⟩
  | .hbm, ⟨67, _⟩ => ⟨S256x32768, .i32⟩
  | .hbm, ⟨68, _⟩ => ⟨S256x32768, .i1⟩
  | .hbm, ⟨69, _⟩ => ⟨S_, .i32⟩
  | .hbm, ⟨70, _⟩ => ⟨S256x32768, .i32⟩
  | .hbm, ⟨71, _⟩ => ⟨S256x32768, .i1⟩
  | .hbm, ⟨72, _⟩ => ⟨S_, .i32⟩
  | .hbm, ⟨73, _⟩ => ⟨S_, .i1⟩
  | .hbm, ⟨74, _⟩ => ⟨S256x32768, .i1⟩
  | .hbm, ⟨75, _⟩ => ⟨S256x32768, .i1⟩
  | .hbm, ⟨76, _⟩ => ⟨S256x32768, .i1⟩
  | .hbm, ⟨77, _⟩ => ⟨S256x32768, .i32⟩
  | .hbm, ⟨78, _⟩ => ⟨S256x32768, .i32⟩
  | .hbm, ⟨79, _⟩ => ⟨S256x32768, .i32⟩
  | .hbm, ⟨80, _⟩ => ⟨S_, .i32⟩
  | .hbm, ⟨81, _⟩ => ⟨S256x32768, .i32⟩
  | .hbm, ⟨82, _⟩ => ⟨S256x32768, .i1⟩
  | .hbm, ⟨83, _⟩ => ⟨S256x32768, .i1⟩
  | .hbm, ⟨84, _⟩ => ⟨S1x8x256x32768, .f32⟩
  | .hbm, ⟨85, _⟩ => ⟨S_, .f32⟩
  | .hbm, ⟨86, _⟩ => ⟨S1x8x256x32768, .f32⟩
  | .hbm, ⟨87, _⟩ => ⟨S1x8x256x32768, .f32⟩
  | .hbm, ⟨88, _⟩ => ⟨S1x1x256x32768, .i1⟩
  | .hbm, ⟨89, _⟩ => ⟨S_, .f32⟩
  | .hbm, ⟨90, _⟩ => ⟨S_, .f32⟩
  | .hbm, ⟨91, _⟩ => ⟨S1x8x256x32768, .i1⟩
  | .hbm, ⟨92, _⟩ => ⟨S1x8x256x32768, .f32⟩
  | .hbm, ⟨93, _⟩ => ⟨S1x8x256x32768, .f32⟩
  | .hbm, ⟨94, _⟩ => ⟨S_, .f32⟩
  | .hbm, ⟨95, _⟩ => ⟨S1x8x256, .f32⟩
  | .hbm, ⟨96, _⟩ => ⟨S1x8x256x1, .f32⟩
  | .hbm, ⟨97, _⟩ => ⟨S1x8x256x32768, .f32⟩
  | .hbm, ⟨98, _⟩ => ⟨S1x8x256x32768, .f32⟩
  | .hbm, ⟨99, _⟩ => ⟨S1x8x256x32768, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x8x256, .f32⟩
  | .hbm, ⟨105, _⟩ => ⟨S1x8x256x1, .f32⟩
  | .hbm, ⟨106, _⟩ => ⟨S_, .f32⟩
  | .hbm, ⟨107, _⟩ => ⟨S_, .f32⟩
  | .hbm, ⟨108, _⟩ => ⟨S1x8x256x1, .i1⟩
  | .hbm, ⟨109, _⟩ => ⟨S1x8x256x1, .f32⟩
  | .hbm, ⟨110, _⟩ => ⟨S1x8x256x1, .f32⟩
  | .hbm, ⟨111, _⟩ => ⟨S1x8x256x32768, .f32⟩
  | .hbm, ⟨112, _⟩ => ⟨S1x8x256x32768, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x8x256x32768, .i1⟩
  | .hbm, ⟨117, _⟩ => ⟨S1x8x256x32768, .f32⟩
  | .hbm, ⟨118, _⟩ => ⟨S1x8x256x32768, .f32⟩
  | .hbm, ⟨119, _⟩ => ⟨S1x8x128x256, .f32⟩
  | .hbm, ⟨120, _⟩ => ⟨S1x256x8x128, .f32⟩
  | .hbm, ⟨121, _⟩ => ⟨S1x256x1024, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Slots.lean ====
/- Where the exchanged blocks lie: the receive slots, the gather slots and the chunks that are sent, each
   as a view of its scratch buffer, with the set of cells it covers and what a copy into it leaves. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.RegionTalk
public import Idealize.ShloMosaic.Lib.Pipeline.Value
public import Idealize.ShloMosaic.Lib.Rounds
public import Idealize.ShloMosaic.Lib.ShareLeaves
public import Idealize.ShloMosaic.Lib.Pipeline.ValueKit.Geometry
public import Idealize.ShloMosaic.Lib.Tactic

@[expose] public section

set_option synthInstance.maxSize 4096

noncomputable section

namespace Cert.KernelIdeal.Talk

open Idealize.ShloMosaic
open Idealize.ShloMosaic.TcCoe
open Idealize.SL Idealize.SL.RA Idealize.SL.BI Idealize.SL.Sem
open Cert.KernelIdeal.Gen

variable {F : FTy → Type} [FloatOps F]

/-- Per-head unnormalised outputs of this device. -/
abbrev oM : Memref sig .tc .vmem S8x256x128 .bf16 := Memref.whole cc2_scratch0
/-- Per-head denominators of this device. -/
abbrev lM : Memref sig .tc .vmem S256x8 .f32 := Memref.whole cc2_scratch1
/-- The keys of a head, by residue class. -/
abbrev kM : Memref sig .tc .vmem S3x1408x128 .bf16 := Memref.whole cc2_scratch2
/-- The values of a head, by residue class. -/
abbrev vM : Memref sig .tc .vmem S3x1408x128 .bf16 := Memref.whole cc2_scratch3
/-- Where the peers' outputs land. -/
abbrev roM : Memref sig .tc .vmem S8x8x32x128 .bf16 := Memref.whole cc2_scratch4
/-- Where the peers' denominators land. -/
abbrev rlM : Memref sig .tc .vmem S8x32x8 .f32 := Memref.whole cc2_scratch5
/-- Where the finished rows are gathered. -/
abbrev gM : Memref sig .tc .vmem S8x32x1024 .bf16 := Memref.whole cc2_scratch6

theorem ro_inb (p : Fin 8) : ∀ a, (![p.val, 0, 0, 0] : Fin 4 → Nat) a + S1x8x32x128.size a ≤ S8x8x32x128.size a := by
  revert p; decide
theorem rl_inb (p : Fin 8) : ∀ a, (![p.val, 0, 0] : Fin 3 → Nat) a + S1x32x8.size a ≤ S8x32x8.size a := by
  revert p; decide
theorem g_inb (p : Fin 8) : ∀ a, (![p.val, 0, 0] : Fin 3 → Nat) a + S1x32x1024.size a ≤ S8x32x1024.size a := by
  revert p; decide
theorem oc_inb (p : Fin 8) : ∀ a, (![0, 32 * p.val, 0] : Fin 3 → Nat) a + S8x32x128.size a ≤ S8x256x128.size a := by
  revert p; decide
theorem lc_inb (p : Fin 8) : ∀ a, (![32 * p.val, 0] : Fin 2 → Nat) a + S32x8.size a ≤ S256x8.size a := by
  revert p; decide

/-- Receive slot p of the outputs. -/
abbrev roSlot (p : Fin 8) : Memref sig .tc .vmem S8x32x128 .bf16 :=
  (roM.slice (Rect.unit (s := S8x8x32x128) ![p.val, 0, 0, 0] S1x8x32x128.size (ro_inb p)) (fun _ => rfl)).squeeze S8x32x128 squeezes_S1x8x32x128_S8x32x128
/-- Receive slot p of the denominators. -/
abbrev rlSlot (p : Fin 8) : Memref sig .tc .vmem S32x8 .f32 :=
  (rlM.slice (Rect.unit (s := S8x32x8) ![p.val, 0, 0] S1x32x8.size (rl_inb p)) (fun _ => rfl)).squeeze S32x8 squeezes_S1x32x8_S32x8
/-- Gather slot p. -/
abbrev gSlot (p : Fin 8) : Memref sig .tc .vmem S32x1024 .bf16 :=
  (gM.slice (Rect.unit (s := S8x32x1024) ![p.val, 0, 0] S1x32x1024.size (g_inb p)) (fun _ => rfl)).squeeze S32x1024 squeezes_S1x32x1024_S32x1024
/-- The rows of the outputs that go to device p. -/
abbrev oChunk (p : Fin 8) : Memref sig .tc .vmem S8x32x128 .bf16 :=
  oM.slice (Rect.unit (s := S8x256x128) ![0, 32 * p.val, 0] S8x32x128.size (oc_inb p)) (fun _ => rfl)
/-- The rows of the denominators that go to device p. -/
abbrev lChunk (p : Fin 8) : Memref sig .tc .vmem S32x8 .f32 :=
  lM.slice (Rect.unit (s := S256x8) ![32 * p.val, 0] S32x8.size (lc_inb p)) (fun _ => rfl)

/-! ## The cells they cover -/

theorem mem_roSlot (p : Fin 8) (i : S8x8x32x128.Idx) : i ∈ (roSlot p).view.set ↔ (i 0).val = p.val := by
  rw [show (roSlot p).view.set = (Rect.unit (s := S8x8x32x128) ![p.val, 0, 0, 0] S1x8x32x128.size (ro_inb p)).set from
    (View.set_reshape _ _).trans (View.set_slice_whole _ _)]
  rw [Rect.mem_set_unit]
  constructor
  · intro h; have := h 0; simp at this; omega
  · intro h a
    have h1 := (i 1).isLt; have h2 := (i 2).isLt; have h3 := (i 3).isLt
    fin_cases a <;> simp_all
theorem mem_rlSlot (p : Fin 8) (i : S8x32x8.Idx) : i ∈ (rlSlot p).view.set ↔ (i 0).val = p.val := by
  rw [show (rlSlot p).view.set = (Rect.unit (s := S8x32x8) ![p.val, 0, 0] S1x32x8.size (rl_inb p)).set from
    (View.set_reshape _ _).trans (View.set_slice_whole _ _)]
  rw [Rect.mem_set_unit]
  constructor
  · intro h; have := h 0; simp at this; omega
  · intro h a
    have h1 := (i 1).isLt; have h2 := (i 2).isLt
    fin_cases a <;> simp_all
theorem mem_gSlot (p : Fin 8) (i : S8x32x1024.Idx) : i ∈ (gSlot p).view.set ↔ (i 0).val = p.val := by
  rw [show (gSlot p).view.set = (Rect.unit (s := S8x32x1024) ![p.val, 0, 0] S1x32x1024.size (g_inb p)).set from
    (View.set_reshape _ _).trans (View.set_slice_whole _ _)]
  rw [Rect.mem_set_unit]
  constructor
  · intro h; have := h 0; simp at this; omega
  · intro h a
    have h1 := (i 1).isLt; have h2 := (i 2).isLt
    fin_cases a <;> simp_all
theorem mem_oChunk (p : Fin 8) (i : S8x256x128.Idx) : i ∈ (oChunk p).view.set ↔ (i 1).val / 32 = p.val := by
  rw [show (oChunk p).view.set = (Rect.unit (s := S8x256x128) ![0, 32 * p.val, 0] S8x32x128.size (oc_inb p)).set from
    View.set_slice_whole _ _]
  rw [Rect.mem_set_unit]
  constructor
  · intro h; have := h 1; simp at this; omega
  · intro h a
    have h1 := (i 0).isLt; have h2 := (i 2).isLt
    fin_cases a <;> simp_all <;> omega
theorem mem_lChunk (p : Fin 8) (i : S256x8.Idx) : i ∈ (lChunk p).view.set ↔ (i 0).val / 32 = p.val := by
  rw [show (lChunk p).view.set = (Rect.unit (s := S256x8) ![32 * p.val, 0] S32x8.size (lc_inb p)).set from
    View.set_slice_whole _ _]
  rw [Rect.mem_set_unit]
  constructor
  · intro h; have := h 0; simp at this; omega
  · intro h a
    have h1 := (i 1).isLt
    fin_cases a <;> simp_all <;> omega

/-! ## Where an index of a slot lies in the buffer -/

theorem roSlot_emb (p : Fin 8) (j : S8x32x128.Idx) : (roSlot p).view.emb j = (fun | 0 => p | 1 => j 0 | 2 => j 1 | 3 => j 2 : S8x8x32x128.Idx) := by
  show (Rect.unit (s := S8x8x32x128) ![p.val, 0, 0, 0] S1x8x32x128.size (ro_inb p)).emb (Shape.reshapeEquiv _ j) = _
  rw [show Shape.reshapeEquiv (squeezes_S1x8x32x128_S8x32x128).numel_eq j = (Fin.cons ⟨0, Nat.one_pos⟩ j : S1x8x32x128.Idx) from
    Shape.reshapeEquiv_cons_one _ j]
  funext a; apply Fin.ext
  rw [ValueKit.rect_emb_unit_val]
  fin_cases a <;> first | rfl | exact Nat.zero_add _
theorem rlSlot_emb (p : Fin 8) (j : S32x8.Idx) : (rlSlot p).view.emb j = (fun | 0 => p | 1 => j 0 | 2 => j 1 : S8x32x8.Idx) := by
  show (Rect.unit (s := S8x32x8) ![p.val, 0, 0] S1x32x8.size (rl_inb p)).emb (Shape.reshapeEquiv _ j) = _
  rw [show Shape.reshapeEquiv (squeezes_S1x32x8_S32x8).numel_eq j = (Fin.cons ⟨0, Nat.one_pos⟩ j : S1x32x8.Idx) from
    Shape.reshapeEquiv_cons_one _ j]
  funext a; apply Fin.ext
  rw [ValueKit.rect_emb_unit_val]
  fin_cases a <;> first | rfl | exact Nat.zero_add _
theorem gSlot_emb (p : Fin 8) (j : S32x1024.Idx) : (gSlot p).view.emb j = (fun | 0 => p | 1 => j 0 | 2 => j 1 : S8x32x1024.Idx) := by
  show (Rect.unit (s := S8x32x1024) ![p.val, 0, 0] S1x32x1024.size (g_inb p)).emb (Shape.reshapeEquiv _ j) = _
  rw [show Shape.reshapeEquiv (squeezes_S1x32x1024_S32x1024).numel_eq j = (Fin.cons ⟨0, Nat.one_pos⟩ j : S1x32x1024.Idx) from
    Shape.reshapeEquiv_cons_one _ j]
  funext a; apply Fin.ext
  rw [ValueKit.rect_emb_unit_val]
  fin_cases a <;> first | rfl | exact Nat.zero_add _
/-- Row r of chunk p of 256 rows cut in 8 chunks. -/
def chRow (p : Fin 8) (r : Fin 32) : Fin 256 := ⟨32 * p.val + r.val, by omega⟩
theorem oChunk_emb (p : Fin 8) (j : S8x32x128.Idx) : (oChunk p).view.emb j = (fun | 0 => j 0 | 1 => chRow p (j 1) | 2 => j 2 : S8x256x128.Idx) := by
  show (Rect.unit (s := S8x256x128) ![0, 32 * p.val, 0] S8x32x128.size (oc_inb p)).emb j = _
  funext a; apply Fin.ext
  rw [ValueKit.rect_emb_unit_val]
  fin_cases a <;> first | rfl | exact Nat.zero_add _
theorem lChunk_emb (p : Fin 8) (j : S32x8.Idx) : (lChunk p).view.emb j = (fun | 0 => chRow p (j 0) | 1 => j 1 : S256x8.Idx) := by
  show (Rect.unit (s := S256x8) ![32 * p.val, 0] S32x8.size (lc_inb p)).emb j = _
  funext a; apply Fin.ext
  rw [ValueKit.rect_emb_unit_val]
  fin_cases a <;> first | rfl | exact Nat.zero_add _

/-! ## What the copies leave -/

/-- What lies in device d's receive buffer of outputs when all chunks have come, the devices' outputs being `lo`. -/
def gatO (lo : Dev nD → Vec F S8x256x128 .bf16) (d : Dev nD) : Vec F S8x8x32x128 .bf16 :=
  fun i => lo (i 0) (fun | 0 => i 1 | 1 => chRow d (i 2) | 2 => i 3 : S8x256x128.Idx)
/-- The same of the denominators. -/
def gatL (ll : Dev nD → Vec F S256x8 .f32) (d : Dev nD) : Vec F S8x32x8 .f32 :=
  fun i => ll (i 0) (fun | 0 => chRow d (i 1) | 1 => i 2 : S256x8.Idx)

/-- Chunk d of device s's outputs, copied into slot s of device d. -/
theorem land_o (lo : Dev nD → Vec F S8x256x128 .bf16) (s d : Fin 8) (fd : Vec F S8x8x32x128 .bf16) :
    ∀ i ∈ (roSlot s).view.set, (roSlot s).view.write (Elt F) fd ((oChunk d).view.read (Elt F) (lo s)) Finset.univ i = gatO lo d i := by
  intro i hi
  obtain ⟨j, rfl⟩ : ∃ j, (roSlot s).view.emb j = i := by simpa [View.set] using hi
  rw [View.write_emb_of_mem _ _ (Finset.mem_univ _), View.read_apply, oChunk_emb, roSlot_emb]
  rfl
theorem land_l (ll : Dev nD → Vec F S256x8 .f32) (s d : Fin 8) (fd : Vec F S8x32x8 .f32) :
    ∀ i ∈ (rlSlot s).view.set, (rlSlot s).view.write (Elt F) fd ((lChunk d).view.read (Elt F) (ll s)) Finset.univ i = gatL ll d i := by
  intro i hi
  obtain ⟨j, rfl⟩ : ∃ j, (rlSlot s).view.emb j = i := by simpa [View.set] using hi
  rw [View.write_emb_of_mem _ _ (Finset.mem_univ _), View.read_apply, lChunk_emb, rlSlot_emb]
  rfl
/-- Slot s of the gather buffer, copied into slot s of a peer. -/
theorem land_g (ag fd : Vec F S8x32x1024 .bf16) (s : Fin 8) :
    ∀ i ∈ (gSlot s).view.set, (gSlot s).view.write (Elt F) fd ((gSlot s).view.read (Elt F) ag) Finset.univ i = ag i := by
  intro i hi
  obtain ⟨j, rfl⟩ : ∃ j, (gSlot s).view.emb j = i := by simpa [View.set] using hi
  rw [View.write_emb_of_mem _ _ (Finset.mem_univ _), View.read_apply]
  rfl

end Cert.KernelIdeal.Talk

end
-- ==== Proof.Sched.lean ====
/- The protocol between the devices: its cells, who pays each of them how much and with what contents,
   what a device owes at launch, and in what order it may wait. -/
module

public import proofs.«01_k».proof.Proof.Slots

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- Two copies of the rounds algebra: the windows' and the devices'. Duties of the devices' copy are named by a device. -/
abbrev URp : Type := UR sig nD τ
abbrev URt : Type := URounds (GSem nD τ sig) (Fin 8)
abbrev UU : Type := URp × URt
local notation "𝕄" => MT nD τ sig Unit (Elt F) ℕ UU ℕ
abbrev EP : Emb URp (MT nD τ sig Unit (Elt F) ℕ UU ℕ) := embL
abbrev ER : Emb URt (MT nD τ sig Unit (Elt F) ℕ UU ℕ) := embR

/-! ## Cells -/

/-- The barrier's semaphore. -/
abbrev barS : Sem sig := sig.barrier 0 rfl
/-- Semaphore p of kind k: 0, 1 count what was sent of outputs and denominators, 2, 3 what was received of them; 4 and 5
    the same of the gathered rows. -/
def dsem (k : Fin 6) (p : Fin 8) : DmaSem sig := ⟨17 + 8 * k.val + p.val, by show _ < 65; omega⟩
abbrev barCell (d : Fin 8) : GSem nD τ sig := (((d : Dev nD) : Thread nD τ), .reg barS)
abbrev dcell (k : Fin 6) (d p : Fin 8) : GSem nD τ sig := (((d : Dev nD) : Thread nD τ), .dma (dsem k p))

/-- Which of the protocol's semaphores a DMA semaphore is. -/
def dec (s : DmaSem sig) : Option (Fin 6 × Fin 8) :=
  if h : 17 ≤ s.val then some (⟨(s.val - 17) / 8, by have : s.val < 65 := s.isLt; omega⟩, ⟨(s.val - 17) % 8, by omega⟩) else none
theorem dec_dsem (k : Fin 6) (p : Fin 8) : dec (dsem k p) = some (k, p) := by revert k p; decide

theorem dsem_inj {k k' : Fin 6} {p p' : Fin 8} (h : dsem k p = dsem k' p') : k = k' ∧ p = p' := by
  have := congrArg dec h
  rw [dec_dsem, dec_dsem] at this
  simpa using this

/-- What a copy of each kind credits. -/
def amt : Fin 6 → ℕ
  | 0 | 2 => RefSig.tileCredit S8x32x128 .bf16
  | 1 | 3 => RefSig.tileCredit S32x8 .f32
  | 4 | 5 => RefSig.tileCredit S32x1024 .bf16
theorem amt_pos (k : Fin 6) : 0 < amt k := by
  unfold amt; split <;> exact RefSig.tileCredit_pos _ _ (by decide)
theorem amount_ro (p : Fin 8) (s : DmaSem sig) : (roSlot p).view.amount (.dma s) = amt 2 := by unfold amt; rfl
theorem amount_rl (p : Fin 8) (s : DmaSem sig) : (rlSlot p).view.amount (.dma s) = amt 3 := by unfold amt; rfl
theorem amount_g (p : Fin 8) (s : DmaSem sig) : (gSlot p).view.amount (.dma s) = amt 5 := by unfold amt; rfl
theorem amt_02 : amt 0 = amt 2 := by unfold amt; rfl
theorem amt_13 : amt 1 = amt 3 := by unfold amt; rfl
theorem amt_45 : amt 4 = amt 5 := by unfold amt; rfl

/-! ## Points-tos of the exchanged blocks -/

abbrev roPts (d p : Fin 8) (f : Vec F S8x8x32x128 .bf16) : sProp 𝕄 := (roSlot p).view.loc ((d : Dev nD) : Thread nD τ) ↦[(roSlot p).view.set]{fullShare} f
abbrev rlPts (d p : Fin 8) (f : Vec F S8x32x8 .f32) : sProp 𝕄 := (rlSlot p).view.loc ((d : Dev nD) : Thread nD τ) ↦[(rlSlot p).view.set]{fullShare} f
abbrev gPts (d p : Fin 8) (f : Vec F S8x32x1024 .bf16) : sProp 𝕄 := (gSlot p).view.loc ((d : Dev nD) : Thread nD τ) ↦[(gSlot p).view.set]{fullShare} f
/-- The share of a device's own gather slot that is lent to its copy to device p. -/
abbrev gShare (d p : Fin 8) (f : Vec F S8x32x1024 .bf16) : sProp 𝕄 :=
  (gSlot d).view.loc ((d : Dev nD) : Thread nD τ) ↦[(gSlot d).view.set]{ShareLeaves.leaf 3 fullShare p} f
abbrev oPts (d p : Fin 8) (f : Vec F S8x256x128 .bf16) : sProp 𝕄 := (oChunk p).view.loc ((d : Dev nD) : Thread nD τ) ↦[(oChunk p).view.set]{fullShare} f
abbrev lPts (d p : Fin 8) (f : Vec F S256x8 .f32) : sProp 𝕄 := (lChunk p).view.loc ((d : Dev nD) : Thread nD τ) ↦[(lChunk p).view.set]{fullShare} f

variable (lo : Dev nD → Vec F S8x256x128 .bf16) (ll : Dev nD → Vec F S256x8 .f32) (ag : Vec F S8x32x1024 .bf16)

/-! ## The schedule -/

/-- Paid to d's barrier by s: the slots of s that d will copy into, and that s is ready to be paid for them. -/
def barPay (d s : Fin 8) : sProp 𝕄 :=
  if s = d then iprop(emp) else
  iprop((∃ f, roPts s d f) ∗ (∃ f, rlPts s d f) ∗ (∃ f, gPts s d f) ∗ reached ER (dcell 2 s d) 0 ∗ reached ER (dcell 3 s d) 0 ∗ reached ER (dcell 5 s d) 0)

/-- Paid to d's semaphore p of kind k: the chunk sent, back; the slot filled, at its contents. -/
def dPay (k : Fin 6) (d p : Fin 8) : sProp 𝕄 :=
  match k with
  | 0 => oPts d p (lo d)
  | 1 => lPts d p (ll d)
  | 2 => roPts d p (gatO lo d)
  | 3 => rlPts d p (gatL ll d)
  | 4 => gShare d p ag
  | 5 => gPts d p ag

def payOf (d : Fin 8) (s : Fin 8) : SemLoc sig → sProp 𝕄
  | .reg _ => barPay d s
  | .dma x => match dec x with
    | some (k, p) => dPay lo ll ag k d p
    | none => iprop(emp)

def dutiesOf (d : Fin 8) : SemLoc sig → Finset (Fin 8)
  | .reg _ => Finset.univ
  | .dma x => match dec x with
    | some (_, p) => if p = d then ∅ else {0}
    | none => ∅

def amountOf' : SemLoc sig → ℕ
  | .reg _ => 1
  | .dma x => match dec x with
    | some (k, _) => amt k
    | none => 1

/-- One round: every device pays every barrier cell one unit, and each copy its two cells. -/
def Rd : Rounds.Schedule (GSem nD τ sig) (Fin 8) 𝕄 where
  duties g r := if r = 0 ∧ g.1.2 = .tc then dutiesOf g.1.1 g.2 else ∅
  amount g _ _ := amountOf' g.2
  payload g _ s := payOf lo ll ag g.1.1 s g.2
  amount_pos g _ _ _ := by
    rcases hg : g.2 with x | x
    · exact Nat.one_pos
    · unfold amountOf'; dsimp only
      rcases h : dec x with _ | ⟨k, p⟩
      · exact Nat.one_pos
      · exact amt_pos k

instance Rd_storable (g : GSem nD τ sig) (r : ℕ) (s : Fin 8) :
    BI.Storable (upEmb : UEmb _ 𝕄) ((Rd (F := F) lo ll ag).payload g r s) := by
  show BI.Storable upEmb (payOf lo ll ag g.1.1 s g.2)
  unfold payOf
  split
  · unfold barPay; split <;> infer_instance
  · split
    · unfold dPay; split <;> infer_instance
    · infer_instance

theorem duties_bar (d : Fin 8) : (Rd lo ll ag).duties (barCell d) 0 = Finset.univ := rfl
theorem duties_d (k : Fin 6) (d p : Fin 8) : (Rd lo ll ag).duties (dcell k d p) 0 = if p = d then ∅ else {0} := by
  show dutiesOf d (.dma (dsem k p)) = _
  unfold dutiesOf; dsimp only; rw [dec_dsem]
theorem duties_d_ne (k : Fin 6) {d p : Fin 8} (h : p ≠ d) : (Rd lo ll ag).duties (dcell k d p) 0 = {0} := by
  rw [duties_d, if_neg h]
theorem mem_duties_d (k : Fin 6) {d p : Fin 8} (h : p ≠ d) : (0 : Fin 8) ∈ (Rd lo ll ag).duties (dcell k d p) 0 := by
  rw [duties_d_ne lo ll ag k h]; exact Finset.mem_singleton_self _
theorem duties_later (g : GSem nD τ sig) : ∀ r, 1 ≤ r → (Rd lo ll ag).duties g r = ∅ :=
  fun r hr => if_neg (fun h => by omega)
theorem duties_own (k : Fin 6) (d : Fin 8) : ∀ r, 0 ≤ r → (Rd lo ll ag).duties (dcell k d d) r = ∅ := fun r _ => by
  rcases Nat.eq_zero_or_pos r with rfl | h
  · rw [duties_d, if_pos rfl]
  · exact duties_later lo ll ag _ r h
theorem amount_bar (d s : Fin 8) : (Rd lo ll ag).amount (barCell d) 0 s = 1 := rfl
theorem amount_d (k : Fin 6) (d p s : Fin 8) : (Rd lo ll ag).amount (dcell k d p) 0 s = amt k := by
  show amountOf' (.dma (dsem k p)) = _
  unfold amountOf'; dsimp only; rw [dec_dsem]
theorem payload_bar (d s : Fin 8) : (Rd lo ll ag).payload (barCell d) 0 s = barPay d s := rfl
theorem payload_d (k : Fin 6) (d p s : Fin 8) : (Rd lo ll ag).payload (dcell k d p) 0 s = dPay lo ll ag k d p := by
  show payOf lo ll ag d s (.dma (dsem k p)) = _
  unfold payOf; dsimp only; rw [dec_dsem]
theorem expect_bar (d : Fin 8) : (Rd lo ll ag).expect (barCell d) 0 = 8 := by
  unfold Schedule.expect Schedule.amountOf
  rw [duties_bar]; simp only [amount_bar, Finset.sum_const, Finset.card_univ, Fintype.card_fin, smul_eq_mul]
theorem expect_d (k : Fin 6) {d p : Fin 8} (h : p ≠ d) : (Rd lo ll ag).expect (dcell k d p) 0 = amt k := by
  unfold Schedule.expect Schedule.amountOf
  rw [duties_d_ne lo ll ag k h, Finset.sum_singleton, amount_d]
theorem rest_d (k : Fin 6) {d p : Fin 8} (h : p ≠ d) :
    bigSep ((Rd lo ll ag).duties (dcell k d p) 0 \ ∅) (fun s => (Rd lo ll ag).payload (dcell k d p) 0 s) = dPay lo ll ag k d p := by
  rw [Finset.sdiff_empty, duties_d_ne lo ll ag k h, bigSep_singleton, payload_d]
theorem rest_bar (d : Fin 8) :
    bigSep ((Rd lo ll ag).duties (barCell d) 0 \ ∅) (fun s => (Rd lo ll ag).payload (barCell d) 0 s) = bigSep Finset.univ fun s => barPay (F := F) d s := by
  rw [Finset.sdiff_empty, duties_bar]; rfl

/-! ## What a device owes, and the levels -/

/-- Sum over the indices not below k. -/
def sumFrom {M : Type} [AddCommMonoid M] (f : Fin 8 → M) (k : ℕ) : M := ∑ p ∈ Finset.univ.filter (fun p : Fin 8 => k ≤ p.val), f p
theorem sumFrom_peel {M : Type} [AddCommMonoid M] (f : Fin 8 → M) (k : ℕ) (hk : k < 8) : sumFrom f k = sumFrom f (k + 1) + f ⟨k, hk⟩ := by
  unfold sumFrom
  rw [show Finset.univ.filter (fun p : Fin 8 => k ≤ p.val) = insert ⟨k, hk⟩ (Finset.univ.filter fun p : Fin 8 => k + 1 ≤ p.val) from by
    ext p; simp only [Finset.mem_filter, Finset.mem_univ, true_and, Finset.mem_insert, Fin.ext_iff]; omega]
  rw [Finset.sum_insert (by simp), add_comm]
theorem sumFrom_end {M : Type} [AddCommMonoid M] (f : Fin 8 → M) : sumFrom f 8 = 0 := by
  unfold sumFrom
  rw [Finset.filter_false_of_mem (fun p _ => by omega), Finset.sum_empty]

/-- The units owed to the barriers. -/
def TB (p : Fin 8) : CellTallies nD τ sig Unit := tallyAt (barCell p) () 1
/-- What device c owes device p's receive cells. -/
def TS (c p : Fin 8) : CellTallies nD τ sig Unit := if p = c then 0 else tallyAt (dcell 2 p c) () (amt 2) + tallyAt (dcell 3 p c) () (amt 3)
def TG (c p : Fin 8) : CellTallies nD τ sig Unit := if p = c then 0 else tallyAt (dcell 5 p c) () (amt 5)
/-- What is owed after the barrier. -/
def O₁ (c : Fin 8) : CellTallies nD τ sig Unit := sumFrom (TS c) 0 + sumFrom (TG c) 0
def O₀ (c : Fin 8) : CellTallies nD τ sig Unit := O₁ c + sumFrom TB 0

def L (g : GSem nD τ sig) : Finset Unit := if g.1.2 = .tc then {()} else ∅
/-- Barrier cells at 1, the first receive cells at 2, the gather's at 3, the rest at 0. -/
def lvOf : SemLoc sig → ℕ
  | .reg _ => 1
  | .dma x => match dec x with
    | some (k, _) => if k = 2 ∨ k = 3 then 2 else if k = 5 then 3 else 0
    | none => 0
def lv (g : GSem nD τ sig) (_ : Unit) : ℕ := lvOf g.2
theorem L_of_ne (g : GSem nD τ sig) (h : g.1.2 ≠ .tc) : L g = ∅ := if_neg h
theorem L_tc (c : Dev nD) (sm : SemLoc sig) : L ((c : Thread nD τ), sm) = {()} := if_pos rfl
theorem lvOf_d (k : Fin 6) (p : Fin 8) : lvOf (.dma (dsem k p)) = if k = 2 ∨ k = 3 then 2 else if k = 5 then 3 else 0 := by
  unfold lvOf; dsimp only; rw [dec_dsem]

/-- Everything in `O` lies on a TensorCore's cells above level n. -/
def Above (n : ℕ) (O : CellTallies nD τ sig Unit) : Prop := ∀ g u, 0 < O g u → g.1.2 = .tc ∧ n < lvOf g.2
theorem Above.zero (n : ℕ) : Above n 0 := fun _ _ h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem Above.tally {n : ℕ} (c : Dev nD) (sm : SemLoc sig) (k : ℕ) (h : n < lvOf sm) : Above n (tallyAt ((c : Thread nD τ), sm) () k) := fun g u hg => by
  rw [tallyAt_apply] at hg
  split at hg
  · next h' => rw [h'.1]; exact ⟨rfl, h⟩
  · exact absurd hg (Nat.lt_irrefl 0)
theorem Above.sumFrom {n : ℕ} {f : Fin 8 → CellTallies nD τ sig Unit} (h : ∀ p, Above n (f p)) (k : ℕ) : Above n (Talk.sumFrom f k) := by
  unfold Talk.sumFrom
  refine Finset.sum_induction _ (Above n) (fun _ _ => Above.add) (Above.zero n) fun p _ => h p
theorem above_TS {n : ℕ} (hn : n < 2) (c p : Fin 8) : Above n (TS c p) := by
  unfold TS; split
  · exact Above.zero n
  · exact (Above.tally _ _ _ (by rw [lvOf_d]; simpa using hn)).add (Above.tally _ _ _ (by rw [lvOf_d]; simpa using hn))
theorem above_TG {n : ℕ} (hn : n < 3) (c p : Fin 8) : Above n (TG c p) := by
  unfold TG; split
  · exact Above.zero n
  · exact Above.tally _ _ _ (by rw [lvOf_d]; simpa using hn)
theorem above_O₁ {n : ℕ} (hn : n < 2) (c : Fin 8) : Above n (O₁ c) :=
  (Above.sumFrom (fun p => above_TS hn c p) 0).add (Above.sumFrom (fun p => above_TG (by omega) c p) 0)
theorem above_O₀ (c : Fin 8) : Above 0 (O₀ c) :=
  (above_O₁ (by decide) c).add (Above.sumFrom (fun p => Above.tally _ _ _ (by decide)) 0)

/-- A wait at level n is allowed while all that is owed lies above n. -/
theorem mayWait (c : Dev nD) (sm : SemLoc sig) (n : ℕ) (hn : lvOf sm ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The cells' invariants -/

/-- One member of a family over a finite type. -/
theorem bs_elim {I : Type} [Fintype I] [DecidableEq I] (Φ : I → sProp 𝕄) (i : I) : (bigSep Finset.univ Φ : sProp 𝕄) ⊢ Φ i := bigSep_elim (Finset.mem_univ i)

def invs (K : GSem nD τ sig → ℕ) : sProp 𝕄 :=
  iprop((bigSep Finset.univ fun d : Fin 8 => cellInv ER (Rd lo ll ag) (K (barCell d)) (barCell d))
    ∗ (bigSep Finset.univ fun d : Fin 8 => bigSep Finset.univ fun k : Fin 6 => bigSep Finset.univ fun p : Fin 8 => cellInv ER (Rd lo ll ag) (K (dcell k d p)) (dcell k d p)))
instance invs_persistent (K : GSem nD τ sig → ℕ) : BI.Persistent (invs lo ll ag K) := by unfold invs; infer_instance
theorem invs_bar (K : GSem nD τ sig → ℕ) (d : Fin 8) : invs lo ll ag K ⊢ cellInv ER (Rd lo ll ag) (K (barCell d)) (barCell d) := by
  unfold invs
  iintro ⟨H, -⟩
  iapply (bs_elim (fun d : Fin 8 => cellInv ER (Rd lo ll ag) (K (barCell d)) (barCell d)) d) $$ H
theorem invs_d (K : GSem nD τ sig → ℕ) (k : Fin 6) (d p : Fin 8) : invs lo ll ag K ⊢ cellInv ER (Rd lo ll ag) (K (dcell k d p)) (dcell k d p) := by
  unfold invs
  iintro ⟨-, H⟩
  ihave H := (bs_elim (fun d : Fin 8 => bigSep Finset.univ fun k : Fin 6 => bigSep Finset.univ fun p : Fin 8 => cellInv ER (Rd lo ll ag) (K (dcell k d p)) (dcell k d p)) d) $$ H
  ihave H := (bs_elim (fun k : Fin 6 => bigSep Finset.univ fun p : Fin 8 => cellInv ER (Rd lo ll ag) (K (dcell k d p)) (dcell k d p)) k) $$ H
  iapply (bs_elim (fun p : Fin 8 => cellInv ER (Rd lo ll ag) (K (dcell k d p)) (dcell k d p)) p) $$ H

end Cert.KernelIdeal.Talk

end
-- ==== Proof.Blocks.lean ====
/- The blocks that the exchange is made of, one per peer: each is skipped for the device itself. -/
module

public import proofs.«01_k».proof.Proof.Sched

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ
abbrev PR (F : FTy → Type) [FloatOps F] : Type → Type 1 := Prog (TpuEff nD τ sig (Elt F) Λ₀ (Proc.tc : Proc τ))

abbrev 𝒱₀ : Variants := Variants.none

/-- The triple's judgement on device c. -/
abbrev wpc {α : Type} (c : Dev nD) (p : PR F α) (Q : α → sProp 𝕄) : sProp 𝕄 :=
  wp frame (wpE (defs₀ (F := F)) 𝒱₀ (c : Thread nD τ) none) Set.univ p Q

variable (lo : Dev nD → Vec F S8x256x128 .bf16) (ll : Dev nD → Vec F S256x8 .f32) (ag : Vec F S8x32x1024 .bf16)

/-- What a core owes, whatever waits it has recorded. -/
def owing (c : Dev nD) (O : CellTallies nD τ sig Unit) : sProp 𝕄 := iprop(∃ W, owes (c : Thread nD τ) O W)

/-! ## Sending to a peer -/

/-- What the block for peer p takes: p's slots, the chunks, and the right to pay for them. -/
def sendIn (c p : Fin 8) : sProp 𝕄 := if p = c then iprop(emp) else
  iprop((∃ f, roPts p c f) ∗ (∃ f, rlPts p c f) ∗ oPts c p (lo c) ∗ lPts c p (ll c)
    ∗ dutyTok ER (dcell 0 c p) 0 0 ∗ dutyTok ER (dcell 1 c p) 0 0 ∗ dutyTok ER (dcell 2 p c) 0 0 ∗ dutyTok ER (dcell 3 p c) 0 0)
/-- What it leaves: the credit to wait for the chunks with. -/
def sendOut (c p : Fin 8) : sProp 𝕄 := if p = c then iprop(emp) else
  iprop(cred (tallyAt (dcell 0 c p) () (amt 2)) ∗ cred (tallyAt (dcell 1 c p) () (amt 3)))
/-- What stays known of a device's own cells: they are open. -/
def ownUp (c : Fin 8) : sProp 𝕄 := bigSep Finset.univ fun x : Fin 6 × Fin 8 => reached ER (dcell x.1 c x.2) 0
/-- What is known of the peers' receive cells after the barrier. -/
def peersUp (c : Fin 8) : sProp 𝕄 := bigSep Finset.univ fun p : Fin 8 => if p = c then iprop(emp) else
  iprop(reached ER (dcell 2 p c) 0 ∗ reached ER (dcell 3 p c) 0 ∗ reached ER (dcell 5 p c) 0)
instance ownUp_persistent (c : Fin 8) : BI.Persistent (ownUp (F := F) c) := by unfold ownUp; infer_instance
instance peersUp_persistent (c : Fin 8) : BI.Persistent (peersUp (F := F) c) := by
  unfold peersUp
  have : ∀ p : Fin 8, BI.Persistent (if p = c then iprop(emp) else
    iprop(reached ER (dcell 2 p c) 0 ∗ reached ER (dcell 3 p c) 0 ∗ reached ER (dcell 5 p c) 0) : sProp 𝕄) := fun p => by
      split <;> infer_instance
  infer_instance
theorem ownUp_at (c : Fin 8) (k : Fin 6) (p : Fin 8) : ownUp c ⊢ (reached ER (dcell k c p) 0 : sProp 𝕄) := by
  unfold ownUp; exact bigSep_elim (Finset.mem_univ (k, p))
theorem peersUp_at {c p : Fin 8} (h : p ≠ c) : (peersUp c : sProp 𝕄) ⊢ iprop(reached ER (dcell 2 p c) 0 ∗ reached ER (dcell 3 p c) 0 ∗ reached ER (dcell 5 p c) 0) := by
  unfold peersUp; refine (bigSep_elim (Finset.mem_univ p)).trans ?_; rw [if_neg h]; exact BI.Entails.refl _

/-- All that every block may use. -/
def known (K : GSem nD τ sig → ℕ) (c : Fin 8) : sProp 𝕄 := iprop(invs lo ll ag K ∗ ownUp c ∗ peersUp c ∗ levAts L lv)
instance known_persistent (K : GSem nD τ sig → ℕ) (c : Fin 8) : BI.Persistent (known lo ll ag K c) := by unfold known; infer_instance

/-- The memrefs, semaphores and device of the block for peer p, as the program writes them, are those of the protocol. -/
theorem oChunk_of {p : Fin 8} {off : Fin 3 → ℕ} (h : off = ![0, 32 * p.val, 0]) (inb : ∀ a, off a + S8x32x128.size a ≤ S8x256x128.size a) :
    oM.slice (Rect.unit (s := S8x256x128) off S8x32x128.size inb) (fun _ => rfl) = oChunk p := by subst h; rfl
theorem lChunk_of {p : Fin 8} {off : Fin 2 → ℕ} (h : off = ![32 * p.val, 0]) (inb : ∀ a, off a + S32x8.size a ≤ S256x8.size a) :
    lM.slice (Rect.unit (s := S256x8) off S32x8.size inb) (fun _ => rfl) = lChunk p := by subst h; rfl
theorem roSlot_of {p : Fin 8} {off : Fin 4 → ℕ} (h : off = ![p.val, 0, 0, 0]) (inb : ∀ a, off a + S1x8x32x128.size a ≤ S8x8x32x128.size a) :
    (roM.slice (Rect.unit (s := S8x8x32x128) off S1x8x32x128.size inb) (fun _ => rfl)).squeeze S8x32x128 squeezes_S1x8x32x128_S8x32x128 = roSlot p := by subst h; rfl
theorem rlSlot_of {p : Fin 8} {off : Fin 3 → ℕ} (h : off = ![p.val, 0, 0]) (inb : ∀ a, off a + S1x32x8.size a ≤ S8x32x8.size a) :
    (rlM.slice (Rect.unit (s := S8x32x8) off S1x32x8.size inb) (fun _ => rfl)).squeeze S32x8 squeezes_S1x32x8_S32x8 = rlSlot p := by subst h; rfl
theorem gSlot_of {p : Fin 8} {off : Fin 3 → ℕ} (h : off = ![p.val, 0, 0]) (inb : ∀ a, off a + S1x32x1024.size a ≤ S8x32x1024.size a) :
    (gM.slice (Rect.unit (s := S8x32x1024) off S1x32x1024.size inb) (fun _ => rfl)).squeeze S32x1024 squeezes_S1x32x1024_S32x1024 = gSlot p := by subst h; rfl
theorem dsem_of {k : Fin 6} {p : Fin 8} {b : ℕ} {hb : b + S8.numel ≤ 65} {off : Fin 1 → ℕ} (hk : b = 17 + 8 * k.val) (h : off = ![p.val])
    (inb : ∀ a, off a + S1.size a ≤ S8.size a) :
    (((SemArray.consecutive b S8 hb : DmaSems sig S8).slice (Rect.unit (s := S8) off S1.size inb)).squeeze S_ squeezes_S1_S_).sem = dsem k p := by
  subst hk; subst h
  revert k p; decide

set_option maxHeartbeats 1000000 in
/-- The two copies to peer p. -/
theorem send_block (K : GSem nD τ sig → ℕ) (c p : Fin 8) (h : p ≠ c) (R : CellTallies nD τ sig Unit) (O : CellTallies nD τ sig Unit)
    (hO : O = R + TS c p)
    {o1 : Memref sig .tc .vmem S8x32x128 .bf16} {r1 : Memref sig .tc .vmem S8x32x128 .bf16} {o2 : Memref sig .tc .vmem S32x8 .f32} {r2 : Memref sig .tc .vmem S32x8 .f32}
    {s1 s2 s3 s4 : DmaSem sig} {d1 d2 : Dev nD}
    (ho1 : o1 = oChunk p) (hr1 : r1 = roSlot c) (ho2 : o2 = lChunk p) (hr2 : r2 = rlSlot c) (hs1 : s1 = dsem 0 p) (hs2 : s2 = dsem 2 c) (hs3 : s3 = dsem 1 p) (hs4 : s4 = dsem 3 c)
    (hd1 : p = d1) (hd2 : p = d2) {e7 e8 e1 e2 e4 e5 e3 e6} {α : Type} {J : PR F α} (Q : α → sProp 𝕄) :
    iprop(known lo ll ag K c ∗ sendIn lo ll c p ∗ owing c O) ⊢
      iprop((iprop(sendOut c p ∗ owing c R) -∗ wpc c J Q) -∗
        wpc c (.op (.enqueueDma o1 (.remote (Dev.tc d1) r1 (.dma s1) e7) (.dma s2) e1 e2 e3) fun _ =>
          .op (.enqueueDma o2 (.remote (Dev.tc d2) r2 (.dma s3) e8) (.dma s4) e4 e5 e6) fun _ => J : PR F α) Q) := by
  subst ho1 hr1 ho2 hr2 hs1 hs2 hs3 hs4 hO
  subst hd1; subst hd2
  unfold sendIn sendOut TS known owing
  rw [if_neg h, if_neg h, if_neg h]
  iintro ⟨⟨#HI, #Hown, #Hpeer, -⟩, ⟨⟨%f1, H1⟩, ⟨%f2, H2⟩, Ho, Hl, Ht0, Ht1, Ht2, Ht3⟩, ⟨%W, HO⟩⟩ Hk
  ihave #Hi0 := (invs_d lo ll ag K 0 c p) $$ HI
  ihave #Hi1 := (invs_d lo ll ag K 1 c p) $$ HI
  ihave #Hi2 := (invs_d lo ll ag K 2 p c) $$ HI
  ihave #Hi3 := (invs_d lo ll ag K 3 p c) $$ HI
  ihave #Hr0 := (ownUp_at c 0 p) $$ Hown
  ihave #Hr1 := (ownUp_at c 1 p) $$ Hown
  ihave #Hrp := (peersUp_at h) $$ Hpeer
  icases Hrp with ⟨#Hr2, #Hr3, -⟩
  iapply (Rounds.wp_send_pointsTo 𝒱₀ ER (Rd lo ll ag) ((c : Dev nD) : Thread nD τ) none (c' := ((p : Dev nD) : Thread nD τ)) (src := oChunk p) (dst := roSlot c)
      (sS := .dma (dsem 0 p)) (sem := .dma (dsem 2 c)) (q := fullShare) (fs := lo c) (κ₁ := K (dcell 0 c p)) (κ₂ := K (dcell 2 p c))
      (r₁ := 0) (r₂ := 0) (d₁ := 0) (d₂ := 0) (fd := f1)
      (mem_duties_d lo ll ag 0 h) (mem_duties_d lo ll ag 2 (Ne.symm h)) () () (amt 2) (amount_ro c _) ((amount_d lo ll ag 0 c p 0).trans amt_02) (amount_d lo ll ag 2 p c 0)
      (R + tallyAt (dcell 3 p c) () (amt 3)) (O₀ := R + (tallyAt (dcell 2 p c) () (amt 2) + tallyAt (dcell 3 p c) () (amt 3))) (by rw [add_comm (tallyAt (dcell 2 p c) () (amt 2)), add_assoc]) (W := W)
      (by rw [payload_d]; exact BI.Entails.refl _)
      (by rw [payload_d]; exact Entails.of_eq (pointsTo_congr (land_o lo c p f1)))) $$ [Ho H1 HO Ht0 Ht2]
  · isplitr; · iexact Hi0
    isplitr; · iexact Hi2
    isplitl [Ho]; · iexact Ho
    isplitl [H1]; · iexact H1
    isplitl [HO]; · iexact HO
    isplitl [Ht0]; · iexact Ht0
    isplitr; · iexact Hr0
    isplitl [Ht2]; · iexact Ht2
    iexact Hr2
  iintro ⟨Hc0, HO⟩
  iapply (Rounds.wp_send_pointsTo 𝒱₀ ER (Rd lo ll ag) ((c : Dev nD) : Thread nD τ) none (c' := ((p : Dev nD) : Thread nD τ)) (src := lChunk p) (dst := rlSlot c)
      (sS := .dma (dsem 1 p)) (sem := .dma (dsem 3 c)) (q := fullShare) (fs := ll c) (κ₁ := K (dcell 1 c p)) (κ₂ := K (dcell 3 p c))
      (r₁ := 0) (r₂ := 0) (d₁ := 0) (d₂ := 0) (fd := f2)
      (mem_duties_d lo ll ag 1 h) (mem_duties_d lo ll ag 3 (Ne.symm h)) () () (amt 3) (amount_rl c _) ((amount_d lo ll ag 1 c p 0).trans amt_13) (amount_d lo ll ag 3 p c 0)
      R rfl (W := W)
      (by rw [payload_d]; exact BI.Entails.refl _)
      (by rw [payload_d]; exact Entails.of_eq (pointsTo_congr (land_l ll c p f2)))) $$ [Hl H2 HO Ht1 Ht3]
  · isplitr; · iexact Hi1
    isplitr; · iexact Hi3
    isplitl [Hl]; · iexact Hl
    isplitl [H2]; · iexact H2
    isplitl [HO]; · iexact HO
    isplitl [Ht1]; · iexact Ht1
    isplitr; · iexact Hr1
    isplitl [Ht3]; · iexact Ht3
    iexact Hr3
  iintro ⟨Hc1, HO⟩
  iapply Hk
  isplitr [HO]
  · isplitl [Hc0]; · iexact Hc0
    iexact Hc1
  iexists W; iexact HO

end Cert.KernelIdeal.Talk

end
-- ==== Proof.Triple.lean ====
/- Triples: how pieces of the body are put one after the other, and how a family of blocks, one per peer,
   is worked off block by block. -/
module

public import proofs.«01_k».proof.Proof.Blocks

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (ag : Vec F S8x32x1024 .bf16)

/-! ## Triples -/

variable {c : Dev nD}

theorem ht_seq {α β : Type} {S : sProp 𝕄} {T : α → sProp 𝕄} {p : PR F α} {q : α → PR F β} {Q : β → sProp 𝕄}
    (h : S ⊢ wpc c p T) (h' : ∀ a, T a ⊢ wpc c (q a) Q) : S ⊢ wpc c (p >>= q) Q := by
  unfold wpc at *
  rw [wp_bind]
  exact h.trans (wp_mono _ _ _ h')
theorem ht_frame {α : Type} {S R : sProp 𝕄} {T : α → sProp 𝕄} {p : PR F α} (h : S ⊢ wpc c p T) : iprop(S ∗ R) ⊢ wpc c p fun a => iprop(T a ∗ R) := by
  unfold wpc at *
  refine BI.Entails.trans ?_ (wp_frame_r _ _ _)
  exact sep_mono_l h
theorem ht_ret {α : Type} {S : sProp 𝕄} {T : α → sProp 𝕄} {a : α} (h : S ⊢ T a) : S ⊢ wpc c (pure a : PR F α) T := by
  unfold wpc; rw [wp_pure]; exact h.trans (fupd_intro (PROP := sProp 𝕄))
theorem ht_mono {α : Type} {S S' : sProp 𝕄} {T T' : α → sProp 𝕄} {p : PR F α} (h : S ⊢ wpc c p T) (h1 : S' ⊢ S) (h2 : ∀ a, T a ⊢ T' a) : S' ⊢ wpc c p T' := by
  unfold wpc at *
  exact h1.trans (h.trans (wp_mono _ _ _ h2))

/-! ## Families -/

/-- The family's first k members are at B, the others at A. -/
def fam (A B : Fin 8 → sProp 𝕄) (k : ℕ) : sProp 𝕄 := bigSep Finset.univ fun p : Fin 8 => if p.val < k then B p else A p
theorem fam_zero (A B : Fin 8 → sProp 𝕄) : fam A B 0 = bigSep Finset.univ A := by
  unfold fam; exact bigSep_congr fun p _ => if_neg (Nat.not_lt_zero _)
theorem fam_end (A B : Fin 8 → sProp 𝕄) : fam A B 8 = bigSep Finset.univ B := by
  unfold fam; exact bigSep_congr fun p _ => if_pos p.isLt
/-- The rest of a family while member k is worked on. -/
def famRest (A B : Fin 8 → sProp 𝕄) (k : Fin 8) : sProp 𝕄 := bigSep (Finset.univ.erase k) fun p : Fin 8 => if p.val < k.val then B p else A p
theorem fam_take (A B : Fin 8 → sProp 𝕄) (k : Fin 8) : fam A B k.val = iprop(A k ∗ famRest A B k) := by
  unfold fam famRest
  rw [bigSep_univ_split k, if_neg (Nat.lt_irrefl _)]
  rfl
theorem fam_put (A B : Fin 8 → sProp 𝕄) (k : Fin 8) : fam A B (k.val + 1) = iprop(B k ∗ famRest A B k) := by
  unfold fam famRest
  rw [bigSep_univ_split k, if_pos (Nat.lt_succ_self _)]
  congr 1
  refine bigSep_congr fun p hp => ?_
  have : p.val ≠ k.val := fun h => (Finset.mem_erase.mp hp).1 (Fin.ext h)
  by_cases h : p.val < k.val
  · rw [if_pos h, if_pos (by omega)]
  · rw [if_neg h, if_neg (by omega)]
/-- A guarded block takes its member of the family from A to B where the guard holds, and the member is there already where
    it does not; J is what comes after. -/
theorem step (K : GSem nD τ sig → ℕ) (k : Fin 8) {A B : Fin 8 → sProp 𝕄} {O O' : CellTallies nD τ sig Unit} {R : sProp 𝕄} {cond : Prop} [Decidable cond] {α : Type}
    {prog : cond → PR F α} {J : PR F α} {Q : α → sProp 𝕄} (hc : cond ↔ k ≠ c) (hAB : A c ⊢ B c) (hO : k = c → O = O')
    (h : cond → k ≠ c → ∀ hh, iprop(known lo ll ag K c ∗ A k ∗ owing c O) ⊢ iprop((iprop(B k ∗ owing c O') -∗ wpc c J Q) -∗ wpc c (prog hh) Q))
    (hJ : iprop(known lo ll ag K c ∗ fam A B (k.val + 1) ∗ owing c O' ∗ R) ⊢ wpc c J Q) :
    iprop(known lo ll ag K c ∗ fam A B k.val ∗ owing c O ∗ R) ⊢ wpc c (if h : cond then prog h else J) Q := by
  rw [fam_put] at hJ
  rw [fam_take]
  by_cases hh : cond
  · rw [dif_pos hh]
    iintro ⟨#HK, ⟨HA, HF⟩, HO, HR⟩
    iapply (h hh (hc.mp hh) hh) $$ [HA HO]
    · isplitr; · iexact HK
      isplitl [HA]; · iexact HA
      iexact HO
    iintro ⟨HB, HO⟩
    iapply hJ
    isplitr; · iexact HK
    isplitl [HB HF]
    · isplitl [HB]; · iexact HB
      iexact HF
    isplitl [HO]; · iexact HO
    iexact HR
  · rw [dif_neg hh]
    have hk : k = c := by_contra fun hne => hh (hc.mpr hne)
    subst hk
    rw [hO rfl]
    iintro ⟨HK, ⟨HA, HF⟩, HO, HR⟩
    ihave HB := hAB $$ HA
    iapply hJ
    isplitl [HK]; · iexact HK
    isplitl [HB HF]
    · isplitl [HB]; · iexact HB
      iexact HF
    isplitl [HO]; · iexact HO
    iexact HR

end Cert.KernelIdeal.Talk

end
-- ==== Proof.Waits.lean ====
/- The blocks of the exchange as triples: the waits for what the peers send, the copies of the gathered rows, and
   the waits for what was sent. -/
module

public import proofs.«01_k».proof.Proof.Triple

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (ag : Vec F S8x32x1024 .bf16)

/-- What a wait at a device's cell needs of its own: the credit and the cell's position. -/
def waitIn (k : Fin 6) (c p : Fin 8) : sProp 𝕄 := iprop(cred (tallyAt (dcell k c p) () (amt k)) ∗ atPos ER (dcell k c p) 0 ∅ 0)

/-- A wait for the one payment of a cell, after which the cell is closed. -/
theorem wait_d (K : GSem nD τ sig → ℕ) (k : Fin 6) (c p : Fin 8) (h : p ≠ c) (n : ℕ) (hn : lvOf (.dma (dsem k p)) ≤ n) (O : CellTallies nD τ sig Unit)
    (hO : Above n O) {s : DmaSem sig} {sp sp' : Space} {sh sh' : Shape} {e e' : EltTy} {κ' : Kind} {src : Memref sig .tc sp' sh' e'} {dst : Memref sig κ' sp sh e} {e1 e2}
    (hs : s = dsem k p) (hcr : dst.view.dmaCredit = amt k) {P : sProp 𝕄} (hP : dPay lo ll ag k c p = P) {α : Type} {kont : PUnit → PR F α} (Q : α → sProp 𝕄) :
    iprop(known lo ll ag K c ∗ waitIn k c p ∗ owing c O) ⊢
      iprop((iprop(P ∗ semVal (dcell k c p) 0 ∗ owing c O) -∗ wpc c (kont ⟨⟩) Q) -∗ wpc c (.op (.waitDma2 s src dst e1 e2) kont) Q) := by
  subst hs hP
  unfold known owing waitIn
  iintro ⟨⟨#HI, -, -, #HL⟩, ⟨Hc, Hat⟩, ⟨%W, HO⟩⟩ Hk
  ihave #Hi := (invs_d lo ll ag K k c p) $$ HI
  iapply (Rounds.wp_wait_rest_token 𝒱₀ ER (Rd lo ll ag) ((c : Dev nD) : Thread nD τ) none (κ := K (dcell k c p)) (sm := .dma (dsem k p)) (k' := dst.view.dmaCredit)
    (fun K' => wpE_waitDma2_eq 𝒱₀ ((c : Dev nD) : Thread nD τ) none Set.univ K') (Set.mem_univ _) () (O := O) (W := W) (R := 0) (m := 0) (T := ∅)
      ((Nat.zero_add _).trans (hcr.trans (expect_d lo ll ag k h).symm))) $$ [Hc Hat HO]
  · isplitr; · iexact Hi
    rw [hcr]
    isplitl [Hc]; · iexact Hc
    isplitl [HO]; · iexact HO
    isplitr
    · iapply (mayWait c (.dma (dsem k p)) n hn O hO) $$ HL
    iexact Hat
  rw [rest_d lo ll ag k h]
  iintro ⟨HO, Hat, -, Hpay⟩
  imod (cell_close ER (Rd lo ll ag) (κ := K (dcell k c p)) (Set.mem_univ _) (hu := id) (R := 1) (duties_later lo ll ag (dcell k c p))) $$ [Hat] with Hz
  · isplitr; · iexact Hi
    iexact Hat
  iapply Hk
  isplitl [Hpay]; · iexact Hpay
  isplitl [Hz]; · iexact Hz
  iexists (insert (SemLoc.dma (dsem k p), ()) W)
  iexact HO

/-! ## The waits for the peers' chunks -/

def recvIn (c p : Fin 8) : sProp 𝕄 := if p = c then iprop(emp) else iprop(waitIn 2 c p ∗ waitIn 3 c p)
def recvOut (c p : Fin 8) : sProp 𝕄 := if p = c then iprop(emp) else
  iprop((roPts c p (gatO lo c) ∗ semVal (dcell 2 c p) 0) ∗ (rlPts c p (gatL ll c) ∗ semVal (dcell 3 c p) 0))

theorem recv_block (K : GSem nD τ sig → ℕ) (c p : Fin 8) (h : p ≠ c)
    {o1 o2 : Memref sig .tc .vmem S8x32x128 .bf16} {r1 r2 : Memref sig .tc .vmem S32x8 .f32} {s1 s2 : DmaSem sig} (hs1 : s1 = dsem 2 p) (hs2 : s2 = dsem 3 p)
    (hc1 : o2.view.dmaCredit = amt 2) (hc2 : r2.view.dmaCredit = amt 3) {e1 e2 e3 e4} {α : Type} {J : PR F α} (Q : α → sProp 𝕄) :
    iprop(known lo ll ag K c ∗ recvIn c p ∗ owing c (sumFrom (TG c) 0)) ⊢
      iprop((iprop(recvOut lo ll c p ∗ owing c (sumFrom (TG c) 0)) -∗ wpc c J Q) -∗ wpc c (.op (.waitDma2 s1 o1 o2 e1 e2) fun _ => .op (.waitDma2 s2 r1 r2 e3 e4) fun _ => J : PR F α) Q) := by
  unfold recvIn recvOut
  rw [if_neg h, if_neg h]
  have hA : Above 2 (sumFrom (TG c) 0) := Above.sumFrom (fun p => above_TG (by decide) c p) 0
  iintro ⟨#HK, ⟨H2, H3⟩, HO⟩ Hk
  iapply (wait_d lo ll ag K (P := roPts c p (gatO lo c)) 2 c p h 2 (by rw [lvOf_d]; decide) _ hA hs1 hc1 rfl) $$ [H2 HO]
  · isplitr; · iexact HK
    isplitl [H2] <;> iassumption
  iintro ⟨H2, Hz2, HO⟩
  iapply (wait_d lo ll ag K (P := rlPts c p (gatL ll c)) 3 c p h 2 (by rw [lvOf_d]; decide) _ hA hs2 hc2 rfl) $$ [H3 HO]
  · isplitr; · iexact HK
    isplitl [H3] <;> iassumption
  iintro ⟨H3, Hz3, HO⟩
  iapply Hk
  isplitr [HO]
  · isplitl [H2 Hz2]
    · isplitl [H2]; · iexact H2
      iexact Hz2
    · isplitl [H3]; · iexact H3
      iexact Hz3
  iexact HO

/-! ## Sending the gathered rows -/

def gatIn (c p : Fin 8) : sProp 𝕄 := if p = c then iprop(emp) else
  iprop((∃ f, gPts p c f) ∗ gShare c p ag ∗ dutyTok ER (dcell 4 c p) 0 0 ∗ dutyTok ER (dcell 5 p c) 0 0)
def gatOut (c p : Fin 8) : sProp 𝕄 := if p = c then iprop(emp) else cred (tallyAt (dcell 4 c p) () (amt 5))

theorem gat_block (K : GSem nD τ sig → ℕ) (c p : Fin 8) (h : p ≠ c) (R O : CellTallies nD τ sig Unit) (hO : O = R + TG c p)
    {g1 g2 : Memref sig .tc .vmem S32x1024 .bf16} {s1 s2 : DmaSem sig} {d : Dev nD} (hg1 : g1 = gSlot c) (hg2 : g2 = gSlot c) (hs1 : s1 = dsem 4 p) (hs2 : s2 = dsem 5 c)
    (hd : p = d) {e4 e1 e2 e3} {α : Type} {J : PR F α} (Q : α → sProp 𝕄) :
    iprop(known lo ll ag K c ∗ gatIn ag c p ∗ owing c O) ⊢
      iprop((iprop(gatOut c p ∗ owing c R) -∗ wpc c J Q) -∗ wpc c (.op (.enqueueDma g1 (.remote (Dev.tc d) g2 (.dma s1) e4) (.dma s2) e1 e2 e3) fun _ => J : PR F α) Q) := by
  subst hg1 hg2 hs1 hs2 hO
  subst hd
  unfold gatIn gatOut TG
  rw [if_neg h, if_neg h, if_neg h]
  iintro ⟨#HK, ⟨⟨%f, H1⟩, Hs, Ht4, Ht5⟩, HO⟩ Hk
  unfold known owing
  icases HK with ⟨#HI, #Hown, #Hpeer, #HL⟩
  icases HO with ⟨%W, HO⟩
  ihave #Hi4 := (invs_d lo ll ag K 4 c p) $$ HI
  ihave #Hi5 := (invs_d lo ll ag K 5 p c) $$ HI
  ihave #Hr4 := (ownUp_at c 4 p) $$ Hown
  ihave #Hrp := (peersUp_at h) $$ Hpeer
  icases Hrp with ⟨-, -, #Hr5⟩
  iapply (Rounds.wp_send_pointsTo 𝒱₀ ER (Rd lo ll ag) ((c : Dev nD) : Thread nD τ) none (c' := ((p : Dev nD) : Thread nD τ)) (src := gSlot c) (dst := gSlot c)
      (sS := .dma (dsem 4 p)) (sem := .dma (dsem 5 c)) (q := ShareLeaves.leaf 3 fullShare p) (fs := ag) (κ₁ := K (dcell 4 c p)) (κ₂ := K (dcell 5 p c))
      (r₁ := 0) (r₂ := 0) (d₁ := 0) (d₂ := 0) (fd := f)
      (mem_duties_d lo ll ag 4 h) (mem_duties_d lo ll ag 5 (Ne.symm h)) () () (amt 5) (amount_g c _) ((amount_d lo ll ag 4 c p 0).trans amt_45) (amount_d lo ll ag 5 p c 0)
      R rfl (W := W)
      (by rw [payload_d]; exact BI.Entails.refl _)
      (by rw [payload_d]; exact Entails.of_eq (pointsTo_congr (land_g ag f c)))) $$ [Hs H1 HO Ht4 Ht5]
  · isplitr; · iexact Hi4
    isplitr; · iexact Hi5
    isplitl [Hs]; · iexact Hs
    isplitl [H1]; · iexact H1
    isplitl [HO]; · iexact HO
    isplitl [Ht4]; · iexact Ht4
    isplitr; · iexact Hr4
    isplitl [Ht5]; · iexact Ht5
    iexact Hr5
  iintro ⟨Hc, HO⟩
  iapply Hk
  isplitl [Hc]; · iexact Hc
  iexists W; iexact HO

/-! ## The waits for what was sent -/

def doneIn (c p : Fin 8) : sProp 𝕄 := if p = c then iprop(emp) else iprop(waitIn 0 c p ∗ waitIn 1 c p ∗ waitIn 4 c p)
def doneOut (c p : Fin 8) : sProp 𝕄 := if p = c then iprop(emp) else
  iprop((oPts c p (lo c) ∗ semVal (dcell 0 c p) 0) ∗ (lPts c p (ll c) ∗ semVal (dcell 1 c p) 0) ∗ (gShare c p ag ∗ semVal (dcell 4 c p) 0))

theorem done_block (K : GSem nD τ sig → ℕ) (c p : Fin 8) (h : p ≠ c)
    {o1 o2 : Memref sig .tc .vmem S8x32x128 .bf16} {r1 r2 : Memref sig .tc .vmem S32x8 .f32} {g1 g2 : Memref sig .tc .vmem S32x1024 .bf16} {s1 s2 s3 : DmaSem sig}
    (hs1 : s1 = dsem 0 p) (hs2 : s2 = dsem 1 p) (hs3 : s3 = dsem 4 p) (hc1 : o2.view.dmaCredit = amt 0) (hc2 : r2.view.dmaCredit = amt 1) (hc3 : g2.view.dmaCredit = amt 4)
    {e1 e2 e3 e4 e5 e6} {α : Type} {J : PR F α} (Q : α → sProp 𝕄) :
    iprop(known lo ll ag K c ∗ doneIn c p ∗ owing c 0) ⊢
      iprop((iprop(doneOut lo ll ag c p ∗ owing c 0) -∗ wpc c J Q) -∗ wpc c (.op (.waitDma2 s1 o1 o2 e1 e2) fun _ => .op (.waitDma2 s2 r1 r2 e3 e4) fun _ => .op (.waitDma2 s3 g1 g2 e5 e6) fun _ => J : PR F α) Q) := by
  unfold doneIn doneOut
  rw [if_neg h, if_neg h]
  iintro ⟨#HK, ⟨H0, H1, H4⟩, HO⟩ Hk
  iapply (wait_d lo ll ag K (P := oPts c p (lo c)) 0 c p h 0 (by rw [lvOf_d]; decide) _ (Above.zero 0) hs1 hc1 rfl) $$ [H0 HO]
  · isplitr; · iexact HK
    isplitl [H0] <;> iassumption
  iintro ⟨H0, Hz0, HO⟩
  iapply (wait_d lo ll ag K (P := lPts c p (ll c)) 1 c p h 0 (by rw [lvOf_d]; decide) _ (Above.zero 0) hs2 hc2 rfl) $$ [H1 HO]
  · isplitr; · iexact HK
    isplitl [H1] <;> iassumption
  iintro ⟨H1, Hz1, HO⟩
  iapply (wait_d lo ll ag K (P := gShare c p ag) 4 c p h 0 (by rw [lvOf_d]; decide) _ (Above.zero 0) hs3 hc3 rfl) $$ [H4 HO]
  · isplitr; · iexact HK
    isplitl [H4] <;> iassumption
  iintro ⟨H4, Hz4, HO⟩
  iapply Hk
  isplitr [HO]
  · isplitl [H0 Hz0]
    · isplitl [H0]; · iexact H0
      iexact Hz0
    isplitl [H1 Hz1]
    · isplitl [H1]; · iexact H1
      iexact Hz1
    · isplitl [H4]; · iexact H4
      iexact Hz4
  iexact HO

end Cert.KernelIdeal.Talk

end
-- ==== Proof.Access.lean ====
/- A device's own accesses to the exchanged buffers: which cells they touch and what they leave. -/
module

public import proofs.«01_k».proof.Proof.Waits

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

/-! ## A buffer cut in eight -/

/-- A buffer held whole is its eight parts, whatever marks an index's part. -/
theorem cut8 {ℓ : Loc nD τ sig} (f : Buf (Elt F) ℓ) (S : Fin 8 → Finset (Idx ℓ)) (key : Idx ℓ → Fin 8) (h : ∀ p i, i ∈ S p ↔ key i = p) :
    (ℓ ↦{fullShare} f : sProp 𝕄) = bigSep Finset.univ fun p => ℓ ↦[S p]{fullShare} f := by
  rw [← pointsTo_biUnion Finset.univ S (fun t _ t' _ hne => Finset.disjoint_left.mpr fun i hi hi' => hne (((h t i).mp hi).symm.trans ((h t' i).mp hi')))]
  congr 1
  ext i
  simp only [Finset.mem_univ, Finset.mem_biUnion, true_and, true_iff]
  exact ⟨key i, (h _ i).mpr rfl⟩

variable (lo : Dev nD → Vec F S8x256x128 .bf16) (ll : Dev nD → Vec F S256x8 .f32)

theorem cut_o (d : Fin 8) (f : Vec F S8x256x128 .bf16) :
    ((((d : Dev nD) : Thread nD τ).loc (cc2_scratch0 : Ref sig .tc)) ↦{fullShare} f : sProp 𝕄) = bigSep Finset.univ fun p => oPts d p f :=
  cut8 (ℓ := ((d : Dev nD) : Thread nD τ).loc (cc2_scratch0 : Ref sig .tc)) f (fun p => (oChunk p).view.set)
    (fun i : S8x256x128.Idx => ⟨(i 1).val / 32, by have := (i 1).isLt; simp at this; omega⟩)
    (fun p i => (mem_oChunk p i).trans ⟨fun h => Fin.ext h, fun h => congrArg Fin.val h⟩)
theorem cut_l (d : Fin 8) (f : Vec F S256x8 .f32) :
    ((((d : Dev nD) : Thread nD τ).loc (cc2_scratch1 : Ref sig .tc)) ↦{fullShare} f : sProp 𝕄) = bigSep Finset.univ fun p => lPts d p f :=
  cut8 (ℓ := ((d : Dev nD) : Thread nD τ).loc (cc2_scratch1 : Ref sig .tc)) f (fun p => (lChunk p).view.set)
    (fun i : S256x8.Idx => ⟨(i 0).val / 32, by have := (i 0).isLt; simp at this; omega⟩)
    (fun p i => (mem_lChunk p i).trans ⟨fun h => Fin.ext h, fun h => congrArg Fin.val h⟩)
theorem cut_ro (d : Fin 8) (f : Vec F S8x8x32x128 .bf16) :
    ((((d : Dev nD) : Thread nD τ).loc (cc2_scratch4 : Ref sig .tc)) ↦{fullShare} f : sProp 𝕄) = bigSep Finset.univ fun p => roPts d p f :=
  cut8 (ℓ := ((d : Dev nD) : Thread nD τ).loc (cc2_scratch4 : Ref sig .tc)) f (fun p => (roSlot p).view.set)
    (fun i : S8x8x32x128.Idx => i 0) (fun p i => (mem_roSlot p i).trans Fin.ext_iff.symm)
theorem cut_rl (d : Fin 8) (f : Vec F S8x32x8 .f32) :
    ((((d : Dev nD) : Thread nD τ).loc (cc2_scratch5 : Ref sig .tc)) ↦{fullShare} f : sProp 𝕄) = bigSep Finset.univ fun p => rlPts d p f :=
  cut8 (ℓ := ((d : Dev nD) : Thread nD τ).loc (cc2_scratch5 : Ref sig .tc)) f (fun p => (rlSlot p).view.set)
    (fun i : S8x32x8.Idx => i 0) (fun p i => (mem_rlSlot p i).trans Fin.ext_iff.symm)
theorem cut_g (d : Fin 8) (f : Vec F S8x32x1024 .bf16) :
    ((((d : Dev nD) : Thread nD τ).loc (cc2_scratch6 : Ref sig .tc)) ↦{fullShare} f : sProp 𝕄) = bigSep Finset.univ fun p => gPts d p f :=
  cut8 (ℓ := ((d : Dev nD) : Thread nD τ).loc (cc2_scratch6 : Ref sig .tc)) f (fun p => (gSlot p).view.set)
    (fun i : S8x32x1024.Idx => i 0) (fun p i => (mem_gSlot p i).trans Fin.ext_iff.symm)

/-! ## The result's rows -/

abbrev outM : Memref sig .tc .vmem S1x256x1024 .f32 := Memref.whole cc2_stg5_0
abbrev woM : Memref sig .tc .vmem S1024x1024 .f32 := Memref.whole cc2_stg4_0
theorem out_inb (p : Fin 8) : ∀ a, (![0, 32 * p.val, 0] : Fin 3 → Nat) a + S1x32x1024.size a ≤ S1x256x1024.size a := by
  revert p; decide
abbrev outRect (p : Fin 8) : Rect S1x256x1024 := Rect.unit (s := S1x256x1024) ![0, 32 * p.val, 0] S1x32x1024.size (out_inb p)
abbrev outPts (d p : Fin 8) (f : Vec F S1x256x1024 .f32) : sProp 𝕄 :=
  ((d : Dev nD) : Thread nD τ).loc (cc2_stg5_0 : Ref sig .tc) ↦[(outM.access (outRect p)).set]{fullShare} f
theorem mem_outRect (p : Fin 8) (i : S1x256x1024.Idx) : i ∈ (outM.access (outRect p)).set ↔ (i 1).val / 32 = p.val := by
  rw [show (outM.access (outRect p)).set = (outRect p).set from View.set_slice_whole _ _]
  rw [Rect.mem_set_unit]
  constructor
  · intro h; have := h 1; simp at this; omega
  · intro h a
    have h1 := (i 0).isLt; have h2 := (i 2).isLt
    fin_cases a <;> simp_all <;> omega
theorem cut_out (d : Fin 8) (f : Vec F S1x256x1024 .f32) :
    ((((d : Dev nD) : Thread nD τ).loc (cc2_stg5_0 : Ref sig .tc)) ↦{fullShare} f : sProp 𝕄) = bigSep Finset.univ fun p => outPts d p f :=
  cut8 (ℓ := ((d : Dev nD) : Thread nD τ).loc (cc2_stg5_0 : Ref sig .tc)) f (fun p => (outM.access (outRect p)).set)
    (fun i : S1x256x1024.Idx => ⟨(i 1).val / 32, by have := (i 1).isLt; simp at this; omega⟩)
    (fun p i => (mem_outRect p i).trans ⟨fun h => Fin.ext h, fun h => congrArg Fin.val h⟩)

/-! ## What is computed of what has come together -/

/-- Slot p of a buffer of outputs, as the program loads it. -/
abbrev rdO (p : Fin 8) (f : Vec F S8x8x32x128 .bf16) : Vec F S1x8x32x128 .bf16 :=
  (roM.access (Rect.unit (s := S8x8x32x128) ![p.val, 0, 0, 0] S1x8x32x128.size (ro_inb p))).read (Elt F) f
abbrev rdL (f : Vec F S8x32x8 .f32) : Vec F S8x32x8 .f32 :=
  (rlM.access (Rect.unit (s := S8x32x8) ![0, 0, 0] S8x32x8.size inb_S8x32x8_S8x32x8_0_0_0)).read (Elt F) f
abbrev rdG (p : Fin 8) (f : Vec F S8x32x1024 .bf16) : Vec F S1x32x1024 .bf16 :=
  (gM.access (Rect.unit (s := S8x32x1024) ![p.val, 0, 0] S1x32x1024.size (g_inb p))).read (Elt F) f
abbrev rdW (f : Vec F S1024x1024 .f32) : Vec F S1024x1024 .f32 :=
  (woM.access (Rect.unit (s := S1024x1024) ![0, 0] S1024x1024.size inb_S1024x1024_S1024x1024_0_0)).read (Elt F) f
/-- The rows that go to device d, of device d's own outputs and denominators. -/
abbrev rdOwnO (d : Fin 8) : Vec F S8x32x128 .bf16 := (oChunk d).view.read (Elt F) (lo d)
abbrev rdOwnL (d : Fin 8) : Vec F S32x8 .f32 := (lChunk d).view.read (Elt F) (ll d)

def sumL (d : Fin 8) : FVec F S8x32 .f32 := k2_pay4 (rdL (gatL ll d))
def sumO (d : Fin 8) : FVec F S8x32x128 .f32 :=
  k2_pay5 (rdO 0 (gatO lo d)) (rdO 1 (gatO lo d)) (rdO 2 (gatO lo d)) (rdO 3 (gatO lo d)) (rdO 4 (gatO lo d)) (rdO 5 (gatO lo d))

variable (wo : Dev nD → Vec F S1024x1024 .f32)

/-- Device d's finished rows, and the same rounded. -/
def rowsF (d : Fin 8) : FVec F S1x32x1024 .f32 := k2_pay7 (sumL ll d) (sumO lo d) (rdO 6 (gatO lo d)) (rdO 7 (gatO lo d)) (rdW (wo d))
def rowsB (d : Fin 8) : FVec F S1x32x1024 .bf16 := k2_pay8 (sumL ll d) (sumO lo d) (rdO 6 (gatO lo d)) (rdO 7 (gatO lo d)) (rdW (wo d))
/-- The gathered rows: slot p is device p's. -/
def agF : Vec F S8x32x1024 .bf16 := fun i => rowsB lo ll wo (i 0) (fun | 0 => ⟨0, Nat.one_pos⟩ | 1 => i 1 | 2 => i 2 : S1x32x1024.Idx)

def rowPart (i : Fin 256) : Fin 8 := ⟨i.val / 32, by omega⟩
def rowIn (i : Fin 256) : Fin 32 := ⟨i.val % 32, by omega⟩
/-- The result on device d: its own rows as computed, the others as they were gathered. -/
def outF (d : Fin 8) : Vec F S1x256x1024 .f32 := fun i =>
  if rowPart (i 1) = d then rowsF lo ll wo d (fun | 0 => ⟨0, Nat.one_pos⟩ | 1 => rowIn (i 1) | 2 => i 2 : S1x32x1024.Idx)
  else k2_pay9 (rdG (rowPart (i 1)) (agF lo ll wo)) (fun | 0 => ⟨0, Nat.one_pos⟩ | 1 => rowIn (i 1) | 2 => i 2 : S1x32x1024.Idx)

/-! ## The cells of the accesses -/

theorem acc_ro {p : Fin 8} {off : Fin 4 → ℕ} (h : off = ![p.val, 0, 0, 0]) (inb : ∀ a, off a + S1x8x32x128.size a ≤ S8x8x32x128.size a) :
    (roM.access (Rect.unit (s := S8x8x32x128) off S1x8x32x128.size inb)).set = (roSlot p).view.set := by subst h; exact (View.set_reshape _ _).symm
theorem acc_rl {p : Fin 8} {off : Fin 3 → ℕ} (h : off = ![p.val, 0, 0]) (inb : ∀ a, off a + S1x32x8.size a ≤ S8x32x8.size a) :
    (rlM.access (Rect.unit (s := S8x32x8) off S1x32x8.size inb)).set = (rlSlot p).view.set := by subst h; exact (View.set_reshape _ _).symm
theorem acc_g {p : Fin 8} {off : Fin 3 → ℕ} (h : off = ![p.val, 0, 0]) (inb : ∀ a, off a + S1x32x1024.size a ≤ S8x32x1024.size a) :
    (gM.access (Rect.unit (s := S8x32x1024) off S1x32x1024.size inb)).set = (gSlot p).view.set := by subst h; exact (View.set_reshape _ _).symm
theorem acc_o {p : Fin 8} {off : Fin 3 → ℕ} (h : off = ![0, 32 * p.val, 0]) (inb : ∀ a, off a + S8x32x128.size a ≤ S8x256x128.size a) :
    (oM.access (Rect.unit (s := S8x256x128) off S8x32x128.size inb)).set = (oChunk p).view.set := by subst h; rfl
theorem acc_l {p : Fin 8} {off : Fin 2 → ℕ} (h : off = ![32 * p.val, 0]) (inb : ∀ a, off a + S32x8.size a ≤ S256x8.size a) :
    (lM.access (Rect.unit (s := S256x8) off S32x8.size inb)).set = (lChunk p).view.set := by subst h; rfl
theorem acc_out {p : Fin 8} {off : Fin 3 → ℕ} (h : off = ![0, 32 * p.val, 0]) (inb : ∀ a, off a + S1x32x1024.size a ≤ S1x256x1024.size a) :
    (outM.access (Rect.unit (s := S1x256x1024) off S1x32x1024.size inb)).set = (outM.access (outRect p)).set := by subst h; rfl

theorem rd_ownO {c : Fin 8} {off : Fin 3 → ℕ} (h : off = ![0, 32 * c.val, 0]) (inb : ∀ a, off a + S8x32x128.size a ≤ S8x256x128.size a) :
    (oM.access (Rect.unit (s := S8x256x128) off S8x32x128.size inb)).read (Elt F) (lo c) = rdOwnO lo c := by subst h; rfl
theorem rd_ownL {c : Fin 8} {off : Fin 2 → ℕ} (h : off = ![32 * c.val, 0]) (inb : ∀ a, off a + S32x8.size a ≤ S256x8.size a) :
    (lM.access (Rect.unit (s := S256x8) off S32x8.size inb)).read (Elt F) (ll c) = rdOwnL ll c := by subst h; rfl

/-! ## What the stores leave -/

theorem put_ro {d : Fin 8} (f : Vec F S8x8x32x128 .bf16) {off : Fin 4 → ℕ} (h : off = ![d.val, 0, 0, 0]) (inb : ∀ a, off a + S1x8x32x128.size a ≤ S8x8x32x128.size a) :
    ∀ i ∈ (roSlot d).view.set, (roM.access (Rect.unit (s := S8x8x32x128) off S1x8x32x128.size inb)).write (Elt F) f (k2_pay2 (rdOwnO lo d)) Finset.univ i = gatO lo d i := by
  subst h
  intro i hi
  obtain ⟨j, rfl⟩ : ∃ j, (roSlot d).view.emb j = i := by simpa [View.set] using hi
  have e : (roSlot d).view.emb j = (roM.access (Rect.unit (s := S8x8x32x128) ![d.val, 0, 0, 0] S1x8x32x128.size inb)).emb (Fin.cons ⟨0, Nat.one_pos⟩ j : S1x8x32x128.Idx) := by
    show (roM.access (Rect.unit (s := S8x8x32x128) ![d.val, 0, 0, 0] S1x8x32x128.size inb)).emb (Shape.reshapeEquiv _ j) = _
    rw [show Shape.reshapeEquiv (squeezes_S1x8x32x128_S8x32x128).numel_eq j = (Fin.cons ⟨0, Nat.one_pos⟩ j : S1x8x32x128.Idx) from Shape.reshapeEquiv_cons_one _ j]
  rw [show gatO lo d ((roSlot d).view.emb j) = lo d ((oChunk d).view.emb j) by rw [roSlot_emb, oChunk_emb]; rfl]
  rw [e, View.write_emb_of_mem _ _ (Finset.mem_univ _)]
  unfold k2_pay2
  show shapeCast S1x8x32x128 (rdOwnO lo d) shapeCasts_S8x32x128_S1x8x32x128 (Fin.cons ⟨0, Nat.one_pos⟩ j) = _
  exact (shapeCast_addUnit_apply ![8, 32, 128] (rdOwnO lo d) _ _).trans rfl
theorem put_rl {d : Fin 8} (f : Vec F S8x32x8 .f32) {off : Fin 3 → ℕ} (h : off = ![d.val, 0, 0]) (inb : ∀ a, off a + S1x32x8.size a ≤ S8x32x8.size a) :
    ∀ i ∈ (rlSlot d).view.set, (rlM.access (Rect.unit (s := S8x32x8) off S1x32x8.size inb)).write (Elt F) f (k2_pay3 (rdOwnL ll d)) Finset.univ i = gatL ll d i := by
  subst h
  intro i hi
  obtain ⟨j, rfl⟩ : ∃ j, (rlSlot d).view.emb j = i := by simpa [View.set] using hi
  have e : (rlSlot d).view.emb j = (rlM.access (Rect.unit (s := S8x32x8) ![d.val, 0, 0] S1x32x8.size inb)).emb (Fin.cons ⟨0, Nat.one_pos⟩ j : S1x32x8.Idx) := by
    show (rlM.access (Rect.unit (s := S8x32x8) ![d.val, 0, 0] S1x32x8.size inb)).emb (Shape.reshapeEquiv _ j) = _
    rw [show Shape.reshapeEquiv (squeezes_S1x32x8_S32x8).numel_eq j = (Fin.cons ⟨0, Nat.one_pos⟩ j : S1x32x8.Idx) from Shape.reshapeEquiv_cons_one _ j]
  rw [show gatL ll d ((rlSlot d).view.emb j) = ll d ((lChunk d).view.emb j) by rw [rlSlot_emb, lChunk_emb]; rfl]
  rw [e, View.write_emb_of_mem _ _ (Finset.mem_univ _)]
  unfold k2_pay3
  show shapeCast S1x32x8 (rdOwnL ll d) shapeCasts_S32x8_S1x32x8 (Fin.cons ⟨0, Nat.one_pos⟩ j) = _
  exact (shapeCast_addUnit_apply ![32, 8] (rdOwnL ll d) _ _).trans rfl
theorem put_g {d : Fin 8} (f : Vec F S8x32x1024 .bf16) {off : Fin 3 → ℕ} (h : off = ![d.val, 0, 0]) (inb : ∀ a, off a + S1x32x1024.size a ≤ S8x32x1024.size a) :
    ∀ i ∈ (gSlot d).view.set, (gM.access (Rect.unit (s := S8x32x1024) off S1x32x1024.size inb)).write (Elt F) f (rowsB lo ll wo d) Finset.univ i = agF lo ll wo i := by
  subst h
  intro i hi
  obtain ⟨j, rfl⟩ : ∃ j, (gSlot d).view.emb j = i := by simpa [View.set] using hi
  have e : (gSlot d).view.emb j = (gM.access (Rect.unit (s := S8x32x1024) ![d.val, 0, 0] S1x32x1024.size inb)).emb (Fin.cons ⟨0, Nat.one_pos⟩ j : S1x32x1024.Idx) := by
    show (gM.access (Rect.unit (s := S8x32x1024) ![d.val, 0, 0] S1x32x1024.size inb)).emb (Shape.reshapeEquiv _ j) = _
    rw [show Shape.reshapeEquiv (squeezes_S1x32x1024_S32x1024).numel_eq j = (Fin.cons ⟨0, Nat.one_pos⟩ j : S1x32x1024.Idx) from Shape.reshapeEquiv_cons_one _ j]
  have e2 : agF lo ll wo ((gSlot d).view.emb j) = rowsB lo ll wo d (Fin.cons ⟨0, Nat.one_pos⟩ j : S1x32x1024.Idx) := by
    rw [gSlot_emb]
    show rowsB lo ll wo d _ = _
    congr 1
    funext a; fin_cases a <;> rfl
  rw [e2, e, View.write_emb_of_mem _ _ (Finset.mem_univ _)]
  rfl
/-- The rows of chunk p, as the result has them. -/
theorem put_out {d p : Fin 8} (f : Vec F S1x256x1024 .f32) (w : FVec F S1x32x1024 .f32)
    (hw : w = if p = d then rowsF lo ll wo d else k2_pay9 (rdG p (agF lo ll wo)))
    {off : Fin 3 → ℕ} (h : off = ![0, 32 * p.val, 0]) (inb : ∀ a, off a + S1x32x1024.size a ≤ S1x256x1024.size a) :
    ∀ i ∈ (outM.access (outRect p)).set, (outM.access (Rect.unit (s := S1x256x1024) off S1x32x1024.size inb)).write (Elt F) f w Finset.univ i = outF lo ll wo d i := by
  subst h
  intro i hi
  obtain ⟨j, rfl⟩ : ∃ j, (outM.access (outRect p)).emb j = i := by simpa [View.set] using hi
  rw [View.write_emb_of_mem _ _ (Finset.mem_univ _)]
  have e : (outM.access (outRect p)).emb j = (fun | 0 => ⟨0, Nat.one_pos⟩ | 1 => chRow p (j 1) | 2 => j 2 : S1x256x1024.Idx) := by
    show (outRect p).emb j = _
    funext a; apply Fin.ext
    rw [ValueKit.rect_emb_unit_val]
    have h0 := (j 0).isLt
    fin_cases a
    · show 0 + (j 0).val = 0
      have : (j 0).val < 1 := h0
      omega
    · rfl
    · exact Nat.zero_add _
  rw [e]
  have hp : rowPart (chRow p (j 1)) = p := Fin.ext (by have := (j 1).isLt; show (32 * p.val + (j 1).val) / 32 = p.val; have : (j 1).val < 32 := this; omega)
  have hr : rowIn (chRow p (j 1)) = j 1 := Fin.ext (by have := (j 1).isLt; show (32 * p.val + (j 1).val) % 32 = (j 1).val; have : (j 1).val < 32 := this; omega)
  have hj : (fun | 0 => ⟨0, Nat.one_pos⟩ | 1 => j 1 | 2 => j 2 : S1x32x1024.Idx) = j := by
    funext a; fin_cases a
    · exact Fin.ext (by show 0 = (j 0).val; have : (j 0).val < 1 := (j 0).isLt; omega)
    · rfl
    · rfl
  show w j = if rowPart (chRow p (j 1)) = d then rowsF lo ll wo d (fun | 0 => ⟨0, Nat.one_pos⟩ | 1 => rowIn (chRow p (j 1)) | 2 => j 2 : S1x32x1024.Idx)
    else k2_pay9 (rdG (rowPart (chRow p (j 1))) (agF lo ll wo)) (fun | 0 => ⟨0, Nat.one_pos⟩ | 1 => rowIn (chRow p (j 1)) | 2 => j 2 : S1x32x1024.Idx)
  rw [hp, hr, hj, hw]
  split <;> rfl

end Cert.KernelIdeal.Talk

end
-- ==== Proof.TailA.lean ====
/- The first part of the exchange: the chunks are sent, and the own chunk is loaded. -/
module

public import proofs.«01_k».proof.Proof.Access

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (wo : Dev nD → Vec F S1024x1024 .f32)

/-- What is owed when k chunks have been sent. -/
def Osend (c : Fin 8) (k : ℕ) : CellTallies nD τ sig Unit := sumFrom (TS c) k + sumFrom (TG c) 0
theorem Osend_peel (c : Fin 8) (k : Fin 8) : Osend c k.val = Osend c (k.val + 1) + TS c k := by
  unfold Osend; rw [sumFrom_peel (TS c) k.val k.isLt, add_right_comm]
theorem Osend_end (c : Fin 8) : Osend c 8 = sumFrom (TG c) 0 := by
  unfold Osend; rw [sumFrom_end, zero_add]
theorem own_send (c : Fin 8) : sendIn lo ll c c ⊢ (sendOut c c : sProp 𝕄) := by
  unfold sendIn sendOut; rw [if_pos rfl, if_pos rfl]
theorem own_owed {c k : Fin 8} (h : k = c) {O : CellTallies nD τ sig Unit} : O + TS c k = O := by
  unfold TS; rw [if_pos h, add_zero]

/-- The device's own chunks and its own slots to receive in. -/
def ownS (c : Fin 8) : sProp 𝕄 := iprop(oPts c c (lo c) ∗ lPts c c (ll c) ∗ (∃ f, roPts c c f) ∗ (∃ f, rlPts c c f))

/-- A device's number, as the program computes it. -/
abbrev myWord (c : Fin 8) : BitVec 32 := Scalar.remsi (Scalar.divsi (Dev.word (c : Dev nD)) 1#32) 8#32

/-! Where the program reaches for its own chunks and slots. -/
theorem off27 : ∀ c : Fin 8, k2_off27 c = ![0, 32 * c.val, 0] := by decide
theorem off28 : ∀ c : Fin 8, k2_off28 c = ![c.val, 0, 0, 0] := by decide
theorem off29 : ∀ c : Fin 8, k2_off29 c = ![32 * c.val, 0] := by decide
theorem off30 : ∀ c : Fin 8, k2_off30 c = ![c.val, 0, 0] := by decide
theorem off31 : ∀ c : Fin 8, k2_off31 c = ![0, 32 * c.val, 0] := by decide
theorem off32 : ∀ c : Fin 8, k2_off32 c = ![c.val, 0, 0] := by decide

theorem ret {c : Dev nD} {α : Type} {T : α → sProp 𝕄} {a : α} : T a ⊢ wpc c (pure a : PR F α) T := ht_ret (BI.Entails.refl _)

/-- The loads of the own chunk. -/
theorem own_loads {i : grid2.Coords} (c : Fin 8) (hh : k2_cond3 i = 1#1) {a1 a2 a3 a4} {α : Type} {J : Vec F S8x32x128 .bf16 → PR F α} {Q : α → sProp 𝕄} :
    iprop(ownS lo ll c) ⊢ iprop((ownS lo ll c -∗ wpc c (J (rdOwnO lo c)) Q) -∗ wpc c
      (.op (.load oM (Rect.unit (s := S8x256x128) (k2_off27 c) S8x32x128.size a1).toLoadRect a2) fun v385 =>
       .op (.load roM (Rect.unit (s := S8x8x32x128) (k2_off28 c) S1x8x32x128.size a3).toLoadRect a4) fun _ => J v385 : PR F α) Q) := by
  have h27 := off27 c
  have h28 := off28 c
  unfold ownS
  iintro ⟨Ho, Hl, ⟨%f, Hro⟩, Hrl⟩ Hk
  iapply (wp_load_rect 𝒱₀ ((c : Dev nD) : Thread nD τ) none Set.univ (m := oM) (acc_o h27 a1).subset) $$ Ho; iintro Ho
  rw [rd_ownO lo h27 a1]
  iapply (wp_load_rect 𝒱₀ ((c : Dev nD) : Thread nD τ) none Set.univ (m := roM) (acc_ro h28 a3).subset) $$ Hro; iintro Hro
  iapply Hk
  isplitl [Ho]; · iexact Ho
  isplitl [Hl]; · iexact Hl
  isplitl [Hro]; · iexists f; iexact Hro
  iexact Hrl

set_option maxHeartbeats 2000000 in
theorem part2_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (v2 : BitVec 32) (hh : k2_cond3 i = 1#1) (R : sProp 𝕄) :
    iprop(known lo ll (agF lo ll wo) K c ∗ fam (sendIn lo ll c) (sendOut c) 0 ∗ owing c (Osend c 0) ∗ (ownS lo ll c ∗ R))
      ⊢ wpc c (k2_part2 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 hh) fun v => iprop(⌜v = rdOwnO lo c⌝ ∗ known lo ll (agF lo ll wo) K c ∗ fam (sendIn lo ll c) (sendOut c) 8 ∗ owing c (Osend c 8) ∗ ownS lo ll c ∗ R) := by
  rw [k2_part2_eq_skeleton]
  unfold k2_part2_skel
  extract_lets jp7 _ _ _ _ _ _ jp6 _ _ _ _ _ _ jp5 _ _ _ _ _ _ jp4 _ _ _ _ _ _ jp3 _ _ _ _ _ _ jp2 _ _ _ _ _ _ jp1 _ _ _ _ _ _ jp0 _ _ _ _ _ _
  rw [show Osend c 0 = Osend c (0 + 1) + TS c 0 from Osend_peel c 0]
  refine step lo ll (agF lo ll wo) K 0 (by revert c; decide) (own_send lo ll c) (fun h => own_owed h) (fun hh hne _ =>
    send_block lo ll (agF lo ll wo) K c 0 hne _ _ rfl (oChunk_of (p := 0) rfl _) (roSlot_of (p := c) (by clear hne; revert c; decide) _) (lChunk_of (p := 0) rfl _)
      (rlSlot_of (p := c) (by revert c; decide) _) (dsem_of (k := 0) (p := 0) rfl rfl _) (dsem_of (k := 2) (p := c) rfl (by revert c; decide) _)
      (dsem_of (k := 1) (p := 0) rfl rfl _) (dsem_of (k := 3) (p := c) rfl (by revert c; decide) _) rfl rfl _) ?_
  dsimp only [jp0]
  rw [show Osend c 1 = Osend c (1 + 1) + TS c 1 from Osend_peel c 1]
  refine step lo ll (agF lo ll wo) K 1 (by revert c; decide) (own_send lo ll c) (fun h => own_owed h) (fun hh hne _ =>
    send_block lo ll (agF lo ll wo) K c 1 hne _ _ rfl (oChunk_of (p := 1) rfl _) (roSlot_of (p := c) (by clear hne; revert c; decide) _) (lChunk_of (p := 1) rfl _)
      (rlSlot_of (p := c) (by revert c; decide) _) (dsem_of (k := 0) (p := 1) rfl rfl _) (dsem_of (k := 2) (p := c) rfl (by revert c; decide) _)
      (dsem_of (k := 1) (p := 1) rfl rfl _) (dsem_of (k := 3) (p := c) rfl (by revert c; decide) _) rfl rfl _) ?_
  dsimp only [jp1]
  rw [show Osend c 2 = Osend c (2 + 1) + TS c 2 from Osend_peel c 2]
  refine step lo ll (agF lo ll wo) K 2 (by revert c; decide) (own_send lo ll c) (fun h => own_owed h) (fun hh hne _ =>
    send_block lo ll (agF lo ll wo) K c 2 hne _ _ rfl (oChunk_of (p := 2) rfl _) (roSlot_of (p := c) (by clear hne; revert c; decide) _) (lChunk_of (p := 2) rfl _)
      (rlSlot_of (p := c) (by revert c; decide) _) (dsem_of (k := 0) (p := 2) rfl rfl _) (dsem_of (k := 2) (p := c) rfl (by revert c; decide) _)
      (dsem_of (k := 1) (p := 2) rfl rfl _) (dsem_of (k := 3) (p := c) rfl (by revert c; decide) _) rfl rfl _) ?_
  dsimp only [jp2]
  rw [show Osend c 3 = Osend c (3 + 1) + TS c 3 from Osend_peel c 3]
  refine step lo ll (agF lo ll wo) K 3 (by revert c; decide) (own_send lo ll c) (fun h => own_owed h) (fun hh hne _ =>
    send_block lo ll (agF lo ll wo) K c 3 hne _ _ rfl (oChunk_of (p := 3) rfl _) (roSlot_of (p := c) (by clear hne; revert c; decide) _) (lChunk_of (p := 3) rfl _)
      (rlSlot_of (p := c) (by revert c; decide) _) (dsem_of (k := 0) (p := 3) rfl rfl _) (dsem_of (k := 2) (p := c) rfl (by revert c; decide) _)
      (dsem_of (k := 1) (p := 3) rfl rfl _) (dsem_of (k := 3) (p := c) rfl (by revert c; decide) _) rfl rfl _) ?_
  dsimp only [jp3]
  rw [show Osend c 4 = Osend c (4 + 1) + TS c 4 from Osend_peel c 4]
  refine step lo ll (agF lo ll wo) K 4 (by revert c; decide) (own_send lo ll c) (fun h => own_owed h) (fun hh hne _ =>
    send_block lo ll (agF lo ll wo) K c 4 hne _ _ rfl (oChunk_of (p := 4) rfl _) (roSlot_of (p := c) (by clear hne; revert c; decide) _) (lChunk_of (p := 4) rfl _)
      (rlSlot_of (p := c) (by revert c; decide) _) (dsem_of (k := 0) (p := 4) rfl rfl _) (dsem_of (k := 2) (p := c) rfl (by revert c; decide) _)
      (dsem_of (k := 1) (p := 4) rfl rfl _) (dsem_of (k := 3) (p := c) rfl (by revert c; decide) _) rfl rfl _) ?_
  dsimp only [jp4]
  rw [show Osend c 5 = Osend c (5 + 1) + TS c 5 from Osend_peel c 5]
  refine step lo ll (agF lo ll wo) K 5 (by revert c; decide) (own_send lo ll c) (fun h => own_owed h) (fun hh hne _ =>
    send_block lo ll (agF lo ll wo) K c 5 hne _ _ rfl (oChunk_of (p := 5) rfl _) (roSlot_of (p := c) (by clear hne; revert c; decide) _) (lChunk_of (p := 5) rfl _)
      (rlSlot_of (p := c) (by revert c; decide) _) (dsem_of (k := 0) (p := 5) rfl rfl _) (dsem_of (k := 2) (p := c) rfl (by revert c; decide) _)
      (dsem_of (k := 1) (p := 5) rfl rfl _) (dsem_of (k := 3) (p := c) rfl (by revert c; decide) _) rfl rfl _) ?_
  dsimp only [jp5]
  rw [show Osend c 6 = Osend c (6 + 1) + TS c 6 from Osend_peel c 6]
  refine step lo ll (agF lo ll wo) K 6 (by revert c; decide) (own_send lo ll c) (fun h => own_owed h) (fun hh hne _ =>
    send_block lo ll (agF lo ll wo) K c 6 hne _ _ rfl (oChunk_of (p := 6) rfl _) (roSlot_of (p := c) (by clear hne; revert c; decide) _) (lChunk_of (p := 6) rfl _)
      (rlSlot_of (p := c) (by revert c; decide) _) (dsem_of (k := 0) (p := 6) rfl rfl _) (dsem_of (k := 2) (p := c) rfl (by revert c; decide) _)
      (dsem_of (k := 1) (p := 6) rfl rfl _) (dsem_of (k := 3) (p := c) rfl (by revert c; decide) _) rfl rfl _) ?_
  dsimp only [jp6]
  rw [show Osend c 7 = Osend c (7 + 1) + TS c 7 from Osend_peel c 7]
  refine step lo ll (agF lo ll wo) K 7 (by revert c; decide) (own_send lo ll c) (fun h => own_owed h) (fun hh hne _ =>
    send_block lo ll (agF lo ll wo) K c 7 hne _ _ rfl (oChunk_of (p := 7) rfl _) (roSlot_of (p := c) (by clear hne; revert c; decide) _) (lChunk_of (p := 7) rfl _)
      (rlSlot_of (p := c) (by revert c; decide) _) (dsem_of (k := 0) (p := 7) rfl rfl _) (dsem_of (k := 2) (p := c) rfl (by revert c; decide) _)
      (dsem_of (k := 1) (p := 7) rfl rfl _) (dsem_of (k := 3) (p := c) rfl (by revert c; decide) _) rfl rfl _) ?_
  dsimp only [jp7]
  rw [show ((7 : Fin 8).val + 1) = 8 from rfl]
  iintro ⟨HK, HF, HO, Hw, HR⟩
  iapply (own_loads lo ll c hh) $$ Hw; iintro Hw
  iapply ret
  isplitr; · ipureintro; rfl
  isplitl [HK]; · iexact HK
  isplitl [HF]; · iexact HF
  isplitl [HO]; · iexact HO
  isplitl [Hw]; · iexact Hw
  iexact HR

end Cert.KernelIdeal.Talk

end
-- ==== Proof.TailB.lean ====
/- The second part of the exchange: the own chunks are put in their slots, and the peers' chunks are waited for. -/
module

public import proofs.«01_k».proof.Proof.TailA

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (wo : Dev nD → Vec F S1024x1024 .f32)

theorem own_recv (c : Fin 8) : recvIn c c ⊢ (recvOut lo ll c c : sProp 𝕄) := by
  unfold recvIn recvOut; rw [if_pos rfl, if_pos rfl]

theorem cond_ne : ∀ c p : Fin 8, Scalar.cmpi .ne (Scalar.extui (Scalar.cmpi .ne (myWord c) (BitVec.ofNat 32 p.val)) : BitVec 32) 0#32 = 1#1 ↔ p ≠ c := by decide
theorem perm_in {A B C D E : sProp 𝕄} : iprop(A ∗ B ∗ C ∗ (D ∗ E)) ⊢ iprop(D ∗ (A ∗ B ∗ C ∗ E)) := by
  iintro ⟨HA, HB, HC, HD, HE⟩
  isplitl [HD]; · iexact HD
  isplitl [HA]; · iexact HA
  isplitl [HB]; · iexact HB
  isplitl [HC]; · iexact HC
  iexact HE
theorem perm_out {A B C D E : sProp 𝕄} : iprop(D ∗ (A ∗ B ∗ C ∗ E)) ⊢ iprop(A ∗ B ∗ C ∗ (D ∗ E)) := by
  iintro ⟨HD, HA, HB, HC, HE⟩
  isplitl [HA]; · iexact HA
  isplitl [HB]; · iexact HB
  isplitl [HC]; · iexact HC
  isplitl [HD]; · iexact HD
  iexact HE
theorem pure_and {P : Prop} {A : sProp 𝕄} (h : P) : A ⊢ iprop(⌜P⌝ ∗ A) := by
  iintro H
  isplitr; · ipureintro; exact h
  iexact H
theorem own_seq {c : Dev nD} {α : Type} {A B R : sProp 𝕄} {J P : PR F α} {Q : α → sProp 𝕄} (h : A ⊢ iprop((B -∗ wpc c J Q) -∗ wpc c P Q)) (hJ : iprop(B ∗ R) ⊢ wpc c J Q) :
    iprop(A ∗ R) ⊢ wpc c P Q := by
  iintro ⟨HA, HR⟩
  iapply h $$ HA
  iintro HB
  iapply hJ
  isplitl [HB]; · iexact HB
  iexact HR

/-- The device's own chunks and its own slots, filled. -/
def ownT (c : Fin 8) : sProp 𝕄 := iprop(oPts c c (lo c) ∗ lPts c c (ll c) ∗ roPts c c (gatO lo c) ∗ rlPts c c (gatL ll c))

set_option maxHeartbeats 2000000 in
/-- The stores of the own chunks. -/
theorem own_stores (c : Fin 8) {o28 : Fin 4 → ℕ} {o29 : Fin 2 → ℕ} {o30 : Fin 3 → ℕ} (h28 : o28 = ![c.val, 0, 0, 0]) (h29 : o29 = ![32 * c.val, 0]) (h30 : o30 = ![c.val, 0, 0])
    {a1 a2 a3 a4 a5 a6 a7 a8 a9} {α : Type} {J : PR F α} {Q : α → sProp 𝕄} :
    iprop(ownS lo ll c) ⊢ iprop((ownT lo ll c -∗ wpc c J Q) -∗ wpc c
      (do
        Prog.lift (.store roM (Rect.unit (s := S8x8x32x128) o28 S1x8x32x128.size a1) (k2_pay2 (rdOwnO lo c)) Finset.univ a2 a3)
        let v392 : Vec F S32x8 .f32 ← Prog.lift (.load lM (Rect.unit (s := S256x8) o29 S32x8.size a4).toLoadRect a5)
        let v394 : Vec F S1x32x8 .f32 ← Prog.lift (.load rlM (Rect.unit (s := S8x32x8) o30 S1x32x8.size a6).toLoadRect a7)
        Prog.lift (.store rlM (Rect.unit (s := S8x32x8) o30 S1x32x8.size a6) (k2_pay3 v392) Finset.univ a8 a9)
        J : PR F α) Q) := by
  subst h28 h29 h30
  unfold ownS ownT
  iintro ⟨Ho, Hl, ⟨%f, Hro⟩, ⟨%g, Hrl⟩⟩ Hk
  iapply (wp_store 𝒱₀ ((c : Dev nD) : Thread nD τ) none Set.univ (m := roM) (by rw [View.setOn_univ]; exact (acc_ro rfl a1).subset)) $$ Hro; iintro Hro
  ihave Hro := (Entails.of_eq (pointsTo_congr (put_ro lo f rfl a1))) $$ Hro
  iapply (wp_load_rect 𝒱₀ ((c : Dev nD) : Thread nD τ) none Set.univ (m := lM) (acc_l rfl a4).subset) $$ Hl; iintro Hl
  rw [rd_ownL ll rfl a4]
  iapply (wp_load_rect 𝒱₀ ((c : Dev nD) : Thread nD τ) none Set.univ (m := rlM) (acc_rl rfl a6).subset) $$ Hrl; iintro Hrl
  iapply (wp_store 𝒱₀ ((c : Dev nD) : Thread nD τ) none Set.univ (m := rlM) (by rw [View.setOn_univ]; exact (acc_rl rfl a6).subset)) $$ Hrl; iintro Hrl
  ihave Hrl := (Entails.of_eq (pointsTo_congr (put_rl ll g rfl a6))) $$ Hrl
  iapply Hk
  isplitl [Ho]; · iexact Ho
  isplitl [Hl]; · iexact Hl
  isplitl [Hro]; · iexact Hro
  iexact Hrl

set_option maxHeartbeats 2000000 in
theorem part3_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (v2 : BitVec 32) (hv : v2 = myWord c) (hh : k2_cond3 i = 1#1) (R : sProp 𝕄) :
    iprop(known lo ll (agF lo ll wo) K c ∗ fam (recvIn c) (recvOut lo ll c) 0 ∗ owing c (sumFrom (TG c) 0) ∗ (ownS lo ll c ∗ R))
      ⊢ wpc c (k2_part3 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 hh (rdOwnO lo c)) fun v => iprop(⌜v = ⟨Scalar.extui (Scalar.cmpi .ne v2 7#32), 0#32⟩⌝ ∗ known lo ll (agF lo ll wo) K c ∗ fam (recvIn c) (recvOut lo ll c) (7 : Fin 8).val ∗ owing c (sumFrom (TG c) 0) ∗ (ownT lo ll c ∗ R)) := by
  rw [k2_part3_eq_skeleton]
  unfold k2_part3_skel
  subst hv
  extract_lets _ _ _ _ _ _ _ _ _ _ _ _ _ _ _ _ _ _ _ _ _ _ _ jp6 _ _ _ _ _ _ _ _ _ jp5 _ _ _ _ _ _ _ _ _ jp4 _ _ _ _ _ _ _ _ _ jp3 _ _ _ _ _ _ _ _ _ jp2 _ _ _ _ _ _ _ _ _ jp1 _ _ _ _ _ _ _ _ _ jp0 _ _ _ _ _ _ _ _ _
  refine BI.Entails.trans ?_ (own_seq (R := iprop(known lo ll (agF lo ll wo) K c ∗ fam (recvIn c) (recvOut lo ll c) 0 ∗ owing c (sumFrom (TG c) 0) ∗ R)) (own_stores lo ll c (off28 c) (off29 c) (off30 c)) ?_)
  · exact perm_in
  refine BI.Entails.trans (Q := iprop(known lo ll (agF lo ll wo) K c ∗ fam (recvIn c) (recvOut lo ll c) (0 : Fin 8).val ∗ owing c (sumFrom (TG c) 0) ∗ (ownT lo ll c ∗ R))) ?_ ?_
  · exact perm_out
  refine step lo ll (agF lo ll wo) K 0 (by exact cond_ne c 0) (own_recv lo ll c) (fun _ => rfl) (fun hh hne _ =>
    recv_block lo ll (agF lo ll wo) K c 0 hne (dsem_of (k := 2) (p := 0) rfl rfl _) (dsem_of (k := 3) (p := 0) rfl rfl _) (by unfold amt; rfl) (by unfold amt; rfl) _) ?_
  dsimp only [jp0]
  refine step lo ll (agF lo ll wo) K 1 (by exact cond_ne c 1) (own_recv lo ll c) (fun _ => rfl) (fun hh hne _ =>
    recv_block lo ll (agF lo ll wo) K c 1 hne (dsem_of (k := 2) (p := 1) rfl rfl _) (dsem_of (k := 3) (p := 1) rfl rfl _) (by unfold amt; rfl) (by unfold amt; rfl) _) ?_
  dsimp only [jp1]
  refine step lo ll (agF lo ll wo) K 2 (by exact cond_ne c 2) (own_recv lo ll c) (fun _ => rfl) (fun hh hne _ =>
    recv_block lo ll (agF lo ll wo) K c 2 hne (dsem_of (k := 2) (p := 2) rfl rfl _) (dsem_of (k := 3) (p := 2) rfl rfl _) (by unfold amt; rfl) (by unfold amt; rfl) _) ?_
  dsimp only [jp2]
  refine step lo ll (agF lo ll wo) K 3 (by exact cond_ne c 3) (own_recv lo ll c) (fun _ => rfl) (fun hh hne _ =>
    recv_block lo ll (agF lo ll wo) K c 3 hne (dsem_of (k := 2) (p := 3) rfl rfl _) (dsem_of (k := 3) (p := 3) rfl rfl _) (by unfold amt; rfl) (by unfold amt; rfl) _) ?_
  dsimp only [jp3]
  refine step lo ll (agF lo ll wo) K 4 (by exact cond_ne c 4) (own_recv lo ll c) (fun _ => rfl) (fun hh hne _ =>
    recv_block lo ll (agF lo ll wo) K c 4 hne (dsem_of (k := 2) (p := 4) rfl rfl _) (dsem_of (k := 3) (p := 4) rfl rfl _) (by unfold amt; rfl) (by unfold amt; rfl) _) ?_
  dsimp only [jp4]
  refine step lo ll (agF lo ll wo) K 5 (by exact cond_ne c 5) (own_recv lo ll c) (fun _ => rfl) (fun hh hne _ =>
    recv_block lo ll (agF lo ll wo) K c 5 hne (dsem_of (k := 2) (p := 5) rfl rfl _) (dsem_of (k := 3) (p := 5) rfl rfl _) (by unfold amt; rfl) (by unfold amt; rfl) _) ?_
  dsimp only [jp5]
  refine step lo ll (agF lo ll wo) K 6 (by exact cond_ne c 6) (own_recv lo ll c) (fun _ => rfl) (fun hh hne _ =>
    recv_block lo ll (agF lo ll wo) K c 6 hne (dsem_of (k := 2) (p := 6) rfl rfl _) (dsem_of (k := 3) (p := 6) rfl rfl _) (by unfold amt; rfl) (by unfold amt; rfl) _) ?_
  dsimp only [jp6]
  rw [show ((6 : Fin 8).val + 1) = (7 : Fin 8).val from rfl]
  refine BI.Entails.trans ?_ ret
  exact pure_and rfl

end Cert.KernelIdeal.Talk

end
-- ==== Proof.TailC.lean ====
/- The gathered chunks are put together, reduced, multiplied, and stored. -/
module

public import proofs.«01_k».proof.Proof.TailB

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (wo : Dev nD → Vec F S1024x1024 .f32)

/-! ## One member apart from the others -/

theorem others (c : Fin 8) (A : Fin 8 → sProp 𝕄) : (bigSep Finset.univ A : sProp 𝕄) = iprop(A c ∗ bigSep Finset.univ fun p => if p = c then iprop(emp) else A p) := by
  rw [bigSep_univ_split c, bigSep_univ_split (Φ := fun p => if p = c then iprop(emp) else A p) c, if_pos rfl]
  rw [bigSep_congr (s := Finset.univ.erase c) (Φ := fun p => if p = c then iprop(emp) else A p) (Ψ := A) fun p hp => if_neg (Finset.mem_erase.mp hp).1]
  refine congrArg (fun X => iprop(A c ∗ X)) ?_
  exact (equiv_iff.mp emp_sep).symm
theorem if_split (c : Fin 8) (A B : Fin 8 → sProp 𝕄) :
    (bigSep Finset.univ fun p => if p = c then iprop(emp) else iprop(A p ∗ B p) : sProp 𝕄)
      ⊢ iprop((bigSep Finset.univ fun p => if p = c then iprop(emp) else A p) ∗ bigSep Finset.univ fun p => if p = c then iprop(emp) else B p) := by
  refine BI.Entails.trans ?_ (Entails.of_eq (bigSep_sep _ _ _))
  refine bigSep_mono fun p _ => ?_
  by_cases h : p = c
  · rw [if_pos h, if_pos h, if_pos h]
    exact Entails.of_eq (equiv_iff.mp emp_sep).symm
  · rw [if_neg h, if_neg h, if_neg h]
    exact BI.Entails.refl _

/-- The exchanged buffers once all has come: the own chunks, the receive buffers whole, the receive counters at rest. -/
def joined (c : Fin 8) : sProp 𝕄 := iprop(oPts c c (lo c) ∗ lPts c c (ll c)
  ∗ (roM.view.loc ((c : Dev nD) : Thread nD τ) ↦{fullShare} gatO lo c)
  ∗ (rlM.view.loc ((c : Dev nD) : Thread nD τ) ↦{fullShare} gatL ll c)
  ∗ (bigSep Finset.univ fun p => if p = c then iprop(emp) else semVal (dcell 2 c p) 0)
  ∗ (bigSep Finset.univ fun p => if p = c then iprop(emp) else semVal (dcell 3 c p) 0))

theorem join (c : Fin 8) : iprop((bigSep Finset.univ (recvOut lo ll c)) ∗ ownT lo ll c) ⊢ (joined lo ll c : sProp 𝕄) := by
  unfold recvOut ownT joined
  rw [show (roM.view.loc ((c : Dev nD) : Thread nD τ) ↦{fullShare} gatO lo c : sProp 𝕄) = _ from cut_ro c _, show (rlM.view.loc ((c : Dev nD) : Thread nD τ) ↦{fullShare} gatL ll c : sProp 𝕄) = _ from cut_rl c _, others c (fun p => roPts c p (gatO lo c)), others c (fun p => rlPts c p (gatL ll c))]
  iintro ⟨H, Ho, Hl, Hro, Hrl⟩
  ihave H := (if_split c (fun p => iprop(roPts c p (gatO lo c) ∗ semVal (dcell 2 c p) 0)) (fun p => iprop(rlPts c p (gatL ll c) ∗ semVal (dcell 3 c p) 0))) $$ H
  icases H with ⟨H1, H2⟩
  ihave H1 := (if_split c (fun p => roPts c p (gatO lo c)) (fun p => semVal (dcell 2 c p) 0)) $$ H1
  ihave H2 := (if_split c (fun p => rlPts c p (gatL ll c)) (fun p => semVal (dcell 3 c p) 0)) $$ H2
  icases H1 with ⟨H1, H3⟩
  icases H2 with ⟨H2, H4⟩
  isplitl [Ho]; · iexact Ho
  isplitl [Hl]; · iexact Hl
  isplitl [Hro H1]
  · isplitl [Hro]; · iexact Hro
    iexact H1
  isplitl [Hrl H2]
  · isplitl [Hrl]; · iexact Hrl
    iexact H2
  isplitl [H3]; · iexact H3
  iexact H4

/-- The loads of all that has come. -/
theorem joined_loads (c : Fin 8) {a1 a2 a3 a4 a5 a6 a7 a8 a9 b1 b2 b3 b4 b5} {α : Type} {J : Vec F S8x32x8 .f32 → Vec F S1x8x32x128 .bf16 → Vec F S1x8x32x128 .bf16 → Vec F S1x8x32x128 .bf16 → Vec F S1x8x32x128 .bf16 → Vec F S1x8x32x128 .bf16 → Vec F S1x8x32x128 .bf16 → PR F α} {Q : α → sProp 𝕄} :
    joined lo ll c ⊢ iprop((joined lo ll c -∗ wpc c (J (rdL (gatL ll c)) (rdO 0 (gatO lo c)) (rdO 1 (gatO lo c)) (rdO 2 (gatO lo c)) (rdO 3 (gatO lo c)) (rdO 4 (gatO lo c)) (rdO 5 (gatO lo c))) Q) -∗ wpc c
      (do
        let v421 : Vec F S8x32x8 .f32 ← Prog.lift (.load rlM (Rect.unit (s := S8x32x8) ![0, 0, 0] S8x32x8.size a1).toLoadRect a2)
        let v424 : Vec F S1x8x32x128 .bf16 ← Prog.lift (.load roM (Rect.unit (s := S8x8x32x128) ![0, 0, 0, 0] S1x8x32x128.size a3).toLoadRect a4)
        let v427 : Vec F S1x8x32x128 .bf16 ← Prog.lift (.load roM (Rect.unit (s := S8x8x32x128) ![1, 0, 0, 0] S1x8x32x128.size a5).toLoadRect a6)
        let v431 : Vec F S1x8x32x128 .bf16 ← Prog.lift (.load roM (Rect.unit (s := S8x8x32x128) ![2, 0, 0, 0] S1x8x32x128.size a7).toLoadRect a8)
        let v435 : Vec F S1x8x32x128 .bf16 ← Prog.lift (.load roM (Rect.unit (s := S8x8x32x128) ![3, 0, 0, 0] S1x8x32x128.size a9).toLoadRect b1)
        let v439 : Vec F S1x8x32x128 .bf16 ← Prog.lift (.load roM (Rect.unit (s := S8x8x32x128) ![4, 0, 0, 0] S1x8x32x128.size b2).toLoadRect b3)
        let v443 : Vec F S1x8x32x128 .bf16 ← Prog.lift (.load roM (Rect.unit (s := S8x8x32x128) ![5, 0, 0, 0] S1x8x32x128.size b4).toLoadRect b5)
        J v421 v424 v427 v431 v435 v439 v443 : PR F α) Q) := by
  unfold joined
  iintro ⟨Ho, Hl, Hro, Hrl, Hz⟩ Hk
  iapply (wp_load_rect 𝒱₀ ((c : Dev nD) : Thread nD τ) none Set.univ (m := rlM) (r := Rect.unit (s := S8x32x8) ![0, 0, 0] S8x32x8.size a1) (Finset.subset_univ _)) $$ Hrl; iintro Hrl
  iapply (wp_load_rect 𝒱₀ ((c : Dev nD) : Thread nD τ) none Set.univ (m := roM) (r := Rect.unit (s := S8x8x32x128) ![0, 0, 0, 0] S1x8x32x128.size a3) (Finset.subset_univ _)) $$ Hro; iintro Hro
  iapply (wp_load_rect 𝒱₀ ((c : Dev nD) : Thread nD τ) none Set.univ (m := roM) (r := Rect.unit (s := S8x8x32x128) ![1, 0, 0, 0] S1x8x32x128.size a5) (Finset.subset_univ _)) $$ Hro; iintro Hro
  iapply (wp_load_rect 𝒱₀ ((c : Dev nD) : Thread nD τ) none Set.univ (m := roM) (r := Rect.unit (s := S8x8x32x128) ![2, 0, 0, 0] S1x8x32x128.size a7) (Finset.subset_univ _)) $$ Hro; iintro Hro
  iapply (wp_load_rect 𝒱₀ ((c : Dev nD) : Thread nD τ) none Set.univ (m := roM) (r := Rect.unit (s := S8x8x32x128) ![3, 0, 0, 0] S1x8x32x128.size a9) (Finset.subset_univ _)) $$ Hro; iintro Hro
  iapply (wp_load_rect 𝒱₀ ((c : Dev nD) : Thread nD τ) none Set.univ (m := roM) (r := Rect.unit (s := S8x8x32x128) ![4, 0, 0, 0] S1x8x32x128.size b2) (Finset.subset_univ _)) $$ Hro; iintro Hro
  iapply (wp_load_rect 𝒱₀ ((c : Dev nD) : Thread nD τ) none Set.univ (m := roM) (r := Rect.unit (s := S8x8x32x128) ![5, 0, 0, 0] S1x8x32x128.size b4) (Finset.subset_univ _)) $$ Hro; iintro Hro
  iapply Hk
  isplitl [Ho]; · iexact Ho
  isplitl [Hl]; · iexact Hl
  isplitl [Hro]; · iexact Hro
  isplitl [Hrl]; · iexact Hrl
  iexact Hz

set_option maxHeartbeats 2000000 in
theorem part4_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (v2 : BitVec 32) (hv : v2 = myWord c) (R : sProp 𝕄) :
    iprop(known lo ll (agF lo ll wo) K c ∗ fam (recvIn c) (recvOut lo ll c) (7 : Fin 8).val ∗ owing c (sumFrom (TG c) 0) ∗ (ownT lo ll c ∗ R))
      ⊢ wpc c (k2_part4 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 (Scalar.extui (Scalar.cmpi .ne v2 7#32)) 0#32) fun v => iprop(⌜v = ⟨sumL ll c, sumO lo c⟩⌝ ∗ known lo ll (agF lo ll wo) K c ∗ owing c (sumFrom (TG c) 0) ∗ (joined lo ll c ∗ R)) := by
  rw [k2_part4_eq_skeleton]
  unfold k2_part4_skel
  subst hv
  extract_lets _ jp7 _ _ _ _ _ _ _ _ _
  refine step lo ll (agF lo ll wo) K 7 (by exact cond_ne c 7) (own_recv lo ll c) (fun _ => rfl) (fun hh hne _ =>
    recv_block lo ll (agF lo ll wo) K c 7 hne (dsem_of (k := 2) (p := 7) rfl rfl _) (dsem_of (k := 3) (p := 7) rfl rfl _) (by unfold amt; rfl) (by unfold amt; rfl) _) ?_
  dsimp only [jp7]
  rw [show ((7 : Fin 8).val + 1) = 8 from rfl, fam_end]
  iintro ⟨HK, HF, HO, HT, HR⟩
  ihave HJ := (join lo ll c) $$ [HF HT]
  · isplitl [HF]; · iexact HF
    iexact HT
  iapply (joined_loads lo ll c) $$ HJ; iintro HJ
  iapply ret
  isplitr; · ipureintro; rfl
  isplitl [HK]; · iexact HK
  isplitl [HO]; · iexact HO
  isplitl [HJ]; · iexact HJ
  iexact HR

/-- What is stored of the device's own rows: before, and after. -/
def fin0 (c : Fin 8) : sProp 𝕄 := iprop(joined lo ll c ∗ (woM.view.loc ((c : Dev nD) : Thread nD τ) ↦{fullShare} wo c) ∗ (∃ f, outPts c c f) ∗ (∃ f, gPts c c f))
def fin1 (c : Fin 8) : sProp 𝕄 := iprop(joined lo ll c ∗ (woM.view.loc ((c : Dev nD) : Thread nD τ) ↦{fullShare} wo c) ∗ outPts c c (outF lo ll wo c) ∗ gPts c c (agF lo ll wo))

set_option maxHeartbeats 2000000 in
theorem part5_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (v2 : BitVec 32) (hh : k2_cond3 i = 1#1) (R : sProp 𝕄) :
    iprop(fin0 lo ll wo c ∗ R) ⊢ wpc c (k2_part5 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 hh (sumL ll c) (sumO lo c)) fun v => iprop(⌜v = Scalar.extui (Scalar.cmpi .ne v2 0#32)⌝ ∗ fin1 lo ll wo c ∗ R) := by
  rw [k2_part5_eq_skeleton]
  unfold k2_part5_skel fin0 fin1 joined
  have i1 := k2_off31_inb i c hh
  have i2 := k2_off32_inb i c hh
  iintro ⟨⟨⟨Ho, Hl, Hro, Hz⟩, Hw, ⟨%f, Hout⟩, ⟨%g, Hg⟩⟩, HR⟩
  iapply (wp_load_rect 𝒱₀ ((c : Dev nD) : Thread nD τ) none Set.univ (m := roM) (r := Rect.unit (s := S8x8x32x128) ![6, 0, 0, 0] S1x8x32x128.size inb_S8x8x32x128_S1x8x32x128_6_0_0_0) (Finset.subset_univ _)) $$ Hro; iintro Hro
  iapply (wp_load_rect 𝒱₀ ((c : Dev nD) : Thread nD τ) none Set.univ (m := roM) (r := Rect.unit (s := S8x8x32x128) ![7, 0, 0, 0] S1x8x32x128.size inb_S8x8x32x128_S1x8x32x128_7_0_0_0) (Finset.subset_univ _)) $$ Hro; iintro Hro
  iapply (wp_load_rect 𝒱₀ ((c : Dev nD) : Thread nD τ) none Set.univ (m := woM) (r := Rect.unit (s := S1024x1024) ![0, 0] S1024x1024.size inb_S1024x1024_S1024x1024_0_0) (Finset.subset_univ _)) $$ Hw; iintro Hw
  iapply (wp_load_rect 𝒱₀ ((c : Dev nD) : Thread nD τ) none Set.univ (m := outM) (r := Rect.unit (s := S1x256x1024) (k2_off31 c) S1x32x1024.size i1) (acc_out (off31 c) i1).subset) $$ Hout; iintro Hout
  iapply (wp_store 𝒱₀ ((c : Dev nD) : Thread nD τ) none Set.univ (m := outM) (r := Rect.unit (s := S1x256x1024) (k2_off31 c) S1x32x1024.size i1) (by rw [View.setOn_univ]; exact (acc_out (off31 c) i1).subset)) $$ Hout; iintro Hout
  ihave Hout := (Entails.of_eq (pointsTo_congr (put_out lo ll wo (d := c) (p := c) f (rowsF lo ll wo c) (by rw [if_pos rfl]) (off31 c) i1))) $$ Hout
  iapply (wp_load_rect 𝒱₀ ((c : Dev nD) : Thread nD τ) none Set.univ (m := gM) (r := Rect.unit (s := S8x32x1024) (k2_off32 c) S1x32x1024.size i2) (acc_g (off32 c) i2).subset) $$ Hg; iintro Hg
  iapply (wp_store 𝒱₀ ((c : Dev nD) : Thread nD τ) none Set.univ (m := gM) (r := Rect.unit (s := S8x32x1024) (k2_off32 c) S1x32x1024.size i2) (by rw [View.setOn_univ]; exact (acc_g (off32 c) i2).subset)) $$ Hg; iintro Hg
  ihave Hg := (Entails.of_eq (pointsTo_congr (put_g lo ll wo g (off32 c) i2))) $$ Hg
  iapply ret
  isplitr; · ipureintro; rfl
  isplitr [HR]
  · isplitl [Ho Hl Hro Hz]
    · isplitl [Ho]; · iexact Ho
      isplitl [Hl]; · iexact Hl
      isplitl [Hro]; · iexact Hro
      iexact Hz
    isplitl [Hw]; · iexact Hw
    isplitl [Hout]; · iexact Hout
    iexact Hg
  iexact HR

end Cert.KernelIdeal.Talk

end
-- ==== Proof.TailD.lean ====
/- The finished rows are gathered, and the last waits begin. -/
module

public import proofs.«01_k».proof.Proof.TailC

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (wo : Dev nD → Vec F S1024x1024 .f32)

theorem own_gat (ag : Vec F S8x32x1024 .bf16) (c : Fin 8) : gatIn ag c c ⊢ (gatOut c c : sProp 𝕄) := by
  unfold gatIn gatOut; rw [if_pos rfl, if_pos rfl]
theorem own_owedG {c k : Fin 8} (h : k = c) {O : CellTallies nD τ sig Unit} : O + TG c k = O := by
  unfold TG; rw [if_pos h, add_zero]
theorem own_done (ag : Vec F S8x32x1024 .bf16) (c : Fin 8) : doneIn c c ⊢ (doneOut lo ll ag c c : sProp 𝕄) := by
  unfold doneIn doneOut; rw [if_pos rfl, if_pos rfl]

/-! ## Receiving a peer's rows and storing them in the result -/

def gotIn (c p : Fin 8) : sProp 𝕄 := if p = c then iprop(emp) else iprop(waitIn 5 c p ∗ (∃ f, outPts c p f))
def gotOut (c p : Fin 8) : sProp 𝕄 := if p = c then iprop(emp) else iprop(gPts c p (agF lo ll wo) ∗ semVal (dcell 5 c p) 0 ∗ outPts c p (outF lo ll wo c))
theorem own_got (c : Fin 8) : gotIn c c ⊢ (gotOut lo ll wo c c : sProp 𝕄) := by
  unfold gotIn gotOut; rw [if_pos rfl, if_pos rfl]

theorem got_block (K : GSem nD τ sig → ℕ) (c p : Fin 8) (h : p ≠ c) {g1 g2 : Memref sig .tc .vmem S32x1024 .bf16} {s1 : DmaSem sig} (hs1 : s1 = dsem 5 p)
    (hc : g2.view.dmaCredit = amt 5) {o1 o2 : Fin 3 → ℕ} (ho1 : o1 = ![p.val, 0, 0]) (ho2 : o2 = ![0, 32 * p.val, 0])
    {pay : Vec F S1x32x1024 .bf16 → FVec F S1x32x1024 .f32} (hpay : pay = k2_pay9) {e1 e2 a1 a2 a3 a4 a5 a6} {α : Type} {J : PR F α} (Q : α → sProp 𝕄) :
    iprop(known lo ll (agF lo ll wo) K c ∗ gotIn c p ∗ owing c 0) ⊢
      iprop((iprop(gotOut lo ll wo c p ∗ owing c 0) -∗ wpc c J Q) -∗ wpc c (do
        Prog.lift (.waitDma2 s1 g1 g2 e1 e2)
        let v570 : Vec F S1x32x1024 .bf16 ← Prog.lift (.load gM (Rect.unit (s := S8x32x1024) o1 S1x32x1024.size a1).toLoadRect a2)
        let v573 : Vec F S1x32x1024 .f32 ← Prog.lift (.load outM (Rect.unit (s := S1x256x1024) o2 S1x32x1024.size a3).toLoadRect a4)
        Prog.lift (.store outM (Rect.unit (s := S1x256x1024) o2 S1x32x1024.size a3) (pay v570) Finset.univ a5 a6)
        J : PR F α) Q) := by
  subst ho1 ho2 hpay
  unfold gotIn gotOut
  rw [if_neg h, if_neg h]
  iintro ⟨#HK, ⟨Hw, ⟨%f, Hout⟩⟩, HO⟩ Hk
  iapply (wait_d lo ll (agF lo ll wo) K (P := gPts c p (agF lo ll wo)) 5 c p h 3 (by rw [lvOf_d]; decide) _ (Above.zero 3) hs1 hc rfl) $$ [Hw HO]
  · isplitr; · iexact HK
    isplitl [Hw]; · iexact Hw
    iexact HO
  iintro ⟨Hg, Hz, HO⟩
  iapply (wp_load_rect 𝒱₀ ((c : Dev nD) : Thread nD τ) none Set.univ (m := gM) (r := Rect.unit (s := S8x32x1024) ![p.val, 0, 0] S1x32x1024.size a1) (acc_g rfl a1).subset) $$ Hg; iintro Hg
  iapply (wp_load_rect 𝒱₀ ((c : Dev nD) : Thread nD τ) none Set.univ (m := outM) (r := Rect.unit (s := S1x256x1024) ![0, 32 * p.val, 0] S1x32x1024.size a3) (acc_out (p := p) rfl a3).subset) $$ Hout; iintro Hout
  iapply (wp_store 𝒱₀ ((c : Dev nD) : Thread nD τ) none Set.univ (m := outM) (r := Rect.unit (s := S1x256x1024) ![0, 32 * p.val, 0] S1x32x1024.size a3) (acc_out (p := p) rfl a3).subset) $$ Hout; iintro Hout
  ihave Hout := (Entails.of_eq (pointsTo_congr (put_out lo ll wo (d := c) (p := p) f (k2_pay9 (rdG p (agF lo ll wo))) (by rw [if_neg h]) rfl a3))) $$ Hout
  iapply Hk
  isplitr [HO]
  · isplitl [Hg]; · iexact Hg
    isplitl [Hz]; · iexact Hz
    iexact Hout
  iexact HO

theorem perm_mid {A B C D E : sProp 𝕄} : iprop(A ∗ B ∗ C ∗ (D ∗ E)) ⊢ iprop(A ∗ D ∗ C ∗ (B ∗ E)) := by
  iintro ⟨HA, HB, HC, HD, HE⟩
  isplitl [HA]; · iexact HA
  isplitl [HD]; · iexact HD
  isplitl [HC]; · iexact HC
  isplitl [HB]; · iexact HB
  iexact HE

set_option maxHeartbeats 4000000 in
theorem part6_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (v2 w : BitVec 32) (hh : k2_cond3 i = 1#1) (R : sProp 𝕄) :
    iprop(known lo ll (agF lo ll wo) K c ∗ fam (gatIn (agF lo ll wo) c) (gatOut c) 0 ∗ owing c (sumFrom (TG c) 0) ∗ (fam (gotIn c) (gotOut lo ll wo c) (0 : Fin 8).val ∗ R))
      ⊢ wpc c (k2_part6 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 hh w) fun v => iprop(⌜v = Scalar.extui (Scalar.cmpi .ne v2 2#32)⌝ ∗ known lo ll (agF lo ll wo) K c ∗ fam (gotIn c) (gotOut lo ll wo c) (2 : Fin 8).val ∗ owing c 0 ∗ (fam (gatIn (agF lo ll wo) c) (gatOut c) 8 ∗ R)) := by
  rw [k2_part6_eq_skeleton]
  unfold k2_part6_skel
  extract_lets _ _ jr1 _ _ _ _ jr0 _ _ _ _ jp7 _ _ jp6 _ _ jp5 _ _ jp4 _ _ jp3 _ _ jp2 _ _ jp1 _ _ jp0 _ _
  rw [show sumFrom (TG c) 0 = sumFrom (TG c) (0 + 1) + TG c 0 from sumFrom_peel (TG c) 0 (by decide)]
  refine step lo ll (agF lo ll wo) K 0 (by revert c; decide) (own_gat (agF lo ll wo) c) (fun h => own_owedG h) (fun hh hne _ =>
    gat_block lo ll (agF lo ll wo) K c 0 hne _ _ rfl (gSlot_of (p := c) (by clear hne; revert c; decide) _) (gSlot_of (p := c) (by clear hne; revert c; decide) _)
      (dsem_of (k := 4) (p := 0) rfl rfl _) (dsem_of (k := 5) (p := c) rfl (by clear hne; revert c; decide) _) rfl _) ?_
  dsimp only [jp0]
  rw [show sumFrom (TG c) 1 = sumFrom (TG c) (1 + 1) + TG c 1 from sumFrom_peel (TG c) 1 (by decide)]
  refine step lo ll (agF lo ll wo) K 1 (by revert c; decide) (own_gat (agF lo ll wo) c) (fun h => own_owedG h) (fun hh hne _ =>
    gat_block lo ll (agF lo ll wo) K c 1 hne _ _ rfl (gSlot_of (p := c) (by clear hne; revert c; decide) _) (gSlot_of (p := c) (by clear hne; revert c; decide) _)
      (dsem_of (k := 4) (p := 1) rfl rfl _) (dsem_of (k := 5) (p := c) rfl (by clear hne; revert c; decide) _) rfl _) ?_
  dsimp only [jp1]
  rw [show sumFrom (TG c) 2 = sumFrom (TG c) (2 + 1) + TG c 2 from sumFrom_peel (TG c) 2 (by decide)]
  refine step lo ll (agF lo ll wo) K 2 (by revert c; decide) (own_gat (agF lo ll wo) c) (fun h => own_owedG h) (fun hh hne _ =>
    gat_block lo ll (agF lo ll wo) K c 2 hne _ _ rfl (gSlot_of (p := c) (by clear hne; revert c; decide) _) (gSlot_of (p := c) (by clear hne; revert c; decide) _)
      (dsem_of (k := 4) (p := 2) rfl rfl _) (dsem_of (k := 5) (p := c) rfl (by clear hne; revert c; decide) _) rfl _) ?_
  dsimp only [jp2]
  rw [show sumFrom (TG c) 3 = sumFrom (TG c) (3 + 1) + TG c 3 from sumFrom_peel (TG c) 3 (by decide)]
  refine step lo ll (agF lo ll wo) K 3 (by revert c; decide) (own_gat (agF lo ll wo) c) (fun h => own_owedG h) (fun hh hne _ =>
    gat_block lo ll (agF lo ll wo) K c 3 hne _ _ rfl (gSlot_of (p := c) (by clear hne; revert c; decide) _) (gSlot_of (p := c) (by clear hne; revert c; decide) _)
      (dsem_of (k := 4) (p := 3) rfl rfl _) (dsem_of (k := 5) (p := c) rfl (by clear hne; revert c; decide) _) rfl _) ?_
  dsimp only [jp3]
  rw [show sumFrom (TG c) 4 = sumFrom (TG c) (4 + 1) + TG c 4 from sumFrom_peel (TG c) 4 (by decide)]
  refine step lo ll (agF lo ll wo) K 4 (by revert c; decide) (own_gat (agF lo ll wo) c) (fun h => own_owedG h) (fun hh hne _ =>
    gat_block lo ll (agF lo ll wo) K c 4 hne _ _ rfl (gSlot_of (p := c) (by clear hne; revert c; decide) _) (gSlot_of (p := c) (by clear hne; revert c; decide) _)
      (dsem_of (k := 4) (p := 4) rfl rfl _) (dsem_of (k := 5) (p := c) rfl (by clear hne; revert c; decide) _) rfl _) ?_
  dsimp only [jp4]
  rw [show sumFrom (TG c) 5 = sumFrom (TG c) (5 + 1) + TG c 5 from sumFrom_peel (TG c) 5 (by decide)]
  refine step lo ll (agF lo ll wo) K 5 (by revert c; decide) (own_gat (agF lo ll wo) c) (fun h => own_owedG h) (fun hh hne _ =>
    gat_block lo ll (agF lo ll wo) K c 5 hne _ _ rfl (gSlot_of (p := c) (by clear hne; revert c; decide) _) (gSlot_of (p := c) (by clear hne; revert c; decide) _)
      (dsem_of (k := 4) (p := 5) rfl rfl _) (dsem_of (k := 5) (p := c) rfl (by clear hne; revert c; decide) _) rfl _) ?_
  dsimp only [jp5]
  rw [show sumFrom (TG c) 6 = sumFrom (TG c) (6 + 1) + TG c 6 from sumFrom_peel (TG c) 6 (by decide)]
  refine step lo ll (agF lo ll wo) K 6 (by revert c; decide) (own_gat (agF lo ll wo) c) (fun h => own_owedG h) (fun hh hne _ =>
    gat_block lo ll (agF lo ll wo) K c 6 hne _ _ rfl (gSlot_of (p := c) (by clear hne; revert c; decide) _) (gSlot_of (p := c) (by clear hne; revert c; decide) _)
      (dsem_of (k := 4) (p := 6) rfl rfl _) (dsem_of (k := 5) (p := c) rfl (by clear hne; revert c; decide) _) rfl _) ?_
  dsimp only [jp6]
  rw [show sumFrom (TG c) 7 = sumFrom (TG c) (7 + 1) + TG c 7 from sumFrom_peel (TG c) 7 (by decide)]
  refine step lo ll (agF lo ll wo) K 7 (by revert c; decide) (own_gat (agF lo ll wo) c) (fun h => own_owedG h) (fun hh hne _ =>
    gat_block lo ll (agF lo ll wo) K c 7 hne _ _ rfl (gSlot_of (p := c) (by clear hne; revert c; decide) _) (gSlot_of (p := c) (by clear hne; revert c; decide) _)
      (dsem_of (k := 4) (p := 7) rfl rfl _) (dsem_of (k := 5) (p := c) rfl (by clear hne; revert c; decide) _) rfl _) ?_
  dsimp only [jp7]
  rw [show sumFrom (TG c) (7 + 1) = 0 from sumFrom_end _, show ((7 : Fin 8).val + 1) = 8 from rfl]
  refine perm_mid.trans ?_
  refine step lo ll (agF lo ll wo) K 0 (by revert c; decide) (own_got lo ll wo c) (fun _ => rfl) (fun hh hne _ =>
    got_block lo ll wo K c 0 hne (dsem_of (k := 5) (p := 0) rfl rfl _) (by unfold amt; rfl) rfl rfl rfl _) ?_
  dsimp only [jr0]
  refine step lo ll (agF lo ll wo) K 1 (by revert c; decide) (own_got lo ll wo c) (fun _ => rfl) (fun hh hne _ =>
    got_block lo ll wo K c 1 hne (dsem_of (k := 5) (p := 1) rfl rfl _) (by unfold amt; rfl) rfl rfl rfl _) ?_
  dsimp only [jr1]
  refine BI.Entails.trans ?_ ret
  exact pure_and rfl

set_option maxHeartbeats 4000000 in
theorem part7_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (v2 w : BitVec 32) (hh : k2_cond3 i = 1#1) (R : sProp 𝕄) :
    iprop(known lo ll (agF lo ll wo) K c ∗ fam (gotIn c) (gotOut lo ll wo c) (2 : Fin 8).val ∗ owing c 0 ∗ (fam (doneIn c) (doneOut lo ll (agF lo ll wo) c) (0 : Fin 8).val ∗ R))
      ⊢ wpc c (k2_part7 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 hh w) fun v => iprop(⌜v = Scalar.extui (Scalar.cmpi .ne v2 4#32)⌝ ∗ known lo ll (agF lo ll wo) K c ∗ fam (doneIn c) (doneOut lo ll (agF lo ll wo) c) (4 : Fin 8).val ∗ owing c 0 ∗ (fam (gotIn c) (gotOut lo ll wo c) 8 ∗ R)) := by
  rw [k2_part7_eq_skeleton]
  unfold k2_part7_skel
  extract_lets _ _ jd3 _ _ _ _ _ _ _ _ jd2 _ _ _ _ _ _ _ _ jd1 _ _ _ _ _ _ _ _ jd0 _ _ _ _ _ _ _ _ jr7 _ _ _ _ jr6 _ _ _ _ jr5 _ _ _ _ jr4 _ _ _ _ jr3 _ _ _ _ jr2 _ _ _ _
  refine step lo ll (agF lo ll wo) K 2 (by revert c; decide) (own_got lo ll wo c) (fun _ => rfl) (fun hh hne _ =>
    got_block lo ll wo K c 2 hne (dsem_of (k := 5) (p := 2) rfl rfl _) (by unfold amt; rfl) rfl rfl rfl _) ?_
  dsimp only [jr2]
  refine step lo ll (agF lo ll wo) K 3 (by revert c; decide) (own_got lo ll wo c) (fun _ => rfl) (fun hh hne _ =>
    got_block lo ll wo K c 3 hne (dsem_of (k := 5) (p := 3) rfl rfl _) (by unfold amt; rfl) rfl rfl rfl _) ?_
  dsimp only [jr3]
  refine step lo ll (agF lo ll wo) K 4 (by revert c; decide) (own_got lo ll wo c) (fun _ => rfl) (fun hh hne _ =>
    got_block lo ll wo K c 4 hne (dsem_of (k := 5) (p := 4) rfl rfl _) (by unfold amt; rfl) rfl rfl rfl _) ?_
  dsimp only [jr4]
  refine step lo ll (agF lo ll wo) K 5 (by revert c; decide) (own_got lo ll wo c) (fun _ => rfl) (fun hh hne _ =>
    got_block lo ll wo K c 5 hne (dsem_of (k := 5) (p := 5) rfl rfl _) (by unfold amt; rfl) rfl rfl rfl _) ?_
  dsimp only [jr5]
  refine step lo ll (agF lo ll wo) K 6 (by revert c; decide) (own_got lo ll wo c) (fun _ => rfl) (fun hh hne _ =>
    got_block lo ll wo K c 6 hne (dsem_of (k := 5) (p := 6) rfl rfl _) (by unfold amt; rfl) rfl rfl rfl _) ?_
  dsimp only [jr6]
  refine step lo ll (agF lo ll wo) K 7 (by revert c; decide) (own_got lo ll wo c) (fun _ => rfl) (fun hh hne _ =>
    got_block lo ll wo K c 7 hne (dsem_of (k := 5) (p := 7) rfl rfl _) (by unfold amt; rfl) rfl rfl rfl _) ?_
  dsimp only [jr7]
  rw [show ((7 : Fin 8).val + 1) = 8 from rfl]
  refine perm_mid.trans ?_
  refine step lo ll (agF lo ll wo) K 0 (by revert c; decide) (own_done lo ll (agF lo ll wo) c) (fun _ => rfl) (fun hh hne _ =>
    done_block lo ll (agF lo ll wo) K c 0 hne (dsem_of (k := 0) (p := 0) rfl rfl _) (dsem_of (k := 1) (p := 0) rfl rfl _) (dsem_of (k := 4) (p := 0) rfl rfl _)
      (by unfold amt; rfl) (by unfold amt; rfl) (by unfold amt; rfl) _) ?_
  dsimp only [jd0]
  refine step lo ll (agF lo ll wo) K 1 (by revert c; decide) (own_done lo ll (agF lo ll wo) c) (fun _ => rfl) (fun hh hne _ =>
    done_block lo ll (agF lo ll wo) K c 1 hne (dsem_of (k := 0) (p := 1) rfl rfl _) (dsem_of (k := 1) (p := 1) rfl rfl _) (dsem_of (k := 4) (p := 1) rfl rfl _)
      (by unfold amt; rfl) (by unfold amt; rfl) (by unfold amt; rfl) _) ?_
  dsimp only [jd1]
  refine step lo ll (agF lo ll wo) K 2 (by revert c; decide) (own_done lo ll (agF lo ll wo) c) (fun _ => rfl) (fun hh hne _ =>
    done_block lo ll (agF lo ll wo) K c 2 hne (dsem_of (k := 0) (p := 2) rfl rfl _) (dsem_of (k := 1) (p := 2) rfl rfl _) (dsem_of (k := 4) (p := 2) rfl rfl _)
      (by unfold amt; rfl) (by unfold amt; rfl) (by unfold amt; rfl) _) ?_
  dsimp only [jd2]
  refine step lo ll (agF lo ll wo) K 3 (by revert c; decide) (own_done lo ll (agF lo ll wo) c) (fun _ => rfl) (fun hh hne _ =>
    done_block lo ll (agF lo ll wo) K c 3 hne (dsem_of (k := 0) (p := 3) rfl rfl _) (dsem_of (k := 1) (p := 3) rfl rfl _) (dsem_of (k := 4) (p := 3) rfl rfl _)
      (by unfold amt; rfl) (by unfold amt; rfl) (by unfold amt; rfl) _) ?_
  dsimp only [jd3]
  refine BI.Entails.trans ?_ ret
  exact pure_and rfl

end Cert.KernelIdeal.Talk

end
-- ==== Proof.TailE.lean ====
/- What a device holds before, between and after the pieces of the exchange. -/
module

public import proofs.«01_k».proof.Proof.TailD

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (wo : Dev nD → Vec F S1024x1024 .f32)

/-- A family over the other devices. -/
abbrev fo (c : Fin 8) (A : Fin 8 → sProp 𝕄) : sProp 𝕄 := bigSep Finset.univ fun p => if p = c then iprop(emp) else A p

theorem fo_sep (c : Fin 8) (A B : Fin 8 → sProp 𝕄) : fo c (fun p => iprop(A p ∗ B p)) = iprop(fo c A ∗ fo c B) := by
  refine Eq.trans ?_ (bigSep_sep _ _ _)
  refine bigSep_congr fun p _ => ?_
  by_cases h : p = c
  · rw [if_pos h, if_pos h, if_pos h]; exact (equiv_iff.mp emp_sep).symm
  · rw [if_neg h, if_neg h, if_neg h]
    rfl
theorem sendIn_fo (c : Fin 8) : (bigSep Finset.univ (sendIn lo ll c) : sProp 𝕄) = iprop(fo c (fun p => iprop(∃ f, roPts p c f)) ∗ fo c (fun p => iprop(∃ f, rlPts p c f))
    ∗ fo c (fun p => oPts c p (lo c)) ∗ fo c (fun p => lPts c p (ll c)) ∗ fo c (fun p => dutyTok ER (dcell 0 c p) 0 0) ∗ fo c (fun p => dutyTok ER (dcell 1 c p) 0 0)
    ∗ fo c (fun p => dutyTok ER (dcell 2 p c) 0 0) ∗ fo c (fun p => dutyTok ER (dcell 3 p c) 0 0)) := by
  simp only [← fo_sep]; rfl
theorem sendOut_fo (c : Fin 8) : (bigSep Finset.univ (sendOut c) : sProp 𝕄) = iprop(fo c (fun p => cred (tallyAt (dcell 0 c p) () (amt 2))) ∗ fo c (fun p => cred (tallyAt (dcell 1 c p) () (amt 3)))) := by
  simp only [← fo_sep]; rfl
theorem recvIn_fo (c : Fin 8) : (bigSep Finset.univ (recvIn c) : sProp 𝕄) = iprop(fo c (fun p => waitIn 2 c p) ∗ fo c (fun p => waitIn 3 c p)) := by
  simp only [← fo_sep]; rfl
theorem gatIn_fo (ag : Vec F S8x32x1024 .bf16) (c : Fin 8) : (bigSep Finset.univ (gatIn ag c) : sProp 𝕄) = iprop(fo c (fun p => iprop(∃ f, gPts p c f)) ∗ fo c (fun p => gShare c p ag)
    ∗ fo c (fun p => dutyTok ER (dcell 4 c p) 0 0) ∗ fo c (fun p => dutyTok ER (dcell 5 p c) 0 0)) := by
  simp only [← fo_sep]; rfl
theorem gatOut_fo (c : Fin 8) : (bigSep Finset.univ (gatOut c) : sProp 𝕄) = fo c (fun p => cred (tallyAt (dcell 4 c p) () (amt 5))) := rfl
theorem gotIn_fo (c : Fin 8) : (bigSep Finset.univ (gotIn c) : sProp 𝕄) = iprop(fo c (fun p => waitIn 5 c p) ∗ fo c (fun p => iprop(∃ f, outPts c p f))) := by
  simp only [← fo_sep]; rfl
theorem gotOut_fo (c : Fin 8) : (bigSep Finset.univ (gotOut lo ll wo c) : sProp 𝕄) = iprop(fo c (fun p => gPts c p (agF lo ll wo)) ∗ fo c (fun p => semVal (dcell 5 c p) 0) ∗ fo c (fun p => outPts c p (outF lo ll wo c))) := by
  simp only [← fo_sep]; rfl
theorem wait_fo (k : Fin 6) (c : Fin 8) : (fo c (fun p => waitIn k c p) : sProp 𝕄) = iprop(fo c (fun p => cred (tallyAt (dcell k c p) () (amt k))) ∗ fo c (fun p => atPos ER (dcell k c p) 0 ∅ 0)) := by
  simp only [← fo_sep]; rfl
theorem doneIn_fo (c : Fin 8) : (bigSep Finset.univ (doneIn c) : sProp 𝕄) = iprop(fo c (fun p => waitIn 0 c p) ∗ fo c (fun p => waitIn 1 c p) ∗ fo c (fun p => waitIn 4 c p)) := by
  simp only [← fo_sep]; rfl
theorem doneOut_fo (ag : Vec F S8x32x1024 .bf16) (c : Fin 8) : (bigSep Finset.univ (doneOut lo ll ag c) : sProp 𝕄) = iprop((fo c (fun p => oPts c p (lo c)) ∗ fo c (fun p => semVal (dcell 0 c p) 0))
    ∗ (fo c (fun p => lPts c p (ll c)) ∗ fo c (fun p => semVal (dcell 1 c p) 0)) ∗ (fo c (fun p => gShare c p ag) ∗ fo c (fun p => semVal (dcell 4 c p) 0))) := by
  simp only [← fo_sep]; rfl
/-- A slot lent to eight copies. -/
theorem leaves_g (c : Fin 8) (f : Vec F S8x32x1024 .bf16) : (gPts c c f : sProp 𝕄) = iprop(gShare c c f ∗ fo c (fun p => gShare c p f)) := by
  rw [← others c (fun p => gShare c p f)]
  exact ShareLeaves.pointsTo_leaves _ _ 3 _

/-! ## The stages -/

/-- Slots of the peers, and the tokens for the payments to come. -/
def peerIn (c : Fin 8) : sProp 𝕄 := iprop(fo c (fun p => iprop(∃ f, roPts p c f)) ∗ fo c (fun p => iprop(∃ f, rlPts p c f)) ∗ fo c (fun p => iprop(∃ f, gPts p c f)))
def toks (c : Fin 8) : sProp 𝕄 := iprop(fo c (fun p => dutyTok ER (dcell 0 c p) 0 0) ∗ fo c (fun p => dutyTok ER (dcell 1 c p) 0 0)
    ∗ fo c (fun p => dutyTok ER (dcell 2 p c) 0 0) ∗ fo c (fun p => dutyTok ER (dcell 3 p c) 0 0) ∗ fo c (fun p => dutyTok ER (dcell 4 c p) 0 0) ∗ fo c (fun p => dutyTok ER (dcell 5 p c) 0 0))
def ats (c : Fin 8) : sProp 𝕄 := iprop(fo c (fun p => atPos ER (dcell 0 c p) 0 ∅ 0) ∗ fo c (fun p => atPos ER (dcell 1 c p) 0 ∅ 0) ∗ fo c (fun p => atPos ER (dcell 4 c p) 0 ∅ 0))
def waits (c : Fin 8) : sProp 𝕄 := iprop(fo c (fun p => waitIn 2 c p) ∗ fo c (fun p => waitIn 3 c p) ∗ fo c (fun p => waitIn 5 c p))
/-- What the exchange starts from: own buffers at their contents, own slots, the peers' slots, tokens and positions. -/
def exIn (c : Fin 8) : sProp 𝕄 := iprop(
  (oM.view.loc ((c : Dev nD) : Thread nD τ) ↦{fullShare} lo c) ∗ (lM.view.loc ((c : Dev nD) : Thread nD τ) ↦{fullShare} ll c)
  ∗ (∃ f, roPts c c f) ∗ (∃ f, rlPts c c f) ∗ (∃ f, gPts c c f) ∗ (∃ f, outM.view.loc ((c : Dev nD) : Thread nD τ) ↦{fullShare} f)
  ∗ (woM.view.loc ((c : Dev nD) : Thread nD τ) ↦{fullShare} wo c) ∗ peerIn c ∗ toks c ∗ ats c ∗ waits c)
/-- What it ends with. -/
def exOut (c : Fin 8) : sProp 𝕄 := iprop(
  (oM.view.loc ((c : Dev nD) : Thread nD τ) ↦{fullShare} lo c) ∗ (lM.view.loc ((c : Dev nD) : Thread nD τ) ↦{fullShare} ll c)
  ∗ (roM.view.loc ((c : Dev nD) : Thread nD τ) ↦{fullShare} gatO lo c) ∗ (rlM.view.loc ((c : Dev nD) : Thread nD τ) ↦{fullShare} gatL ll c)
  ∗ (gM.view.loc ((c : Dev nD) : Thread nD τ) ↦{fullShare} (agF lo ll wo)) ∗ (outM.view.loc ((c : Dev nD) : Thread nD τ) ↦{fullShare} outF lo ll wo c)
  ∗ (woM.view.loc ((c : Dev nD) : Thread nD τ) ↦{fullShare} wo c)
  ∗ fo c (fun p => semVal (dcell 0 c p) 0) ∗ fo c (fun p => semVal (dcell 1 c p) 0) ∗ fo c (fun p => semVal (dcell 2 c p) 0)
  ∗ fo c (fun p => semVal (dcell 3 c p) 0) ∗ fo c (fun p => semVal (dcell 4 c p) 0) ∗ fo c (fun p => semVal (dcell 5 c p) 0))

def r3 (c : Fin 8) : sProp 𝕄 := iprop((fo c (fun p => iprop(∃ f, gPts p c f)) ∗ fo c (fun p => dutyTok ER (dcell 4 c p) 0 0) ∗ fo c (fun p => dutyTok ER (dcell 5 p c) 0 0))
  ∗ (fo c (fun p => waitIn 5 c p) ∗ fo c (fun p => iprop(∃ f, outPts c p f))) ∗ ats c
  ∗ (woM.view.loc ((c : Dev nD) : Thread nD τ) ↦{fullShare} wo c) ∗ (∃ f, outPts c c f) ∗ (∃ f, gPts c c f))
def r2 (c : Fin 8) : sProp 𝕄 := iprop(bigSep Finset.univ (recvIn c) ∗ r3 wo c)
def r5 (K : GSem nD τ sig → ℕ) (c : Fin 8) : sProp 𝕄 := iprop(known lo ll (agF lo ll wo) K c ∗ owing c (sumFrom (TG c) 0) ∗ bigSep Finset.univ (sendOut c)
  ∗ (fo c (fun p => iprop(∃ f, gPts p c f)) ∗ fo c (fun p => dutyTok ER (dcell 4 c p) 0 0) ∗ fo c (fun p => dutyTok ER (dcell 5 p c) 0 0))
  ∗ (fo c (fun p => waitIn 5 c p) ∗ fo c (fun p => iprop(∃ f, outPts c p f))) ∗ ats c)
def r7 (c : Fin 8) : sProp 𝕄 := iprop(joined lo ll c ∗ (woM.view.loc ((c : Dev nD) : Thread nD τ) ↦{fullShare} wo c) ∗ outPts c c (outF lo ll wo c) ∗ gShare c c (agF lo ll wo))
def r6 (c : Fin 8) : sProp 𝕄 := iprop(r7 lo ll wo c ∗ bigSep Finset.univ (sendOut c) ∗ ats c)

theorem out_one (c p : Fin 8) (f : Vec F S1x256x1024 .f32) : outPts c p f ⊢ (iprop(∃ f, outPts c p f) : sProp 𝕄) := by
  iintro H; iexists f; iexact H
theorem out_any (c : Fin 8) : iprop(∃ f, outM.view.loc ((c : Dev nD) : Thread nD τ) ↦{fullShare} f) ⊢ (iprop((∃ f, outPts c c f) ∗ fo c (fun p => iprop(∃ f, outPts c p f))) : sProp 𝕄) := by
  rw [← others c (fun p => iprop(∃ f, outPts c p f))]
  iintro ⟨%f, H⟩
  rw [show (outM.view.loc ((c : Dev nD) : Thread nD τ) ↦{fullShare} f : sProp 𝕄) = _ from cut_out c f]
  exact bigSep_mono fun p _ => out_one c p f

theorem ex_start (K : GSem nD τ sig → ℕ) (c : Fin 8) : iprop(known lo ll (agF lo ll wo) K c ∗ owing c (O₁ c) ∗ exIn lo ll wo c)
    ⊢ iprop(known lo ll (agF lo ll wo) K c ∗ fam (sendIn lo ll c) (sendOut c) (0 : Fin 8).val ∗ owing c (Osend c 0) ∗ (ownS lo ll c ∗ r2 wo c)) := by
  rw [show fam (sendIn lo ll c) (sendOut c) (0 : Fin 8).val = _ from fam_zero _ _, sendIn_fo]
  unfold exIn r2 r3 ownS peerIn toks waits
  rw [recvIn_fo, show (oM.view.loc ((c : Dev nD) : Thread nD τ) ↦{fullShare} lo c : sProp 𝕄) = _ from cut_o c _, show (lM.view.loc ((c : Dev nD) : Thread nD τ) ↦{fullShare} ll c : sProp 𝕄) = _ from cut_l c _,
    others c (fun p => oPts c p (lo c)), others c (fun p => lPts c p (ll c))]
  iintro ⟨HK, HO, ⟨Ho, Ho'⟩, ⟨Hl, Hl'⟩, Hro, Hrl, Hg, Hout, Hwo, ⟨P1, P2, P3⟩, ⟨T0, T1, T2, T3, T4, T5⟩, Hat, ⟨W2, W3, W5⟩⟩
  ihave Hout := (out_any c) $$ Hout
  icases Hout with ⟨Hout, Hout'⟩
  isplitl [HK]; · iexact HK
  isplitl [P1 P2 Ho' Hl' T0 T1 T2 T3]
  · isplitl [P1]; · iexact P1
    isplitl [P2]; · iexact P2
    isplitl [Ho']; · iexact Ho'
    isplitl [Hl']; · iexact Hl'
    isplitl [T0]; · iexact T0
    isplitl [T1]; · iexact T1
    isplitl [T2]; · iexact T2
    iexact T3
  isplitl [HO]; · iexact HO
  isplitl [Ho Hl Hro Hrl]
  · isplitl [Ho]; · iexact Ho
    isplitl [Hl]; · iexact Hl
    isplitl [Hro]; · iexact Hro
    iexact Hrl
  isplitl [W2 W3]
  · isplitl [W2]; · iexact W2
    iexact W3
  isplitl [P3 T4 T5]
  · isplitl [P3]; · iexact P3
    isplitl [T4]; · iexact T4
    iexact T5
  isplitl [W5 Hout']
  · isplitl [W5]; · iexact W5
    iexact Hout'
  isplitl [Hat]; · iexact Hat
  isplitl [Hwo]; · iexact Hwo
  isplitl [Hout]; · iexact Hout
  iexact Hg

theorem ex_sent (K : GSem nD τ sig → ℕ) (c : Fin 8) : iprop(known lo ll (agF lo ll wo) K c ∗ fam (sendIn lo ll c) (sendOut c) 8 ∗ owing c (Osend c 8) ∗ ownS lo ll c ∗ r2 wo c)
    ⊢ iprop(known lo ll (agF lo ll wo) K c ∗ fam (recvIn c) (recvOut lo ll c) 0 ∗ owing c (sumFrom (TG c) 0) ∗ (ownS lo ll c ∗ (bigSep Finset.univ (sendOut c) ∗ r3 wo c))) := by
  rw [fam_zero, fam_end, Osend_end]
  unfold r2
  iintro ⟨HK, HS, HO, Ho, HR, Hr⟩
  isplitl [HK]; · iexact HK
  isplitl [HR]; · iexact HR
  isplitl [HO]; · iexact HO
  isplitl [Ho]; · iexact Ho
  isplitl [HS]; · iexact HS
  iexact Hr

theorem ex_joined (K : GSem nD τ sig → ℕ) (c : Fin 8) : iprop(known lo ll (agF lo ll wo) K c ∗ owing c (sumFrom (TG c) 0) ∗ (joined lo ll c ∗ (bigSep Finset.univ (sendOut c) ∗ r3 wo c)))
    ⊢ iprop(fin0 lo ll wo c ∗ r5 lo ll wo K c) := by
  unfold r3 fin0 r5
  iintro ⟨HK, HO, HJ, HS, H1, H2, H3, Hwo, Hout, Hg⟩
  isplitl [HJ Hwo Hout Hg]
  · isplitl [HJ]; · iexact HJ
    isplitl [Hwo]; · iexact Hwo
    isplitl [Hout]; · iexact Hout
    iexact Hg
  isplitl [HK]; · iexact HK
  isplitl [HO]; · iexact HO
  isplitl [HS]; · iexact HS
  isplitl [H1]; · iexact H1
  isplitl [H2]; · iexact H2
  iexact H3

theorem ex_rows (K : GSem nD τ sig → ℕ) (c : Fin 8) : iprop(fin1 lo ll wo c ∗ r5 lo ll wo K c)
    ⊢ iprop(known lo ll (agF lo ll wo) K c ∗ fam (gatIn (agF lo ll wo) c) (gatOut c) 0 ∗ owing c (sumFrom (TG c) 0) ∗ (fam (gotIn c) (gotOut lo ll wo c) (0 : Fin 8).val ∗ r6 lo ll wo c)) := by
  rw [fam_zero, show fam (gotIn c) (gotOut lo ll wo c) (0 : Fin 8).val = _ from fam_zero _ _, gatIn_fo, gotIn_fo]
  unfold fin1 r5 r6 r7
  rw [leaves_g c (agF lo ll wo)]
  iintro ⟨⟨HJ, Hwo, Hout, Hg, Hg'⟩, HK, HO, HS, ⟨P3, T4, T5⟩, HR, Hat⟩
  isplitl [HK]; · iexact HK
  isplitl [P3 Hg' T4 T5]
  · isplitl [P3]; · iexact P3
    isplitl [Hg']; · iexact Hg'
    isplitl [T4]; · iexact T4
    iexact T5
  isplitl [HO]; · iexact HO
  isplitl [HR]; · iexact HR
  isplitr [HS Hat]
  · isplitl [HJ]; · iexact HJ
    isplitl [Hwo]; · iexact Hwo
    isplitl [Hout]; · iexact Hout
    iexact Hg
  isplitl [HS]; · iexact HS
  iexact Hat

theorem ex_gathered (K : GSem nD τ sig → ℕ) (c : Fin 8) : iprop(known lo ll (agF lo ll wo) K c ∗ fam (gotIn c) (gotOut lo ll wo c) (2 : Fin 8).val ∗ owing c 0 ∗ (fam (gatIn (agF lo ll wo) c) (gatOut c) 8 ∗ r6 lo ll wo c))
    ⊢ iprop(known lo ll (agF lo ll wo) K c ∗ fam (gotIn c) (gotOut lo ll wo c) (2 : Fin 8).val ∗ owing c 0 ∗ (fam (doneIn c) (doneOut lo ll (agF lo ll wo) c) (0 : Fin 8).val ∗ r7 lo ll wo c)) := by
  rw [fam_end, show fam (doneIn c) (doneOut lo ll (agF lo ll wo) c) (0 : Fin 8).val = _ from fam_zero _ _, gatOut_fo, doneIn_fo, wait_fo, wait_fo, wait_fo, amt_02, amt_13, amt_45]
  unfold r6 ats
  rw [sendOut_fo]
  iintro ⟨HK, HG, HO, H4, H7, ⟨S0, S1⟩, A0, A1, A4⟩
  isplitl [HK]; · iexact HK
  isplitl [HG]; · iexact HG
  isplitl [HO]; · iexact HO
  isplitr [H7]
  · isplitl [S0 A0]
    · isplitl [S0]; · iexact S0
      iexact A0
    isplitl [S1 A1]
    · isplitl [S1]; · iexact S1
      iexact A1
    isplitl [H4]; · iexact H4
    iexact A4
  iexact H7

theorem ex_end (K : GSem nD τ sig → ℕ) (c : Fin 8) : iprop(known lo ll (agF lo ll wo) K c ∗ fam (doneIn c) (doneOut lo ll (agF lo ll wo) c) 8 ∗ owing c 0 ∗ (fam (gotIn c) (gotOut lo ll wo c) 8 ∗ r7 lo ll wo c))
    ⊢ iprop(owing c 0 ∗ exOut lo ll wo c) := by
  rw [fam_end, fam_end, doneOut_fo, gotOut_fo]
  unfold r7 joined exOut
  rw [show (oM.view.loc ((c : Dev nD) : Thread nD τ) ↦{fullShare} lo c : sProp 𝕄) = _ from cut_o c _, show (lM.view.loc ((c : Dev nD) : Thread nD τ) ↦{fullShare} ll c : sProp 𝕄) = _ from cut_l c _,
    show (gM.view.loc ((c : Dev nD) : Thread nD τ) ↦{fullShare} (agF lo ll wo) : sProp 𝕄) = _ from cut_g c _, show (outM.view.loc ((c : Dev nD) : Thread nD τ) ↦{fullShare} outF lo ll wo c : sProp 𝕄) = _ from cut_out c _,
    others c (fun p => oPts c p (lo c)), others c (fun p => lPts c p (ll c)), others c (fun p => gPts c p (agF lo ll wo)), others c (fun p => outPts c p (outF lo ll wo c)), leaves_g c (agF lo ll wo)]
  iintro ⟨HK, ⟨⟨Ho', Z0⟩, ⟨Hl', Z1⟩, Hg', Z4⟩, HO, ⟨Hgs, Z5, Hout'⟩, ⟨Ho, Hl, Hro, Hrl, Z2, Z3⟩, Hwo, Hout, Hg⟩
  isplitl [HO]; · iexact HO
  isplitl [Ho Ho']
  · isplitl [Ho]; · iexact Ho
    iexact Ho'
  isplitl [Hl Hl']
  · isplitl [Hl]; · iexact Hl
    iexact Hl'
  isplitl [Hro]; · iexact Hro
  isplitl [Hrl]; · iexact Hrl
  isplitl [Hg Hg' Hgs]
  · isplitl [Hg Hg']
    · isplitl [Hg]; · iexact Hg
      iexact Hg'
    iexact Hgs
  isplitl [Hout Hout']
  · isplitl [Hout]; · iexact Hout
    iexact Hout'
  isplitl [Hwo]; · iexact Hwo
  isplitl [Z0]; · iexact Z0
  isplitl [Z1]; · iexact Z1
  isplitl [Z2]; · iexact Z2
  isplitl [Z3]; · iexact Z3
  isplitl [Z4]; · iexact Z4
  iexact Z5

theorem pure_left {φ : Prop} {P Q : sProp 𝕄} (h : φ → P ⊢ Q) : iprop(⌜φ⌝ ∗ P) ⊢ Q := by
  iintro ⟨%hp, HP⟩
  iapply (h hp); iexact HP

end Cert.KernelIdeal.Talk

end
-- ==== Proof.Mid.lean ====
/- Loads and stores of the head-by-head part: the buffers of the classes, and what is stored of a head. -/
module

public import proofs.«01_k».proof.Proof.TailE

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

/-- A load from a whole buffer. -/
theorem ld {c : Fin 8} {s : Shape} {e : EltTy} {m : Memref sig .tc .vmem s e} {off size : Fin s.rank → ℕ} {inb : ∀ a, off a + size a ≤ s.size a} {f : Buf (Elt F) (m.view.loc ((c : Dev nD) : Thread nD τ))}
    {a : m.view.LoadsAt (Rect.unit (s := s) off size inb).toLoadRect} {α : Type} {J : ((Rect.unit (s := s) off size inb).shape.Idx → Elt F e) → PR F α} {Q : α → sProp 𝕄} :
    (m.view.loc ((c : Dev nD) : Thread nD τ) ↦{fullShare} f) ⊢
      iprop(((m.view.loc ((c : Dev nD) : Thread nD τ) ↦{fullShare} f) -∗ wpc c (J ((m.access (Rect.unit (s := s) off size inb)).read (Elt F) f)) Q)
        -∗ wpc c (Prog.lift (.load m (Rect.unit (s := s) off size inb).toLoadRect a) >>= J) Q) :=
  wp_load_rect 𝒱₀ ((c : Dev nD) : Thread nD τ) none Set.univ (m := m) (r := Rect.unit (s := s) off size inb) (Finset.subset_univ _)

/-- A store into a whole buffer, after a load that is not read. -/
theorem ldst {c : Fin 8} {s : Shape} {e : EltTy} {m : Memref sig .tc .vmem s e} {off size : Fin s.rank → ℕ} {inb : ∀ a, off a + size a ≤ s.size a} {f : Buf (Elt F) (m.view.loc ((c : Dev nD) : Thread nD τ))}
    {p : (Rect.unit (s := s) off size inb).shape.Idx → Elt F e} (g : Buf (Elt F) (m.view.loc ((c : Dev nD) : Thread nD τ)))
    (hg : (m.access (Rect.unit (s := s) off size inb)).write (Elt F) f p Finset.univ = g)
    {a1 a2 a3} {α : Type} {J : PR F α} {Q : α → sProp 𝕄} :
    (m.view.loc ((c : Dev nD) : Thread nD τ) ↦{fullShare} f) ⊢
      iprop(((m.view.loc ((c : Dev nD) : Thread nD τ) ↦{fullShare} g) -∗ wpc c J Q)
        -∗ wpc c (Prog.lift (.load m (Rect.unit (s := s) off size inb).toLoadRect a1) >>= fun _ => Prog.lift (.store m (Rect.unit (s := s) off size inb) p Finset.univ a2 a3) >>= fun _ => J) Q) := by
  subst hg
  iintro H Hk
  iapply ld $$ H
  iintro H
  iapply (wp_store 𝒱₀ ((c : Dev nD) : Thread nD τ) none Set.univ (m := m) (r := Rect.unit (s := s) off size inb) (Finset.subset_univ _)) $$ H
  iexact Hk

/-- A load of everything a memref that is its whole buffer holds. -/
theorem ld_owns {c : Fin 8} {s : Shape} {e : EltTy} {m : Memref sig .tc .vmem s e} {off : Fin s.rank → ℕ} (h0 : ∀ a, off a = 0) {inb : ∀ a, off a + s.size a ≤ s.size a} {X : s.Idx → Elt F e}
    {a : m.view.LoadsAt (Rect.unit (s := s) off s.size inb).toLoadRect} {α : Type} {J : (s.Idx → Elt F e) → PR F α} {Q : α → sProp 𝕄} :
    (owns ((c : Dev nD) : Thread nD τ) m fullShare X : sProp 𝕄) ⊢
      iprop((owns ((c : Dev nD) : Thread nD τ) m fullShare X -∗ wpc c (J X) Q)
        -∗ wpc c (Prog.lift (.load m (Rect.unit (s := s) off s.size inb).toLoadRect a) >>= J) Q) := by
  have hr : ∀ j : s.Idx, (Rect.unit (s := s) off s.size inb).emb j = j := fun j => by
    funext x; refine Fin.ext ((ValueKit.rect_emb_unit_val _ _ _ _ x).trans ?_); rw [h0 x, Nat.zero_add]
  unfold owns
  iintro ⟨%f, %hf, H⟩ Hk
  iapply (wp_load_rect 𝒱₀ ((c : Dev nD) : Thread nD τ) none Set.univ (m := m) (r := Rect.unit (s := s) off s.size inb) (View.set_slice_subset _ _)) $$ H
  rw [show (m.access (Rect.unit (s := s) off s.size inb)).read (Elt F) f = X from by
    rw [← hf]; funext j
    rw [View.read_apply, View.read_apply]
    have e : (m.access (Rect.unit (s := s) off s.size inb)).emb j = m.view.emb j := congrArg m.view.emb (hr j)
    exact congrArg (cast _) (congrArg f e)]
  iintro H
  iapply Hk
  iexists f
  isplitr; · ipureintro; exact hf
  iexact H

/-! ## Stores into the class buffers -/

def setA (a : Fin 3) (f : Vec F S3x1408x128 .bf16) (p : Vec F S1x1408x128 .bf16) : Vec F S3x1408x128 .bf16 := fun i =>
  if (i 0).val = a.val then p (fun | 0 => ⟨0, Nat.one_pos⟩ | 1 => i 1 | 2 => i 2 : S1x1408x128.Idx) else f i
def setB (a : Fin 3) (f : Vec F S3x1408x128 .bf16) (p : Vec F S1x1344x128 .bf16) : Vec F S3x1408x128 .bf16 := fun i =>
  if h : (i 0).val = a.val ∧ (i 1).val < 1344 then p (fun | 0 => ⟨0, Nat.one_pos⟩ | 1 => ⟨(i 1).val, h.2⟩ | 2 => i 2 : S1x1344x128.Idx) else f i
def setZ (a : Fin 3) (f : Vec F S3x1408x128 .bf16) (p : Vec F S1x64x128 .bf16) : Vec F S3x1408x128 .bf16 := fun i =>
  if h : (i 0).val = a.val ∧ 1344 ≤ (i 1).val then p (fun | 0 => ⟨0, Nat.one_pos⟩ | 1 => ⟨(i 1).val - 1344, by have := (i 1).isLt; simp at this; show _ < 64; omega⟩ | 2 => i 2 : S1x64x128.Idx) else f i

theorem k_setA (a : Fin 3) (f : Vec F S3x1408x128 .bf16) (p : Vec F S1x1408x128 .bf16) (inb : ∀ x, (![a.val, 0, 0] : Fin 3 → ℕ) x + S1x1408x128.size x ≤ S3x1408x128.size x) :
    (kM.access (Rect.unit (s := S3x1408x128) ![a.val, 0, 0] S1x1408x128.size inb)).write (Elt F) f p Finset.univ = setA a f p := by
  funext i
  unfold setA
  by_cases hc : (i 0).val = a.val
  · rw [if_pos hc]
    have e : i = (kM.access (Rect.unit (s := S3x1408x128) ![a.val, 0, 0] S1x1408x128.size inb)).emb (fun | 0 => ⟨0, Nat.one_pos⟩ | 1 => i 1 | 2 => i 2 : S1x1408x128.Idx) := by
      funext x
      refine Fin.ext ((ValueKit.rect_emb_unit_val _ _ _ _ x).trans ?_).symm
      fin_cases x
      · show a.val + 0 = (i 0).val; rw [hc, Nat.add_zero]
      · show 0 + (i 1).val = (i 1).val; omega
      · show 0 + (i 2).val = (i 2).val; omega
    conv_lhs => rw [e]
    rw [View.write_emb_of_mem _ _ (Finset.mem_univ _)]
    rfl
  · rw [if_neg hc]
    refine View.write_of_not_mem _ _ _ ?_
    rw [View.setOn_univ, show (kM.access (Rect.unit (s := S3x1408x128) ![a.val, 0, 0] S1x1408x128.size inb)).set = (Rect.unit (s := S3x1408x128) ![a.val, 0, 0] S1x1408x128.size inb).set from View.set_slice_whole _ _, Rect.mem_set_unit]
    intro h
    have h0 := h 0
    have h1 := h 1
    simp at h0 h1
    exact hc (by omega)

theorem k_setB (a : Fin 3) (f : Vec F S3x1408x128 .bf16) (p : Vec F S1x1344x128 .bf16) (inb : ∀ x, (![a.val, 0, 0] : Fin 3 → ℕ) x + S1x1344x128.size x ≤ S3x1408x128.size x) :
    (kM.access (Rect.unit (s := S3x1408x128) ![a.val, 0, 0] S1x1344x128.size inb)).write (Elt F) f p Finset.univ = setB a f p := by
  funext i
  unfold setB
  by_cases hc : (i 0).val = a.val ∧ (i 1).val < 1344
  · rw [dif_pos hc]
    have e : i = (kM.access (Rect.unit (s := S3x1408x128) ![a.val, 0, 0] S1x1344x128.size inb)).emb (fun | 0 => ⟨0, Nat.one_pos⟩ | 1 => ⟨(i 1).val, hc.2⟩ | 2 => i 2 : S1x1344x128.Idx) := by
      funext x
      refine Fin.ext ((ValueKit.rect_emb_unit_val _ _ _ _ x).trans ?_).symm
      fin_cases x
      · show a.val + 0 = (i 0).val; rw [hc.1, Nat.add_zero]
      · show 0 + (i 1).val = (i 1).val; omega
      · show 0 + (i 2).val = (i 2).val; omega
    conv_lhs => rw [e]
    rw [View.write_emb_of_mem _ _ (Finset.mem_univ _)]
    rfl
  · rw [dif_neg hc]
    refine View.write_of_not_mem _ _ _ ?_
    rw [View.setOn_univ, show (kM.access (Rect.unit (s := S3x1408x128) ![a.val, 0, 0] S1x1344x128.size inb)).set = (Rect.unit (s := S3x1408x128) ![a.val, 0, 0] S1x1344x128.size inb).set from View.set_slice_whole _ _, Rect.mem_set_unit]
    intro h
    have h0 := h 0
    have h1 := h 1
    simp at h0 h1
    exact hc ⟨by omega, by omega⟩

theorem k_setZ (a : Fin 3) (f : Vec F S3x1408x128 .bf16) (p : Vec F S1x64x128 .bf16) (inb : ∀ x, (![a.val, 1344, 0] : Fin 3 → ℕ) x + S1x64x128.size x ≤ S3x1408x128.size x) :
    (kM.access (Rect.unit (s := S3x1408x128) ![a.val, 1344, 0] S1x64x128.size inb)).write (Elt F) f p Finset.univ = setZ a f p := by
  funext i
  unfold setZ
  by_cases hc : (i 0).val = a.val ∧ 1344 ≤ (i 1).val
  · rw [dif_pos hc]
    have e : i = (kM.access (Rect.unit (s := S3x1408x128) ![a.val, 1344, 0] S1x64x128.size inb)).emb (fun | 0 => ⟨0, Nat.one_pos⟩ | 1 => ⟨(i 1).val - 1344, by have := (i 1).isLt; simp at this; show _ < 64; omega⟩ | 2 => i 2 : S1x64x128.Idx) := by
      funext x
      refine Fin.ext ((ValueKit.rect_emb_unit_val _ _ _ _ x).trans ?_).symm
      fin_cases x
      · show a.val + 0 = (i 0).val; rw [hc.1, Nat.add_zero]
      · show 1344 + ((i 1).val - 1344) = (i 1).val; have := hc.2; omega
      · show 0 + (i 2).val = (i 2).val; omega
    conv_lhs => rw [e]
    rw [View.write_emb_of_mem _ _ (Finset.mem_univ _)]
    rfl
  · rw [dif_neg hc]
    refine View.write_of_not_mem _ _ _ ?_
    rw [View.setOn_univ, show (kM.access (Rect.unit (s := S3x1408x128) ![a.val, 1344, 0] S1x64x128.size inb)).set = (Rect.unit (s := S3x1408x128) ![a.val, 1344, 0] S1x64x128.size inb).set from View.set_slice_whole _ _, Rect.mem_set_unit]
    intro h
    have h0 := h 0
    have h1 := h 1
    simp at h0 h1
    exact hc ⟨by omega, by omega⟩

theorem v_setA (a : Fin 3) (f : Vec F S3x1408x128 .bf16) (p : Vec F S1x1408x128 .bf16) (inb : ∀ x, (![a.val, 0, 0] : Fin 3 → ℕ) x + S1x1408x128.size x ≤ S3x1408x128.size x) :
    (vM.access (Rect.unit (s := S3x1408x128) ![a.val, 0, 0] S1x1408x128.size inb)).write (Elt F) f p Finset.univ = setA a f p := by
  funext i
  unfold setA
  by_cases hc : (i 0).val = a.val
  · rw [if_pos hc]
    have e : i = (vM.access (Rect.unit (s := S3x1408x128) ![a.val, 0, 0] S1x1408x128.size inb)).emb (fun | 0 => ⟨0, Nat.one_pos⟩ | 1 => i 1 | 2 => i 2 : S1x1408x128.Idx) := by
      funext x
      refine Fin.ext ((ValueKit.rect_emb_unit_val _ _ _ _ x).trans ?_).symm
      fin_cases x
      · show a.val + 0 = (i 0).val; rw [hc, Nat.add_zero]
      · show 0 + (i 1).val = (i 1).val; omega
      · show 0 + (i 2).val = (i 2).val; omega
    conv_lhs => rw [e]
    rw [View.write_emb_of_mem _ _ (Finset.mem_univ _)]
    rfl
  · rw [if_neg hc]
    refine View.write_of_not_mem _ _ _ ?_
    rw [View.setOn_univ, show (vM.access (Rect.unit (s := S3x1408x128) ![a.val, 0, 0] S1x1408x128.size inb)).set = (Rect.unit (s := S3x1408x128) ![a.val, 0, 0] S1x1408x128.size inb).set from View.set_slice_whole _ _, Rect.mem_set_unit]
    intro h
    have h0 := h 0
    have h1 := h 1
    simp at h0 h1
    exact hc (by omega)

theorem v_setB (a : Fin 3) (f : Vec F S3x1408x128 .bf16) (p : Vec F S1x1344x128 .bf16) (inb : ∀ x, (![a.val, 0, 0] : Fin 3 → ℕ) x + S1x1344x128.size x ≤ S3x1408x128.size x) :
    (vM.access (Rect.unit (s := S3x1408x128) ![a.val, 0, 0] S1x1344x128.size inb)).write (Elt F) f p Finset.univ = setB a f p := by
  funext i
  unfold setB
  by_cases hc : (i 0).val = a.val ∧ (i 1).val < 1344
  · rw [dif_pos hc]
    have e : i = (vM.access (Rect.unit (s := S3x1408x128) ![a.val, 0, 0] S1x1344x128.size inb)).emb (fun | 0 => ⟨0, Nat.one_pos⟩ | 1 => ⟨(i 1).val, hc.2⟩ | 2 => i 2 : S1x1344x128.Idx) := by
      funext x
      refine Fin.ext ((ValueKit.rect_emb_unit_val _ _ _ _ x).trans ?_).symm
      fin_cases x
      · show a.val + 0 = (i 0).val; rw [hc.1, Nat.add_zero]
      · show 0 + (i 1).val = (i 1).val; omega
      · show 0 + (i 2).val = (i 2).val; omega
    conv_lhs => rw [e]
    rw [View.write_emb_of_mem _ _ (Finset.mem_univ _)]
    rfl
  · rw [dif_neg hc]
    refine View.write_of_not_mem _ _ _ ?_
    rw [View.setOn_univ, show (vM.access (Rect.unit (s := S3x1408x128) ![a.val, 0, 0] S1x1344x128.size inb)).set = (Rect.unit (s := S3x1408x128) ![a.val, 0, 0] S1x1344x128.size inb).set from View.set_slice_whole _ _, Rect.mem_set_unit]
    intro h
    have h0 := h 0
    have h1 := h 1
    simp at h0 h1
    exact hc ⟨by omega, by omega⟩

theorem v_setZ (a : Fin 3) (f : Vec F S3x1408x128 .bf16) (p : Vec F S1x64x128 .bf16) (inb : ∀ x, (![a.val, 1344, 0] : Fin 3 → ℕ) x + S1x64x128.size x ≤ S3x1408x128.size x) :
    (vM.access (Rect.unit (s := S3x1408x128) ![a.val, 1344, 0] S1x64x128.size inb)).write (Elt F) f p Finset.univ = setZ a f p := by
  funext i
  unfold setZ
  by_cases hc : (i 0).val = a.val ∧ 1344 ≤ (i 1).val
  · rw [dif_pos hc]
    have e : i = (vM.access (Rect.unit (s := S3x1408x128) ![a.val, 1344, 0] S1x64x128.size inb)).emb (fun | 0 => ⟨0, Nat.one_pos⟩ | 1 => ⟨(i 1).val - 1344, by have := (i 1).isLt; simp at this; show _ < 64; omega⟩ | 2 => i 2 : S1x64x128.Idx) := by
      funext x
      refine Fin.ext ((ValueKit.rect_emb_unit_val _ _ _ _ x).trans ?_).symm
      fin_cases x
      · show a.val + 0 = (i 0).val; rw [hc.1, Nat.add_zero]
      · show 1344 + ((i 1).val - 1344) = (i 1).val; have := hc.2; omega
      · show 0 + (i 2).val = (i 2).val; omega
    conv_lhs => rw [e]
    rw [View.write_emb_of_mem _ _ (Finset.mem_univ _)]
    rfl
  · rw [dif_neg hc]
    refine View.write_of_not_mem _ _ _ ?_
    rw [View.setOn_univ, show (vM.access (Rect.unit (s := S3x1408x128) ![a.val, 1344, 0] S1x64x128.size inb)).set = (Rect.unit (s := S3x1408x128) ![a.val, 1344, 0] S1x64x128.size inb).set from View.set_slice_whole _ _, Rect.mem_set_unit]
    intro h
    have h0 := h 0
    have h1 := h 1
    simp at h0 h1
    exact hc ⟨by omega, by omega⟩

end Cert.KernelIdeal.Talk

end
-- ==== Proof.Head.lean ====
/- What a head computes, and its run on the buffers. -/
module

public import proofs.«01_k».proof.Proof.Mid

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

theorem ldr {c : Fin 8} {s : Shape} {e : EltTy} {m : Memref sig .tc .vmem s e} {off size : Fin s.rank → ℕ} {inb : ∀ a, off a + size a ≤ s.size a} {f : Buf (Elt F) (m.view.loc ((c : Dev nD) : Thread nD τ))}
    {X : (Rect.unit (s := s) off size inb).shape.Idx → Elt F e} (hX : (m.access (Rect.unit (s := s) off size inb)).read (Elt F) f = X)
    {a : m.view.LoadsAt (Rect.unit (s := s) off size inb).toLoadRect} {α : Type} {J : ((Rect.unit (s := s) off size inb).shape.Idx → Elt F e) → PR F α} {Q : α → sProp 𝕄} :
    (m.view.loc ((c : Dev nD) : Thread nD τ) ↦{fullShare} f) ⊢
      iprop(((m.view.loc ((c : Dev nD) : Thread nD τ) ↦{fullShare} f) -∗ wpc c (J X) Q)
        -∗ wpc c (Prog.lift (.load m (Rect.unit (s := s) off size inb).toLoadRect a) >>= J) Q) := by
  subst hX; exact ld

/-- The class of the keys for block n of the queries on device c. -/
def cls (c : Fin 8) (n : Fin 4) : Fin 3 := ⟨(2 * (n.val + c.val)) % 3, Nat.mod_lt _ (by decide)⟩
def rdC (a : Fin 3) (f : Vec F S3x1408x128 .bf16) : Vec F S1x1408x128 .bf16 := fun j => f (fun | 0 => a | 1 => j 1 | 2 => j 2 : S3x1408x128.Idx)
theorem off1_0 : ∀ c : Fin 8, k2_off1 c 0#32 = ![(cls c 0).val, 0, 0] := by decide
theorem off1_1 : ∀ c : Fin 8, k2_off1 c 1#32 = ![(cls c 1).val, 0, 0] := by decide
theorem off1_2 : ∀ c : Fin 8, k2_off1 c 2#32 = ![(cls c 2).val, 0, 0] := by decide
theorem off1_3 : ∀ c : Fin 8, k2_off1 c 3#32 = ![(cls c 3).val, 0, 0] := by decide
theorem rd_k {a : Fin 3} {off : Fin 3 → ℕ} (h : off = ![a.val, 0, 0]) (inb : ∀ x, off x + S1x1408x128.size x ≤ S3x1408x128.size x) (f : Vec F S3x1408x128 .bf16) :
    (kM.access (Rect.unit (s := S3x1408x128) off S1x1408x128.size inb)).read (Elt F) f = rdC a f := by
  subst h
  funext j
  refine congrArg f ?_
  funext x
  refine Fin.ext ((ValueKit.rect_emb_unit_val _ _ _ _ x).trans ?_)
  have h0 : (j 0).val < 1 := (j 0).isLt
  fin_cases x
  · show a.val + (j 0).val = a.val; omega
  · show 0 + (j 1).val = (j 1).val; omega
  · show 0 + (j 2).val = (j 2).val; omega
theorem rd_v {a : Fin 3} {off : Fin 3 → ℕ} (h : off = ![a.val, 0, 0]) (inb : ∀ x, off x + S1x1408x128.size x ≤ S3x1408x128.size x) (f : Vec F S3x1408x128 .bf16) :
    (vM.access (Rect.unit (s := S3x1408x128) off S1x1408x128.size inb)).read (Elt F) f = rdC a f := by
  subst h
  funext j
  refine congrArg f ?_
  funext x
  refine Fin.ext ((ValueKit.rect_emb_unit_val _ _ _ _ x).trans ?_)
  have h0 : (j 0).val < 1 := (j 0).isLt
  fin_cases x
  · show a.val + (j 0).val = a.val; omega
  · show 0 + (j 1).val = (j 1).val; omega
  · show 0 + (j 2).val = (j 2).val; omega
/-- The outputs with head h's replaced. -/
def setO (h : Fin 8) (f : Vec F S8x256x128 .bf16) (p : Vec F S1x256x128 .bf16) : Vec F S8x256x128 .bf16 := fun i =>
  if (i 0).val = h.val then p (fun | 0 => ⟨0, Nat.one_pos⟩ | 1 => i 1 | 2 => i 2 : S1x256x128.Idx) else f i
theorem o_setO (a : Fin 8) (f : Vec F S8x256x128 .bf16) (p : Vec F S1x256x128 .bf16) {off : Fin 3 → ℕ} (h : off = ![a.val, 0, 0]) (inb : ∀ x, off x + S1x256x128.size x ≤ S8x256x128.size x) :
    (oM.access (Rect.unit (s := S8x256x128) off S1x256x128.size inb)).write (Elt F) f p Finset.univ = setO a f p := by
  subst h
  funext i
  unfold setO
  by_cases hc : (i 0).val = a.val
  · rw [if_pos hc]
    have e : i = (oM.access (Rect.unit (s := S8x256x128) ![a.val, 0, 0] S1x256x128.size inb)).emb (fun | 0 => ⟨0, Nat.one_pos⟩ | 1 => i 1 | 2 => i 2 : S1x256x128.Idx) := by
      funext x
      refine Fin.ext ((ValueKit.rect_emb_unit_val _ _ _ _ x).trans ?_).symm
      fin_cases x
      · show a.val + 0 = (i 0).val; rw [hc, Nat.add_zero]
      · show 0 + (i 1).val = (i 1).val; omega
      · show 0 + (i 2).val = (i 2).val; omega
    conv_lhs => rw [e]
    rw [View.write_emb_of_mem _ _ (Finset.mem_univ _)]
    rfl
  · rw [if_neg hc]
    refine View.write_of_not_mem _ _ _ ?_
    rw [View.setOn_univ, show (oM.access (Rect.unit (s := S8x256x128) ![a.val, 0, 0] S1x256x128.size inb)).set = (Rect.unit (s := S8x256x128) ![a.val, 0, 0] S1x256x128.size inb).set from View.set_slice_whole _ _, Rect.mem_set_unit]
    intro h
    have h0 := h 0
    simp at h0
    exact hc (by omega)

set_option maxHeartbeats 1000000 in
theorem part9_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c : Fin 8) (v17 : FVec F S4096x128 .bf16) (v19 : FVec F S4096x128 .bf16) (v23 : FVec F S64x128 .bf16) (v24 : FVec F S64x128 .bf16) (v25 : FVec F S64x128 .bf16) (v26 : FVec F S64x128 .bf16) (v27 : FVec F S64x128 .bf16) (v28 : FVec F S64x128 .bf16) (v29 : FVec F S64x128 .bf16) (v30 : FVec F S64x128 .bf16) (v31 : FVec F S64x128 .bf16) (v32 : FVec F S64x128 .bf16) (v33 : FVec F S64x128 .bf16) (v34 : FVec F S64x128 .bf16) (v35 : FVec F S64x128 .bf16) (v36 : FVec F S64x128 .bf16) (f g : Vec F S3x1408x128 .bf16) (R : sProp 𝕄) :
    iprop((kM.view.loc ((c : Dev nD) : Thread nD τ) ↦{fullShare} f) ∗ (vM.view.loc ((c : Dev nD) : Thread nD τ) ↦{fullShare} g) ∗ R) ⊢ wpc c (k2_part9 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 v17 v19 v23 v24 v25 v26 v27 v28 v29 v30 v31 v32 v33 v34 v35 v36) fun r =>
      iprop(⌜r = ⟨k2_pay41 v17, k2_pay42 v17, k2_pay43 v17, k2_pay44 v17, k2_pay45 v17, k2_pay46 v17, k2_pay47 v17, k2_pay48 v17, k2_pay49 v17, k2_pay50 v17, k2_pay51 v17, k2_pay52 v17, k2_pay53 v17, k2_pay54 v17⟩⌝ ∗ (kM.view.loc ((c : Dev nD) : Thread nD τ) ↦{fullShare} (setA 0 f (k2_pay39 v17 v23 v24 v25 v26 v27 v28 v29 v30 v31 v32 v33 v34 v35 v36))) ∗ (vM.view.loc ((c : Dev nD) : Thread nD τ) ↦{fullShare} (setA 0 g (k2_pay40 v19))) ∗ R) := by
  rw [k2_part9_eq_skeleton]
  unfold k2_part9_skel
  iintro ⟨Hk, Hv, HR⟩
  iapply (ldst (m := kM) (setA 0 f (k2_pay39 v17 v23 v24 v25 v26 v27 v28 v29 v30 v31 v32 v33 v34 v35 v36)) (k_setA 0 f (k2_pay39 v17 v23 v24 v25 v26 v27 v28 v29 v30 v31 v32 v33 v34 v35 v36) _)) $$ Hk
  iintro Hk
  iapply (ldst (m := vM) (setA 0 g (k2_pay40 v19)) (v_setA 0 g (k2_pay40 v19) _)) $$ Hv
  iintro Hv
  iapply ret
  isplitr; · ipureintro; rfl
  isplitl [Hk]; · iexact Hk
  isplitl [Hv]; · iexact Hv
  iexact HR

set_option maxHeartbeats 1000000 in
theorem part10_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c : Fin 8) (v17 : FVec F S4096x128 .bf16) (v19 : FVec F S4096x128 .bf16) (v75 : FVec F S64x128 .bf16) (v76 : FVec F S64x128 .bf16) (v77 : FVec F S64x128 .bf16) (v78 : FVec F S64x128 .bf16) (v79 : FVec F S64x128 .bf16) (v80 : FVec F S64x128 .bf16) (v81 : FVec F S64x128 .bf16) (v82 : FVec F S64x128 .bf16) (v83 : FVec F S64x128 .bf16) (v84 : FVec F S64x128 .bf16) (v85 : FVec F S64x128 .bf16) (v86 : FVec F S64x128 .bf16) (v87 : FVec F S64x128 .bf16) (v88 : FVec F S64x128 .bf16) (f g : Vec F S3x1408x128 .bf16) (R : sProp 𝕄) :
    iprop((kM.view.loc ((c : Dev nD) : Thread nD τ) ↦{fullShare} f) ∗ (vM.view.loc ((c : Dev nD) : Thread nD τ) ↦{fullShare} g) ∗ R) ⊢ wpc c (k2_part10 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 v17 v19 v75 v76 v77 v78 v79 v80 v81 v82 v83 v84 v85 v86 v87 v88) fun r =>
      iprop(⌜r = ⟨k2_pay57 v17, k2_pay58 v17, k2_pay59 v17, k2_pay60 v17, k2_pay61 v17, k2_pay62 v17, k2_pay63 v17, k2_pay64 v17, k2_pay65 v17, k2_pay66 v17, k2_pay67 v17, k2_pay68 v17, k2_pay69 v17, k2_pay70 v17, k2_pay71 v17, k2_pay72 v17⟩⌝ ∗ (kM.view.loc ((c : Dev nD) : Thread nD τ) ↦{fullShare} (setB 1 f (k2_pay55 v17 v75 v76 v77 v78 v79 v80 v81 v82 v83 v84 v85 v86 v87 v88))) ∗ (vM.view.loc ((c : Dev nD) : Thread nD τ) ↦{fullShare} (setB 1 g (k2_pay56 v19))) ∗ R) := by
  rw [k2_part10_eq_skeleton]
  unfold k2_part10_skel
  iintro ⟨Hk, Hv, HR⟩
  iapply (ldst (m := kM) (setB 1 f (k2_pay55 v17 v75 v76 v77 v78 v79 v80 v81 v82 v83 v84 v85 v86 v87 v88)) (k_setB 1 f (k2_pay55 v17 v75 v76 v77 v78 v79 v80 v81 v82 v83 v84 v85 v86 v87 v88) _)) $$ Hk
  iintro Hk
  iapply (ldst (m := vM) (setB 1 g (k2_pay56 v19)) (v_setB 1 g (k2_pay56 v19) _)) $$ Hv
  iintro Hv
  iapply ret
  isplitr; · ipureintro; rfl
  isplitl [Hk]; · iexact Hk
  isplitl [Hv]; · iexact Hv
  iexact HR

set_option maxHeartbeats 1000000 in
theorem part11_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c : Fin 8) (v2 : BitVec 32) (v17 : FVec F S4096x128 .bf16) (v19 : FVec F S4096x128 .bf16) (v125 : FVec F S64x128 .bf16) (v126 : FVec F S64x128 .bf16) (v127 : FVec F S64x128 .bf16) (v128 : FVec F S64x128 .bf16) (v129 : FVec F S64x128 .bf16) (v130 : FVec F S64x128 .bf16) (v131 : FVec F S64x128 .bf16) (v132 : FVec F S64x128 .bf16) (v133 : FVec F S64x128 .bf16) (v134 : FVec F S64x128 .bf16) (v135 : FVec F S64x128 .bf16) (v136 : FVec F S64x128 .bf16) (v137 : FVec F S64x128 .bf16) (v138 : FVec F S64x128 .bf16) (v139 : FVec F S64x128 .bf16) (v140 : FVec F S64x128 .bf16) (f g : Vec F S3x1408x128 .bf16) (R : sProp 𝕄) :
    iprop((kM.view.loc ((c : Dev nD) : Thread nD τ) ↦{fullShare} f) ∗ (vM.view.loc ((c : Dev nD) : Thread nD τ) ↦{fullShare} g) ∗ R) ⊢ wpc c (k2_part11 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 v2 v17 v19 v125 v126 v127 v128 v129 v130 v131 v132 v133 v134 v135 v136 v137 v138 v139 v140) fun r =>
      iprop(⌜r = (have v175 : IVec S64x1408 32 := iota .tc S64x1408 32 [1] iota_S64x1408_d1_w32; let v176 : BitVec 32 := Scalar.addi 0#32 v2; let v177 : BitVec 32 := Scalar.muli 2#32 v176; let v178 : BitVec 1 := Scalar.cmpi .eq 3#32 0#32; let v179 : BitVec 32 := Scalar.select v178 1#32 3#32; let v180 : BitVec 32 := Scalar.remsi v177 v179; let v181 : BitVec 1 := Scalar.cmpi .ne v180 0#32; let v182 : BitVec 1 := Scalar.cmpi .slt v180 0#32; let v183 : BitVec 1 := Scalar.cmpi .slt v179 0#32; let v184 : BitVec 1 := Scalar.xori v182 v183; ⟨v175, v179, v180, v181, v184⟩)⌝ ∗ (kM.view.loc ((c : Dev nD) : Thread nD τ) ↦{fullShare} (setB 2 f (k2_pay73 v17 v125 v126 v127 v128 v129 v130 v131 v132 v133 v134 v135 v136 v137 v138 v139 v140))) ∗ (vM.view.loc ((c : Dev nD) : Thread nD τ) ↦{fullShare} (setB 2 g (k2_pay74 v19))) ∗ R) := by
  rw [k2_part11_eq_skeleton]
  unfold k2_part11_skel
  iintro ⟨Hk, Hv, HR⟩
  iapply (ldst (m := kM) (setB 2 f (k2_pay73 v17 v125 v126 v127 v128 v129 v130 v131 v132 v133 v134 v135 v136 v137 v138 v139 v140)) (k_setB 2 f (k2_pay73 v17 v125 v126 v127 v128 v129 v130 v131 v132 v133 v134 v135 v136 v137 v138 v139 v140) _)) $$ Hk
  iintro Hk
  iapply (ldst (m := vM) (setB 2 g (k2_pay74 v19)) (v_setB 2 g (k2_pay74 v19) _)) $$ Hv
  iintro Hv
  iapply ret
  isplitr; · ipureintro; rfl
  isplitl [Hk]; · iexact Hk
  isplitl [Hv]; · iexact Hv
  iexact HR

set_option maxHeartbeats 1000000 in
theorem part12_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c : Fin 8) (v2 : BitVec 32) (v15 : FVec F S256x128 .bf16) (v175 : IVec S64x1408 32) (v179 : BitVec 32) (v180 : BitVec 32) (v181 : BitVec 1) (v184 : BitVec 1) (f g : Vec F S3x1408x128 .bf16) (R : sProp 𝕄) :
    iprop((kM.view.loc ((c : Dev nD) : Thread nD τ) ↦{fullShare} f) ∗ (vM.view.loc ((c : Dev nD) : Thread nD τ) ↦{fullShare} g) ∗ R) ⊢ wpc c (k2_part12 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 v15 v175 v179 v180 v181 v184) fun r =>
      iprop(⌜r = (let v208 : BitVec 32 := Scalar.addi 1#32 v2; let v209 : BitVec 32 := Scalar.muli 2#32 v208; let v210 : BitVec 1 := Scalar.cmpi .eq 3#32 0#32; let v211 : BitVec 32 := Scalar.select v210 1#32 3#32; let v212 : BitVec 32 := Scalar.remsi v209 v211; let v213 : BitVec 1 := Scalar.cmpi .ne v212 0#32; let v214 : BitVec 1 := Scalar.cmpi .slt v212 0#32; let v215 : BitVec 1 := Scalar.cmpi .slt v211 0#32; let v216 : BitVec 1 := Scalar.xori v214 v215; let v217 : BitVec 1 := Scalar.andi v216 v213; let v218 : BitVec 32 := Scalar.addi v212 v211; let v219 : BitVec 32 := Scalar.select v217 v218 v212; ⟨k2_pay76 v15 v175 v179 v180 v181 v184 (rdC (cls c 0) f), k2_pay77 v15 v175 v179 v180 v181 v184 (rdC (cls c 0) f) (rdC (cls c 0) g), v219, k2_pay78 (rdC (cls c 1) f)⟩)⌝ ∗ (kM.view.loc ((c : Dev nD) : Thread nD τ) ↦{fullShare} f) ∗ (vM.view.loc ((c : Dev nD) : Thread nD τ) ↦{fullShare} g) ∗ R) := by
  rw [k2_part12_eq_skeleton]
  unfold k2_part12_skel
  iintro ⟨Hk, Hv, HR⟩
  iapply (ldr (m := kM) (rd_k (off1_0 c) _ f)) $$ Hk
  iintro Hk
  iapply (ldr (m := vM) (rd_v (off1_0 c) _ g)) $$ Hv
  iintro Hv
  iapply (ldr (m := kM) (rd_k (off1_1 c) _ f)) $$ Hk
  iintro Hk
  iapply ret
  isplitr; · ipureintro; rfl
  isplitl [Hk]; · iexact Hk
  isplitl [Hv]; · iexact Hv
  iexact HR

set_option maxHeartbeats 1000000 in
theorem part13_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c : Fin 8) (v2 : BitVec 32) (v15 : FVec F S256x128 .bf16) (v17 : FVec F S4096x128 .bf16) (v19 : FVec F S4096x128 .bf16) (v175 : IVec S64x1408 32) (v219 : BitVec 32) (v222 : FVec F S1408x128 .bf16) (f g : Vec F S3x1408x128 .bf16) (R : sProp 𝕄) :
    iprop((kM.view.loc ((c : Dev nD) : Thread nD τ) ↦{fullShare} f) ∗ (vM.view.loc ((c : Dev nD) : Thread nD τ) ↦{fullShare} g) ∗ R) ⊢ wpc c (k2_part13 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 v15 v17 v19 v175 v219 v222) fun r =>
      iprop(⌜r = (let v257 : BitVec 32 := Scalar.addi 2#32 v2; let v258 : BitVec 32 := Scalar.muli 2#32 v257; let v259 : BitVec 1 := Scalar.cmpi .eq 3#32 0#32; let v260 : BitVec 32 := Scalar.select v259 1#32 3#32; let v261 : BitVec 32 := Scalar.remsi v258 v260; let v262 : BitVec 1 := Scalar.cmpi .ne v261 0#32; let v263 : BitVec 1 := Scalar.cmpi .slt v261 0#32; ⟨k2_pay82 v2 v15 v17 v175 v219 v222, k2_pay83 v2 v15 v17 v19 v175 v219 v222 (rdC (cls c 1) g), v260, v261, v262, v263, 0#32⟩)⌝ ∗ (kM.view.loc ((c : Dev nD) : Thread nD τ) ↦{fullShare} f) ∗ (vM.view.loc ((c : Dev nD) : Thread nD τ) ↦{fullShare} g) ∗ R) := by
  rw [k2_part13_eq_skeleton]
  unfold k2_part13_skel
  iintro ⟨Hk, Hv, HR⟩
  iapply (ldr (m := vM) (rd_v (off1_1 c) _ g)) $$ Hv
  iintro Hv
  iapply ret
  isplitr; · ipureintro; rfl
  isplitl [Hk]; · iexact Hk
  isplitl [Hv]; · iexact Hv
  iexact HR

set_option maxHeartbeats 1000000 in
theorem part14_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c : Fin 8) (v2 : BitVec 32) (v15 : FVec F S256x128 .bf16) (v17 : FVec F S4096x128 .bf16) (v19 : FVec F S4096x128 .bf16) (v175 : IVec S64x1408 32) (v260 : BitVec 32) (v261 : BitVec 32) (v262 : BitVec 1) (v263 : BitVec 1) (c0_i32_75 : BitVec 32) (f g : Vec F S3x1408x128 .bf16) (R : sProp 𝕄) :
    iprop((kM.view.loc ((c : Dev nD) : Thread nD τ) ↦{fullShare} f) ∗ (vM.view.loc ((c : Dev nD) : Thread nD τ) ↦{fullShare} g) ∗ R) ⊢ wpc c (k2_part14 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 c v2 v15 v17 v19 v175 v260 v261 v262 v263 c0_i32_75) fun r =>
      iprop(⌜r = (let v306 : BitVec 32 := Scalar.addi 3#32 v2; ⟨k2_pay87 v2 v15 v17 v175 v260 v261 v262 v263 c0_i32_75 (rdC (cls c 2) f), k2_pay88 v2 v15 v17 v19 v175 v260 v261 v262 v263 c0_i32_75 (rdC (cls c 2) f) (rdC (cls c 2) g), v306, 2#32⟩)⌝ ∗ (kM.view.loc ((c : Dev nD) : Thread nD τ) ↦{fullShare} f) ∗ (vM.view.loc ((c : Dev nD) : Thread nD τ) ↦{fullShare} g) ∗ R) := by
  rw [k2_part14_eq_skeleton]
  unfold k2_part14_skel
  iintro ⟨Hk, Hv, HR⟩
  iapply (ldr (m := kM) (rd_k (off1_2 c) _ f)) $$ Hk
  iintro Hk
  iapply (ldr (m := vM) (rd_v (off1_2 c) _ g)) $$ Hv
  iintro Hv
  iapply ret
  isplitr; · ipureintro; rfl
  isplitl [Hk]; · iexact Hk
  isplitl [Hv]; · iexact Hv
  iexact HR

set_option maxHeartbeats 1000000 in
theorem part15_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c : Fin 8) (arg0 : BitVec 32) (v15 : FVec F S256x128 .bf16) (v175 : IVec S64x1408 32) (v206 : FVec F S64 .f32) (v207 : FVec F S64x128 .f32) (v254 : FVec F S64 .f32) (v256 : FVec F S64x128 .f32) (v303 : FVec F S64 .f32) (v305 : FVec F S64x128 .f32) (v306 : BitVec 32) (c2_i32_92 : BitVec 32) (f g : Vec F S3x1408x128 .bf16) (h : Fin 8) (hh : k2_off2 i = ![h.val, 0, 0]) (fo : Vec F S8x256x128 .bf16) (R : sProp 𝕄) :
    iprop((kM.view.loc ((c : Dev nD) : Thread nD τ) ↦{fullShare} f) ∗ (vM.view.loc ((c : Dev nD) : Thread nD τ) ↦{fullShare} g) ∗ (oM.view.loc ((c : Dev nD) : Thread nD τ) ↦{fullShare} fo) ∗ R) ⊢ wpc c (k2_part15 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 arg0 c v15 v175 v206 v207 v254 v256 v303 v305 v306 c2_i32_92) fun r =>
      iprop(⌜r = ⟨k2_pay90 v15 v175 v206 v254 v303 v306 c2_i32_92 (rdC (cls c 3) f), k2_pay92 arg0⟩⌝ ∗ (kM.view.loc ((c : Dev nD) : Thread nD τ) ↦{fullShare} f) ∗ (vM.view.loc ((c : Dev nD) : Thread nD τ) ↦{fullShare} g) ∗ (oM.view.loc ((c : Dev nD) : Thread nD τ) ↦{fullShare} setO h fo (k2_pay91 v15 v175 v207 v256 v305 v306 c2_i32_92 (rdC (cls c 3) f) (rdC (cls c 3) g))) ∗ R) := by
  rw [k2_part15_eq_skeleton]
  unfold k2_part15_skel
  iintro ⟨Hk, Hv, Ho, HR⟩
  iapply (ldr (m := kM) (rd_k (off1_3 c) _ f)) $$ Hk
  iintro Hk
  iapply (ldr (m := vM) (rd_v (off1_3 c) _ g)) $$ Hv
  iintro Hv
  iapply (ldst (m := oM) (setO h fo (k2_pay91 v15 v175 v207 v256 v305 v306 c2_i32_92 (rdC (cls c 3) f) (rdC (cls c 3) g))) (o_setO h fo (k2_pay91 v15 v175 v207 v256 v305 v306 c2_i32_92 (rdC (cls c 3) f) (rdC (cls c 3) g)) hh _)) $$ Ho
  iintro Ho
  iapply ret
  isplitr; · ipureintro; rfl
  isplitl [Hk]; · iexact Hk
  isplitl [Hv]; · iexact Hv
  isplitl [Ho]; · iexact Ho
  iexact HR

end Cert.KernelIdeal.Talk

end
-- ==== Proof.Front.lean ====
/- How the main call starts on a device: the barrier at the first head, what is loaded, the padding. -/
module

public import proofs.«01_k».proof.Proof.Head

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (ag : Vec F S8x32x1024 .bf16)

/-! ## The barrier -/

/-- What is known before the barrier. -/
def known₀ (K : GSem nD τ sig → ℕ) (c : Fin 8) : sProp 𝕄 := iprop(invs lo ll ag K ∗ ownUp c ∗ levAts L lv)
instance known₀_persistent (K : GSem nD τ sig → ℕ) (c : Fin 8) : BI.Persistent (known₀ lo ll ag K c) := by unfold known₀; infer_instance

/-- One signal to the barrier of device p. -/
theorem sig_block (K : GSem nD τ sig → ℕ) (c p : Fin 8) {dst : Dev nD} (hd : dst = (p : Dev nD)) {O : CellTallies nD τ sig Unit} {α : Type} {J : PR F α} {Q : α → sProp 𝕄} :
    iprop(known₀ lo ll ag K c ∗ (dutyTok ER (barCell p) 0 c ∗ barPay p c ∗ reached ER (barCell p) 0) ∗ owing c (O + TB p)) ⊢
      iprop((owing c O -∗ wpc c J Q) -∗ wpc c (semSignalWord dst barS 1#32 >>= fun _ => J) Q) := by
  rw [hd]
  unfold known₀ owing
  iintro ⟨⟨#HI, -, -⟩, ⟨Ht, Hp, Hr⟩, ⟨%W, HO⟩⟩ Hk
  ihave #Hi := (invs_bar lo ll ag K p) $$ HI
  iapply (Rounds.wp_signal 𝒱₀ ER (Rd lo ll ag) ((c : Dev nD) : Thread nD τ) none (dst := ((p : Dev nD) : Thread nD τ)) (sem := barS) (r := 0) (d := c) (k' := 1) (κ := K (barCell p))
    (by rw [duties_bar]; exact Finset.mem_univ _) (amount_bar lo ll ag p c) () O rfl (W := W)) $$ [HO Ht Hp Hr]
  · isplitr; · iexact Hi
    isplitl [HO]; · iexact HO
    isplitl [Ht]; · iexact Ht
    isplitl [Hp]; · rw [payload_bar]; iexact Hp
    iexact Hr
  iintro HO
  iapply Hk
  iexists W; iexact HO

/-- What the signals take. -/
def sigIn (c p : Fin 8) : sProp 𝕄 := iprop(dutyTok ER (barCell p) 0 c ∗ barPay p c ∗ reached ER (barCell p) 0)
/-- The barrier's own cell, waited on. -/
def barAt (c : Fin 8) : sProp 𝕄 := iprop(cred (tallyAt (barCell c) () 8) ∗ atPos ER (barCell c) 0 ∅ 0)

theorem bar_out (c : Fin 8) : (bigSep Finset.univ fun s : Fin 8 => barPay (F := F) c s) ⊢ iprop(peerIn c ∗ peersUp c) := by
  have e : (bigSep Finset.univ fun s : Fin 8 => barPay (F := F) c s) = iprop(fo c (fun p => iprop(∃ f, roPts p c f)) ∗ fo c (fun p => iprop(∃ f, rlPts p c f)) ∗ fo c (fun p => iprop(∃ f, gPts p c f)) ∗ peersUp c) := by
    unfold peersUp
    simp only [← fo_sep]
    refine bigSep_congr fun p _ => ?_
    unfold barPay
    by_cases h : p = c
    · rw [if_pos h]
    · rw [if_neg h]
  rw [e]; unfold peerIn
  iintro ⟨H1, H2, H3, #H4⟩
  isplitl
  · isplitl [H1]; · iexact H1
    isplitl [H2]; · iexact H2
    iexact H3
  iexact H4

theorem bar_wait (K : GSem nD τ sig → ℕ) (c : Fin 8) {α : Type} {J : PR F α} {Q : α → sProp 𝕄} :
    iprop(known₀ lo ll ag K c ∗ barAt c ∗ owing c (O₁ c)) ⊢
      iprop((iprop(known lo ll ag K c ∗ peerIn c ∗ semVal (barCell c) 0 ∗ owing c (O₁ c)) -∗ wpc c J Q) -∗ wpc c (semWaitWord barS 8#32 >>= fun _ => J) Q) := by
  unfold known₀ owing barAt
  iintro ⟨⟨#HI, #Hu, #HL⟩, ⟨Hc, Hat⟩, ⟨%W, HO⟩⟩ Hk
  ihave #Hi := (invs_bar lo ll ag K c) $$ HI
  iapply (Rounds.wp_wait_rest_token 𝒱₀ ER (Rd lo ll ag) ((c : Dev nD) : Thread nD τ) none (κ := K (barCell c)) (sm := .reg barS) (k' := 8)
    (fun K' => wpE_semWait_eq 𝒱₀ ((c : Dev nD) : Thread nD τ) none Set.univ K') (Set.mem_univ _) () (O := O₁ c) (W := W) (R := 0) (m := 0) (T := ∅)
      ((Nat.zero_add _).trans (expect_bar lo ll ag c).symm)) $$ [Hc Hat HO]
  · isplitr; · iexact Hi
    isplitl [Hc]; · iexact Hc
    isplitl [HO]; · iexact HO
    isplitr
    · iapply (mayWait c (.reg barS) 1 (by decide) (O₁ c) (above_O₁ (by decide) c)) $$ HL
    iexact Hat
  rw [rest_bar]
  iintro ⟨HO, Hat, -, Hpay⟩
  imod (cell_close ER (Rd lo ll ag) (κ := K (barCell c)) (Set.mem_univ _) (hu := id) (R := 1) (duties_later lo ll ag (barCell c))) $$ [Hat] with Hz
  · isplitr; · iexact Hi
    iexact Hat
  iapply Hk
  ihave Hb := (bar_out c) $$ Hpay
  icases Hb with ⟨Hp, #Hup⟩
  isplitr
  · unfold known
    isplitr; · iexact HI
    isplitr; · iexact Hu
    isplitr; · iexact Hup
    iexact HL
  isplitl [Hp]; · iexact Hp
  isplitl [Hz]; · iexact Hz
  iexists (insert (SemLoc.reg barS, ()) W)
  iexact HO

/-- One signal of the eight. -/
theorem sig_step (K : GSem nD τ sig → ℕ) (c k : Fin 8) {dst : Dev nD} (hd : dst = (k : Dev nD)) {R : sProp 𝕄} {α : Type} {J : PR F α} {Q : α → sProp 𝕄}
    (hJ : iprop(known₀ lo ll ag K c ∗ fam (sigIn c) (fun _ => iprop(emp)) (k.val + 1) ∗ owing c (O₁ c + sumFrom TB (k.val + 1)) ∗ R) ⊢ wpc c J Q) :
    iprop(known₀ lo ll ag K c ∗ fam (sigIn c) (fun _ => iprop(emp)) k.val ∗ owing c (O₁ c + sumFrom TB k.val) ∗ R) ⊢ wpc c (semSignalWord dst barS 1#32 >>= fun _ => J) Q := by
  rw [fam_put] at hJ
  rw [fam_take, sumFrom_peel TB k.val k.isLt, ← add_assoc]
  iintro ⟨#HK, ⟨HA, HF⟩, HO, HR⟩
  iapply (sig_block lo ll ag K c k hd) $$ [HA HO]
  · isplitr; · iexact HK
    isplitl [HA]
    · unfold sigIn; iexact HA
    iexact HO
  iintro HO
  iapply hJ
  isplitr; · iexact HK
  isplitl [HF]
  · isplitr
    · iempintro
    iexact HF
  isplitl [HO]; · iexact HO
  iexact HR

set_option maxHeartbeats 1000000 in
theorem part1_run (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (hh : k2_cond1 i = 1#1) (R : sProp 𝕄) :
    iprop(known₀ lo ll ag K c ∗ fam (sigIn c) (fun _ => iprop(emp)) (0 : Fin 8).val ∗ owing c (O₁ c + sumFrom TB (0 : Fin 8).val) ∗ (barAt c ∗ R)) ⊢ wpc c (k2_part1 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12 hh) fun _ =>
      iprop(known lo ll ag K c ∗ peerIn c ∗ semVal (barCell c) 0 ∗ owing c (O₁ c) ∗ R) := by
  rw [k2_part1_eq_skeleton]
  unfold k2_part1_skel
  refine sig_step lo ll ag K c 0 (Fin.ext k2_dev1_eq) ?_
  refine sig_step lo ll ag K c 1 (Fin.ext k2_dev2_eq) ?_
  refine sig_step lo ll ag K c 2 (Fin.ext k2_dev3_eq) ?_
  refine sig_step lo ll ag K c 3 (Fin.ext k2_dev4_eq) ?_
  refine sig_step lo ll ag K c 4 (Fin.ext k2_dev5_eq) ?_
  refine sig_step lo ll ag K c 5 (Fin.ext k2_dev6_eq) ?_
  refine sig_step lo ll ag K c 6 (Fin.ext k2_dev7_eq) ?_
  refine sig_step lo ll ag K c 7 (Fin.ext k2_dev8_eq) ?_
  rw [show ((7 : Fin 8).val + 1) = 8 from rfl, sumFrom_end, add_zero]
  iintro ⟨#HK, -, HO, ⟨Hb, HR⟩⟩
  iapply (bar_wait lo ll ag K c) $$ [Hb HO]
  · isplitr; · iexact HK
    isplitl [Hb]; · iexact Hb
    iexact HO
  iintro ⟨HK', Hp, Hz, HO⟩
  iapply ret
  isplitl [HK']; · iexact HK'
  isplitl [Hp]; · iexact Hp
  isplitl [Hz]; · iexact Hz
  isplitl [HO]; · iexact HO
  iexact HR

theorem ex_ro (c p : Fin 8) (f : Vec F S8x8x32x128 .bf16) : (roPts c p f : sProp 𝕄) ⊢ iprop(∃ f, roPts c p f) := by
  iintro H; iexists f; iexact H
theorem mono_ro (c : Fin 8) (f : Vec F S8x8x32x128 .bf16) : (bigSep Finset.univ fun p => roPts c p f : sProp 𝕄) ⊢ bigSep Finset.univ fun p => iprop(∃ f, roPts c p f) :=
  bigSep_mono fun p _ => ex_ro c p f
theorem ex_rl (c p : Fin 8) (f : Vec F S8x32x8 .f32) : (rlPts c p f : sProp 𝕄) ⊢ iprop(∃ f, rlPts c p f) := by
  iintro H; iexists f; iexact H
theorem mono_rl (c : Fin 8) (f : Vec F S8x32x8 .f32) : (bigSep Finset.univ fun p => rlPts c p f : sProp 𝕄) ⊢ bigSep Finset.univ fun p => iprop(∃ f, rlPts c p f) :=
  bigSep_mono fun p _ => ex_rl c p f
theorem ex_g (c p : Fin 8) (f : Vec F S8x32x1024 .bf16) : (gPts c p f : sProp 𝕄) ⊢ iprop(∃ f, gPts c p f) := by
  iintro H; iexists f; iexact H
theorem mono_g (c : Fin 8) (f : Vec F S8x32x1024 .bf16) : (bigSep Finset.univ fun p => gPts c p f : sProp 𝕄) ⊢ bigSep Finset.univ fun p => iprop(∃ f, gPts c p f) :=
  bigSep_mono fun p _ => ex_g c p f
/-- The slots handed to the peers, from whole buffers. -/
theorem bar_pay (c : Fin 8) : iprop(ownUp c ∗ (∃ f, roM.view.loc ((c : Dev nD) : Thread nD τ) ↦{fullShare} f) ∗ (∃ f, rlM.view.loc ((c : Dev nD) : Thread nD τ) ↦{fullShare} f) ∗ (∃ f, gM.view.loc ((c : Dev nD) : Thread nD τ) ↦{fullShare} f)) ⊢
    iprop((∃ f, roPts c c f) ∗ (∃ f, rlPts c c f) ∗ (∃ f, gPts c c f) ∗ bigSep Finset.univ fun p : Fin 8 => barPay (F := F) p c) := by
  have e : (bigSep Finset.univ fun p : Fin 8 => barPay (F := F) p c) = iprop(fo c (fun p => iprop(∃ f, roPts c p f)) ∗ fo c (fun p => iprop(∃ f, rlPts c p f)) ∗ fo c (fun p => iprop(∃ f, gPts c p f))
      ∗ fo c (fun p => iprop(reached ER (dcell 2 c p) 0 ∗ reached ER (dcell 3 c p) 0 ∗ reached ER (dcell 5 c p) 0))) := by
    simp only [← fo_sep]
    refine bigSep_congr fun p _ => ?_
    unfold barPay
    by_cases h : p = c
    · rw [if_pos h, if_pos h.symm]
    · rw [if_neg h, if_neg (Ne.symm h)]
  have hup : (ownUp c : sProp 𝕄) ⊢ fo c (fun p => iprop(reached ER (dcell 2 c p) 0 ∗ reached ER (dcell 3 c p) 0 ∗ reached ER (dcell 5 c p) 0)) := by
    refine bigSep_intro_persistent fun p _ => ?_
    by_cases h : p = c
    · rw [if_pos h]
      iintro -
      iempintro
    · rw [if_neg h]
      iintro #H
      isplitr; · iapply (ownUp_at c 2 p) $$ H
      isplitr; · iapply (ownUp_at c 3 p) $$ H
      iapply (ownUp_at c 5 p) $$ H
  have ho : iprop(∃ f, roM.view.loc ((c : Dev nD) : Thread nD τ) ↦{fullShare} f) ⊢ (iprop((∃ f, roPts c c f) ∗ fo c (fun p => iprop(∃ f, roPts c p f))) : sProp 𝕄) := by
    rw [← others c (fun p => iprop(∃ f, roPts c p f))]
    iintro ⟨%f, H⟩
    ihave H := (Entails.of_eq (cut_ro c f)) $$ H
    iapply (mono_ro c f) $$ H
  have hl : iprop(∃ f, rlM.view.loc ((c : Dev nD) : Thread nD τ) ↦{fullShare} f) ⊢ (iprop((∃ f, rlPts c c f) ∗ fo c (fun p => iprop(∃ f, rlPts c p f))) : sProp 𝕄) := by
    rw [← others c (fun p => iprop(∃ f, rlPts c p f))]
    iintro ⟨%f, H⟩
    ihave H := (Entails.of_eq (cut_rl c f)) $$ H
    iapply (mono_rl c f) $$ H
  have hg : iprop(∃ f, gM.view.loc ((c : Dev nD) : Thread nD τ) ↦{fullShare} f) ⊢ (iprop((∃ f, gPts c c f) ∗ fo c (fun p => iprop(∃ f, gPts c p f))) : sProp 𝕄) := by
    rw [← others c (fun p => iprop(∃ f, gPts c p f))]
    iintro ⟨%f, H⟩
    ihave H := (Entails.of_eq (cut_g c f)) $$ H
    iapply (mono_g c f) $$ H
  rw [e]
  iintro ⟨#Hu, H1, H2, H3⟩
  ihave H1 := ho $$ H1
  ihave H2 := hl $$ H2
  ihave H3 := hg $$ H3
  ihave H4 := hup $$ Hu
  icases H1 with ⟨A1, B1⟩
  icases H2 with ⟨A2, B2⟩
  icases H3 with ⟨A3, B3⟩
  isplitl [A1]; · iexact A1
  isplitl [A2]; · iexact A2
  isplitl [A3]; · iexact A3
  isplitl [B1]; · iexact B1
  isplitl [B2]; · iexact B2
  isplitl [B3]; · iexact B3
  iexact H4

end Cert.KernelIdeal.Talk

end
-- ==== Proof.Start.lean ====
/- The start of a head: what is loaded, the padding, and at the first head the barrier. -/
module

public import proofs.«01_k».proof.Proof.Front

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (ag : Vec F S8x32x1024 .bf16)

/-! ## Loads and padding -/

/-- Zero block rows after the 21 blocks of classes 1 and 2. -/
def zp : Vec F S3x1408x128 .bf16 := fun _ => Scalar.ofBits .bf16 0x0000#16
def Padded (f : Vec F S3x1408x128 .bf16) : Prop := ∀ j : S3x1408x128.Idx, (j 0).val ≠ 0 → 1344 ≤ (j 1).val → f j = zp j

theorem pad_set (f : Vec F S3x1408x128 .bf16) {p p' : Vec F S1x64x128 .bf16} (hp : ∀ j, p j = Scalar.ofBits .bf16 0x0000#16) (hp' : ∀ j, p' j = Scalar.ofBits .bf16 0x0000#16) :
    Padded (setZ 2 (setZ 1 f p) p') := fun j h0 h1 => by
  unfold setZ zp
  have hj : (j 0).val < 3 := (j 0).isLt
  by_cases h2 : (j 0).val = 2
  · rw [dif_pos ⟨h2, h1⟩, hp']
  · have e1 : (j 0).val = 1 := by omega
    rw [dif_neg (fun h => h2 h.1), dif_pos ⟨e1, h1⟩, hp]

theorem cond_first : ∀ h : Fin 8, (Scalar.cmpi .ne ((Scalar.extui (Scalar.cmpi .eq (BitVec.ofNat 32 h.val) 0#32) : BitVec 32)) 0#32 = 1#1) ↔ h = 0 := by decide
theorem cond_last : ∀ h : Fin 8, (h = 7) ↔ (Scalar.cmpi .ne ((Scalar.extui (Scalar.cmpi .eq (BitVec.ofNat 32 h.val) 7#32) : BitVec 32)) 0#32 = 1#1) := by decide
theorem cond1_iff {i : grid2.Coords} {h : Fin 8} (hi : (i 0).val = h.val) : k2_cond1 i = 1#1 ↔ h = 0 := by
  rw [← cond_first h, ← hi]; rfl
theorem cond3_iff {i : grid2.Coords} {h : Fin 8} (hi : (i 0).val = h.val) : k2_cond3 i = 1#1 ↔ h = 7 := by
  rw [show (h = 7) ↔ (Scalar.cmpi .ne ((Scalar.extui (Scalar.cmpi .eq (BitVec.ofNat 32 h.val) 7#32) : BitVec 32)) 0#32 = 1#1) from cond_last h, ← hi]; rfl

def ins (c : Fin 8) (arg1 : Memref sig .tc .vmem S1x256x1024 .f32) (arg2 : Memref sig .tc .vmem S1024x128 .f32) (arg3 arg4 : Memref sig .tc .vmem S1x4096x128 .bf16)
    (x : Vec F S1x256x1024 .f32) (wq : Vec F S1024x128 .f32) (kb vb : Vec F S1x4096x128 .bf16) : sProp 𝕄 :=
  iprop(owns ((c : Dev nD) : Thread nD τ) arg1 fullShare x ∗ owns ((c : Dev nD) : Thread nD τ) arg2 fullShare wq
    ∗ owns ((c : Dev nD) : Thread nD τ) arg3 fullShare kb ∗ owns ((c : Dev nD) : Thread nD τ) arg4 fullShare vb)

/-- The loads and the padding at the start of a head. -/
theorem head_loads {i : grid2.Coords} {h : Fin 8} (hi : (i 0).val = h.val) {arg1 : Memref sig .tc .vmem S1x256x1024 .f32} {arg2 : Memref sig .tc .vmem S1024x128 .f32} {arg3 arg4 : Memref sig .tc .vmem S1x4096x128 .bf16}
    (c : Fin 8) (x : Vec F S1x256x1024 .f32) (wq : Vec F S1024x128 .f32) (kb vb : Vec F S1x4096x128 .bf16) (R : sProp 𝕄)
    {a1 a2 a3 a4} {α : Type} {J : Vec F S1x256x1024 .f32 → Vec F S1024x128 .f32 → Vec F S1x4096x128 .bf16 → Vec F S1x4096x128 .bf16 → PR F α} {Q : α → sProp 𝕄}
    (hJ : iprop(ins c arg1 arg2 arg3 arg4 x wq kb vb ∗ R) ⊢ wpc c (J x wq kb vb) Q) :
    iprop(ins c arg1 arg2 arg3 arg4 x wq kb vb ∗ R) ⊢ wpc c (do
      let v6 : Vec F S1x256x1024 .f32 ← Prog.lift (.load arg1 (Rect.unit (s := S1x256x1024) ![0, 0, 0] S1x256x1024.size inb_S1x256x1024_S1x256x1024_0_0_0).toLoadRect a1)
      let v9 : Vec F S1024x128 .f32 ← Prog.lift (.load arg2 (Rect.unit (s := S1024x128) ![0, 0] S1024x128.size inb_S1024x128_S1024x128_0_0).toLoadRect a2)
      let v16 : Vec F S1x4096x128 .bf16 ← Prog.lift (.load arg3 (Rect.unit (s := S1x4096x128) ![0, 0, 0] S1x4096x128.size inb_S1x4096x128_S1x4096x128_0_0_0).toLoadRect a3)
      let v18 : Vec F S1x4096x128 .bf16 ← Prog.lift (.load arg4 (Rect.unit (s := S1x4096x128) ![0, 0, 0] S1x4096x128.size inb_S1x4096x128_S1x4096x128_0_0_0).toLoadRect a4)
      J v6 v9 v16 v18) Q := by
  unfold ins at hJ ⊢
  iintro ⟨⟨H1, H2, H3, H4⟩, HR⟩
  iapply (ld_owns (m := arg1) (by decide)) $$ H1
  iintro H1
  iapply (ld_owns (m := arg2) (by decide)) $$ H2
  iintro H2
  iapply (ld_owns (m := arg3) (by decide)) $$ H3
  iintro H3
  iapply (ld_owns (m := arg4) (by decide)) $$ H4
  iintro H4
  iapply hJ
  isplitr [HR]
  · isplitl [H1]; · iexact H1
    isplitl [H2]; · iexact H2
    isplitl [H3]; · iexact H3
    iexact H4
  iexact HR

def kvAt (c : Fin 8) (f g : Vec F S3x1408x128 .bf16) : sProp 𝕄 := iprop((kM.view.loc ((c : Dev nD) : Thread nD τ) ↦{fullShare} f) ∗ (vM.view.loc ((c : Dev nD) : Thread nD τ) ↦{fullShare} g))
def kvPad (c : Fin 8) : sProp 𝕄 := iprop(∃ f g, ⌜Padded f ∧ Padded g⌝ ∗ kvAt c f g)

theorem perm6 (A B C D I X R : sProp 𝕄) : iprop(A ∗ B ∗ C ∗ D ∗ (I ∗ X ∗ R)) ⊢ iprop(I ∗ (A ∗ B ∗ C ∗ D ∗ X ∗ R)) := by
  iintro ⟨HA, HB, HC, HD, ⟨HI, HX, HR⟩⟩
  isplitl [HI]; · iexact HI
  isplitl [HA]; · iexact HA
  isplitl [HB]; · iexact HB
  isplitl [HC]; · iexact HC
  isplitl [HD]; · iexact HD
  isplitl [HX]; · iexact HX
  iexact HR
theorem dev_start {c : Fin 8} {α : Type} {J : Dev nD → PR F α} {Q : α → sProp 𝕄} : (wpc c (Prog.lift .deviceId >>= J) Q) = wpc c (J c) Q := by
  unfold wpc
  simp only [Prog.lift, Prog.bind_op, Prog.bind_ret, wp_deviceId]

set_option maxHeartbeats 2000000 in
/-- The first head: the barrier, then the loads and the padding. -/
theorem part8_first (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c : Fin 8) (hi : (i 0).val = (0 : Fin 8).val)
    (x : Vec F S1x256x1024 .f32) (wq : Vec F S1024x128 .f32) (kb vb : Vec F S1x4096x128 .bf16) (R : sProp 𝕄) :
    iprop(known₀ lo ll ag K c ∗ fam (sigIn c) (fun _ => iprop(emp)) (0 : Fin 8).val ∗ owing c (O₁ c + sumFrom TB (0 : Fin 8).val) ∗ (barAt c ∗ (ins c arg1 arg2 arg3 arg4 x wq kb vb ∗ (∃ f g, kvAt c f g) ∗ R)))
      ⊢ wpc c (k2_part8 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun r =>
      iprop(⌜r = ⟨BitVec.ofNat 32 (i 0).val, c, myWord c, k2_pay17 x wq, k2_pay18 kb, k2_pay19 vb, k2_pay25 kb, k2_pay26 kb, k2_pay27 kb, k2_pay28 kb, k2_pay29 kb, k2_pay30 kb, k2_pay31 kb, k2_pay32 kb, k2_pay33 kb, k2_pay34 kb, k2_pay35 kb, k2_pay36 kb, k2_pay37 kb, k2_pay38 kb⟩⌝ ∗ ins c arg1 arg2 arg3 arg4 x wq kb vb ∗ kvPad c ∗ (known lo ll ag K c ∗ peerIn c ∗ semVal (barCell c) 0 ∗ owing c (O₁ c) ∗ R)) := by
  rw [k2_part8_eq_skeleton]
  unfold k2_part8_skel
  rw [dev_start]
  dsimp only
  rw [dif_pos ((cond1_iff hi).mpr rfl)]
  refine ht_seq (part1_run lo ll ag i arg1 h1 arg2 h2 arg3 h3 arg4 h4 h5 h6 h7 h8 h9 h10 h11 h12 h13 K c ((cond1_iff hi).mpr rfl) _) fun _ => ?_
  refine (perm6 _ _ _ _ _ _ _).trans (head_loads hi c x wq kb vb _ ?_)
  rw [dif_pos (by rw [hi]; exact (cond_first 0).mpr rfl)]
  unfold kvAt
  iintro ⟨Hi, ⟨HA, HB, HC, HD, ⟨%f, %g, Hk, Hv⟩, HR⟩⟩
  iapply (ldst (m := kM) (setZ 1 f k2_pay21) (k_setZ 1 f k2_pay21 _)) $$ Hk
  iintro Hk
  iapply (ldst (m := vM) (setZ 1 g k2_pay22) (v_setZ 1 g k2_pay22 _)) $$ Hv
  iintro Hv
  iapply (ldst (m := kM) (setZ 2 (setZ 1 f k2_pay21) k2_pay23) (k_setZ 2 (setZ 1 f k2_pay21) k2_pay23 _)) $$ Hk
  iintro Hk
  iapply (ldst (m := vM) (setZ 2 (setZ 1 g k2_pay22) k2_pay24) (v_setZ 2 (setZ 1 g k2_pay22) k2_pay24 _)) $$ Hv
  iintro Hv
  iapply ret
  isplitr; · ipureintro; rfl
  isplitl [Hi]; · iexact Hi
  isplitl [Hk Hv]
  · unfold kvPad
    iexists (setZ 2 (setZ 1 f k2_pay21) k2_pay23)
    iexists (setZ 2 (setZ 1 g k2_pay22) k2_pay24)
    isplitr
    · ipureintro
      exact ⟨pad_set f (fun _ => rfl) (fun _ => rfl), pad_set g (fun _ => rfl) (fun _ => rfl)⟩
    unfold kvAt
    isplitl [Hk]; · iexact Hk
    iexact Hv
  isplitl [HA]; · iexact HA
  isplitl [HB]; · iexact HB
  isplitl [HC]; · iexact HC
  isplitl [HD]; · iexact HD
  iexact HR

set_option maxHeartbeats 1000000 in
/-- A later head: only the loads. -/
theorem part8_next (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c h : Fin 8) (h0 : h ≠ 0) (hi : (i 0).val = h.val)
    (x : Vec F S1x256x1024 .f32) (wq : Vec F S1024x128 .f32) (kb vb : Vec F S1x4096x128 .bf16) (R : sProp 𝕄) :
    iprop(ins c arg1 arg2 arg3 arg4 x wq kb vb ∗ R)
      ⊢ wpc c (k2_part8 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun r => iprop(⌜r = ⟨BitVec.ofNat 32 (i 0).val, c, myWord c, k2_pay17 x wq, k2_pay18 kb, k2_pay19 vb, k2_pay25 kb, k2_pay26 kb, k2_pay27 kb, k2_pay28 kb, k2_pay29 kb, k2_pay30 kb, k2_pay31 kb, k2_pay32 kb, k2_pay33 kb, k2_pay34 kb, k2_pay35 kb, k2_pay36 kb, k2_pay37 kb, k2_pay38 kb⟩⌝ ∗ ins c arg1 arg2 arg3 arg4 x wq kb vb ∗ R) := by
  rw [k2_part8_eq_skeleton]
  unfold k2_part8_skel
  rw [dev_start]
  dsimp only
  rw [dif_neg (fun h => h0 ((cond1_iff hi).mp h))]
  refine head_loads hi c x wq kb vb _ ?_
  rw [dif_neg (by rw [hi]; exact fun h => h0 ((cond_first _).mp h))]
  iintro ⟨Hi, HR⟩
  iapply ret
  isplitr; · ipureintro; rfl
  isplitl [Hi]; · iexact Hi
  iexact HR

end Cert.KernelIdeal.Talk

end
-- ==== Proof.Vals.lean ====
/- What a head computes from its blocks. -/
module

public import proofs.«01_k».proof.Proof.Start

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

/-- The key classes of a head, over what the buffer held. -/
def kcF (k : Vec F S1x4096x128 .bf16) (f : Vec F S3x1408x128 .bf16) : Vec F S3x1408x128 .bf16 :=
  let kk := k2_pay18 k
  setB 2 (setB 1 (setA 0 f (k2_pay39 kk (k2_pay25 k) (k2_pay26 k) (k2_pay27 k) (k2_pay28 k) (k2_pay29 k) (k2_pay30 k) (k2_pay31 k) (k2_pay32 k) (k2_pay33 k) (k2_pay34 k) (k2_pay35 k) (k2_pay36 k) (k2_pay37 k) (k2_pay38 k)))
    (k2_pay55 kk (k2_pay41 kk) (k2_pay42 kk) (k2_pay43 kk) (k2_pay44 kk) (k2_pay45 kk) (k2_pay46 kk) (k2_pay47 kk) (k2_pay48 kk) (k2_pay49 kk) (k2_pay50 kk) (k2_pay51 kk) (k2_pay52 kk) (k2_pay53 kk) (k2_pay54 kk)))
    (k2_pay73 kk (k2_pay57 kk) (k2_pay58 kk) (k2_pay59 kk) (k2_pay60 kk) (k2_pay61 kk) (k2_pay62 kk) (k2_pay63 kk) (k2_pay64 kk) (k2_pay65 kk) (k2_pay66 kk) (k2_pay67 kk) (k2_pay68 kk) (k2_pay69 kk) (k2_pay70 kk) (k2_pay71 kk) (k2_pay72 kk))
/-- The value classes of a head. -/
def vcF (v : Vec F S1x4096x128 .bf16) (g : Vec F S3x1408x128 .bf16) : Vec F S3x1408x128 .bf16 :=
  let vv := k2_pay19 v
  setB 2 (setB 1 (setA 0 g (k2_pay40 vv)) (k2_pay56 vv)) (k2_pay74 vv)
/-- A head's outputs and denominators, from its queries, keys, values and the class buffers. -/
def headV (c : Fin 8) (v15 : FVec F S256x128 .bf16) (v17 v19 : FVec F S4096x128 .bf16) (f g : Vec F S3x1408x128 .bf16) : FVec F S1x256x128 .bf16 × FVec F S256 .f32 :=
  let v2 := myWord c
  let v175 : IVec S64x1408 32 := iota .tc S64x1408 32 [1] iota_S64x1408_d1_w32
  let v176 : BitVec 32 := Scalar.addi 0#32 v2
  let v177 : BitVec 32 := Scalar.muli 2#32 v176
  let v178 : BitVec 1 := Scalar.cmpi .eq 3#32 0#32
  let v179 : BitVec 32 := Scalar.select v178 1#32 3#32
  let v180 : BitVec 32 := Scalar.remsi v177 v179
  let v181 : BitVec 1 := Scalar.cmpi .ne v180 0#32
  let v182 : BitVec 1 := Scalar.cmpi .slt v180 0#32
  let v183 : BitVec 1 := Scalar.cmpi .slt v179 0#32
  let v184 : BitVec 1 := Scalar.xori v182 v183
  let v208 : BitVec 32 := Scalar.addi 1#32 v2
  let v209 : BitVec 32 := Scalar.muli 2#32 v208
  let v210 : BitVec 1 := Scalar.cmpi .eq 3#32 0#32
  let v211 : BitVec 32 := Scalar.select v210 1#32 3#32
  let v212 : BitVec 32 := Scalar.remsi v209 v211
  let v213 : BitVec 1 := Scalar.cmpi .ne v212 0#32
  let v214 : BitVec 1 := Scalar.cmpi .slt v212 0#32
  let v215 : BitVec 1 := Scalar.cmpi .slt v211 0#32
  let v216 : BitVec 1 := Scalar.xori v214 v215
  let v217 : BitVec 1 := Scalar.andi v216 v213
  let v218 : BitVec 32 := Scalar.addi v212 v211
  let v219 : BitVec 32 := Scalar.select v217 v218 v212
  let v189 : Vec F S1x1408x128 .bf16 := rdC (cls c 0) f
  let v192 : Vec F S1x1408x128 .bf16 := rdC (cls c 0) g
  let v221 : Vec F S1x1408x128 .bf16 := rdC (cls c 1) f
  let v206 := k2_pay76 v15 v175 v179 v180 v181 v184 v189
  let v207 := k2_pay77 v15 v175 v179 v180 v181 v184 v189 v192
  let v222 := k2_pay78 v221
  let v257 : BitVec 32 := Scalar.addi 2#32 v2
  let v258 : BitVec 32 := Scalar.muli 2#32 v257
  let v259 : BitVec 1 := Scalar.cmpi .eq 3#32 0#32
  let v260 : BitVec 32 := Scalar.select v259 1#32 3#32
  let v261 : BitVec 32 := Scalar.remsi v258 v260
  let v262 : BitVec 1 := Scalar.cmpi .ne v261 0#32
  let v263 : BitVec 1 := Scalar.cmpi .slt v261 0#32
  let v224 : Vec F S1x1408x128 .bf16 := rdC (cls c 1) g
  let v254 := k2_pay82 v2 v15 v17 v175 v219 v222
  let v256 := k2_pay83 v2 v15 v17 v19 v175 v219 v222 v224
  let c0_i32_75 := 0#32
  let v306 : BitVec 32 := Scalar.addi 3#32 v2
  let v270 : Vec F S1x1408x128 .bf16 := rdC (cls c 2) f
  let v273 : Vec F S1x1408x128 .bf16 := rdC (cls c 2) g
  let v303 := k2_pay87 v2 v15 v17 v175 v260 v261 v262 v263 c0_i32_75 v270
  let v305 := k2_pay88 v2 v15 v17 v19 v175 v260 v261 v262 v263 c0_i32_75 v270 v273
  let c2_i32_92 := 2#32
  let v319 : Vec F S1x1408x128 .bf16 := rdC (cls c 3) f
  let v322 : Vec F S1x1408x128 .bf16 := rdC (cls c 3) g
  (k2_pay91 v15 v175 v207 v256 v305 v306 c2_i32_92 v319 v322, k2_pay90 v15 v175 v206 v254 v303 v306 c2_i32_92 v319)

theorem set_pad (f : Vec F S3x1408x128 .bf16) (hf : Padded f) (p0 : Vec F S1x1408x128 .bf16) (p1 p2 : Vec F S1x1344x128 .bf16) :
    setB 2 (setB 1 (setA 0 f p0) p1) p2 = setB 2 (setB 1 (setA 0 zp p0) p1) p2 ∧ Padded (setB 2 (setB 1 (setA 0 f p0) p1) p2) := by
  have key : setB 2 (setB 1 (setA 0 f p0) p1) p2 = setB 2 (setB 1 (setA 0 zp p0) p1) p2 := by
    funext j
    unfold setB setA
    have hj : (j 0).val < 3 := (j 0).isLt
    by_cases h2 : (j 0).val = (2 : Fin 3).val ∧ (j 1).val < 1344
    · rw [dif_pos h2, dif_pos h2]
    rw [dif_neg h2, dif_neg h2]
    by_cases h1 : (j 0).val = (1 : Fin 3).val ∧ (j 1).val < 1344
    · rw [dif_pos h1, dif_pos h1]
    rw [dif_neg h1, dif_neg h1]
    by_cases h0 : (j 0).val = (0 : Fin 3).val
    · rw [if_pos h0, if_pos h0]
    rw [if_neg h0, if_neg h0]
    have e0 : ((0 : Fin 3) : ℕ) = 0 := rfl
    have e1 : ((1 : Fin 3) : ℕ) = 1 := rfl
    have e2 : ((2 : Fin 3) : ℕ) = 2 := rfl
    refine hf j (by omega) ?_
    by_contra hlt
    rcases (by omega : (j 0).val = 1 ∨ (j 0).val = 2) with h | h
    · exact h1 ⟨by omega, by omega⟩
    · exact h2 ⟨by omega, by omega⟩
  refine ⟨key, ?_⟩
  rw [key]
  intro j hj h1
  unfold setB setA
  have e0 : ((0 : Fin 3) : ℕ) = 0 := rfl
  rw [dif_neg (fun h => by omega), dif_neg (fun h => by omega), if_neg (show ¬ (j 0).val = ((0 : Fin 3) : ℕ) from hj)]
theorem kcF_pad (k : Vec F S1x4096x128 .bf16) (f : Vec F S3x1408x128 .bf16) (hf : Padded f) : kcF k f = kcF k zp ∧ Padded (kcF k f) := set_pad f hf _ _ _
theorem vcF_pad (v : Vec F S1x4096x128 .bf16) (g : Vec F S3x1408x128 .bf16) (hg : Padded g) : vcF v g = vcF v zp ∧ Padded (vcF v g) := set_pad g hg _ _ _

variable (x : Dev nD → Vec F S1x256x1024 .f32) (wq : Dev nD → Fin 8 → Vec F S1024x128 .f32) (kb vb : Dev nD → Fin 8 → Vec F S1x4096x128 .bf16)

/-- Head h on device c. -/
def hv (c h : Fin 8) : FVec F S1x256x128 .bf16 × FVec F S256 .f32 :=
  headV c (k2_pay17 (x c) (wq c h)) (k2_pay18 (kb c h)) (k2_pay19 (vb c h)) (kcF (kb c h) zp) (vcF (vb c h) zp)
/-- Every head's outputs on a device. -/
def loF (c : Dev nD) : Vec F S8x256x128 .bf16 := fun i => (hv x wq kb vb c (i 0)).1 (fun | 0 => ⟨0, Nat.one_pos⟩ | 1 => i 1 | 2 => i 2 : S1x256x128.Idx)
/-- Every head's denominators on a device. -/
def llF (c : Dev nD) : Vec F S256x8 .f32 := fun i => (hv x wq kb vb c (i 1)).2 (fun | 0 => i 0 : S256.Idx)

theorem setO_upTo (c h : Fin 8) (fo : Vec F S8x256x128 .bf16) (hf : ∀ i : S8x256x128.Idx, (i 0).val < h.val → fo i = loF x wq kb vb c i) :
    ∀ i : S8x256x128.Idx, (i 0).val < h.val + 1 → setO h fo (hv x wq kb vb c h).1 i = loF x wq kb vb c i := fun i hi => by
  unfold setO
  by_cases hh : (i 0).val = h.val
  · rw [if_pos hh]
    have e : (i 0 : Fin 8) = h := Fin.ext hh
    unfold loF; rw [e]; rfl
  · rw [if_neg hh]; exact hf i (by omega)

/-- Denominators with head h's column replaced. -/
def setL (h : Fin 8) (f : Vec F S256x8 .f32) (p : FVec F S256 .f32) : Vec F S256x8 .f32 := fun i => if (i 1).val = h.val then p (fun | 0 => i 0 : S256.Idx) else f i
theorem col_word : ∀ a h : Fin 8, (Scalar.cmpi .eq (BitVec.ofNat 32 a.val) (BitVec.ofNat 32 h.val) = 1#1) = (a.val = h.val) := by decide
theorem pay1_eq (h : Fin 8) (f : Vec F S256x8 .f32) (p : FVec F S256 .f32) : k2_pay1 p (k2_pay92 (BitVec.ofNat 32 h.val)) f = setL h f p := by
  funext i
  unfold k2_pay1 k2_pay92 setL
  dsimp only
  rw [shapeCast_self, shapeCast_self]
  have e : broadcastTo S256x8 (shapeCast S256x1 p shapeCasts_S256_S256x1) broadcasts_S256x1_S256x8 i = p (fun | 0 => i 0 : S256.Idx) := by
    rw [broadcastTo_apply _ _ i (fun | 0 => i 0 | 1 => ⟨0, Nat.one_pos⟩ : S256x1.Idx) (fun a => by fin_cases a <;> rfl)]
    refine shapeCast_apply _ _ _ _ ?_
    rw [Shape.rowMajor_val_one, Shape.rowMajor_val_two]
    show (i 0).val = (i 0).val * 1 + 0
    omega
  have hc := Iff.of_eq (col_word (i 1) h)
  show (if Scalar.cmpi .eq (iota .tc S256x8 32 [1] iota_S256x8_d1_w32 i) (BitVec.ofNat 32 h.val) = 1#1 then (broadcastTo S256x8 (shapeCast S256x1 p shapeCasts_S256_S256x1) broadcasts_S256x1_S256x8 i) else f i) = _
  rw [e, Idealize.ShloMosaic.iota_single_apply]
  by_cases hh : (i 1).val = h.val
  · rw [if_pos hh, if_pos (hc.mpr hh)]
  · rw [if_neg hh, if_neg (fun h => hh (hc.mp h))]
theorem setL_upTo (c h : Fin 8) (fl : Vec F S256x8 .f32) (hf : ∀ i : S256x8.Idx, (i 1).val < h.val → fl i = llF x wq kb vb c i) :
    ∀ i : S256x8.Idx, (i 1).val < h.val + 1 → setL h fl (hv x wq kb vb c h).2 i = llF x wq kb vb c i := fun i hi => by
  unfold setL
  by_cases hh : (i 1).val = h.val
  · rw [if_pos hh]
    have e : (i 1 : Fin 8) = h := Fin.ext hh
    unfold llF; rw [e]
  · rw [if_neg hh]; exact hf i (by omega)

end Cert.KernelIdeal.Talk

end
-- ==== Proof.BodyA.lean ====
/- The body of the main call at one head. -/
module

public import proofs.«01_k».proof.Proof.Vals

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (x : Dev nD → Vec F S1x256x1024 .f32) (wq : Dev nD → Fin 8 → Vec F S1024x128 .f32) (kb vb : Dev nD → Fin 8 → Vec F S1x4096x128 .bf16) (wo : Dev nD → Vec F S1024x1024 .f32)

/-- The outputs of the heads before the n-th are done. -/
def oEx (c : Fin 8) (n : ℕ) : sProp 𝕄 := iprop(∃ f, ⌜∀ i : S8x256x128.Idx, (i 0).val < n → f i = loF x wq kb vb c i⌝ ∗ (oM.view.loc ((c : Dev nD) : Thread nD τ) ↦{fullShare} f))
/-- So are their denominators. -/
def lEx (c : Fin 8) (n : ℕ) : sProp 𝕄 := iprop(∃ f, ⌜∀ i : S256x8.Idx, (i 1).val < n → f i = llF x wq kb vb c i⌝ ∗ (lM.view.loc ((c : Dev nD) : Thread nD τ) ↦{fullShare} f))

theorem open_head (c : Fin 8) (n : ℕ) {I R X : sProp 𝕄} (H : ∀ (f g : Vec F S3x1408x128 .bf16) (fo : Vec F S8x256x128 .bf16) (fl : Vec F S256x8 .f32), Padded f → Padded g →
      (∀ i : S8x256x128.Idx, (i 0).val < n → fo i = loF x wq kb vb c i) → (∀ i : S256x8.Idx, (i 1).val < n → fl i = llF x wq kb vb c i) →
      iprop((kM.view.loc ((c : Dev nD) : Thread nD τ) ↦{fullShare} f) ∗ (vM.view.loc ((c : Dev nD) : Thread nD τ) ↦{fullShare} g) ∗ ((oM.view.loc ((c : Dev nD) : Thread nD τ) ↦{fullShare} fo) ∗ ((lM.view.loc ((c : Dev nD) : Thread nD τ) ↦{fullShare} fl) ∗ (I ∗ R)))) ⊢ X) :
    iprop(I ∗ kvPad c ∗ (oEx x wq kb vb c n ∗ lEx x wq kb vb c n ∗ R)) ⊢ X := by
  unfold kvPad oEx lEx kvAt
  iintro ⟨HI, ⟨%f, %g, %hp, Hk, Hv⟩, ⟨%fo, %ho, Ho⟩, ⟨%fl, %hl, Hl⟩, HR⟩
  iapply (H f g fo fl hp.1 hp.2 ho hl)
  isplitl [Hk]; · iexact Hk
  isplitl [Hv]; · iexact Hv
  isplitl [Ho]; · iexact Ho
  isplitl [Hl]; · iexact Hl
  isplitl [HI]; · iexact HI
  iexact HR

theorem l_emb (inb : ∀ a, (![0, 0] : Fin 2 → ℕ) a + S256x8.size a ≤ S256x8.size a) (j : S256x8.Idx) : (lM.access (Rect.unit (s := S256x8) ![0, 0] S256x8.size inb)).emb j = j := by
  funext a
  refine Fin.ext ((ValueKit.rect_emb_unit_val _ _ _ _ a).trans ?_)
  fin_cases a <;> exact Nat.zero_add _
theorem l_read (inb : ∀ a, (![0, 0] : Fin 2 → ℕ) a + S256x8.size a ≤ S256x8.size a) (f : Vec F S256x8 .f32) : (lM.access (Rect.unit (s := S256x8) ![0, 0] S256x8.size inb)).read (Elt F) f = f := by
  funext j
  exact congrArg f (l_emb inb j)
theorem l_write (inb : ∀ a, (![0, 0] : Fin 2 → ℕ) a + S256x8.size a ≤ S256x8.size a) (f p : Vec F S256x8 .f32) :
    (lM.access (Rect.unit (s := S256x8) ![0, 0] S256x8.size inb)).write (Elt F) f p Finset.univ = p := by
  funext j
  conv_lhs => rw [← l_emb inb j]
  rw [View.write_emb_of_mem _ _ (Finset.mem_univ _)]
  rfl

/-- The denominators of a head are stored. -/
theorem l_step (c h : Fin 8) {n : ℕ} (hn : n = h.val) (fl : Vec F S256x8 .f32) (p : FVec F S256 .f32) (A B C R : sProp 𝕄)
    {a1 a2 a3 a4} {α : Type} {J : PR F α} {Q : α → sProp 𝕄}
    (hJ : iprop(A ∗ B ∗ C ∗ ((lM.view.loc ((c : Dev nD) : Thread nD τ) ↦{fullShare} (setL h fl p)) ∗ R)) ⊢ wpc c J Q) :
    iprop(A ∗ B ∗ C ∗ ((lM.view.loc ((c : Dev nD) : Thread nD τ) ↦{fullShare} fl) ∗ R)) ⊢ wpc c (do
      let v349 : Vec F S256x8 .f32 ← Prog.lift (.load lM (Rect.unit (s := S256x8) ![0, 0] S256x8.size inb_S256x8_S256x8_0_0).toLoadRect a1)
      let v353 : Vec F S256x8 .f32 ← Prog.lift (.load lM (Rect.unit (s := S256x8) ![0, 0] S256x8.size inb_S256x8_S256x8_0_0).toLoadRect a2)
      Prog.lift (.store lM (Rect.unit (s := S256x8) ![0, 0] S256x8.size inb_S256x8_S256x8_0_0) (k2_pay1 p (k2_pay92 (BitVec.ofNat 32 n)) v349) Finset.univ a3 a4)
      J) Q := by
  subst hn
  iintro ⟨HA, HB, HC, Hl, HR⟩
  iapply (ldr (m := lM) (l_read inb_S256x8_S256x8_0_0 fl)) $$ Hl
  iintro Hl
  iapply (ldst (m := lM) (setL h fl p) ((l_write inb_S256x8_S256x8_0_0 fl _).trans (pay1_eq h fl p))) $$ Hl
  iintro Hl
  iapply hJ
  isplitl [HA]; · iexact HA
  isplitl [HB]; · iexact HB
  isplitl [HC]; · iexact HC
  isplitl [Hl]; · iexact Hl
  iexact HR

/-- What a head leaves. -/
theorem close_head (c h : Fin 8) {f g : Vec F S3x1408x128 .bf16} {fo : Vec F S8x256x128 .bf16} {fl : Vec F S256x8 .f32} (hf : Padded f) (hg : Padded g)
    (ho : ∀ i : S8x256x128.Idx, (i 0).val < h.val → fo i = loF x wq kb vb c i) (hl : ∀ i : S256x8.Idx, (i 1).val < h.val → fl i = llF x wq kb vb c i)
    {op : FVec F S1x256x128 .bf16} {lp : FVec F S256 .f32} {q : FVec F S256x128 .bf16} {kk vv : FVec F S4096x128 .bf16}
    (hq : q = k2_pay17 (x c) (wq c h)) (hk : kk = k2_pay18 (kb c h)) (hv' : vv = k2_pay19 (vb c h))
    (hp : (op, lp) = headV c q kk vv (kcF (kb c h) f) (vcF (vb c h) g)) {I R : sProp 𝕄} :
    iprop((kM.view.loc ((c : Dev nD) : Thread nD τ) ↦{fullShare} (kcF (kb c h) f)) ∗ (vM.view.loc ((c : Dev nD) : Thread nD τ) ↦{fullShare} (vcF (vb c h) g)) ∗ (oM.view.loc ((c : Dev nD) : Thread nD τ) ↦{fullShare} (setO h fo op)) ∗ ((lM.view.loc ((c : Dev nD) : Thread nD τ) ↦{fullShare} (setL h fl lp)) ∗ (I ∗ R)))
      ⊢ iprop(I ∗ kvPad c ∗ (oEx x wq kb vb c (h.val + 1) ∗ lEx x wq kb vb c (h.val + 1) ∗ R)) := by
  subst hq hk hv'
  have e : headV c (k2_pay17 (x c) (wq c h)) (k2_pay18 (kb c h)) (k2_pay19 (vb c h)) (kcF (kb c h) f) (vcF (vb c h) g) = hv x wq kb vb c h := by
    unfold hv; rw [(kcF_pad (kb c h) f hf).1, (vcF_pad (vb c h) g hg).1]
  rw [e] at hp
  have e1 : op = (hv x wq kb vb c h).1 := congrArg Prod.fst hp
  have e2 : lp = (hv x wq kb vb c h).2 := congrArg Prod.snd hp
  subst e1 e2
  unfold kvPad oEx lEx kvAt
  iintro ⟨Hk, Hv, Ho, Hl, HI, HR⟩
  isplitl [HI]; · iexact HI
  isplitl [Hk Hv]
  · iexists (kcF (kb c h) f); iexists (vcF (vb c h) g)
    isplitr; · ipureintro; exact ⟨(kcF_pad (kb c h) f hf).2, (vcF_pad (vb c h) g hg).2⟩
    isplitl [Hk]; · iexact Hk
    iexact Hv
  isplitl [Ho]
  · iexists (setO h fo (hv x wq kb vb c h).1)
    isplitr; · ipureintro; exact setO_upTo x wq kb vb c h fo ho
    iexact Ho
  isplitl [Hl]
  · iexists (setL h fl (hv x wq kb vb c h).2)
    isplitr; · ipureintro; exact setL_upTo x wq kb vb c h fl hl
    iexact Hl
  iexact HR

theorem off2_of {i : grid2.Coords} {h : Fin 8} (hi : (i 0).val = h.val) : k2_off2 i = ![h.val, 0, 0] := by
  rw [k2_off2_eq, hi]

set_option pp.maxSteps 250 in
set_option pp.deepTerms false in
set_option maxHeartbeats 4000000 in
/-- A head other than the last. -/
theorem body_mid (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c h : Fin 8) (hh : h ≠ 7) (hi : (i 0).val = h.val) (P R : sProp 𝕄)
    (h8' : P ⊢ wpc c (k2_part8 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun r => iprop(⌜r = ⟨BitVec.ofNat 32 (i 0).val, c, myWord c, k2_pay17 (x c) (wq c h), k2_pay18 (kb c h), k2_pay19 (vb c h), k2_pay25 (kb c h), k2_pay26 (kb c h), k2_pay27 (kb c h), k2_pay28 (kb c h), k2_pay29 (kb c h), k2_pay30 (kb c h), k2_pay31 (kb c h), k2_pay32 (kb c h), k2_pay33 (kb c h), k2_pay34 (kb c h), k2_pay35 (kb c h), k2_pay36 (kb c h), k2_pay37 (kb c h), k2_pay38 (kb c h)⟩⌝ ∗ ins c arg1 arg2 arg3 arg4 (x c) (wq c h) (kb c h) (vb c h) ∗ kvPad c ∗ (oEx x wq kb vb c h.val ∗ lEx x wq kb vb c h.val ∗ R))) :
    P ⊢ wpc c (cc2_body (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun _ => iprop(ins c arg1 arg2 arg3 arg4 (x c) (wq c h) (kb c h) (vb c h) ∗ kvPad c ∗ (oEx x wq kb vb c (h.val + 1) ∗ lEx x wq kb vb c (h.val + 1) ∗ R)) := by
  rw [cc2_body_eq_skeleton]
  unfold cc2_body_skel
  refine ht_seq h8' fun r => pure_left fun hr => ?_
  try dsimp only at hr
  subst hr
  dsimp -zeta only
  refine open_head x wq kb vb c h.val fun f g fo fl hf hg ho hl => ?_
  refine ht_seq (part9_run i arg1 h1 arg2 h2 arg3 h3 arg4 h4 h5 h6 h7 h8 h9 h10 h11 h12 h13 c _ _ _ _ _ _ _ _ _ _ _ _ _ _ _ _ _ _ _) fun r => pure_left fun hr => ?_
  try dsimp only at hr
  subst hr
  dsimp -zeta only
  refine ht_seq (part10_run i arg1 h1 arg2 h2 arg3 h3 arg4 h4 h5 h6 h7 h8 h9 h10 h11 h12 h13 c _ _ _ _ _ _ _ _ _ _ _ _ _ _ _ _ _ _ _) fun r => pure_left fun hr => ?_
  try dsimp only at hr
  subst hr
  dsimp -zeta only
  refine ht_seq (part11_run i arg1 h1 arg2 h2 arg3 h3 arg4 h4 h5 h6 h7 h8 h9 h10 h11 h12 h13 c _ _ _ _ _ _ _ _ _ _ _ _ _ _ _ _ _ _ _ _ _ _) fun r => pure_left fun hr => ?_
  try dsimp only at hr
  subst hr
  dsimp -zeta only
  refine ht_seq (part12_run i arg1 h1 arg2 h2 arg3 h3 arg4 h4 h5 h6 h7 h8 h9 h10 h11 h12 h13 c _ _ _ _ _ _ _ _ _ _) fun r => pure_left fun hr => ?_
  try dsimp only at hr
  subst hr
  dsimp -zeta only
  refine ht_seq (part13_run i arg1 h1 arg2 h2 arg3 h3 arg4 h4 h5 h6 h7 h8 h9 h10 h11 h12 h13 c _ _ _ _ _ _ _ _ _ _) fun r => pure_left fun hr => ?_
  try dsimp only at hr
  subst hr
  dsimp -zeta only
  refine ht_seq (part14_run i arg1 h1 arg2 h2 arg3 h3 arg4 h4 h5 h6 h7 h8 h9 h10 h11 h12 h13 c _ _ _ _ _ _ _ _ _ _ _ _ _) fun r => pure_left fun hr => ?_
  try dsimp only at hr
  subst hr
  dsimp -zeta only
  refine ht_seq (part15_run i arg1 h1 arg2 h2 arg3 h3 arg4 h4 h5 h6 h7 h8 h9 h10 h11 h12 h13 c _ _ _ _ _ _ _ _ _ _ _ _ _ h (off2_of hi) _ _) fun r => pure_left fun hr => ?_
  try dsimp only at hr
  subst hr
  dsimp -zeta only
  refine l_step c h hi fl _ _ _ _ _ ?_
  rw [dif_neg (fun h7 => hh ((cond3_iff hi).mp h7))]
  refine ht_ret ?_
  exact close_head x wq kb vb c h hf hg ho hl rfl rfl rfl rfl

end Cert.KernelIdeal.Talk

end
-- ==== Proof.BodyB.lean ====
/- The last head, which ends with the exchange. -/
module

public import proofs.«01_k».proof.Proof.BodyA

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (x : Dev nD → Vec F S1x256x1024 .f32) (wq : Dev nD → Fin 8 → Vec F S1024x128 .f32) (kb vb : Dev nD → Fin 8 → Vec F S1x4096x128 .bf16) (wo : Dev nD → Vec F S1024x1024 .f32)

/-- What the exchange takes besides the outputs and denominators. -/
def exRest (c : Fin 8) : sProp 𝕄 := iprop((∃ f, roPts c c f) ∗ (∃ f, rlPts c c f) ∗ (∃ f, gPts c c f) ∗ (∃ f, outM.view.loc ((c : Dev nD) : Thread nD τ) ↦{fullShare} f)
  ∗ (woM.view.loc ((c : Dev nD) : Thread nD τ) ↦{fullShare} wo c) ∗ peerIn c ∗ toks c ∗ ats c ∗ waits c)

theorem all_done (c : Fin 8) {I A R : sProp 𝕄} (K : GSem nD τ sig → ℕ) :
    iprop(I ∗ A ∗ (oEx x wq kb vb c ((7 : Fin 8).val + 1) ∗ lEx x wq kb vb c ((7 : Fin 8).val + 1) ∗ (known (loF x wq kb vb) (llF x wq kb vb) (agF (loF x wq kb vb) (llF x wq kb vb) wo) K c ∗ owing c (O₁ c) ∗ exRest wo c ∗ R)))
      ⊢ iprop((known (loF x wq kb vb) (llF x wq kb vb) (agF (loF x wq kb vb) (llF x wq kb vb) wo) K c ∗ owing c (O₁ c) ∗ exIn (loF x wq kb vb) (llF x wq kb vb) wo c) ∗ (I ∗ A ∗ R)) := by
  unfold oEx lEx exRest exIn
  iintro ⟨HI, HA, ⟨%f, %hf, Ho⟩, ⟨%g, %hg, Hl⟩, HK, HO, HE, HR⟩
  obtain rfl : f = loF x wq kb vb c := funext fun i => hf i (i 0).isLt
  obtain rfl : g = llF x wq kb vb c := funext fun i => hg i (i 1).isLt
  isplitr [HI HA HR]
  · isplitl [HK]; · iexact HK
    isplitl [HO]; · iexact HO
    isplitl [Ho]; · iexact Ho
    isplitl [Hl]; · iexact Hl
    iexact HE
  isplitl [HI]; · iexact HI
  isplitl [HA]; · iexact HA
  iexact HR
/-- The guard of the last wait on chip 4's transfers. -/
theorem done_iff4 : ∀ c : Fin 8, k2_cond40 c = 1#1 ↔ 4 ≠ c := by decide

/-- The guard of the last wait on chip 5's transfers. -/
theorem done_iff5 : ∀ c : Fin 8, k2_cond41 c = 1#1 ↔ 5 ≠ c := by decide

/-- The guard of the last wait on chip 6's transfers. -/
theorem done_iff6 : ∀ c : Fin 8, k2_cond42 c = 1#1 ↔ 6 ≠ c := by decide

/-- The guard of the last wait on chip 7's transfers. -/
theorem done_iff7 : ∀ c : Fin 8, k2_cond43 c = 1#1 ↔ 7 ≠ c := by decide

theorem all_out (c : Fin 8) {I A O E R : sProp 𝕄} : iprop((O ∗ E) ∗ (I ∗ A ∗ R)) ⊢ iprop(I ∗ A ∗ (O ∗ E ∗ R)) := by
  iintro ⟨⟨HO, HE⟩, HI, HA, HR⟩
  isplitl [HI]; · iexact HI
  isplitl [HA]; · iexact HA
  isplitl [HO]; · iexact HO
  isplitl [HE]; · iexact HE
  iexact HR

set_option pp.maxSteps 250 in
set_option pp.deepTerms false in
set_option maxHeartbeats 8000000 in
/-- The last head. -/
theorem body_last (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (K : GSem nD τ sig → ℕ) (c h : Fin 8) (hh : h = 7) (hi : (i 0).val = h.val) (P R : sProp 𝕄)
    (h8' : P ⊢ wpc c (k2_part8 (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun r => iprop(⌜r = ⟨BitVec.ofNat 32 (i 0).val, c, myWord c, k2_pay17 (x c) (wq c h), k2_pay18 (kb c h), k2_pay19 (vb c h), k2_pay25 (kb c h), k2_pay26 (kb c h), k2_pay27 (kb c h), k2_pay28 (kb c h), k2_pay29 (kb c h), k2_pay30 (kb c h), k2_pay31 (kb c h), k2_pay32 (kb c h), k2_pay33 (kb c h), k2_pay34 (kb c h), k2_pay35 (kb c h), k2_pay36 (kb c h), k2_pay37 (kb c h), k2_pay38 (kb c h)⟩⌝ ∗ ins c arg1 arg2 arg3 arg4 (x c) (wq c h) (kb c h) (vb c h) ∗ kvPad c ∗ (oEx x wq kb vb c h.val ∗ lEx x wq kb vb c h.val ∗ (known (loF x wq kb vb) (llF x wq kb vb) (agF (loF x wq kb vb) (llF x wq kb vb) wo) K c ∗ owing c (O₁ c) ∗ exRest wo c ∗ R)))) :
    P ⊢ wpc c (cc2_body (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun _ => iprop(ins c arg1 arg2 arg3 arg4 (x c) (wq c h) (kb c h) (vb c h) ∗ kvPad c ∗ (owing c 0 ∗ exOut (loF x wq kb vb) (llF x wq kb vb) wo c ∗ R)) := by
  rw [cc2_body_eq_skeleton]
  unfold cc2_body_skel
  refine ht_seq h8' fun r => pure_left fun hr => ?_
  subst hr
  dsimp -zeta only
  refine open_head x wq kb vb c h.val fun f g fo fl hf hg ho hl => ?_
  refine ht_seq (part9_run i arg1 h1 arg2 h2 arg3 h3 arg4 h4 h5 h6 h7 h8 h9 h10 h11 h12 h13 c _ _ _ _ _ _ _ _ _ _ _ _ _ _ _ _ _ _ _) fun r => pure_left fun hr => ?_
  try dsimp only at hr
  subst hr
  dsimp -zeta only
  refine ht_seq (part10_run i arg1 h1 arg2 h2 arg3 h3 arg4 h4 h5 h6 h7 h8 h9 h10 h11 h12 h13 c _ _ _ _ _ _ _ _ _ _ _ _ _ _ _ _ _ _ _) fun r => pure_left fun hr => ?_
  try dsimp only at hr
  subst hr
  dsimp -zeta only
  refine ht_seq (part11_run i arg1 h1 arg2 h2 arg3 h3 arg4 h4 h5 h6 h7 h8 h9 h10 h11 h12 h13 c _ _ _ _ _ _ _ _ _ _ _ _ _ _ _ _ _ _ _ _ _ _) fun r => pure_left fun hr => ?_
  try dsimp only at hr
  subst hr
  dsimp -zeta only
  refine ht_seq (part12_run i arg1 h1 arg2 h2 arg3 h3 arg4 h4 h5 h6 h7 h8 h9 h10 h11 h12 h13 c _ _ _ _ _ _ _ _ _ _) fun r => pure_left fun hr => ?_
  try dsimp only at hr
  subst hr
  dsimp -zeta only
  refine ht_seq (part13_run i arg1 h1 arg2 h2 arg3 h3 arg4 h4 h5 h6 h7 h8 h9 h10 h11 h12 h13 c _ _ _ _ _ _ _ _ _ _) fun r => pure_left fun hr => ?_
  try dsimp only at hr
  subst hr
  dsimp -zeta only
  refine ht_seq (part14_run i arg1 h1 arg2 h2 arg3 h3 arg4 h4 h5 h6 h7 h8 h9 h10 h11 h12 h13 c _ _ _ _ _ _ _ _ _ _ _ _ _) fun r => pure_left fun hr => ?_
  try dsimp only at hr
  subst hr
  dsimp -zeta only
  refine ht_seq (part15_run i arg1 h1 arg2 h2 arg3 h3 arg4 h4 h5 h6 h7 h8 h9 h10 h11 h12 h13 c _ _ _ _ _ _ _ _ _ _ _ _ _ h (off2_of hi) _ _) fun r => pure_left fun hr => ?_
  try dsimp only at hr
  subst hr
  dsimp -zeta only
  refine l_step c h hi fl _ _ _ _ _ ?_
  have hc3 := (cond3_iff hi).mpr hh
  rw [dif_pos hc3]
  refine (close_head x wq kb vb c h hf hg ho hl rfl rfl rfl rfl).trans ?_
  subst hh
  refine (all_done x wq kb vb wo c K).trans ?_
  refine ht_mono (ht_frame (T := fun _ => iprop(owing c 0 ∗ exOut (loF x wq kb vb) (llF x wq kb vb) wo c)) ?_) (BI.Entails.refl _) (fun _ => all_out c)
  refine (ex_start (loF x wq kb vb) (llF x wq kb vb) wo K c).trans ?_
  refine ht_seq (part2_run (loF x wq kb vb) (llF x wq kb vb) wo i arg1 h1 arg2 h2 arg3 h3 arg4 h4 h5 h6 h7 h8 h9 h10 h11 h12 h13 K c (myWord c) hc3 _) fun r => pure_left fun hr => ?_
  subst hr
  refine (ex_sent (loF x wq kb vb) (llF x wq kb vb) wo K c).trans ?_
  refine ht_seq (part3_run (loF x wq kb vb) (llF x wq kb vb) wo i arg1 h1 arg2 h2 arg3 h3 arg4 h4 h5 h6 h7 h8 h9 h10 h11 h12 h13 K c (myWord c) rfl hc3 _) fun r => pure_left fun hr => ?_
  subst hr
  dsimp -zeta only
  refine ht_seq (part4_run (loF x wq kb vb) (llF x wq kb vb) wo i arg1 h1 arg2 h2 arg3 h3 arg4 h4 h5 h6 h7 h8 h9 h10 h11 h12 h13 K c (myWord c) rfl _) fun r => pure_left fun hr => ?_
  subst hr
  dsimp -zeta only
  refine (ex_joined (loF x wq kb vb) (llF x wq kb vb) wo K c).trans ?_
  refine ht_seq (part5_run (loF x wq kb vb) (llF x wq kb vb) wo i arg1 h1 arg2 h2 arg3 h3 arg4 h4 h5 h6 h7 h8 h9 h10 h11 h12 h13 K c (myWord c) hc3 _) fun r => pure_left fun hr => ?_
  subst hr
  refine (ex_rows (loF x wq kb vb) (llF x wq kb vb) wo K c).trans ?_
  refine ht_seq (part6_run (loF x wq kb vb) (llF x wq kb vb) wo i arg1 h1 arg2 h2 arg3 h3 arg4 h4 h5 h6 h7 h8 h9 h10 h11 h12 h13 K c (myWord c) _ hc3 _) fun r => pure_left fun hr => ?_
  subst hr
  refine (ex_gathered (loF x wq kb vb) (llF x wq kb vb) wo K c).trans ?_
  refine ht_seq (part7_run (loF x wq kb vb) (llF x wq kb vb) wo i arg1 h1 arg2 h2 arg3 h3 arg4 h4 h5 h6 h7 h8 h9 h10 h11 h12 h13 K c (myWord c) _ hc3 _) fun r => pure_left fun hr => ?_
  subst hr
  extract_lets jd7 _ _ _ _ _ _ _ _ jd6 _ _ _ _ _ _ _ _ jd5 _ _ _ _ _ _ _ _ jd4 _ _ _ _ _ _ _ _
  refine step (loF x wq kb vb) (llF x wq kb vb) (agF (loF x wq kb vb) (llF x wq kb vb) wo) K 4 (done_iff4 c) (own_done (loF x wq kb vb) (llF x wq kb vb) (agF (loF x wq kb vb) (llF x wq kb vb) wo) c) (fun _ => rfl) (fun hh hne _ =>
    done_block (loF x wq kb vb) (llF x wq kb vb) (agF (loF x wq kb vb) (llF x wq kb vb) wo) K c 4 hne (dsem_of (k := 0) (p := 4) rfl rfl _) (dsem_of (k := 1) (p := 4) rfl rfl _) (dsem_of (k := 4) (p := 4) rfl rfl _)
      (by unfold amt; rfl) (by unfold amt; rfl) (by unfold amt; rfl) _) ?_
  dsimp only [jd4]
  refine step (loF x wq kb vb) (llF x wq kb vb) (agF (loF x wq kb vb) (llF x wq kb vb) wo) K 5 (done_iff5 c) (own_done (loF x wq kb vb) (llF x wq kb vb) (agF (loF x wq kb vb) (llF x wq kb vb) wo) c) (fun _ => rfl) (fun hh hne _ =>
    done_block (loF x wq kb vb) (llF x wq kb vb) (agF (loF x wq kb vb) (llF x wq kb vb) wo) K c 5 hne (dsem_of (k := 0) (p := 5) rfl rfl _) (dsem_of (k := 1) (p := 5) rfl rfl _) (dsem_of (k := 4) (p := 5) rfl rfl _)
      (by unfold amt; rfl) (by unfold amt; rfl) (by unfold amt; rfl) _) ?_
  dsimp only [jd5]
  refine step (loF x wq kb vb) (llF x wq kb vb) (agF (loF x wq kb vb) (llF x wq kb vb) wo) K 6 (done_iff6 c) (own_done (loF x wq kb vb) (llF x wq kb vb) (agF (loF x wq kb vb) (llF x wq kb vb) wo) c) (fun _ => rfl) (fun hh hne _ =>
    done_block (loF x wq kb vb) (llF x wq kb vb) (agF (loF x wq kb vb) (llF x wq kb vb) wo) K c 6 hne (dsem_of (k := 0) (p := 6) rfl rfl _) (dsem_of (k := 1) (p := 6) rfl rfl _) (dsem_of (k := 4) (p := 6) rfl rfl _)
      (by unfold amt; rfl) (by unfold amt; rfl) (by unfold amt; rfl) _) ?_
  dsimp only [jd6]
  refine step (loF x wq kb vb) (llF x wq kb vb) (agF (loF x wq kb vb) (llF x wq kb vb) wo) K 7 (done_iff7 c) (own_done (loF x wq kb vb) (llF x wq kb vb) (agF (loF x wq kb vb) (llF x wq kb vb) wo) c) (fun _ => rfl) (fun hh hne _ =>
    done_block (loF x wq kb vb) (llF x wq kb vb) (agF (loF x wq kb vb) (llF x wq kb vb) wo) K c 7 hne (dsem_of (k := 0) (p := 7) rfl rfl _) (dsem_of (k := 1) (p := 7) rfl rfl _) (dsem_of (k := 4) (p := 7) rfl rfl _)
      (by unfold amt; rfl) (by unfold amt; rfl) (by unfold amt; rfl) _) ?_
  dsimp only [jd7]
  exact (ex_end (loF x wq kb vb) (llF x wq kb vb) wo K c).trans (ht_ret (BI.Entails.refl _))

end Cert.KernelIdeal.Talk

end
-- ==== Proof.Retile.lean ====
/- The two calls that lay the keys and the values out again: each block cast and flattened, the exchange
   untouched. -/
module

public import proofs.«01_k».proof.Proof.BodyB
public import proofs.«01_k».proof.Proof.Gen.KernelIdeal.Points
public import proofs.«01_k».proof.Proof.Gen.KernelIdeal.Regions

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

/-- A store of everything a memref holds. -/
theorem st_owns {c : Fin 8} {s : Shape} {e : EltTy} {m : Memref sig .tc .vmem s e} {off : Fin s.rank → ℕ} (h0 : ∀ a, off a = 0) {inb : ∀ a, off a + s.size a ≤ s.size a} {X p : s.Idx → Elt F e}
    {a2 a3} {α : Type} {J : PR F α} {Q : α → sProp 𝕄} :
    (owns ((c : Dev nD) : Thread nD τ) m fullShare X : sProp 𝕄) ⊢
      iprop((owns ((c : Dev nD) : Thread nD τ) m fullShare p -∗ wpc c J Q)
        -∗ wpc c (Prog.lift (.store m (Rect.unit (s := s) off s.size inb) p Finset.univ a2 a3) >>= fun _ => J) Q) := by
  have hr : ∀ j : s.Idx, (Rect.unit (s := s) off s.size inb).emb j = j := fun j => by
    funext x; refine Fin.ext ((ValueKit.rect_emb_unit_val _ _ _ _ x).trans ?_); rw [h0 x, Nat.zero_add]
  unfold owns
  iintro ⟨%f, -, H⟩ Hk
  iapply (wp_store 𝒱₀ ((c : Dev nD) : Thread nD τ) none Set.univ (m := m) (r := Rect.unit (s := s) off s.size inb) (View.set_slice_subset _ _)) $$ H
  iintro H
  iapply Hk
  iexists _
  isplitr
  · ipureintro
    refine Eq.trans ?_ (View.read_write_univ (v := m.access (Rect.unit (s := s) off s.size inb)) f p)
    funext j
    rw [View.read_apply, View.read_apply]
    have e : (m.access (Rect.unit (s := s) off s.size inb)).emb j = m.view.emb j := congrArg m.view.emb (hr j)
    exact congrArg (cast _) (congrArg _ e.symm)
  iexact H

variable (m : (ℓ : Loc nD τ sig) → Buf (Elt F) ℓ)

/-- The block call 0 reads at point t. -/
def blk0 (c : Dev nD) (t : Fin cfg0.N) : Vec F S1x512x8x128 .f32 := ((cfg0.win 0).blk t).view.read (Elt F) (m ((c : Thread nD τ).loc main_arg2))

/-- What call 0 works on, and what it leaves. -/
def dat0 (c : Dev nD) : Dat τ (Elt F) Unit ℕ UU ℕ cfg0 c where
  A := fun | 0 => m ((c : Thread nD τ).loc main_arg2) | 1 => m ((c : Thread nD τ).loc main_v1) | ⟨_ + 2, h⟩ => absurd h (Nat.not_lt.2 (Nat.le_add_left _ _))
  after := fun | 0 => fun t => blk0 m c t | 1 => fun t => k0_pay1 (blk0 m c t) | ⟨_ + 2, h⟩ => absurd h (Nat.not_lt.2 (Nat.le_add_left _ _))
  Φ _ := iprop(Pipeline.scopedRest spec0 c ∗ ∃ r, prngReg c r)
  q _ := fullShare
  owed _ := O₀ c

/-- Its body on one block. -/
theorem retile0 (i : grid0.Coords) (a1 : Memref sig .tc .vmem S1x512x8x128 .f32) (h1 : a1.IsWhole) (a2 : Memref sig .tc .vmem S1x512x1024 .bf16) (h2 : a2.IsWhole)
    (c : Dev nD) (X : Vec F S1x512x8x128 .f32) (Y : Vec F S1x512x1024 .bf16) (R : sProp 𝕄) :
    iprop(owns (c : Thread nD τ) a1 fullShare X ∗ owns (c : Thread nD τ) a2 fullShare Y ∗ R)
      ⊢ wpc c (cc0_rbody (F := F) i a1 h1 a2 h2) fun _ => iprop(owns (c : Thread nD τ) a1 fullShare X ∗ owns (c : Thread nD τ) a2 fullShare (k0_pay1 X) ∗ R) := by
  rw [cc0_rbody_eq_skeleton]
  unfold cc0_rbody_skel
  iintro ⟨H1, H2, HR⟩
  iapply (ld_owns (m := a1) (by decide)) $$ H1
  iintro H1
  iapply (ld_owns (m := a2) (by decide)) $$ H2
  iintro H2
  iapply (st_owns (m := a2) (by decide)) $$ H2
  iintro H2
  iapply ret
  isplitl [H1]; · iexact H1
  isplitl [H2]; · iexact H2
  iexact HR

theorem rot3 (A B C D : sProp 𝕄) : iprop(A ∗ B ∗ C ∗ D) ⊢ iprop(C ∗ D ∗ A ∗ B) := by
  iintro ⟨HA, HB, HC, HD⟩
  isplitl [HC]; · iexact HC
  isplitl [HD]; · iexact HD
  isplitl [HA]; · iexact HA
  iexact HB

theorem body0 (c : Dev nD) : BodyObligation (dat0 m c) (defs₀ (F := F)) 𝒱₀ () Set.univ := fun t => by
  rw [bigSep_W0, bigSep_W0]
  have hb : ∀ d, (dat0 m c).before 0 t d = blk0 m c t := fun d => (dat0 m c).before_fetched 0 t (fetch0_0 t) d
  show iprop((dat0 m c).Φ t.castSucc ∗ (dat0 m c).owesAt () t.castSucc
      ∗ ((∃ d, owns (c : Thread nD τ) (st0_0 t) fullShare ((dat0 m c).before 0 t d)) ∗ (∃ d, owns (c : Thread nD τ) (st0_1 t) fullShare ((dat0 m c).before 1 t d))))
    ⊢ wpc c (bodyAt0 t) fun _ => iprop((dat0 m c).Φ t.castSucc ∗ (dat0 m c).owesAt () t.castSucc
      ∗ (owns (c : Thread nD τ) (st0_0 t) fullShare (blk0 m c t) ∗ owns (c : Thread nD τ) (st0_1 t) fullShare (k0_pay1 (blk0 m c t))))
  simp only [hb]
  iintro ⟨HΦ, HO, ⟨%d, H0⟩, ⟨%d', H1⟩⟩
  iapply (ht_mono (retile0 _ _ _ _ _ c (blk0 m c t) _ iprop((dat0 m c).Φ t.castSucc ∗ (dat0 m c).owesAt () t.castSucc))
    (BI.Entails.refl _) (fun _ => rot3 _ _ _ _))
  isplitl [H0]; · iexact H0
  isplitl [H1]; · iexact H1
  isplitl [HΦ]; · iexact HΦ
  iexact HO

/-- The block call 1 reads at point t. -/
def blk1 (c : Dev nD) (t : Fin cfg1.N) : Vec F S1x512x8x128 .f32 := ((cfg1.win 0).blk t).view.read (Elt F) (m ((c : Thread nD τ).loc main_arg3))

/-- What call 1 works on, and what it leaves. -/
def dat1 (c : Dev nD) : Dat τ (Elt F) Unit ℕ UU ℕ cfg1 c where
  A := fun | 0 => m ((c : Thread nD τ).loc main_arg3) | 1 => m ((c : Thread nD τ).loc main_v2) | ⟨_ + 2, h⟩ => absurd h (Nat.not_lt.2 (Nat.le_add_left _ _))
  after := fun | 0 => fun t => blk1 m c t | 1 => fun t => k1_pay1 (blk1 m c t) | ⟨_ + 2, h⟩ => absurd h (Nat.not_lt.2 (Nat.le_add_left _ _))
  Φ _ := iprop(Pipeline.scopedRest spec1 c ∗ ∃ r, prngReg c r)
  q _ := fullShare
  owed _ := O₀ c

/-- Its body on one block. -/
theorem retile1 (i : grid1.Coords) (a1 : Memref sig .tc .vmem S1x512x8x128 .f32) (h1 : a1.IsWhole) (a2 : Memref sig .tc .vmem S1x512x1024 .bf16) (h2 : a2.IsWhole)
    (c : Dev nD) (X : Vec F S1x512x8x128 .f32) (Y : Vec F S1x512x1024 .bf16) (R : sProp 𝕄) :
    iprop(owns (c : Thread nD τ) a1 fullShare X ∗ owns (c : Thread nD τ) a2 fullShare Y ∗ R)
      ⊢ wpc c (cc1_rbody (F := F) i a1 h1 a2 h2) fun _ => iprop(owns (c : Thread nD τ) a1 fullShare X ∗ owns (c : Thread nD τ) a2 fullShare (k1_pay1 X) ∗ R) := by
  rw [cc1_rbody_eq_skeleton]
  unfold cc1_rbody_skel
  iintro ⟨H1, H2, HR⟩
  iapply (ld_owns (m := a1) (by decide)) $$ H1
  iintro H1
  iapply (ld_owns (m := a2) (by decide)) $$ H2
  iintro H2
  iapply (st_owns (m := a2) (by decide)) $$ H2
  iintro H2
  iapply ret
  isplitl [H1]; · iexact H1
  isplitl [H2]; · iexact H2
  iexact HR

theorem body1 (c : Dev nD) : BodyObligation (dat1 m c) (defs₀ (F := F)) 𝒱₀ () Set.univ := fun t => by
  rw [bigSep_W1, bigSep_W1]
  have hb : ∀ d, (dat1 m c).before 0 t d = blk1 m c t := fun d => (dat1 m c).before_fetched 0 t (fetch1_0 t) d
  show iprop((dat1 m c).Φ t.castSucc ∗ (dat1 m c).owesAt () t.castSucc
      ∗ ((∃ d, owns (c : Thread nD τ) (st1_0 t) fullShare ((dat1 m c).before 0 t d)) ∗ (∃ d, owns (c : Thread nD τ) (st1_1 t) fullShare ((dat1 m c).before 1 t d))))
    ⊢ wpc c (bodyAt1 t) fun _ => iprop((dat1 m c).Φ t.castSucc ∗ (dat1 m c).owesAt () t.castSucc
      ∗ (owns (c : Thread nD τ) (st1_0 t) fullShare (blk1 m c t) ∗ owns (c : Thread nD τ) (st1_1 t) fullShare (k1_pay1 (blk1 m c t))))
  simp only [hb]
  iintro ⟨HΦ, HO, ⟨%d, H0⟩, ⟨%d', H1⟩⟩
  iapply (ht_mono (retile1 _ _ _ _ _ c (blk1 m c t) _ iprop((dat1 m c).Φ t.castSucc ∗ (dat1 m c).owesAt () t.castSucc))
    (BI.Entails.refl _) (fun _ => rot3 _ _ _ _))
  isplitl [H0]; · iexact H0
  isplitl [H1]; · iexact H1
  isplitl [HΦ]; · iexact HΦ
  iexact HO

end Cert.KernelIdeal.Talk

end
-- ==== Proof.Steps.lean ====
/- One grid point of the main call, whichever head it is: what it takes from the point before and what it hands on. -/
module

public import proofs.«01_k».proof.Proof.Retile

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (x : Dev nD → Vec F S1x256x1024 .f32) (wq : Dev nD → Fin 8 → Vec F S1024x128 .f32) (kb vb : Dev nD → Fin 8 → Vec F S1x4096x128 .bf16) (wo : Dev nD → Vec F S1024x1024 .f32)

/-- What a device keeps for the exchange while the heads are worked out. -/
def spare (c : Fin 8) : sProp 𝕄 := iprop((∃ f, roPts c c f) ∗ (∃ f, rlPts c c f) ∗ (∃ f, gPts c c f) ∗ toks c ∗ ats c ∗ waits c)
/-- Before the first head: the tokens and slots for the barrier, and scratch at any contents. -/
def coreFirst (c : Fin 8) : sProp 𝕄 := iprop(∃ K, known₀ (loF x wq kb vb) (llF x wq kb vb) (agF (loF x wq kb vb) (llF x wq kb vb) wo) K c ∗ fam (sigIn c) (fun _ => iprop(emp)) (0 : Fin 8).val ∗ barAt c
    ∗ (∃ f g, kvAt c f g) ∗ oEx x wq kb vb c 0 ∗ lEx x wq kb vb c 0 ∗ spare c)
/-- Between heads: the barrier passed, n heads stored. -/
def coreMid (c : Fin 8) (n : ℕ) : sProp 𝕄 := iprop(∃ K, known (loF x wq kb vb) (llF x wq kb vb) (agF (loF x wq kb vb) (llF x wq kb vb) wo) K c ∗ peerIn c ∗ semVal (barCell c) 0
    ∗ kvPad c ∗ oEx x wq kb vb c n ∗ lEx x wq kb vb c n ∗ spare c)
/-- After the last head: scratch and counters, the counters at zero. -/
def coreLast (c : Fin 8) : sProp 𝕄 := iprop(kvPad c ∗ semVal (barCell c) 0
  ∗ (∃ f, oM.view.loc ((c : Dev nD) : Thread nD τ) ↦{fullShare} f) ∗ (∃ f, lM.view.loc ((c : Dev nD) : Thread nD τ) ↦{fullShare} f)
  ∗ (∃ f, roM.view.loc ((c : Dev nD) : Thread nD τ) ↦{fullShare} f) ∗ (∃ f, rlM.view.loc ((c : Dev nD) : Thread nD τ) ↦{fullShare} f)
  ∗ (∃ f, gM.view.loc ((c : Dev nD) : Thread nD τ) ↦{fullShare} f)
  ∗ fo c (fun p => semVal (dcell 0 c p) 0) ∗ fo c (fun p => semVal (dcell 1 c p) 0) ∗ fo c (fun p => semVal (dcell 2 c p) 0)
  ∗ fo c (fun p => semVal (dcell 3 c p) 0) ∗ fo c (fun p => semVal (dcell 4 c p) 0) ∗ fo c (fun p => semVal (dcell 5 c p) 0))

theorem ex_left {α : Type} {P : α → sProp 𝕄} {Q R : sProp 𝕄} (h : ∀ a, iprop(P a ∗ R) ⊢ Q) : iprop((∃ a, P a) ∗ R) ⊢ Q := by
  iintro ⟨⟨%a, HP⟩, HR⟩
  iapply (h a)
  isplitl [HP]; · iexact HP
  iexact HR

theorem first_in (K : GSem nD τ sig → ℕ) (c : Fin 8) {O I Z : sProp 𝕄} : iprop((known₀ (loF x wq kb vb) (llF x wq kb vb) (agF (loF x wq kb vb) (llF x wq kb vb) wo) K c ∗ fam (sigIn c) (fun _ => iprop(emp)) (0 : Fin 8).val ∗ barAt c
      ∗ (∃ f g, kvAt c f g) ∗ oEx x wq kb vb c 0 ∗ lEx x wq kb vb c 0 ∗ spare c) ∗ O ∗ I ∗ Z)
    ⊢ iprop(known₀ (loF x wq kb vb) (llF x wq kb vb) (agF (loF x wq kb vb) (llF x wq kb vb) wo) K c ∗ fam (sigIn c) (fun _ => iprop(emp)) (0 : Fin 8).val ∗ O ∗ (barAt c ∗ (I ∗ (∃ f g, kvAt c f g) ∗ (oEx x wq kb vb c 0 ∗ lEx x wq kb vb c 0 ∗ spare c ∗ Z)))) := by
  iintro ⟨⟨HK, HF, HB, HV, Ho, Hl, HS⟩, HO, HI, HZ⟩
  isplitl [HK]; · iexact HK
  isplitl [HF]; · iexact HF
  isplitl [HO]; · iexact HO
  isplitl [HB]; · iexact HB
  isplitl [HI]; · iexact HI
  isplitl [HV]; · iexact HV
  isplitl [Ho]; · iexact Ho
  isplitl [Hl]; · iexact Hl
  isplitl [HS]; · iexact HS
  iexact HZ
theorem first_mid {P I A B C D E G H S Z : sProp 𝕄} : iprop(P ∗ I ∗ A ∗ (B ∗ C ∗ D ∗ E ∗ (G ∗ H ∗ S ∗ Z))) ⊢ iprop(P ∗ I ∗ A ∗ (G ∗ H ∗ (B ∗ C ∗ D ∗ E ∗ S ∗ Z))) := by
  iintro ⟨HP, HI, HA, HB, HC, HD, HE, HG, HH, HS, HZ⟩
  isplitl [HP]; · iexact HP
  isplitl [HI]; · iexact HI
  isplitl [HA]; · iexact HA
  isplitl [HG]; · iexact HG
  isplitl [HH]; · iexact HH
  isplitl [HB]; · iexact HB
  isplitl [HC]; · iexact HC
  isplitl [HD]; · iexact HD
  isplitl [HE]; · iexact HE
  isplitl [HS]; · iexact HS
  iexact HZ
theorem first_out (K : GSem nD τ sig → ℕ) (c : Fin 8) {O I Z : sProp 𝕄} (n : ℕ) : iprop(I ∗ kvPad c ∗ (oEx x wq kb vb c n ∗ lEx x wq kb vb c n ∗ (known (loF x wq kb vb) (llF x wq kb vb) (agF (loF x wq kb vb) (llF x wq kb vb) wo) K c ∗ peerIn c ∗ semVal (barCell c) 0 ∗ O ∗ spare c ∗ Z)))
    ⊢ iprop(I ∗ coreMid x wq kb vb wo c n ∗ O ∗ Z) := by
  unfold coreMid
  iintro ⟨HI, HV, Ho, Hl, HK, HP, HB, HO, HS, HZ⟩
  isplitl [HI]; · iexact HI
  isplitr [HO HZ]
  · iexists K
    isplitl [HK]; · iexact HK
    isplitl [HP]; · iexact HP
    isplitl [HB]; · iexact HB
    isplitl [HV]; · iexact HV
    isplitl [Ho]; · iexact Ho
    isplitl [Hl]; · iexact Hl
    iexact HS
  isplitl [HO]; · iexact HO
  iexact HZ

/-- The first head: the barrier, then the head. -/
theorem step_first (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c h : Fin 8) (hh : h = 0) (hi : (i 0).val = h.val) (Z : sProp 𝕄) :
    iprop(coreFirst x wq kb vb wo c ∗ owing c (O₀ c) ∗ ins c arg1 arg2 arg3 arg4 (x c) (wq c h) (kb c h) (vb c h) ∗ Z)
      ⊢ wpc c (cc2_body (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun _ => iprop(ins c arg1 arg2 arg3 arg4 (x c) (wq c h) (kb c h) (vb c h) ∗ coreMid x wq kb vb wo c (h.val + 1) ∗ owing c (O₁ c) ∗ Z) := by
  subst hh
  unfold coreFirst
  refine ex_left fun K => ?_
  refine (first_in x wq kb vb wo K c).trans ?_
  refine ht_mono (body_mid x wq kb vb i arg1 h1 arg2 h2 arg3 h3 arg4 h4 h5 h6 h7 h8 h9 h10 h11 h12 h13 c 0 (by decide) hi _ _ (ht_mono (part8_first (loF x wq kb vb) (llF x wq kb vb) (agF (loF x wq kb vb) (llF x wq kb vb) wo) i arg1 h1 arg2 h2 arg3 h3 arg4 h4 h5 h6 h7 h8 h9 h10 h11 h12 h13 K c hi (x c) (wq c 0) (kb c 0) (vb c 0) _) (BI.Entails.refl _) (fun _ => first_mid))) (BI.Entails.refl _)
    (fun _ => first_out x wq kb vb wo K c _)

theorem mid_in (K : GSem nD τ sig → ℕ) (c : Fin 8) (n : ℕ) {I Z : sProp 𝕄} : iprop((known (loF x wq kb vb) (llF x wq kb vb) (agF (loF x wq kb vb) (llF x wq kb vb) wo) K c ∗ peerIn c ∗ semVal (barCell c) 0
    ∗ kvPad c ∗ oEx x wq kb vb c n ∗ lEx x wq kb vb c n ∗ spare c) ∗ I ∗ Z) ⊢ iprop(I ∗ (kvPad c ∗ (oEx x wq kb vb c n ∗ lEx x wq kb vb c n ∗ (known (loF x wq kb vb) (llF x wq kb vb) (agF (loF x wq kb vb) (llF x wq kb vb) wo) K c ∗ peerIn c ∗ semVal (barCell c) 0 ∗ Z ∗ spare c ∗ emp)))) := by
  iintro ⟨⟨HK, HP, HB, HV, Ho, Hl, HS⟩, HI, HZ⟩
  isplitl [HI]; · iexact HI
  isplitl [HV]; · iexact HV
  isplitl [Ho]; · iexact Ho
  isplitl [Hl]; · iexact Hl
  isplitl [HK]; · iexact HK
  isplitl [HP]; · iexact HP
  isplitl [HB]; · iexact HB
  isplitl [HZ]; · iexact HZ
  isplitl [HS]; · iexact HS
  iempintro
theorem drop_emp {A B Z : sProp 𝕄} : iprop(A ∗ B ∗ Z ∗ emp) ⊢ iprop(A ∗ B ∗ Z) := by
  iintro ⟨HA, HB, HZ, -⟩
  isplitl [HA]; · iexact HA
  isplitl [HB]; · iexact HB
  iexact HZ
/-- A head neither first nor last. -/
theorem step_mid (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c h : Fin 8) (h0 : h ≠ 0) (h7' : h ≠ 7) (hi : (i 0).val = h.val) (Z : sProp 𝕄) :
    iprop(coreMid x wq kb vb wo c h.val ∗ ins c arg1 arg2 arg3 arg4 (x c) (wq c h) (kb c h) (vb c h) ∗ Z)
      ⊢ wpc c (cc2_body (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun _ => iprop(ins c arg1 arg2 arg3 arg4 (x c) (wq c h) (kb c h) (vb c h) ∗ coreMid x wq kb vb wo c (h.val + 1) ∗ Z) := by
  conv in (coreMid x wq kb vb wo c h.val) => unfold coreMid
  refine ex_left fun K => ?_
  refine (mid_in x wq kb vb wo K c h.val).trans ?_
  exact ht_mono (body_mid x wq kb vb i arg1 h1 arg2 h2 arg3 h3 arg4 h4 h5 h6 h7 h8 h9 h10 h11 h12 h13 c h h7' hi _ _ (part8_next i arg1 h1 arg2 h2 arg3 h3 arg4 h4 h5 h6 h7 h8 h9 h10 h11 h12 h13 c h h0 hi (x c) (wq c h) (kb c h) (vb c h) _)) (BI.Entails.refl _)
    (fun _ => (first_out x wq kb vb wo K c _).trans drop_emp)

/-- The result and the weights of the projection, as the call's windows hold them. -/
def outs45 (c : Fin 8) : sProp 𝕄 := iprop((woM.view.loc ((c : Dev nD) : Thread nD τ) ↦{fullShare} wo c) ∗ (outM.view.loc ((c : Dev nD) : Thread nD τ) ↦{fullShare} outF (loF x wq kb vb) (llF x wq kb vb) wo c))
theorem last_in (K : GSem nD τ sig → ℕ) (c : Fin 8) (n : ℕ) {O I Z : sProp 𝕄} : iprop((known (loF x wq kb vb) (llF x wq kb vb) (agF (loF x wq kb vb) (llF x wq kb vb) wo) K c ∗ peerIn c ∗ semVal (barCell c) 0
    ∗ kvPad c ∗ oEx x wq kb vb c n ∗ lEx x wq kb vb c n ∗ spare c) ∗ O ∗ I ∗ (woM.view.loc ((c : Dev nD) : Thread nD τ) ↦{fullShare} wo c) ∗ (∃ f, outM.view.loc ((c : Dev nD) : Thread nD τ) ↦{fullShare} f) ∗ Z)
    ⊢ iprop(I ∗ (kvPad c ∗ (oEx x wq kb vb c n ∗ lEx x wq kb vb c n ∗ (known (loF x wq kb vb) (llF x wq kb vb) (agF (loF x wq kb vb) (llF x wq kb vb) wo) K c ∗ O ∗ exRest wo c ∗ (semVal (barCell c) 0 ∗ Z))))) := by
  unfold spare exRest
  iintro ⟨⟨HK, HP, HB, HV, Ho, Hl, H1, H2, H3, H4, H5, H6⟩, HO, HI, HW, HU, HZ⟩
  isplitl [HI]; · iexact HI
  isplitl [HV]; · iexact HV
  isplitl [Ho]; · iexact Ho
  isplitl [Hl]; · iexact Hl
  isplitl [HK]; · iexact HK
  isplitl [HO]; · iexact HO
  isplitr [HB HZ]
  · isplitl [H1]; · iexact H1
    isplitl [H2]; · iexact H2
    isplitl [H3]; · iexact H3
    isplitl [HU]; · iexact HU
    isplitl [HW]; · iexact HW
    isplitl [HP]; · iexact HP
    isplitl [H4]; · iexact H4
    isplitl [H5]; · iexact H5
    iexact H6
  isplitl [HB]; · iexact HB
  iexact HZ
theorem last_out (c : Fin 8) {O I Z : sProp 𝕄} : iprop(I ∗ kvPad c ∗ (O ∗ exOut (loF x wq kb vb) (llF x wq kb vb) wo c ∗ (semVal (barCell c) 0 ∗ Z)))
    ⊢ iprop(I ∗ coreLast c ∗ O ∗ outs45 x wq kb vb wo c ∗ Z) := by
  unfold exOut coreLast outs45
  iintro ⟨HI, HV, HO, ⟨H1, H2, H3, H4, H5, H6, H7, G0, G1, G2, G3, G4, G5⟩, HB, HZ⟩
  isplitl [HI]; · iexact HI
  isplitr [HO HZ H6 H7]
  · isplitl [HV]; · iexact HV
    isplitl [HB]; · iexact HB
    isplitl [H1]; · iexists _; iexact H1
    isplitl [H2]; · iexists _; iexact H2
    isplitl [H3]; · iexists _; iexact H3
    isplitl [H4]; · iexists _; iexact H4
    isplitl [H5]; · iexists _; iexact H5
    isplitl [G0]; · iexact G0
    isplitl [G1]; · iexact G1
    isplitl [G2]; · iexact G2
    isplitl [G3]; · iexact G3
    isplitl [G4]; · iexact G4
    iexact G5
  isplitl [HO]; · iexact HO
  isplitr [HZ]
  · isplitl [H7]; · iexact H7
    iexact H6
  iexact HZ
/-- The last head, and the exchange. -/
theorem step_last (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (h5 : woM.IsWhole) (h6 : outM.IsWhole)
    (h7 : oM.IsWhole) (h8 : lM.IsWhole) (h9 : kM.IsWhole) (h10 : vM.IsWhole) (h11 : roM.IsWhole) (h12 : rlM.IsWhole) (h13 : gM.IsWhole) (c h : Fin 8) (hh : h = 7) (hi : (i 0).val = h.val) (Z : sProp 𝕄) :
    iprop(coreMid x wq kb vb wo c h.val ∗ owing c (O₁ c) ∗ ins c arg1 arg2 arg3 arg4 (x c) (wq c h) (kb c h) (vb c h) ∗ (woM.view.loc ((c : Dev nD) : Thread nD τ) ↦{fullShare} wo c) ∗ (∃ f, outM.view.loc ((c : Dev nD) : Thread nD τ) ↦{fullShare} f) ∗ Z)
      ⊢ wpc c (cc2_body (F := F) i arg1 h1 arg2 h2 arg3 h3 arg4 h4 woM h5 outM h6 oM h7 lM h8 kM h9 vM h10 roM h11 rlM h12 gM h13 cc2_scratch7 cc2_scratch8 cc2_scratch9 cc2_scratch10 cc2_scratch11 cc2_scratch12) fun _ => iprop(ins c arg1 arg2 arg3 arg4 (x c) (wq c h) (kb c h) (vb c h) ∗ coreLast c ∗ owing c 0 ∗ outs45 x wq kb vb wo c ∗ Z) := by
  have h0 : h ≠ 0 := by rw [hh]; decide
  unfold coreMid
  refine ex_left fun K => ?_
  refine (last_in x wq kb vb wo K c h.val).trans ?_
  exact ht_mono (body_last x wq kb vb wo i arg1 h1 arg2 h2 arg3 h3 arg4 h4 h5 h6 h7 h8 h9 h10 h11 h12 h13 K c h hh hi _ _ (part8_next i arg1 h1 arg2 h2 arg3 h3 arg4 h4 h5 h6 h7 h8 h9 h10 h11 h12 h13 c h h0 hi (x c) (wq c h) (kb c h) (vb c h) _)) (BI.Entails.refl _)
    (fun _ => last_out x wq kb vb wo c)

end Cert.KernelIdeal.Talk

end
-- ==== Proof.Talk.lean ====
/- The main call: what its windows hold at every point, and its body at every point. -/
module

public import proofs.«01_k».proof.Proof.Steps

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (m : (ℓ : Loc nD τ sig) → Buf (Elt F) ℓ)
/-- The grid point of a head. -/
def pt (h : Fin 8) : Fin cfg2.N := ⟨h.val, by have := N_2; show h.val < grid2.N; omega⟩
/-- The keys as the first call leaves them, the values as the second does. -/
def kArr (c : Dev nD) : Buf (Elt F) ((c : Thread nD τ).loc main_v1) := (dat0 m c).arrAt 1 cfg0.N
def vArr (c : Dev nD) : Buf (Elt F) ((c : Thread nD τ).loc main_v2) := (dat1 m c).arrAt 1 cfg1.N
/-- The blocks the heads see. -/
def xI (c : Dev nD) : Vec F S1x256x1024 .f32 := ((cfg2.win 0).blk (pt 0)).view.read (Elt F) (m ((c : Thread nD τ).loc main_arg0))
def wqI (c : Dev nD) (h : Fin 8) : Vec F S1024x128 .f32 := ((cfg2.win 1).blk (pt h)).view.read (Elt F) (m ((c : Thread nD τ).loc main_arg1))
def kI (c : Dev nD) (h : Fin 8) : Vec F S1x4096x128 .bf16 := ((cfg2.win 2).blk (pt h)).view.read (Elt F) (kArr m c)
def vI (c : Dev nD) (h : Fin 8) : Vec F S1x4096x128 .bf16 := ((cfg2.win 3).blk (pt h)).view.read (Elt F) (vArr m c)
def woI (c : Dev nD) : Vec F S1024x1024 .f32 := ((cfg2.win 4).blk (pt 0)).view.read (Elt F) (m ((c : Thread nD τ).loc main_arg4))
/-- The result. -/
def outI (c : Dev nD) : Vec F S1x256x1024 .f32 := outF (loF (xI m) (wqI m) (kI m) (vI m)) (llF (xI m) (wqI m) (kI m) (vI m)) (woI m) c
def hd (t : Fin cfg2.N) : Fin 8 := ⟨t.val, by have := N_2; have : t.val < grid2.N := t.isLt; omega⟩

/-- Buffers of the other two calls, which this one leaves alone. -/
def others8 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))
/-- A device's counters for itself, which no copy uses. -/
def selfSems (c : Fin 8) : sProp 𝕄 := bigSep Finset.univ fun k : Fin 6 => semVal (dcell k c c) 0
/-- What the call carries along unused. -/
def keep (c : Dev nD) : sProp 𝕄 := iprop(others8 c ∗ selfSems c)
/-- What the call holds before point n. -/
def core (c : Dev nD) (n : ℕ) : sProp 𝕄 := if n = 0 then coreFirst (xI m) (wqI m) (kI m) (vI m) (woI m) c else if n < 8 then coreMid (xI m) (wqI m) (kI m) (vI m) (woI m) c n else coreLast c
/-- What it owes before point n. -/
def debt (c : Dev nD) (n : ℕ) : CellTallies nD τ sig Unit := if n = 0 then O₀ c else if n < 8 then O₁ c else 0

/-- What the main call works on, and what it leaves. -/
def dat2 (c : Dev nD) : Dat τ (Elt F) Unit ℕ UU ℕ cfg2 c where
  A := fun | 0 => m ((c : Thread nD τ).loc main_arg0) | 1 => m ((c : Thread nD τ).loc main_arg1) | 2 => kArr m c | 3 => vArr m c | 4 => m ((c : Thread nD τ).loc main_arg4) | 5 => m ((c : Thread nD τ).loc main_v3)
           | ⟨_ + 6, h⟩ => absurd h (Nat.not_lt.2 (Nat.le_add_left _ _))
  after := fun | 0 => fun _ => xI m c | 1 => fun t => wqI m c (hd t) | 2 => fun t => kI m c (hd t) | 3 => fun t => vI m c (hd t) | 4 => fun _ => woI m c | 5 => fun _ => outI m c
               | ⟨_ + 6, h⟩ => absurd h (Nat.not_lt.2 (Nat.le_add_left _ _))
  Φ t := iprop(keep c ∗ (∃ r, prngReg c r) ∗ core m c t.val)
  q _ := fullShare
  owed t := debt c t.val

theorem pt_hd (t : Fin cfg2.N) : pt (hd t) = t := Fin.ext rfl

/-- A window fetched once holds the same block at every point. -/
theorem before_x (c : Dev nD) (t : Fin cfg2.N) (d) : (dat2 m c).before 0 t d = xI m c := by
  by_cases h : t.val % 8 = 0
  · obtain rfl : t = pt 0 := Fin.ext (by have := N_2; have h2 : t.val < grid2.N := t.isLt; show t.val = 0; omega)
    exact (dat2 m c).before_fetched 0 (pt 0) ((fetch2_0 _).mpr h) d
  · refine ((dat2 m c).before_unfetched_in 0 rfl t (Bool.eq_false_iff.mpr fun e => h ((fetch2_0 t).mp e)) (fun _ => rfl) d).trans ?_
    unfold Dat.kept; dsimp only; rfl
theorem before_wo (c : Dev nD) (t : Fin cfg2.N) (d) : (dat2 m c).before 4 t d = woI m c := by
  by_cases h : t.val % 8 = 0
  · obtain rfl : t = pt 0 := Fin.ext (by have := N_2; have h2 : t.val < grid2.N := t.isLt; show t.val = 0; omega)
    exact (dat2 m c).before_fetched 4 (pt 0) ((fetch2_4 _).mpr h) d
  · refine ((dat2 m c).before_unfetched_in 4 rfl t (Bool.eq_false_iff.mpr fun e => h ((fetch2_4 t).mp e)) (fun _ => rfl) d).trans ?_
    unfold Dat.kept; dsimp only; rfl
theorem before_wq (c : Dev nD) (t : Fin cfg2.N) (d) : (dat2 m c).before 1 t d = wqI m c (hd t) := (dat2 m c).before_fetched 1 t (fetch2_1 t) d
theorem before_k (c : Dev nD) (t : Fin cfg2.N) (d) : (dat2 m c).before 2 t d = kI m c (hd t) := (dat2 m c).before_fetched 2 t (fetch2_2 t) d
theorem before_v (c : Dev nD) (t : Fin cfg2.N) (d) : (dat2 m c).before 3 t d = vI m c (hd t) := (dat2 m c).before_fetched 3 t (fetch2_3 t) d

theorem coords_val : ∀ t : Fin 8, ((grid2.coords ((t.cast N_2.symm))) 0).val = t.val := by decide
theorem idle5 : ∀ t : Fin 8, idle2 5 (grid2.coords (t.cast N_2.symm)) = decide (t.val ≠ 7) := by decide
theorem slot4 (t : Fin cfg2.N) : st2_4 t = woM := congrArg (fun s : Fin 1 => stage2_4 s) (Subsingleton.elim (α := Fin 1) _ 0)
theorem slot5 (t : Fin cfg2.N) : st2_5 t = outM := congrArg (fun s : Fin 1 => stage2_5 s) (Subsingleton.elim (α := Fin 1) _ 0)
/-- A memref's wholeness may be shown in any way. -/
theorem body_congr (i : grid2.Coords) (arg1 : Memref sig .tc .vmem S1x256x1024 .f32) (h1 : arg1.IsWhole) (arg2 : Memref sig .tc .vmem S1024x128 .f32) (h2 : arg2.IsWhole)
    (arg3 : Memref sig .tc .vmem S1x4096x128 .bf16) (h3 : arg3.IsWhole) (arg4 : Memref sig .tc .vmem S1x4096x128 .bf16) (h4 : arg4.IsWhole)
    (a5 b5 : Memref sig .tc .vmem S1024x1024 .f32) (h5 : a5.IsWhole) (h5' : b5.IsWhole) (a6 b6 : Memref sig .tc .vmem S1x256x1024 .f32) (h6 : a6.IsWhole) (h6' : b6.IsWhole)
    (h7 : oM.IsWhole) (h8 : lM.IsWhole) (h9 : kM.IsWhole) (h10 : vM.IsWhole) (h11 : roM.IsWhole) (h12 : rlM.IsWhole) (h13 : gM.IsWhole) (e5 : a5 = b5) (e6 : a6 = b6) :
    (cc2_body (F := F) i arg1 h1 arg2 h2 arg3 h3 arg4 h4 a5 h5 a6 h6 oM h7 lM h8 kM h9 vM h10 roM h11 rlM h12 gM h13 cc2_scratch7 cc2_scratch8 cc2_scratch9 cc2_scratch10 cc2_scratch11 cc2_scratch12)
      = cc2_body (F := F) i arg1 h1 arg2 h2 arg3 h3 arg4 h4 b5 h5' b6 h6' oM h7 lM h8 kM h9 vM h10 roM h11 rlM h12 gM h13 cc2_scratch7 cc2_scratch8 cc2_scratch9 cc2_scratch10 cc2_scratch11 cc2_scratch12 := by
  subst e5 e6; rfl
/-- The call's body at a point, its last two windows named. -/
theorem bodyAt2_eq (t : Fin cfg2.N) : bodyAt2 (F := F) t = cc2_body (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) woM (Memref.isWhole_whole _) outM (Memref.isWhole_whole _)
    oM (Memref.isWhole_whole _) lM (Memref.isWhole_whole _) kM (Memref.isWhole_whole _) vM (Memref.isWhole_whole _) roM (Memref.isWhole_whole _) rlM (Memref.isWhole_whole _) gM (Memref.isWhole_whole _)
    cc2_scratch7 cc2_scratch8 cc2_scratch9 cc2_scratch10 cc2_scratch11 cc2_scratch12 :=
  body_congr _ _ _ _ _ _ _ _ _ _ _ _ _ _ _ _ _ _ _ _ _ _ _ _ (slot4 t) (slot5 t)

theorem owns_wo1 (c : Dev nD) (X : Vec F S1024x1024 .f32) : owns (c : Thread nD τ) woM fullShare X ⊢ (woM.view.loc (c : Thread nD τ) ↦{fullShare} X : sProp 𝕄) := by
  rw [owns_whole_eq]
  iintro ⟨%f, %h, H⟩
  subst h
  iexact H
theorem owns_wo2 (c : Dev nD) (X : Vec F S1024x1024 .f32) : (woM.view.loc (c : Thread nD τ) ↦{fullShare} X : sProp 𝕄) ⊢ owns (c : Thread nD τ) woM fullShare X := by
  rw [owns_whole_eq]
  iintro H
  iexists X
  isplitr
  · ipureintro; rfl
  iexact H
theorem owns_wo (c : Dev nD) (X : Vec F S1024x1024 .f32) : (owns (c : Thread nD τ) woM fullShare X : sProp 𝕄) = (woM.view.loc (c : Thread nD τ) ↦{fullShare} X) :=
  BI.equiv_iff.mp ⟨owns_wo1 c X, owns_wo2 c X⟩
theorem owns_out1 (c : Dev nD) (X : Vec F S1x256x1024 .f32) : owns (c : Thread nD τ) outM fullShare X ⊢ (outM.view.loc (c : Thread nD τ) ↦{fullShare} X : sProp 𝕄) := by
  rw [owns_whole_eq]
  iintro ⟨%f, %h, H⟩
  subst h
  iexact H
theorem owns_out2 (c : Dev nD) (X : Vec F S1x256x1024 .f32) : (outM.view.loc (c : Thread nD τ) ↦{fullShare} X : sProp 𝕄) ⊢ owns (c : Thread nD τ) outM fullShare X := by
  rw [owns_whole_eq]
  iintro H
  iexists X
  isplitr
  · ipureintro; rfl
  iexact H
theorem owns_out (c : Dev nD) (X : Vec F S1x256x1024 .f32) : (owns (c : Thread nD τ) outM fullShare X : sProp 𝕄) = (outM.view.loc (c : Thread nD τ) ↦{fullShare} X) :=
  BI.equiv_iff.mp ⟨owns_out1 c X, owns_out2 c X⟩
/-- What the last window's buffer is left at. -/
def post5 (c : Dev nD) (t : Fin cfg2.N) : sProp 𝕄 :=
  match cfg2.idle 5 (grid2.coords t) with
  | true => match (cfg2.win 5).flush t with
    | false => iprop(∃ d, owns (c : Thread nD τ) (st2_5 t) fullShare ((dat2 m c).before 5 t d))
    | true => owns (c : Thread nD τ) (st2_5 t) fullShare (outI m c)
  | false => owns (c : Thread nD τ) (st2_5 t) fullShare (outI m c)
theorem post5_mid (c : Dev nD) (t : Fin cfg2.N) (h : t.val ≠ 7) : post5 m c t = iprop(∃ d, owns (c : Thread nD τ) (st2_5 t) fullShare ((dat2 m c).before 5 t d)) := by
  have hi : cfg2.idle 5 (grid2.coords t) = true := (idle5 (hd t)).trans (decide_eq_true h)
  have hf : (cfg2.win 5).flush t = false := Bool.eq_false_iff.mpr fun e => by
    have := (flush2_5 t).mp e; have := (hd t).isLt; have : (hd t).val = t.val := rfl; omega
  unfold post5; rw [hi]; dsimp only; rw [hf]
theorem post5_last (c : Dev nD) (t : Fin cfg2.N) (h : t.val = 7) : post5 m c t = owns (c : Thread nD τ) (st2_5 t) fullShare (outI m c) := by
  have hi : cfg2.idle 5 (grid2.coords t) = false := (idle5 (hd t)).trans (decide_eq_false (not_not.mpr h))
  unfold post5; rw [hi]

theorem owesAt_1 (c : Dev nD) (t : Fin (cfg2.N + 1)) : (dat2 m c).owesAt () t ⊢ owing c (debt c t.val) := by
  unfold Dat.owesAt Pipeline.owesWithin owing
  iintro ⟨%W, -, H⟩; iexists W; iexact H
theorem owesAt_2 (c : Dev nD) (t : Fin (cfg2.N + 1)) : owing c (debt c t.val) ⊢ (dat2 m c).owesAt () t := by
  unfold Dat.owesAt Pipeline.owesWithin owing
  iintro ⟨%W, H⟩; iexists W; isplitr
  · ipureintro; exact fun _ _ => Or.inl trivial
  iexact H
theorem owesAt_eq (c : Dev nD) (t : Fin (cfg2.N + 1)) : (dat2 m c).owesAt () t = owing c (debt c t.val) := BI.equiv_iff.mp ⟨owesAt_1 m c t, owesAt_2 m c t⟩
theorem open5 (c : Dev nD) (t : Fin cfg2.N) : iprop(∃ d, owns (c : Thread nD τ) (st2_5 t) fullShare ((dat2 m c).before 5 t d)) ⊢ (iprop(∃ f, outM.view.loc (c : Thread nD τ) ↦{fullShare} f) : sProp 𝕄) := by
  rw [slot5]
  iintro ⟨%d, H⟩
  iexists (dat2 m c).before 5 t d
  rw [← owns_out c ((dat2 m c).before 5 t d)]
  iexact H

/-! ## What a step takes and hands on, in order -/
theorem in_last {α β γ δ ε : Type} {H8 Hp HC HO H0 H1 H2 H3 H4 H5 : sProp 𝕄} : iprop((H8 ∗ Hp ∗ HC) ∗ HO ∗ ((∃ _ : α, H0) ∗ (∃ _ : β, H1) ∗ (∃ _ : γ, H2) ∗ (∃ _ : δ, H3) ∗ (∃ _ : ε, H4) ∗ H5))
    ⊢ iprop(HC ∗ HO ∗ (H0 ∗ H1 ∗ H2 ∗ H3) ∗ H4 ∗ H5 ∗ H8 ∗ Hp) := by
  iintro ⟨⟨H8, Hp, HC⟩, HO, ⟨%_, H0⟩, ⟨%_, H1⟩, ⟨%_, H2⟩, ⟨%_, H3⟩, ⟨%_, H4⟩, H5⟩
  isplitl [HC]; · iexact HC
  isplitl [HO]; · iexact HO
  isplitl [H0 H1 H2 H3]
  · isplitl [H0]; · iexact H0
    isplitl [H1]; · iexact H1
    isplitl [H2]; · iexact H2
    iexact H3
  isplitl [H4]; · iexact H4
  isplitl [H5]; · iexact H5
  isplitl [H8]; · iexact H8
  iexact Hp
theorem out_last {H8 Hp HC HO H0 H1 H2 H3 H4 H5 : sProp 𝕄} : iprop((H0 ∗ H1 ∗ H2 ∗ H3) ∗ HC ∗ HO ∗ (H4 ∗ H5) ∗ H8 ∗ Hp)
    ⊢ iprop((H8 ∗ Hp ∗ HC) ∗ HO ∗ (H0 ∗ H1 ∗ H2 ∗ H3 ∗ H4 ∗ H5)) := by
  iintro ⟨⟨H0, H1, H2, H3⟩, HC, HO, ⟨H4, H5⟩, H8, Hp⟩
  isplitl [H8 Hp HC]
  · isplitl [H8]; · iexact H8
    isplitl [Hp]; · iexact Hp
    iexact HC
  isplitl [HO]; · iexact HO
  isplitl [H0]; · iexact H0
  isplitl [H1]; · iexact H1
  isplitl [H2]; · iexact H2
  isplitl [H3]; · iexact H3
  isplitl [H4]; · iexact H4
  iexact H5
theorem in_first {α β γ δ ε : Type} {H8 Hp HC HO H0 H1 H2 H3 H4 H5 : sProp 𝕄} : iprop((H8 ∗ Hp ∗ HC) ∗ HO ∗ ((∃ _ : α, H0) ∗ (∃ _ : β, H1) ∗ (∃ _ : γ, H2) ∗ (∃ _ : δ, H3) ∗ (∃ _ : ε, H4) ∗ H5))
    ⊢ iprop(HC ∗ HO ∗ (H0 ∗ H1 ∗ H2 ∗ H3) ∗ H8 ∗ Hp ∗ H4 ∗ H5) := by
  refine in_last.trans ?_
  iintro ⟨HC, HO, HI, H4, H5, H8, Hp⟩
  isplitl [HC]; · iexact HC
  isplitl [HO]; · iexact HO
  isplitl [HI]; · iexact HI
  isplitl [H8]; · iexact H8
  isplitl [Hp]; · iexact Hp
  isplitl [H4]; · iexact H4
  iexact H5
theorem in_mid {α β γ δ ε : Type} {H8 Hp HC HO H0 H1 H2 H3 H4 H5 : sProp 𝕄} : iprop((H8 ∗ Hp ∗ HC) ∗ HO ∗ ((∃ _ : α, H0) ∗ (∃ _ : β, H1) ∗ (∃ _ : γ, H2) ∗ (∃ _ : δ, H3) ∗ (∃ _ : ε, H4) ∗ H5))
    ⊢ iprop(HC ∗ (H0 ∗ H1 ∗ H2 ∗ H3) ∗ HO ∗ H8 ∗ Hp ∗ H4 ∗ H5) := by
  refine in_last.trans ?_
  iintro ⟨HC, HO, HI, H4, H5, H8, Hp⟩
  isplitl [HC]; · iexact HC
  isplitl [HI]; · iexact HI
  isplitl [HO]; · iexact HO
  isplitl [H8]; · iexact H8
  isplitl [Hp]; · iexact Hp
  isplitl [H4]; · iexact H4
  iexact H5
theorem swap4 {H8 Hp H4 H5 : sProp 𝕄} : iprop(H8 ∗ Hp ∗ H4 ∗ H5) ⊢ iprop((H4 ∗ H5) ∗ H8 ∗ Hp) := by
  iintro ⟨H8, Hp, H4, H5⟩
  isplitl [H4 H5]
  · isplitl [H4]; · iexact H4
    iexact H5
  isplitl [H8]; · iexact H8
  iexact Hp
theorem out_mid {H8 Hp HC HO H0 H1 H2 H3 H4 H5 : sProp 𝕄} : iprop((H0 ∗ H1 ∗ H2 ∗ H3) ∗ HC ∗ HO ∗ H8 ∗ Hp ∗ H4 ∗ H5)
    ⊢ iprop((H8 ∗ Hp ∗ HC) ∗ HO ∗ (H0 ∗ H1 ∗ H2 ∗ H3 ∗ H4 ∗ H5)) := by
  refine BI.Entails.trans ?_ out_last
  exact sep_mono_r (sep_mono_r (sep_mono_r swap4))
theorem body2 (c : Dev nD) : BodyObligation (dat2 m c) (defs₀ (F := F)) 𝒱₀ () Set.univ := fun t => by
  rw [bigSep_W2, bigSep_W2, owesAt_eq, owesAt_eq]
  have hi := coords_val (hd t)
  show iprop((keep c ∗ (∃ r, prngReg c r) ∗ core m c t.val) ∗ owing c (debt c t.val)
      ∗ ((∃ d, owns (c : Thread nD τ) (st2_0 t) fullShare ((dat2 m c).before 0 t d)) ∗ (∃ d, owns (c : Thread nD τ) (st2_1 t) fullShare ((dat2 m c).before 1 t d))
       ∗ (∃ d, owns (c : Thread nD τ) (st2_2 t) fullShare ((dat2 m c).before 2 t d)) ∗ (∃ d, owns (c : Thread nD τ) (st2_3 t) fullShare ((dat2 m c).before 3 t d))
       ∗ (∃ d, owns (c : Thread nD τ) (st2_4 t) fullShare ((dat2 m c).before 4 t d)) ∗ (∃ d, owns (c : Thread nD τ) (st2_5 t) fullShare ((dat2 m c).before 5 t d))))
    ⊢ wpc c (bodyAt2 t) fun _ => iprop((keep c ∗ (∃ r, prngReg c r) ∗ core m c (t.val + 1)) ∗ owing c (debt c (t.val + 1))
      ∗ (owns (c : Thread nD τ) (st2_0 t) fullShare (xI m c) ∗ owns (c : Thread nD τ) (st2_1 t) fullShare (wqI m c (hd t))
       ∗ owns (c : Thread nD τ) (st2_2 t) fullShare (kI m c (hd t)) ∗ owns (c : Thread nD τ) (st2_3 t) fullShare (vI m c (hd t))
       ∗ owns (c : Thread nD τ) (st2_4 t) fullShare (woI m c) ∗ post5 m c t))
  simp only [before_x, before_wq, before_k, before_v, before_wo]
  rw [bodyAt2_eq]
  have hlt : t.val < 8 := (hd t).isLt
  by_cases h7 : t.val = 7
  · rw [post5_last m c t h7, slot4, slot5, owns_wo, owns_out]
    have e1 : core m c t.val = coreMid (xI m) (wqI m) (kI m) (vI m) (woI m) c (hd t).val := by
      unfold core; rw [if_neg (by omega), if_pos hlt]; rfl
    have e2 : core m c (t.val + 1) = coreLast c := by unfold core; rw [if_neg (by omega), if_neg (by omega)]
    have d1 : debt c t.val = O₁ c := by unfold debt; rw [if_neg (by omega), if_pos hlt]
    have d2 : debt c (t.val + 1) = 0 := by unfold debt; rw [if_neg (by omega), if_neg (by omega)]
    rw [e1, e2, d1, d2]
    refine BI.Entails.trans ?_ (ht_mono (step_last (xI m) (wqI m) (kI m) (vI m) (woI m) _ _ _ _ _ _ _ _ _ _ _ _ _ _ _ _ _ _ c (hd t) (Fin.ext h7) hi iprop(keep c ∗ (∃ r, prngReg c r))) (BI.Entails.refl _) (fun _ => ?_))
    · unfold ins
      exact (sep_mono_r (sep_mono_r (sep_mono_r (sep_mono_r (sep_mono_r (sep_mono_r (sep_mono_r (slot5 t ▸ open5 m c t)))))))).trans in_last
    · unfold ins outs45
      exact out_last
  · rw [post5_mid m c t h7]
    have e2 : core m c (t.val + 1) = coreMid (xI m) (wqI m) (kI m) (vI m) (woI m) c ((hd t).val + 1) := by unfold core; rw [if_neg (by omega), if_pos (by omega)]; rfl
    have d2 : debt c (t.val + 1) = O₁ c := by unfold debt; rw [if_neg (by omega), if_pos (by omega)]
    rw [e2, d2]
    by_cases h0 : t.val = 0
    · have e1 : core m c t.val = coreFirst (xI m) (wqI m) (kI m) (vI m) (woI m) c := by unfold core; rw [if_pos h0]
      have d1 : debt c t.val = O₀ c := by unfold debt; rw [if_pos h0]
      rw [e1, d1]
      refine BI.Entails.trans ?_ (ht_mono (step_first (xI m) (wqI m) (kI m) (vI m) (woI m) _ _ _ _ _ _ _ _ _ _ _ _ _ _ _ _ _ _ c (hd t) (Fin.ext h0) hi
        iprop(keep c ∗ (∃ r, prngReg c r) ∗ owns (c : Thread nD τ) (st2_4 t) fullShare (woI m c) ∗ (∃ d, owns (c : Thread nD τ) (st2_5 t) fullShare ((dat2 m c).before 5 t d)))) (BI.Entails.refl _) (fun _ => ?_))
      · unfold ins; exact in_first
      · unfold ins; exact out_mid
    · have e1 : core m c t.val = coreMid (xI m) (wqI m) (kI m) (vI m) (woI m) c (hd t).val := by unfold core; rw [if_neg h0, if_pos hlt]; rfl
      have d1 : debt c t.val = O₁ c := by unfold debt; rw [if_neg h0, if_pos hlt]
      rw [e1, d1]
      refine BI.Entails.trans ?_ (ht_mono (step_mid (xI m) (wqI m) (kI m) (vI m) (woI m) _ _ _ _ _ _ _ _ _ _ _ _ _ _ _ _ _ _ c (hd t) (fun e => h0 (congrArg Fin.val e)) (fun e => h7 (congrArg Fin.val e)) hi
        iprop(owing c (O₁ c) ∗ keep c ∗ (∃ r, prngReg c r) ∗ owns (c : Thread nD τ) (st2_4 t) fullShare (woI m c) ∗ (∃ d, owns (c : Thread nD τ) (st2_5 t) fullShare ((dat2 m c).before 5 t d)))) (BI.Entails.refl _) (fun _ => ?_))
      · unfold ins; exact in_mid
      · unfold ins; exact out_mid

end Cert.KernelIdeal.Talk

end
-- ==== Proof.Open.lean ====
/- Opening a device's cells as the main call is entered, and giving the counters back as it is left. -/
module

public import proofs.«01_k».proof.Proof.Talk

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (ag : Vec F S8x32x1024 .bf16)

theorem ofEq {A B : sProp 𝕄} (h : A = B) : A ⊢ B := by rw [h]
theorem bs_pair {ι : Type} [Fintype ι] (A B : ι → sProp 𝕄) : iprop(bigSep Finset.univ A ∗ bigSep Finset.univ B) ⊢ bigSep Finset.univ (fun i => iprop(A i ∗ B i)) :=
  ofEq (bigSep_sep' _ A B).symm
theorem bs_unpair {ι : Type} [Fintype ι] (A B : ι → sProp 𝕄) : bigSep Finset.univ (fun i => iprop(A i ∗ B i)) ⊢ iprop(bigSep Finset.univ A ∗ bigSep Finset.univ B) :=
  ofEq (bigSep_sep' _ A B)
/-- The cells of a device, kind by kind. -/
theorem six (X : Fin 6 → sProp 𝕄) : bigSep Finset.univ X = iprop(X 0 ∗ X 1 ∗ X 2 ∗ X 3 ∗ X 4 ∗ X 5) := by
  rw [show (Finset.univ : Finset (Fin 6)) = {0, 1, 2, 3, 4, 5} from by decide, bigSep_insert (by decide), bigSep_insert (by decide), bigSep_insert (by decide), bigSep_insert (by decide),
    bigSep_insert (by decide), bigSep_singleton]
  rfl
/-- A device's cells: its own, and one for each peer. -/
theorem cells_self (c : Fin 8) (X : Fin 6 → Fin 8 → sProp 𝕄) : (bigSep Finset.univ fun x : Fin 6 × Fin 8 => X x.1 x.2) = iprop((bigSep Finset.univ fun k => X k c) ∗ bigSep Finset.univ fun k => fo c (X k)) := by
  rw [bigSep_univ_prod, ← bigSep_sep']
  exact bigSep_congr fun k _ => others c (X k)

theorem open_cells (K : GSem nD τ sig → ℕ) (c : Fin 8) :
    iprop(invs lo ll ag K ∗ bigSep Finset.univ fun x : Fin 6 × Fin 8 => iprop(openTok ER (dcell x.1 c x.2) ∗ semVal (dcell x.1 c x.2) 0))
      ⊢ iprop(|={Set.univ}=> bigSep Finset.univ fun x : Fin 6 × Fin 8 => iprop(atPos ER (dcell x.1 c x.2) 0 ∅ 0 ∗ reached ER (dcell x.1 c x.2) 0) : sProp 𝕄) := by
  refine BI.Entails.trans ?_ (bigSep_fupd _ _)
  exact bigSep_with_persistent fun x _ => (sep_mono_l (invs_d lo ll ag K x.1 c x.2)).trans (Rounds.cell_open ER (Rd lo ll ag) (Set.mem_univ _))
theorem close_self (K : GSem nD τ sig → ℕ) (c : Fin 8) :
    iprop(invs lo ll ag K ∗ bigSep Finset.univ fun k : Fin 6 => atPos ER (dcell k c c) 0 ∅ 0) ⊢ iprop(|={Set.univ}=> selfSems c : sProp 𝕄) := by
  unfold selfSems
  refine BI.Entails.trans ?_ (bigSep_fupd _ _)
  exact bigSep_with_persistent fun k _ => (sep_mono_l (invs_d lo ll ag K k c c)).trans (Rounds.cell_close ER (Rd lo ll ag) (Set.mem_univ _) id (duties_own lo ll ag k c))

/-- The credits a device waits with. -/
def creds (c : Fin 8) : sProp 𝕄 := iprop(cred (tallyAt (barCell c) () 8) ∗ fo c (fun p => cred (tallyAt (dcell 2 c p) () (amt 2)))
  ∗ fo c (fun p => cred (tallyAt (dcell 3 c p) () (amt 3))) ∗ fo c (fun p => cred (tallyAt (dcell 5 c p) () (amt 5))))
/-- What a device has of the exchange before the main call: cells unopened. -/
def shut (c : Fin 8) : sProp 𝕄 := iprop(∃ K, invs lo ll ag K ∗ (bigSep Finset.univ fun p : Fin 8 => reached ER (barCell p) 0) ∗ atPos ER (barCell c) 0 ∅ 0
  ∗ (bigSep Finset.univ fun x : Fin 6 × Fin 8 => openTok ER (dcell x.1 c x.2)) ∗ (bigSep Finset.univ fun p : Fin 8 => dutyTok ER (barCell p) 0 c) ∗ toks c ∗ creds c)
/-- And once they are opened. -/
def ready (c : Fin 8) : sProp 𝕄 := iprop(∃ K, known₀ lo ll ag K c ∗ (bigSep Finset.univ fun p : Fin 8 => reached ER (barCell p) 0) ∗ (bigSep Finset.univ fun p : Fin 8 => dutyTok ER (barCell p) 0 c)
  ∗ barAt c ∗ toks c ∗ ats c ∗ waits c ∗ selfSems c)

theorem waits_of (c : Fin 8) : iprop((bigSep Finset.univ fun k => fo c (fun p => atPos ER (dcell k c p) 0 ∅ 0)) ∗ creds c) ⊢ iprop(cred (tallyAt (barCell c) () 8) ∗ ats c ∗ waits (F := F) c) := by
  rw [six]
  unfold creds ats waits waitIn
  simp only [fo_sep]
  iintro ⟨⟨H0, H1, H2, H3, H4, H5⟩, Hb, C2, C3, C5⟩
  isplitl [Hb]; · iexact Hb
  isplitl [H0 H1 H4]
  · isplitl [H0]; · iexact H0
    isplitl [H1]; · iexact H1
    iexact H4
  isplitl [C2 H2]
  · isplitl [C2]; · iexact C2
    iexact H2
  isplitl [C3 H3]
  · isplitl [C3]; · iexact C3
    iexact H3
  isplitl [C5]; · iexact C5
  iexact H5

def osem : Fin 6 × Fin 8 → SemLoc sig := fun x => .dma (dsem x.1 x.2)

theorem opened (c : Fin 8) : iprop(shut lo ll ag c ∗ Pipeline.ownSems0 osem (c : Dev nD) ∗ levAts L lv) ⊢ (|={Set.univ}=> ready lo ll ag c : sProp 𝕄) := by
  rw [show (Pipeline.ownSems0 osem (c : Dev nD) : sProp 𝕄) = bigSep Finset.univ fun x : Fin 6 × Fin 8 => semVal (dcell x.1 c x.2) 0 from rfl]
  unfold shut ready
  iintro ⟨⟨%K, #HI, #HR, Hat, Hop, Hd, Ht, Hc⟩, Hs, #Hl⟩
  imod (open_cells lo ll ag K c) $$ [Hop Hs] with H
  · isplitr; · iexact HI
    iapply (bs_pair (fun x : Fin 6 × Fin 8 => openTok ER (dcell x.1 c x.2)) (fun x => semVal (dcell x.1 c x.2) 0))
    isplitl [Hop]; · iexact Hop
    iexact Hs
  ihave H := (bs_unpair (fun x : Fin 6 × Fin 8 => atPos ER (dcell x.1 c x.2) 0 ∅ 0) (fun x => reached ER (dcell x.1 c x.2) 0)) $$ H
  icases H with ⟨Ha, #Hup⟩
  ihave Ha := (ofEq (cells_self c (fun k p => atPos ER (dcell k c p) 0 ∅ 0))) $$ Ha
  icases Ha with ⟨Hself, Hfo⟩
  imod (close_self lo ll ag K c) $$ [Hself] with Hself
  · isplitr; · iexact HI
    iexact Hself
  ihave Hw := (waits_of (F := F) c) $$ [Hfo Hc]
  · isplitl [Hfo]; · iexact Hfo
    iexact Hc
  icases Hw with ⟨Hb, Hats, Hw⟩
  imodintro
  iexists K
  unfold known₀ ownUp barAt
  isplitr
  · isplitr; · iexact HI
    isplitr; · iexact Hup
    iexact Hl
  isplitr; · iexact HR
  isplitl [Hd]; · iexact Hd
  isplitl [Hb Hat]
  · isplitl [Hb]; · iexact Hb
    iexact Hat
  isplitl [Ht]; · iexact Ht
  isplitl [Hats]; · iexact Hats
  isplitl [Hw]; · iexact Hw
  iexact Hself

end Cert.KernelIdeal.Talk

end
-- ==== Proof.Segs.lean ====
/- The three calls as segments of the program, each between the contents of the arrays before and after it. -/
module

public import proofs.«01_k».proof.Proof.Open

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (m : (ℓ : Loc nD τ sig) → Buf (Elt F) ℓ)

theorem sig_all (c : Fin 8) : iprop((bigSep Finset.univ fun p : Fin 8 => dutyTok ER (barCell p) 0 c) ∗ (bigSep Finset.univ fun p : Fin 8 => barPay (F := F) p c) ∗ (bigSep Finset.univ fun p : Fin 8 => reached ER (barCell p) 0))
    ⊢ fam (sigIn (F := F) c) (fun _ => iprop(emp)) (0 : Fin 8).val := by
  rw [show (0 : Fin 8).val = 0 from rfl, fam_zero]
  unfold sigIn
  rw [bigSep_sep', bigSep_sep']
/-- Entering the main call. -/
theorem enter (c : Dev nD) : iprop(Pipeline.scopedRest spec2 c ∗ (∃ r, prngReg c r) ∗ ready (loF (xI m) (wqI m) (kI m) (vI m)) (llF (xI m) (wqI m) (kI m) (vI m)) (agF (loF (xI m) (wqI m) (kI m) (vI m)) (llF (xI m) (wqI m) (kI m) (vI m)) (woI m)) c) ⊢ (dat2 m c).Φ 0 := by
  rw [show (dat2 m c).Φ 0 = iprop(keep c ∗ (∃ r, prngReg c r) ∗ coreFirst (xI m) (wqI m) (kI m) (vI m) (woI m) c) from rfl, scopedRest2_eq]
  unfold keep others8 coreFirst spare ready
  iintro ⟨⟨S0, S1, S2, S3, S4, S5, S6, S7, Ho, Hl, Hk, Hv, Hro, Hrl, Hg⟩, Hp, ⟨%K, #HK, #HR, Hd, Hb, Ht, Ha, Hw, Hself⟩⟩
  ihave H := (bar_pay (F := F) c) $$ [Hro Hrl Hg]
  · unfold known₀
    icases HK with ⟨-, HU, -⟩
    isplitr; · iexact HU
    isplitl [Hro]; · iexact Hro
    isplitl [Hrl]; · iexact Hrl
    iexact Hg
  icases H with ⟨H1, H2, H3, Hpay⟩
  isplitl [S0 S1 S2 S3 S4 S5 S6 S7 Hself]
  · isplitr [Hself]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hself
  isplitl [Hp]; · iexact Hp
  iexists K
  isplitr; · iexact HK
  isplitl [Hd Hpay]
  · iapply (sig_all (F := F) c)
    isplitl [Hd]; · iexact Hd
    isplitl [Hpay]; · iexact Hpay
    iexact HR
  isplitl [Hb]; · iexact Hb
  isplitl [Hk Hv]
  · icases Hk with ⟨%f, Hk⟩
    icases Hv with ⟨%g, Hv⟩
    iexists f; iexists g
    unfold kvAt
    isplitl [Hk]; · iexact Hk
    iexact Hv
  isplitl [Ho]
  · unfold oEx
    icases Ho with ⟨%f, Ho⟩
    iexists f
    isplitr
    · ipureintro; intro i hi; exact absurd hi (Nat.not_lt_zero _)
    iexact Ho
  isplitl [Hl]
  · unfold lEx
    icases Hl with ⟨%f, Hl⟩
    iexists f
    isplitr
    · ipureintro; intro i hi; exact absurd hi (Nat.not_lt_zero _)
    iexact Hl
  isplitl [H1]; · iexact H1
  isplitl [H2]; · iexact H2
  isplitl [H3]; · iexact H3
  isplitl [Ht]; · iexact Ht
  isplitl [Ha]; · iexact Ha
  iexact Hw
/-- Leaving it. -/
theorem leave (c : Dev nD) : (dat2 m c).Φ (Fin.last cfg2.N) ⊢ iprop(Pipeline.scopedRest spec2 c ∗ (∃ r, prngReg c r) ∗ Pipeline.ownSems0 osem c ∗ semVal (barCell c) 0) := by
  have e : (dat2 m c).Φ (Fin.last cfg2.N) = iprop(keep c ∗ (∃ r, prngReg c r) ∗ coreLast c) := by
    show iprop(keep c ∗ (∃ r, prngReg c r) ∗ core m c cfg2.N) = _
    unfold core
    rw [if_neg (by show grid2.N ≠ 0; rw [N_2]; decide), if_neg (by show ¬ grid2.N < 8; rw [N_2]; decide)]
  rw [e, scopedRest2_eq, show (Pipeline.ownSems0 osem c : sProp 𝕄) = bigSep Finset.univ fun x : Fin 6 × Fin 8 => semVal (dcell x.1 c x.2) 0 from rfl,
    cells_self c (fun k p => semVal (dcell k c p) 0), six (fun k => fo c (fun p => semVal (dcell k c p) 0))]
  unfold keep others8 coreLast selfSems kvPad kvAt
  iintro ⟨⟨⟨S0, S1, S2, S3, S4, S5, S6, S7⟩, Hself⟩, Hp, ⟨%f, %g, -, Hk, Hv⟩, Hb, Ho, Hl, Hro, Hrl, Hg, G0, G1, G2, G3, G4, G5⟩
  isplitl [S0 S1 S2 S3 S4 S5 S6 S7 Ho Hl Hk Hv Hro Hrl Hg]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [Ho]; · iexact Ho
    isplitl [Hl]; · iexact Hl
    isplitl [Hk]; · iexists f; iexact Hk
    isplitl [Hv]; · iexists g; iexact Hv
    isplitl [Hro]; · iexact Hro
    isplitl [Hrl]; · iexact Hrl
    iexact Hg
  isplitl [Hp]; · iexact Hp
  isplitl [Hself G0 G1 G2 G3 G4 G5]
  · isplitl [Hself]; · iexact Hself
    isplitl [G0]; · iexact G0
    isplitl [G1]; · iexact G1
    isplitl [G2]; · iexact G2
    isplitl [G3]; · iexact G3
    isplitl [G4]; · iexact G4
    iexact G5
  iexact Hb

theorem drop_held {c : Dev nD} {W : Valuation τ sig (Elt F)} {X : sProp 𝕄} : iprop(StableHlo.held (c : Thread nD τ) ∅ W ∗ X) ⊢ X := by
  iintro ⟨-, H⟩; iexact H
theorem add_held {c : Dev nD} {W : Valuation τ sig (Elt F)} {X : sProp 𝕄} : X ⊢ iprop(StableHlo.held (c : Thread nD τ) ∅ W ∗ X) := by
  unfold StableHlo.held
  rw [bigSep_empty]
  iintro H
  isplitr; · iempintro
  iexact H

/-! ## The arrays between calls -/

/-- What the calls leave in the arrays they write. -/
def outs : Outs (F := F) := fun _ r c => if h : r = main_v1 then h ▸ kArr m c else if h : r = main_v2 then h ▸ vArr m c
  else if h : r = main_v3 then h ▸ ((dat2 m c).arrAt 5 cfg2.N : Buf (Elt F) ((c : Thread nD τ).loc main_v3)) else m ((c : Thread nD τ).loc r)
theorem outs_1 (c : Dev nD) : outs m 1 main_v1 c = kArr m c := by unfold outs; rw [dif_pos rfl]
theorem outs_2 (c : Dev nD) : outs m 2 main_v2 c = vArr m c := by unfold outs; rw [dif_neg (by decide), dif_pos rfl]
theorem outs_3 (c : Dev nD) : outs m 3 main_v3 c = (dat2 m c).arrAt 5 cfg2.N := by unfold outs; rw [dif_neg (by decide), dif_neg (by decide), dif_pos rfl]

theorem V1_at (c : Dev nD) : V1 m (outs m) c main_v1 = kArr m c := by
  unfold V1; exact (Function.update_self _ _ _).trans (outs_1 m c)
theorem V2_at (c : Dev nD) : V2 m (outs m) c main_v2 = vArr m c := by
  unfold V2; exact (Function.update_self _ _ _).trans (outs_2 m c)
theorem V3_at (c : Dev nD) : V3 m (outs m) c main_v3 = (dat2 m c).arrAt 5 cfg2.N := by
  unfold V3; exact (Function.update_self _ _ _).trans (outs_3 m c)
/-- The data of the three calls. -/
def pdats : (p : Fin 3) → (c : Dev nD) → Dat τ (Elt F) Unit ℕ UU ℕ (cfgs p) c
  | 0 => dat0 m | 1 => dat1 m | 2 => dat2 m

theorem stage_low0 : ∀ (w : Fin 2) (s : Fin (win0 w).nbuf), lvOf (.dma ((win0 w).sem s)) ≤ 0 := by decide
theorem stage_low1 : ∀ (w : Fin 2) (s : Fin (win1 w).nbuf), lvOf (.dma ((win1 w).sem s)) ≤ 0 := by decide
theorem stage_low2 : ∀ (w : Fin 6) (s : Fin (win2 w).nbuf), lvOf (.dma ((win2 w).sem s)) ≤ 0 := by decide

theorem mem_L (c : Dev nD) (sm : SemLoc sig) : () ∈ L ((c : Thread nD τ), sm) := by rw [L_tc]; exact Finset.mem_singleton_self _
theorem above_L {n : ℕ} {O : CellTallies nD τ sig Unit} (h : Above n O) {g : GSem nD τ sig} {u : Unit} (hg : 0 < O g u) : u ∈ L g ∧ n < lv g u := by
  obtain ⟨h1, h2⟩ := h g u hg
  exact ⟨by unfold L; rw [if_pos h1]; exact Finset.mem_singleton_self _, h2⟩
theorem above_debt (c : Dev nD) (n : ℕ) : Above 0 (debt c n) := by
  unfold debt
  split
  · exact above_O₀ c
  · split
    · exact above_O₁ (by decide) c
    · exact Above.zero 0

/-- What rides beside the arrays up to the main call. -/
abbrev Sh (c : Dev nD) : sProp 𝕄 := shut (loF (xI m) (wqI m) (kI m) (vI m)) (llF (xI m) (wqI m) (kI m) (vI m)) (agF (loF (xI m) (wqI m) (kI m) (vI m)) (llF (xI m) (wqI m) (kI m) (vI m)) (woI m)) c
abbrev rest0 : Finset (DevRef τ sig) := Pipeline.ucRefs τ sig \ Pipeline.arrRefs (τ := τ) spec0
abbrev rest1 : Finset (DevRef τ sig) := Pipeline.ucRefs τ sig \ Pipeline.arrRefs (τ := τ) spec1
abbrev rest2 : Finset (DevRef τ sig) := Pipeline.ucRefs τ sig \ Pipeline.arrRefs (τ := τ) spec2

theorem before0 (c : Dev nD) (w : Fin 2) : (dat0 m c).arrAt w 0 = V0 m c (Proc.devRef .tc (Pipeline.arrRef spec0 w)) :=
  match w with
  | 0 => rfl
  | 1 => rfl
theorem after0 (c : Dev nD) (w : Fin 2) : (dat0 m c).arrAt w cfg0.N = V1 m (outs m) c (Proc.devRef .tc (Pipeline.arrRef spec0 w)) :=
  match w with
  | 0 => ((dat0 m c).arrAt_in 0 rfl cfg0.N).trans (V1_of m (outs m) c main_arg2 (by decide)).symm
  | 1 => (V1_at m c).symm
theorem same0 (c : Dev nD) (b : DevRef τ sig) (hb : b ∈ rest0 \ ∅) : V1 m (outs m) c b = V0 m c b := by
  have h := (Finset.mem_sdiff.mp (Finset.mem_sdiff.mp hb).1).2
  refine Function.update_of_ne (fun e => h ?_) _ _
  rw [e]
  exact (by decide : (Proc.devRef .tc main_v1 : DevRef τ sig) ∈ Pipeline.arrRefs (τ := τ) spec0)

set_option backward.isDefEq.respectTransparency.types false in
/-- Call 0. -/
def reg0 : Pipeline.RegionSeg (pcfgs (F := F)) adm (pdats m) () defs₀ 𝒱₀ L lv 0 :=
  Pipeline.RegionSeg.ofTalk (pcfgs (F := F)) adm (pdats m) () defs₀ 𝒱₀ L lv 0 (fun k : PEmpty => k.elim) (Pipeline.OwnSemFacts.none _)
    ∅ rest0 (Finset.empty_subset _) launch0.toP rfl (fun c => (body0 m c).loose)
    O₀ (fun _ => 0) (fun c => (add_zero _).symm) (fun c => rfl) (fun _ => rfl) (fun c w => (dat0 m c).share_full (fun _ => rfl) w)
    (V0 m) (V1 m (outs m)) (fun c b hb => same0 m c b hb)
    (fun _ => iprop(emp)) (fun _ => iprop(emp)) (fun _ => iprop(emp)) (fun _ => iprop(emp))
    (fun c => by iintro -; imodintro; iempintro)
    (fun c => by
      show iprop(Pipeline.scopedRest spec0 c ∗ (∃ r, prngReg c r) ∗ _ ∗ emp) ⊢ iprop(Pipeline.scopedRest spec0 c ∗ ∃ r, prngReg c r)
      iintro ⟨H, Hp, -, -⟩; isplitl [H]; · iexact H
      iexact Hp)
    (fun c => by
      rw [Pipeline.ownSems0_none]
      show iprop(Pipeline.scopedRest spec0 c ∗ ∃ r, prngReg c r) ⊢ iprop(Pipeline.scopedRest spec0 c ∗ (∃ r, prngReg c r) ∗ StableHlo.held (c : Thread nD τ) ∅ _ ∗ emp ∗ emp)
      unfold StableHlo.held
      rw [bigSep_empty]
      iintro ⟨H, Hp⟩; isplitl [H]; · iexact H
      isplitl [Hp]; · iexact Hp
      isplitr; · iempintro
      isplitr <;> iempintro)
    (fun c => by iintro H; imodintro; iexact H)
    (fun _ => 0)
    ⟨fun c w s => mem_L c _, fun c w s => stage_low0 w s, fun c t g i h => above_L (above_O₀ c) h⟩
    (Sh m) (fun c w => before0 m c w) (fun c w => after0 m c w)

theorem before1 (c : Dev nD) (w : Fin 2) : (dat1 m c).arrAt w 0 = V1 m (outs m) c (Proc.devRef .tc (Pipeline.arrRef spec1 w)) :=
  match w with
  | 0 => (V1_of m (outs m) c main_arg3 (by decide)).symm
  | 1 => (V1_of m (outs m) c main_v2 (by decide)).symm
theorem after1 (c : Dev nD) (w : Fin 2) : (dat1 m c).arrAt w cfg1.N = V2 m (outs m) c (Proc.devRef .tc (Pipeline.arrRef spec1 w)) :=
  match w with
  | 0 => ((dat1 m c).arrAt_in 0 rfl cfg1.N).trans ((V2_of m (outs m) c main_arg3 (by decide)).trans (V1_of m (outs m) c main_arg3 (by decide))).symm
  | 1 => (V2_at m c).symm
theorem same1 (c : Dev nD) (b : DevRef τ sig) (hb : b ∈ rest1 \ ∅) : V2 m (outs m) c b = V1 m (outs m) c b := by
  have h := (Finset.mem_sdiff.mp (Finset.mem_sdiff.mp hb).1).2
  refine Function.update_of_ne (fun e => h ?_) _ _
  rw [e]
  exact (by decide : (Proc.devRef .tc main_v2 : DevRef τ sig) ∈ Pipeline.arrRefs (τ := τ) spec1)

set_option backward.isDefEq.respectTransparency.types false in
/-- Call 1. -/
def reg1 : Pipeline.RegionSeg (pcfgs (F := F)) adm (pdats m) () defs₀ 𝒱₀ L lv 1 :=
  Pipeline.RegionSeg.ofTalk (pcfgs (F := F)) adm (pdats m) () defs₀ 𝒱₀ L lv 1 (fun k : PEmpty => k.elim) (Pipeline.OwnSemFacts.none _)
    ∅ rest1 (Finset.empty_subset _) launch1.toP rfl (fun c => (body1 m c).loose)
    O₀ (fun _ => 0) (fun c => (add_zero _).symm) (fun c => rfl) (fun _ => rfl) (fun c w => (dat1 m c).share_full (fun _ => rfl) w)
    (V1 m (outs m)) (V2 m (outs m)) (fun c b hb => same1 m c b hb)
    (fun _ => iprop(emp)) (fun _ => iprop(emp)) (fun _ => iprop(emp)) (fun _ => iprop(emp))
    (fun c => by iintro -; imodintro; iempintro)
    (fun c => by
      show iprop(Pipeline.scopedRest spec1 c ∗ (∃ r, prngReg c r) ∗ _ ∗ emp) ⊢ iprop(Pipeline.scopedRest spec1 c ∗ ∃ r, prngReg c r)
      iintro ⟨H, Hp, -, -⟩; isplitl [H]; · iexact H
      iexact Hp)
    (fun c => by
      rw [Pipeline.ownSems0_none]
      show iprop(Pipeline.scopedRest spec1 c ∗ ∃ r, prngReg c r) ⊢ iprop(Pipeline.scopedRest spec1 c ∗ (∃ r, prngReg c r) ∗ StableHlo.held (c : Thread nD τ) ∅ _ ∗ emp ∗ emp)
      unfold StableHlo.held
      rw [bigSep_empty]
      iintro ⟨H, Hp⟩; isplitl [H]; · iexact H
      isplitl [Hp]; · iexact Hp
      isplitr; · iempintro
      isplitr <;> iempintro)
    (fun c => by iintro H; imodintro; iexact H)
    (fun _ => 0)
    ⟨fun c w s => mem_L c _, fun c w s => stage_low1 w s, fun c t g i h => above_L (above_O₀ c) h⟩
    (Sh m) (fun c w => before1 m c w) (fun c w => after1 m c w)

theorem before2 (c : Dev nD) (w : Fin 6) : (dat2 m c).arrAt w 0 = V2 m (outs m) c (Proc.devRef .tc (Pipeline.arrRef spec2 w)) :=
  match w with
  | 0 => ((V2_of m (outs m) c main_arg0 (by decide)).trans (V1_of m (outs m) c main_arg0 (by decide))).symm
  | 1 => ((V2_of m (outs m) c main_arg1 (by decide)).trans (V1_of m (outs m) c main_arg1 (by decide))).symm
  | 2 => ((V2_of m (outs m) c main_v1 (by decide)).trans (V1_at m c)).symm
  | 3 => (V2_at m c).symm
  | 4 => ((V2_of m (outs m) c main_arg4 (by decide)).trans (V1_of m (outs m) c main_arg4 (by decide))).symm
  | 5 => ((V2_of m (outs m) c main_v3 (by decide)).trans (V1_of m (outs m) c main_v3 (by decide))).symm
theorem after2 (c : Dev nD) (w : Fin 6) : (dat2 m c).arrAt w cfg2.N = V3 m (outs m) c (Proc.devRef .tc (Pipeline.arrRef spec2 w)) :=
  match w with
  | 0 => ((dat2 m c).arrAt_in 0 rfl cfg2.N).trans ((before2 m c 0).trans (V3_of m (outs m) c main_arg0 (by decide)).symm)
  | 1 => ((dat2 m c).arrAt_in 1 rfl cfg2.N).trans ((before2 m c 1).trans (V3_of m (outs m) c main_arg1 (by decide)).symm)
  | 2 => ((dat2 m c).arrAt_in 2 rfl cfg2.N).trans ((before2 m c 2).trans (V3_of m (outs m) c main_v1 (by decide)).symm)
  | 3 => ((dat2 m c).arrAt_in 3 rfl cfg2.N).trans ((before2 m c 3).trans (V3_of m (outs m) c main_v2 (by decide)).symm)
  | 4 => ((dat2 m c).arrAt_in 4 rfl cfg2.N).trans ((before2 m c 4).trans (V3_of m (outs m) c main_arg4 (by decide)).symm)
  | 5 => (V3_at m c).symm
theorem same2 (c : Dev nD) (b : DevRef τ sig) (hb : b ∈ rest2 \ ∅) : V3 m (outs m) c b = V2 m (outs m) c b := by
  have h := (Finset.mem_sdiff.mp (Finset.mem_sdiff.mp hb).1).2
  refine Function.update_of_ne (fun e => h ?_) _ _
  rw [e]
  exact (by decide : (Proc.devRef .tc main_v3 : DevRef τ sig) ∈ Pipeline.arrRefs (τ := τ) spec2)
theorem debt_last (c : Dev nD) : debt c cfg2.N = 0 := by
  unfold debt
  rw [if_neg (by show grid2.N ≠ 0; rw [N_2]; decide), if_neg (by show ¬ grid2.N < 8; rw [N_2]; decide)]

set_option backward.isDefEq.respectTransparency.types false in
/-- The main call. -/
def reg2 : Pipeline.RegionSeg (pcfgs (F := F)) adm (pdats m) () defs₀ 𝒱₀ L lv 2 :=
  Pipeline.RegionSeg.ofTalk (pcfgs (F := F)) adm (pdats m) () defs₀ 𝒱₀ L lv 2 osem (by decide : Pipeline.OwnSemFacts spec2 osem)
    ∅ rest2 (Finset.empty_subset _) launch2.toP rfl (fun c => (body2 m c).loose)
    (fun _ => 0) O₀ (fun c => (zero_add _).symm) (fun c => debt_last c) (fun _ => rfl) (fun c w => (dat2 m c).share_full (fun _ => rfl) w)
    (V2 m (outs m)) (V3 m (outs m)) (fun c b hb => same2 m c b hb)
    (Sh m) (fun c => semVal (barCell c) 0) (fun c => ready (loF (xI m) (wqI m) (kI m) (vI m)) (llF (xI m) (wqI m) (kI m) (vI m)) (agF (loF (xI m) (wqI m) (kI m) (vI m)) (llF (xI m) (wqI m) (kI m) (vI m)) (woI m)) c) (fun c => semVal (barCell c) 0)
    (fun c => opened (loF (xI m) (wqI m) (kI m) (vI m)) (llF (xI m) (wqI m) (kI m) (vI m)) (agF (loF (xI m) (wqI m) (kI m) (vI m)) (llF (xI m) (wqI m) (kI m) (vI m)) (woI m)) c)
    (fun c => by
      refine BI.Entails.trans ?_ (enter m c)
      exact sep_mono_r (sep_mono_r drop_held))
    (fun c => (leave m c).trans (sep_mono_r (sep_mono_r add_held)))
    (fun c => by iintro H; imodintro; iexact H)
    (fun _ => 0)
    ⟨fun c w s => mem_L c _, fun c w s => stage_low2 w s, fun c t g i h => above_L (above_debt c t.val) h⟩
    (fun _ => iprop(emp)) (fun c w => before2 m c w) (fun c w => after2 m c w)

end Cert.KernelIdeal.Talk

end
-- ==== Proof.Deal.lean ====
/- The launch: the exchange's cells and tokens are made and handed to the devices. -/
module

public import proofs.«01_k».proof.Proof.Segs

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (lo : Dev nD → Vec F S8x256x128 .bf16) (ll : Dev nD → Vec F S256x8 .f32) (ag : Vec F S8x32x1024 .bf16)

/-! ## Cells and tokens -/

def barEmb : Fin 8 ↪ GSem nD τ sig := ⟨fun c => barCell c, fun _ _ h => congrArg (fun g : GSem nD τ sig => g.1.1) h⟩
theorem osem_inj : Function.Injective osem := fun x y h => by
  obtain ⟨h1, h2⟩ := dsem_inj (SemLoc.dma.inj h)
  exact Prod.ext h1 h2
theorem osem_ne_bar (x : Fin 6 × Fin 8) : osem x ≠ .reg barS := fun h => nomatch h
def scEmb : Fin 8 × (Fin 6 × Fin 8) ↪ GSem nD τ sig :=
  ⟨fun x => dcell x.2.1 x.1 x.2.2, fun _ _ h => Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb
theorem cells_apart : Disjoint barCells scCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

/-- A barrier's duties, one for each device that signals it; every other cell has one duty. -/
def barTok : Fin 8 × Fin 8 ↪ GSem nD τ sig × ℕ × Fin 8 :=
  ⟨fun x => (barCell x.1, 0, x.2), fun _ _ h => Prod.ext (congrArg (fun t : GSem nD τ sig × ℕ × Fin 8 => t.1.1.1) h) (congrArg (fun t : GSem nD τ sig × ℕ × Fin 8 => t.2.2) h)⟩
def scTok : Fin 8 × (Fin 6 × Fin 8) ↪ GSem nD τ sig × ℕ × Fin 8 :=
  ⟨fun x => (scEmb x, 0, 0), fun _ _ h => scEmb.injective (congrArg Prod.fst h)⟩
theorem toks_apart : Disjoint (Finset.univ.map barTok) (Finset.univ.map scTok) := by
  rw [Finset.disjoint_left]
  intro g h₁ h₂
  obtain ⟨c, -, rfl⟩ := Finset.mem_map.mp h₁
  obtain ⟨x, -, h⟩ := Finset.mem_map.mp h₂
  exact osem_ne_bar x.2 (congrArg (fun t : GSem nD τ sig × ℕ × Fin 8 => t.1.2) h)
def allToks : Finset (GSem nD τ sig × ℕ × Fin 8) := Finset.univ.map barTok ∪ Finset.univ.map scTok

def u₀ : UU :=
  (initOf (Pipeline.cells (Pipeline.pin (pcfgs (F := F)) adm) cellOf_inj) (Pipeline.launchToks (Pipeline.pin (pcfgs (F := F)) adm) cellOf_inj),
    launchOf barCells scCells allToks)

/-- The exchange's whole launch element waits on device 0. -/
def atFirst (X : sProp 𝕄) (c : Fin 8) : sProp 𝕄 := if c = 0 then X else iprop(emp)
theorem atFirst_all (X : sProp 𝕄) : bigSep Finset.univ (atFirst X) ⊢ X := by
  have h : atFirst X 0 = X := if_pos rfl
  exact (bigSep_elim (Finset.mem_univ (0 : Fin 8))).trans (ofEq h)
theorem atFirst_mk (X : sProp 𝕄) : X ⊢ bigSep Finset.univ (atFirst X) := by
  rw [bigSep_univ_at _ (0 : Fin 8), bigSep_congr (s := Finset.univ.erase (0 : Fin 8)) (Φ := atFirst X) (Ψ := fun _ => (BI.emp : sProp 𝕄))
      fun c hc => by unfold atFirst; rw [if_neg (Finset.ne_of_mem_erase hc)]; rfl, BI.bigSep_emp_const]
  unfold atFirst; rw [if_pos rfl]
  iintro H
  isplitl [H]; · iexact H
  iempintro

/-! ## Handing out -/

theorem swapped (X : Fin 8 → Fin 8 → sProp 𝕄) : (bigSep Finset.univ fun d => bigSep Finset.univ fun p => X d p) = bigSep Finset.univ fun p => bigSep Finset.univ fun d => X d p := by
  have h := bigSep_univ_equiv (Equiv.prodComm (Fin 8) (Fin 8)) (fun x : Fin 8 × Fin 8 => X x.1 x.2)
  rw [bigSep_univ_prod, bigSep_univ_prod] at h
  exact h
/-- Each device keeps what concerns a pair of distinct devices. -/
theorem drop_own (c : Fin 8) (A : Fin 8 → sProp 𝕄) : bigSep Finset.univ A ⊢ fo c A := by
  rw [others c A]
  iintro ⟨-, H⟩; iexact H

theorem deal (X : Fin 6 → Fin 8 → Fin 8 → sProp 𝕄) :
    (bigSep Finset.univ fun d : Fin 8 => bigSep Finset.univ fun x : Fin 6 × Fin 8 => X x.1 d x.2)
      ⊢ bigSep Finset.univ fun c : Fin 8 => iprop(fo c (fun p => X 0 c p) ∗ fo c (fun p => X 1 c p) ∗ fo c (fun p => X 2 p c) ∗ fo c (fun p => X 3 p c)
        ∗ fo c (fun p => X 4 c p) ∗ fo c (fun p => X 5 p c)) := by
  have e : (bigSep Finset.univ fun d : Fin 8 => bigSep Finset.univ fun x : Fin 6 × Fin 8 => X x.1 d x.2)
      = bigSep Finset.univ fun d : Fin 8 => iprop((bigSep Finset.univ fun p => X 0 d p) ∗ (bigSep Finset.univ fun p => X 1 d p) ∗ (bigSep Finset.univ fun p => X 2 d p)
        ∗ (bigSep Finset.univ fun p => X 3 d p) ∗ (bigSep Finset.univ fun p => X 4 d p) ∗ bigSep Finset.univ fun p => X 5 d p) :=
    bigSep_congr fun d _ => by rw [bigSep_univ_prod, six]
  rw [e, bigSep_sep', bigSep_sep', bigSep_sep', bigSep_sep', bigSep_sep', bigSep_sep', bigSep_sep', bigSep_sep', bigSep_sep', bigSep_sep',
    swapped (fun d p => X 2 d p), swapped (fun d p => X 3 d p), swapped (fun d p => X 5 d p)]
  exact BI.sep_mono (bigSep_mono fun c _ => drop_own c _) (BI.sep_mono (bigSep_mono fun c _ => drop_own c _) (BI.sep_mono (bigSep_mono fun c _ => drop_own c _)
    (BI.sep_mono (bigSep_mono fun c _ => drop_own c _) (BI.sep_mono (bigSep_mono fun c _ => drop_own c _) (bigSep_mono fun c _ => drop_own c _)))))

theorem deal_toks : bigSep allToks (fun x => (dutyTok ER x.1 x.2.1 x.2.2 : sProp 𝕄))
    ⊢ iprop((bigSep Finset.univ fun c : Fin 8 => bigSep Finset.univ fun p : Fin 8 => dutyTok ER (barCell p) 0 c) ∗ bigSep Finset.univ fun c : Fin 8 => toks (F := F) c) := by
  unfold allToks
  rw [bigSep_union toks_apart, bigSep_map, bigSep_map, bigSep_univ_prod, bigSep_univ_prod]
  refine BI.sep_mono (ofEq (swapped (fun d s : Fin 8 => (dutyTok ER (barCell d) 0 s : sProp 𝕄)))) ?_
  exact deal (fun k d p => (dutyTok ER (dcell k d p) 0 0 : sProp 𝕄))

/-! ## The launch credit -/

theorem dcell_eq {k k' : Fin 6} {d d' p p' : Fin 8} (h : dcell k d p = dcell k' d' p') : k = k' ∧ d = d' ∧ p = p' := by
  obtain ⟨h1, h2⟩ := dsem_inj (SemLoc.dma.inj (congrArg Prod.snd h))
  exact ⟨h1, congrArg (fun g : GSem nD τ sig => g.1.1) h, h2⟩
theorem dcell_ne_bar (k : Fin 6) (d p e : Fin 8) : dcell k d p ≠ barCell e := fun h => osem_ne_bar (k, p) (congrArg Prod.snd h)
theorem at_d (k k' : Fin 6) (d d' p p' : Fin 8) (n : ℕ) : (tallyAt (dcell k' d' p') () n : CellTallies nD τ sig Unit) (dcell k d p) () = if k = k' ∧ d = d' ∧ p = p' then n else 0 := by
  rw [tallyAt_apply]
  by_cases h : k = k' ∧ d = d' ∧ p = p'
  · obtain ⟨rfl, rfl, rfl⟩ := h
    rw [if_pos ⟨rfl, rfl⟩, if_pos ⟨rfl, rfl, rfl⟩]
  · rw [if_neg (fun h' => h (dcell_eq h'.1)), if_neg h]
theorem at_bar (c d : Fin 8) (n : ℕ) : (tallyAt (barCell d) () n : CellTallies nD τ sig Unit) (barCell c) () = if c = d then n else 0 := by
  rw [tallyAt_apply]
  by_cases h : c = d
  · subst h; rw [if_pos ⟨rfl, rfl⟩, if_pos rfl]
  · rw [if_neg (fun h' => h (congrArg (fun g : GSem nD τ sig => g.1.1) h'.1)), if_neg h]
theorem at_bar_d (k : Fin 6) (c d p : Fin 8) (n : ℕ) : (tallyAt (dcell k d p) () n : CellTallies nD τ sig Unit) (barCell c) () = 0 := by
  rw [tallyAt_apply, if_neg (fun h => dcell_ne_bar _ _ _ _ h.1.symm)]
theorem at_d_bar (k : Fin 6) (c d p : Fin 8) (n : ℕ) : (tallyAt (barCell c) () n : CellTallies nD τ sig Unit) (dcell k d p) () = 0 := by
  rw [tallyAt_apply, if_neg (fun h => dcell_ne_bar _ _ _ _ h.1)]
theorem sum_at (f : Fin 8 → CellTallies nD τ sig Unit) (g : GSem nD τ sig) : sumFrom f 0 g () = ∑ p, f p g () := by
  unfold sumFrom
  rw [Finset.filter_true_of_mem (fun p _ => Nat.zero_le _), Finset.sum_apply, Finsupp.finset_sum_apply]
theorem owed_at (d : Fin 8) (g : GSem nD τ sig) : O₀ d g () = (∑ p, TS d p g ()) + (∑ p, TG d p g ()) + ∑ p, TB p g () := by
  unfold O₀ O₁
  rw [Pi.add_apply, Finsupp.add_apply, Pi.add_apply, Finsupp.add_apply, sum_at, sum_at, sum_at]
theorem zero_at (g : GSem nD τ sig) : (0 : CellTallies nD τ sig Unit) g () = 0 := rfl
theorem add_at (A B : CellTallies nD τ sig Unit) (g : GSem nD τ sig) : (A + B) g () = A g () + B g () := rfl

theorem owed_bar (d c : Fin 8) : O₀ d (barCell c) () = 1 := by
  have hS : ∑ p, TS d p (barCell c) () = 0 := Finset.sum_eq_zero fun p _ => by
    unfold TS; split
    · rfl
    · rw [add_at, at_bar_d, at_bar_d, Nat.add_zero]
  have hG : ∑ p, TG d p (barCell c) () = 0 := Finset.sum_eq_zero fun p _ => by
    unfold TG; split
    · rfl
    · rw [at_bar_d]
  rw [owed_at, hS, hG]
  unfold TB
  simp only [at_bar, Finset.sum_ite_eq, Finset.mem_univ, if_true, Nat.zero_add]
theorem ts_at (d q : Fin 8) (k : Fin 6) (c p : Fin 8) : TS d q (dcell k c p) () = if (k = 2 ∨ k = 3) ∧ c = q ∧ p = d ∧ q ≠ d then amt k else 0 := by
  unfold TS
  by_cases h : q = d
  · rw [if_pos h, if_neg (fun h' => h'.2.2.2 h)]; rfl
  rw [if_neg h, add_at, at_d, at_d]
  by_cases h2 : k = 2
  · subst h2; simp [h]
  by_cases h3 : k = 3
  · subst h3; simp [h]
  simp [h2, h3]
theorem tg_at (d q : Fin 8) (k : Fin 6) (c p : Fin 8) : TG d q (dcell k c p) () = if k = 5 ∧ c = q ∧ p = d ∧ q ≠ d then amt k else 0 := by
  unfold TG
  by_cases h : q = d
  · rw [if_pos h, if_neg (fun h' => h'.2.2.2 h)]; rfl
  rw [if_neg h, at_d]
  by_cases h5 : k = 5
  · subst h5; simp [h]
  simp [h5]
theorem owed_d (d c p : Fin 8) (k : Fin 6) (hk : k = 2 ∨ k = 3 ∨ k = 5) (hp : p ≠ c) : O₀ d (dcell k c p) () = if d = p then amt k else 0 := by
  rw [owed_at]
  have hB : ∑ q, TB q (dcell k c p) () = 0 := Finset.sum_eq_zero fun q _ => by unfold TB; rw [at_d_bar]
  rw [hB, Nat.add_zero]
  simp only [ts_at, tg_at]
  rw [Finset.sum_eq_single c (fun q _ hq => if_neg fun h => hq h.2.1.symm) (fun h => absurd (Finset.mem_univ _) h),
    Finset.sum_eq_single c (fun q _ hq => if_neg fun h => hq h.2.1.symm) (fun h => absurd (Finset.mem_univ _) h)]
  by_cases hd : d = p
  · subst hd
    rcases hk with rfl | rfl | rfl <;> simp [hp.symm]
  · rw [if_neg (fun h => hd h.2.2.1.symm), if_neg (fun h => hd h.2.2.1.symm), if_neg hd, Nat.add_zero]

theorem launch_bar (c : Fin 8) : tallyOn (barCell c) (launchCredit (Pipeline.owing (τ := τ) O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => owed_bar d c]
  rfl
theorem launch_d (c p : Fin 8) (k : Fin 6) (hk : k = 2 ∨ k = 3 ∨ k = 5) (hp : p ≠ c) :
    tallyOn (dcell k c p) (launchCredit (Pipeline.owing (τ := τ) O₀) 0 (dcell k c p)) = (tallyAt (dcell k c p) () (amt k) : CellTallies nD τ sig Unit) := by
  unfold tallyAt; refine congrArg _ (Finsupp.ext fun u => ?_); cases u
  rw [Pipeline.launchCredit_owing, Finsupp.single_eq_same, Finset.sum_congr rfl fun d _ => owed_d d c p k hk hp, Finset.sum_ite_eq' Finset.univ p fun _ => amt k,
    if_pos (Finset.mem_univ _)]
theorem cred_fo (c : Fin 8) (k : Fin 6) (hk : k = 2 ∨ k = 3 ∨ k = 5) :
    (bigSep Finset.univ fun p : Fin 8 => (cred (tallyOn (dcell k c p) (launchCredit (Pipeline.owing (τ := τ) O₀) 0 (dcell k c p))) : sProp 𝕄))
      ⊢ fo c (fun p => cred (tallyAt (dcell k c p) () (amt k))) := by
  refine (drop_own c _).trans (ofEq ?_)
  unfold fo
  refine bigSep_congr fun p _ => ?_
  by_cases hp : p = c
  · rw [if_pos hp, if_pos hp]
  · rw [if_neg hp, if_neg hp]
    exact congrArg cred (launch_d c p k hk hp)
theorem some3 {A0 A1 A2 A3 A4 A5 B2 B3 B5 : sProp 𝕄} (h2 : A2 ⊢ B2) (h3 : A3 ⊢ B3) (h5 : A5 ⊢ B5) : iprop(A0 ∗ A1 ∗ A2 ∗ A3 ∗ A4 ∗ A5) ⊢ iprop(B2 ∗ B3 ∗ B5) := by
  iintro ⟨-, -, H2, H3, -, H5⟩
  isplitl [H2]; · iapply h2 $$ H2
  isplitl [H3]; · iapply h3 $$ H3
  iapply h5 $$ H5
theorem creds_of (c : Fin 8) : (Pipeline.launchCred O₀ (c : Dev nD) : sProp 𝕄) ⊢ creds (F := F) c := by
  unfold Pipeline.launchCred creds
  rw [bigSep_univ_at _ (SemLoc.reg barS), launch_bar]
  refine sep_mono_r ?_
  refine (bigSep_subset (M := 𝕄) (t := Finset.univ.map ⟨osem, osem_inj⟩) (fun sm h => ?_)).trans ?_
  · obtain ⟨x, -, rfl⟩ := Finset.mem_map.mp h
    exact Finset.mem_erase.mpr ⟨osem_ne_bar x, Finset.mem_univ _⟩
  rw [bigSep_map, bigSep_univ_prod, six]
  exact some3 (cred_fo (F := F) c 2 (.inl rfl)) (cred_fo (F := F) c 3 (.inr (.inl rfl))) (cred_fo (F := F) c 5 (.inr (.inr rfl)))

end Cert.KernelIdeal.Talk

end
-- ==== Proof.Run.lean ====
/- The whole program on the eight devices. -/
module

public import proofs.«01_k».proof.Proof.Deal

@[expose] public section

set_option synthInstance.maxSize 4096

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

def G : Dev nD → sProp 𝕄 := atFirst (BI.own (ER (launchOf barCells scCells allToks)))

/-- What every device may consult. -/
def records (κ : GSem nD τ sig → ℕ) : sProp 𝕄 := iprop(invs (loF (xI m) (wqI m) (kI m) (vI m)) (llF (xI m) (wqI m) (kI m) (vI m)) (agF (loF (xI m) (wqI m) (kI m) (vI m)) (llF (xI m) (wqI m) (kI m) (vI m)) (woI m)) κ ∗ bigSep Finset.univ fun p : Fin 8 => reached ER (barCell p) 0)
instance records_persistent (κ : GSem nD τ sig → ℕ) : BI.Persistent (records m κ) := by unfold records; infer_instance
theorem records_mk (κ : GSem nD τ sig → ℕ) : iprop((bigSep (barCells ∪ scCells) fun g => cellInv ER (Rd (loF (xI m) (wqI m) (kI m) (vI m)) (llF (xI m) (wqI m) (kI m) (vI m)) (agF (loF (xI m) (wqI m) (kI m) (vI m)) (llF (xI m) (wqI m) (kI m) (vI m)) (woI m))) (κ g) g) ∗ bigSep barCells fun g => (reached ER g 0 : sProp 𝕄)) ⊢ records m κ := by
  unfold records invs
  rw [bigSep_union cells_apart, bigSep_map, bigSep_map, bigSep_map, bigSep_univ_prod]
  refine BI.sep_mono (BI.sep_mono (BI.Entails.refl _) (bigSep_mono fun d _ => ?_)) (BI.Entails.refl _)
  rw [bigSep_univ_prod]
  exact BI.Entails.refl _

/-- What one device is given. -/
def linear (c : Fin 8) : sProp 𝕄 := iprop(atPos ER (barCell c) 0 ∅ 0 ∗ (bigSep Finset.univ fun x : Fin 6 × Fin 8 => openTok ER (dcell x.1 c x.2))
  ∗ (bigSep Finset.univ fun p : Fin 8 => dutyTok ER (barCell p) 0 c) ∗ toks c)
def E (c : Dev nD) : sProp 𝕄 := iprop((∃ r, prngReg c r) ∗ Sh m c ∗ ∃ W, owes (c : Thread nD τ) (O₀ c) W)
abbrev T₀ (c : Dev nD) : sProp 𝕄 := iprop(StableHlo.held (c : Thread nD τ) (Pipeline.ucRefs τ sig) (V0 m c) ∗ E m c)
abbrev Tₙ (c : Dev nD) : sProp 𝕄 := iprop(StableHlo.held (c : Thread nD τ) (Pipeline.ucRefs τ sig) (V3 m (outs m) c) ∗ semVal (barCell c) 0)
def bundle (c : Dev nD) : sProp 𝕄 := iprop(StableHlo.held (c : Thread nD τ) (Pipeline.ucRefs τ sig) (V0 m c) ∗ creds c ∗ owes (c : Thread nD τ) (O₀ c) ∅ ∗ ∃ r, prngReg c r)

theorem T₀_mk (κ : GSem nD τ sig → ℕ) (c : Dev nD) : iprop(records m κ ∗ (linear c ∗ bundle m c)) ⊢ T₀ m c := by
  unfold records linear bundle T₀ E Sh shut
  iintro ⟨⟨#HI, #HR⟩, ⟨Ha, Hop, Hd, Ht⟩, Hh, Hc, HO, Hp⟩
  isplitl [Hh]; · iexact Hh
  isplitl [Hp]; · iexact Hp
  isplitr [HO]
  · iexists κ
    isplitr; · iexact HI
    isplitr; · iexact HR
    isplitl [Ha]; · iexact Ha
    isplitl [Hop]; · iexact Hop
    isplitl [Hd]; · iexact Hd
    isplitl [Ht]; · iexact Ht
    iexact Hc
  iexists ∅; iexact HO

theorem unscoped_is : (Finset.univ.filter fun sm : SemLoc sig => ¬ sm.isScoped .tc) = {SemLoc.reg barS} := by decide
theorem unscoped_eq : ∀ sm : SemLoc sig, sm.isScoped .tc = false → sm = .reg barS := by decide
theorem unscopedSems_eq (c : Dev nD) : (unscopedSems0 c : sProp 𝕄) = semVal (barCell c) 0 := by
  unfold unscopedSems0; rw [unscoped_is, BI.bigSep_singleton]

theorem one_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c) ⊢ iprop(bundle m c ∗ (semVal (barCell c) 0 ∗ G c)) := by
  rw [show (unscopedBufs c (fun b => m ((c : Thread nD τ).loc b)) : sProp 𝕄) = StableHlo.held (c : Thread nD τ) (Pipeline.ucRefs τ sig) (V0 m c) from Pipeline.unscopedBufs_held c (V0 m c), unscopedSems_eq]
  unfold bundle
  iintro ⟨Hh, Hu, HO, Hc, Hp, HG⟩
  isplitl [Hh HO Hc Hp]
  · isplitl [Hh]; · iexact Hh
    isplitl [Hc]; · iapply (creds_of (F := F) c); iexact Hc
    isplitl [HO]; · iexact HO
    iexists (ρ c); iexact Hp
  isplitl [Hu]; · iexact Hu
  iexact HG

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G (F := F) c)) ∗ levAts L lv) ⊢ (|={Set.univ}=> bigSep Finset.univ (T₀ m) : sProp 𝕄) := by
  have hv : bigSep Finset.univ (fun c : Fin 8 => (semVal (barCell c) 0 : sProp 𝕄)) ⊢ bigSep barCells (fun g => (semVal g 0 : sProp 𝕄)) :=
    ofEq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Fin 8 => (atPos ER (barCell c) 0 ∅ 0 : sProp 𝕄)) :=
    ofEq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Fin 8 => bigSep Finset.univ fun x : Fin 6 × Fin 8 => (openTok ER (dcell x.1 c x.2) : sProp 𝕄)) :=
    ofEq (by rw [bigSep_map, bigSep_univ_prod]; rfl)
  iintro ⟨H, -⟩
  ihave H := (show (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G c)) : sProp 𝕄) from bigSep_mono fun c _ => one_core m ρ c) $$ H
  ihave H := (bs_unpair (fun c : Dev nD => bundle m c) (fun c => iprop(semVal (barCell c) 0 ∗ G c))) $$ H
  icases H with ⟨HB, H⟩
  ihave H := (bs_unpair (fun c : Dev nD => (semVal (barCell c) 0 : sProp 𝕄)) G) $$ H
  icases H with ⟨Hv, HG⟩
  ihave Hu := (show bigSep Finset.univ (G (F := F)) ⊢ BI.own (ER (launchOf barCells scCells allToks)) from atFirst_all _) $$ HG
  imod (Rounds.fund_launch ER (Rd (loF (xI m) (wqI m) (kI m) (vI m)) (llF (xI m) (wqI m) (kI m) (vI m)) (agF (loF (xI m) (wqI m) (kI m) (vI m)) (llF (xI m) (wqI m) (kI m) (vI m)) (woI m))) cells_apart (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_mk m κ c)
  isplitr
  · iapply (records_mk m κ)
    isplitr; · iexact Hinv
    iexact Hr
  iapply (bs_pair (fun c : Dev nD => linear (F := F) c) (bundle m))
  isplitr [HB]
  · unfold linear
    ihave Ht := (deal_toks (F := F)) $$ Htok
    icases Ht with ⟨Hd, Ht⟩
    iapply (bs_pair (fun c : Fin 8 => (atPos ER (barCell c) 0 ∅ 0 : sProp 𝕄)) _); isplitl [Hat]; · iapply hat $$ Hat
    iapply (bs_pair (fun c : Fin 8 => bigSep Finset.univ fun x : Fin 6 × Fin 8 => (openTok ER (dcell x.1 c x.2) : sProp 𝕄)) _); isplitl [Hopen]; · iapply hop $$ Hopen
    iapply (bs_pair (fun c : Fin 8 => bigSep Finset.univ fun p : Fin 8 => (dutyTok ER (barCell p) 0 c : sProp 𝕄)) _); isplitl [Hd]; · iexact Hd
    iexact Ht
  · iexact HB

/-! ## Call after call -/

theorem arr_sub0 : Pipeline.arrRefs (τ := τ) spec0 ⊆ Pipeline.ucRefs τ sig := Pipeline.arrRefs_sub_ucRefs _ (by decide)
theorem arr_sub1 : Pipeline.arrRefs (τ := τ) spec1 ⊆ Pipeline.ucRefs τ sig := Pipeline.arrRefs_sub_ucRefs _ (by decide)
theorem arr_sub2 : Pipeline.arrRefs (τ := τ) spec2 ⊆ Pipeline.ucRefs τ sig := Pipeline.arrRefs_sub_ucRefs _ (by decide)

theorem pre0 (c : Dev nD) : iprop(StableHlo.held (c : Thread nD τ) (Pipeline.ucRefs τ sig) (V0 m c) ∗ E m c) ⊢ (reg0 m).pre c := by
  show _ ⊢ iprop(StableHlo.held (c : Thread nD τ) (Pipeline.arrRefs (τ := τ) spec0) (V0 m c) ∗ (∃ r, prngReg c r)
    ∗ (StableHlo.held (c : Thread nD τ) rest0 (V0 m c) ∗ Sh m c) ∗ emp ∗ ∃ Wd, owes (c : Thread nD τ) (O₀ c + 0) Wd)
  rw [StableHlo.held_sub_split (c : Thread nD τ) arr_sub0, add_zero]
  unfold E
  iintro ⟨⟨Ha, Hr⟩, Hp, HS, HO⟩
  isplitl [Ha]; · iexact Ha
  isplitl [Hp]; · iexact Hp
  isplitl [Hr HS]
  · isplitl [Hr]; · iexact Hr
    iexact HS
  isplitr; · iempintro
  iexact HO
theorem post0 (c : Dev nD) : (reg0 m).post c ⊢ iprop(StableHlo.held (c : Thread nD τ) (Pipeline.ucRefs τ sig) (V1 m (outs m) c) ∗ E m c) := by
  show iprop(StableHlo.held (c : Thread nD τ) (Pipeline.arrRefs (τ := τ) spec0) (V1 m (outs m) c) ∗ (∃ r, prngReg c r)
    ∗ (StableHlo.held (c : Thread nD τ) rest0 (V1 m (outs m) c) ∗ Sh m c) ∗ emp ∗ ∃ Wd, owes (c : Thread nD τ) (O₀ c) Wd) ⊢ _
  rw [StableHlo.held_sub_split (c : Thread nD τ) arr_sub0]
  unfold E
  iintro ⟨Ha, Hp, ⟨Hr, HS⟩, -, HO⟩
  isplitl [Ha Hr]
  · isplitl [Ha]; · iexact Ha
    iexact Hr
  isplitl [Hp]; · iexact Hp
  isplitl [HS]; · iexact HS
  iexact HO

theorem pre1 (c : Dev nD) : iprop(StableHlo.held (c : Thread nD τ) (Pipeline.ucRefs τ sig) (V1 m (outs m) c) ∗ E m c) ⊢ (reg1 m).pre c := by
  show _ ⊢ iprop(StableHlo.held (c : Thread nD τ) (Pipeline.arrRefs (τ := τ) spec1) (V1 m (outs m) c) ∗ (∃ r, prngReg c r)
    ∗ (StableHlo.held (c : Thread nD τ) rest1 (V1 m (outs m) c) ∗ Sh m c) ∗ emp ∗ ∃ Wd, owes (c : Thread nD τ) (O₀ c + 0) Wd)
  rw [StableHlo.held_sub_split (c : Thread nD τ) arr_sub1, add_zero]
  unfold E
  iintro ⟨⟨Ha, Hr⟩, Hp, HS, HO⟩
  isplitl [Ha]; · iexact Ha
  isplitl [Hp]; · iexact Hp
  isplitl [Hr HS]
  · isplitl [Hr]; · iexact Hr
    iexact HS
  isplitr; · iempintro
  iexact HO
theorem post1 (c : Dev nD) : (reg1 m).post c ⊢ iprop(StableHlo.held (c : Thread nD τ) (Pipeline.ucRefs τ sig) (V2 m (outs m) c) ∗ E m c) := by
  show iprop(StableHlo.held (c : Thread nD τ) (Pipeline.arrRefs (τ := τ) spec1) (V2 m (outs m) c) ∗ (∃ r, prngReg c r)
    ∗ (StableHlo.held (c : Thread nD τ) rest1 (V2 m (outs m) c) ∗ Sh m c) ∗ emp ∗ ∃ Wd, owes (c : Thread nD τ) (O₀ c) Wd) ⊢ _
  rw [StableHlo.held_sub_split (c : Thread nD τ) arr_sub1]
  unfold E
  iintro ⟨Ha, Hp, ⟨Hr, HS⟩, -, HO⟩
  isplitl [Ha Hr]
  · isplitl [Ha]; · iexact Ha
    iexact Hr
  isplitl [Hp]; · iexact Hp
  isplitl [HS]; · iexact HS
  iexact HO

theorem pre2 (c : Dev nD) : iprop(StableHlo.held (c : Thread nD τ) (Pipeline.ucRefs τ sig) (V2 m (outs m) c) ∗ E m c) ⊢ (reg2 m).pre c := by
  show _ ⊢ iprop(StableHlo.held (c : Thread nD τ) (Pipeline.arrRefs (τ := τ) spec2) (V2 m (outs m) c) ∗ (∃ r, prngReg c r)
    ∗ (StableHlo.held (c : Thread nD τ) rest2 (V2 m (outs m) c) ∗ emp) ∗ Sh m c ∗ ∃ Wd, owes (c : Thread nD τ) (0 + O₀ c) Wd)
  rw [StableHlo.held_sub_split (c : Thread nD τ) arr_sub2, zero_add]
  unfold E
  iintro ⟨⟨Ha, Hr⟩, Hp, HS, HO⟩
  isplitl [Ha]; · iexact Ha
  isplitl [Hp]; · iexact Hp
  isplitl [Hr]
  · isplitl [Hr]; · iexact Hr
    iempintro
  isplitl [HS]; · iexact HS
  iexact HO
theorem post2 (c : Dev nD) : (reg2 m).post c ⊢ iprop(Tₙ m c ∗ ∃ W, owes (c : Thread nD τ) (0 : CellTallies nD τ sig Unit) W) := by
  show iprop(StableHlo.held (c : Thread nD τ) (Pipeline.arrRefs (τ := τ) spec2) (V3 m (outs m) c) ∗ (∃ r, prngReg c r)
    ∗ (StableHlo.held (c : Thread nD τ) rest2 (V3 m (outs m) c) ∗ emp) ∗ semVal (barCell c) 0 ∗ ∃ Wd, owes (c : Thread nD τ) (0 : CellTallies nD τ sig Unit) Wd) ⊢ _
  unfold Tₙ
  rw [StableHlo.held_sub_split (c : Thread nD τ) arr_sub2]
  iintro ⟨Ha, -, ⟨Hr, -⟩, Hb, HO⟩
  isplitr [HO]
  · isplitl [Ha Hr]
    · isplitl [Ha]; · iexact Ha
      iexact Hr
    iexact Hb
  iexact HO

def parts : List (Pipeline.Seg (pcfgs (F := F)) adm (pdats m) () defs₀ 𝒱₀ L lv) := [.region (reg0 m), .region (reg1 m), .region (reg2 m)]

/-- What every device ends with. -/
def After (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v3) = (dat2 m c).arrAt 5 cfg2.N

theorem ending (c : Dev nD) (s' : Phys nD τ sig (Elt F)) : iprop(Tₙ m c ∗ SI s') ⊢ (|={Set.univ}=> iprop(⌜After m c s'.mem ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh]; · iexact Hh
    iexact HSI
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c)⟩,
      (h (Proc.devRef .tc main_v3) (Finset.mem_filter.mpr ⟨StableHlo.devRef_mem_tcRefs main_v3, by decide⟩)).trans (V3_at m c)⟩, by simpa using hb⟩
  iexact HSI

set_option backward.isDefEq.respectTransparency.types false in
/-- Every run ends, with every device's arguments as they were, its result the main call's, and every semaphore at zero. -/
theorem run_main : θ_run defs (onTc (τ := τ) (main (F := F))) ⟨m, fun _ => 0, ρ⟩ (fun r => (∀ c : Dev nD, After m c r.2) ∧ r.2.sem = fun _ => 0) :=
  Pipeline.θ_run_regions_kit_sems (pcfgs (F := F)) adm (pdats m) () cellOf_inj EP defs₀ 𝒱₀ L lv m ρ main (parts m)
    (fun c Q => by
      rewrite [main_chain c, Pipeline.Seg.run_eq_chain,
        show (parts m).map Pipeline.Seg.prog = [
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (by simp only [parts, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      iapply (atFirst_mk (F := F) _); iexact HX)
    (T₀ := T₀ m) (Tₙ := Tₙ m)
    (hch := ⟨fun c => pre0 m c, fun c => (post0 m c).trans (pre1 m c), fun c => (post1 m c).trans (pre2 m c), fun c => post2 m c⟩)
    (hinit := init m ρ)
    (QY := fun c s => After m c s ∧ s.sem (barCell c) = 0)
    (hfin := fun c s' => ending m c s')
    (hQ := fun s h hs => ⟨fun c => (h c).1, sem_eq_zero hs fun c sm hsm => by
      obtain rfl := unscoped_eq sm hsm
      exact (h c).2⟩)

end Cert.KernelIdeal.Talk

end
-- ==== Proof.Frames.lean ====
/- The frames: every run ends with the arguments unchanged and every semaphore at zero. -/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.KernelIdeal.Talk

open Idealize.ShloMosaic Idealize.SL.Sem

theorem frame_ideal : Cert.quiescent_KernelIdeal := fun m ρ _ =>
  (θ_run Cert.KernelIdeal.defs _ _).mono (fun _ h => ⟨fun c => (h.1 c).1, h.2⟩) (run_main (F := Ideal) m ρ)

/-! The two programs are one text, so the second frame is the first at machine floats. -/
theorem same_cast0 : Cert.Kernel.cc0_rbody (F := Bits) = Cert.KernelIdeal.cc0_rbody (F := Bits) := rfl
theorem same_cast1 : Cert.Kernel.cc1_rbody (F := Bits) = Cert.KernelIdeal.cc1_rbody (F := Bits) := rfl
theorem same_bodies : Cert.Kernel.defs₀ (F := Bits) = Cert.KernelIdeal.defs₀ (F := Bits) := by
  refine congrArg Defs.onTc ?_
  funext l a
  match l, a with
  | 0, (t, s) => exact congrFun (congrFun (congrFun (congrFun (congrFun same_cast0 _) _) _) _) _
  | 1, (t, s) => exact congrFun (congrFun (congrFun (congrFun (congrFun same_cast1 _) _) _) _) _
  | 2, (t, s) => rfl
  | ⟨_ + 3, h⟩, _ => exact absurd h (Nat.not_lt.2 (Nat.le_add_left _ _))
theorem same_defs : Cert.Kernel.defs (F := Bits) = Cert.KernelIdeal.defs (F := Bits) := by
  unfold Cert.Kernel.defs Cert.KernelIdeal.defs
  rw [same_bodies]
  rfl
theorem frame_kernel : Cert.quiescent_Kernel := fun m ρ _ => by
  rw [same_defs]
  refine (θ_run (Cert.KernelIdeal.defs (F := Bits)) (onTc (τ := τ) (Cert.KernelIdeal.main (F := Bits))) ⟨m, fun _ => 0, ρ⟩).mono ?_ (run_main (F := Bits) m ρ)
  exact fun _ h => ⟨fun c => (h.1 c).1, h.2⟩
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.KernelIdeal.Talk

end
-- ==== Proof.Count.lean ====
/- How the classes of key blocks, and the two further blocks, count the kept keys once each. -/
module

public import Idealize.ShloMosaic.PureOps.Ideal.Laws

@[expose] public section

namespace Cert.Attn

variable {M : Type*} [AddCommMonoid M]

/-- The key that row p of class a holds. -/
theorem key_lt {a p : ℕ} (hp : p < 1408) (ha : a < 3) (h : p < 1344 ∨ a = 0) : 64 * (a + 3 * (p / 64)) + p % 64 < 4096 := by omega

/-- The sum over a class's rows is the sum over the keys of its blocks. -/
theorem sum_class (a : ℕ) (ha : a < 3) (f : Fin 4096 → M) :
    (∑ p : Fin 1408, if h : p.val < 1344 ∨ a = 0 then f ⟨64 * (a + 3 * (p.val / 64)) + p.val % 64, key_lt p.isLt ha h⟩ else 0) = ∑ j : Fin 4096, if j.val / 64 % 3 = a then f j else 0 := by
  have e : (∑ p : Fin 1408, if h : p.val < 1344 ∨ a = 0 then f ⟨64 * (a + 3 * (p.val / 64)) + p.val % 64, key_lt p.isLt ha h⟩ else 0)
      = ∑ p : Fin 1408, if p.val < 1344 ∨ a = 0 then f ⟨(64 * (a + 3 * (p.val / 64)) + p.val % 64) % 4096, Nat.mod_lt _ (by decide)⟩ else 0 :=
    Finset.sum_congr rfl fun p _ => by
      by_cases h : p.val < 1344 ∨ a = 0
      · rw [dif_pos h, if_pos h]; congr 1; apply Fin.ext; exact (Nat.mod_eq_of_lt (key_lt p.isLt ha h)).symm
      · rw [dif_neg h, if_neg h]
  rw [e, ← Finset.sum_filter, ← Finset.sum_filter]
  refine Finset.sum_bij' (fun p _ => (⟨(64 * (a + 3 * (p.val / 64)) + p.val % 64) % 4096, Nat.mod_lt _ (by decide)⟩ : Fin 4096))
    (fun j _ => (⟨64 * (j.val / 64 / 3) + j.val % 64, by have := j.isLt; omega⟩ : Fin 1408)) ?_ ?_ ?_ ?_ ?_
  · intro p hp
    rw [Finset.mem_filter] at hp ⊢
    have := key_lt p.isLt ha hp.2
    refine ⟨Finset.mem_univ _, ?_⟩
    show (64 * (a + 3 * (p.val / 64)) + p.val % 64) % 4096 / 64 % 3 = a
    rw [Nat.mod_eq_of_lt this]; omega
  · intro j hj
    rw [Finset.mem_filter] at hj ⊢
    refine ⟨Finset.mem_univ _, ?_⟩
    have := j.isLt; have := hj.2
    show 64 * (j.val / 64 / 3) + j.val % 64 < 1344 ∨ a = 0
    omega
  · intro p hp
    rw [Finset.mem_filter] at hp
    have := key_lt p.isLt ha hp.2
    apply Fin.ext
    show 64 * ((64 * (a + 3 * (p.val / 64)) + p.val % 64) % 4096 / 64 / 3) + (64 * (a + 3 * (p.val / 64)) + p.val % 64) % 4096 % 64 = p.val
    rw [Nat.mod_eq_of_lt this]; omega
  · intro j hj
    rw [Finset.mem_filter] at hj
    have := j.isLt; have := hj.2
    apply Fin.ext
    show (64 * (a + 3 * ((64 * (j.val / 64 / 3) + j.val % 64) / 64)) + (64 * (j.val / 64 / 3) + j.val % 64) % 64) % 4096 = j.val
    omega
  · intro p _; rfl

/-- The key that row p of the first and the n-th block holds. -/
def ext (n : ℕ) (hn : n < 64) (p : Fin 128) : Fin 4096 := ⟨if p.val < 64 then p.val else 64 * n + (p.val - 64), by have := p.isLt; split <;> omega⟩

theorem sum_ext (n : ℕ) (hn : n < 64) (h0 : n ≠ 0) (f : Fin 4096 → M) : (∑ p : Fin 128, f (ext n hn p)) = ∑ j : Fin 4096, if j.val / 64 = 0 ∨ j.val / 64 = n then f j else 0 := by
  rw [← Finset.sum_filter]
  refine Finset.sum_bij' (fun p _ => ext n hn p) (fun j _ => (⟨if j.val < 64 then j.val else 64 + j.val % 64, by split <;> omega⟩ : Fin 128)) ?_ ?_ ?_ ?_ ?_
  · intro p _
    rw [Finset.mem_filter]
    refine ⟨Finset.mem_univ _, ?_⟩
    have := p.isLt
    simp only [ext]
    split <;> omega
  · intro j _; exact Finset.mem_univ _
  · intro p _
    have := p.isLt
    apply Fin.ext
    simp only [ext]
    split_ifs <;> omega
  · intro j hj
    rw [Finset.mem_filter] at hj
    have := j.isLt; have := hj.2
    apply Fin.ext
    simp only [ext]
    split_ifs <;> omega
  · intro p _; rfl

/-- Whether device c's key block b is kept for query block n. -/
abbrev Here (c n b : ℕ) : Prop := n = 64 * c + b ∨ 64 * c + b = 0 ∨ (n + (64 * c + b)) % 3 = 0

/-- A kept block is in the class, or is one of the two further ones, never both. -/
theorem here_iff {c n b : ℕ} (hc : c < 8) (hn : n < 4) (hb : b < 64) : Here c n b ↔ b % 3 = (2 * (n + c)) % 3 ∨ (c = 0 ∧ (n = 1 ∨ n = 2)) ∧ (b = 0 ∨ b = n) := by
  unfold Here; omega
theorem here_not {c n b : ℕ} (hn : n < 4) (h : (c = 0 ∧ (n = 1 ∨ n = 2)) ∧ (b = 0 ∨ b = n)) : ¬ b % 3 = (2 * (n + c)) % 3 := by omega

/-- The sum over the kept keys, where there are no further blocks. -/
theorem sum_here_plain (c n : ℕ) (hc : c < 8) (hn : n < 4) (h : ¬ (c = 0 ∧ (n = 1 ∨ n = 2))) (f : Fin 4096 → M) :
    (∑ j : Fin 4096, if Here c n (j.val / 64) then f j else 0) = ∑ j : Fin 4096, if j.val / 64 % 3 = (2 * (n + c)) % 3 then f j else 0 :=
  Finset.sum_congr rfl fun j _ => if_congr ((here_iff hc hn (by have := j.isLt; omega)).trans ⟨fun q => q.elim id fun q => absurd q.1 h, Or.inl⟩) rfl rfl
/-- The sum over the kept keys, where there are. -/
theorem sum_here_ext (c n : ℕ) (hc : c < 8) (hn : n < 4) (h : c = 0 ∧ (n = 1 ∨ n = 2)) (f : Fin 4096 → M) :
    (∑ j : Fin 4096, if Here c n (j.val / 64) then f j else 0) = (∑ j : Fin 4096, if j.val / 64 % 3 = (2 * (n + c)) % 3 then f j else 0) + ∑ j : Fin 4096, if j.val / 64 = 0 ∨ j.val / 64 = n then f j else 0 := by
  rw [← Finset.sum_add_distrib]
  refine Finset.sum_congr rfl fun j _ => ?_
  have hi := here_iff (b := j.val / 64) hc hn (by have := j.isLt; omega)
  by_cases he : j.val / 64 = 0 ∨ j.val / 64 = n
  · rw [if_pos (hi.2 (.inr ⟨h, he⟩)), if_neg (here_not hn ⟨h, he⟩), if_pos he, zero_add]
  · rw [if_neg he, add_zero]
    exact if_congr (hi.trans ⟨fun q => q.elim id fun q => absurd q.2 he, Or.inl⟩) rfl rfl

end Cert.Attn

end
-- ==== Proof.ClassVal.lean ====
/- The rows of the class buffers. -/
module

public import proofs.«01_k».proof.Proof.Vals
public import proofs.«01_k».proof.Proof.Count
public import Idealize.ShloMosaic.Lib.ValueIdx

@[expose] public section

noncomputable section

namespace Cert.KernelIdeal.Talk

open Cert.KernelIdeal Cert.KernelIdeal.Gen Idealize.ShloMosaic Idealize.ShloMosaic.ValueIdx Cert.Attn

variable {F : FTy → Type} [FloatOps F]

/-- Block a + 3n of the keys. -/
def piece (a N : ℕ) (h : ∀ n : Fin N, 64 * (a + 3 * n.val) + 64 ≤ 4096) (kk : FVec F S4096x128 .bf16) (n : Fin N) : FVec F S64x128 .bf16 :=
  extractStridedSlice S64x128 ![64 * (a + 3 * n.val), 0] kk ⟨rfl, fun b => by fin_cases b; exacts [h n, Nat.le_refl 128]⟩

theorem piece_apply (a N : ℕ) (h : ∀ n : Fin N, 64 * (a + 3 * n.val) + 64 ≤ 4096) (kk : FVec F S4096x128 .bf16) (n : Fin N) (o : Fin 64) (d : Fin 128) (j : Fin 4096) (hj : j.val = 64 * (a + 3 * n.val) + o.val) :
    piece a N h kk n (ix2 o d) = kk (ix2 j d) := by
  unfold piece extractStridedSlice
  refine congrArg kk (funext fun b => Fin.ext ?_)
  fin_cases b
  · exact hj.symm
  · exact Nat.zero_add _

theorem pieces_row {t : Shape} (x : Fin t.rank) (a N : ℕ) (h : ∀ n : Fin N, 64 * (a + 3 * n.val) + 64 ≤ 4096) (kk : FVec F S4096x128 .bf16) (ht : t = ⟨2, ![64 * N, 128]⟩) (hx : x.val = 0)
    (hc : Shape.Concatenates ((List.ofFn fun n : Fin N => (⟨S64x128, piece a N h kk n⟩ : (s : Shape) × (s.Idx → F .bf16))).map (·.1)) t x) (i : t.Idx) (p : Fin (64 * N)) (d : Fin 128) (hi : i = ht ▸ ix2 p d) (j : Fin 4096)
    (hj : j.val = 64 * (a + 3 * (p.val / 64)) + p.val % 64) :
    concatenate t x (List.ofFn fun n : Fin N => (⟨S64x128, piece a N h kk n⟩ : (s : Shape) × (s.Idx → F .bf16))) hc i = kk (ix2 j d) := by
  subst ht
  obtain ⟨x, hx'⟩ := x
  simp only at hx
  subst hx
  subst hi
  have hp := p.isLt
  have hn : p.val / 64 < N := by omega
  refine (concatenate_ofFn_apply _ (fun n => piece a N h kk n) hc rfl 64 rfl _ ⟨p.val / 64, hn⟩ rfl (ix2 ⟨p.val % 64, Nat.mod_lt _ (by decide)⟩ d) rfl (fun b hb => ?_)).trans (piece_apply a N h kk _ _ d j hj)
  fin_cases b
  · exact absurd rfl hb
  · rfl

section rows
variable (k : Vec F S1x4096x128 .bf16) (d : Fin 128) (j : Fin 4096)

theorem k0_row (p : Fin 1408) (hj : j.val = 64 * (0 + 3 * (p.val / 64)) + p.val % 64) :
    k2_pay39 (k2_pay18 k) (k2_pay25 k) (k2_pay26 k) (k2_pay27 k) (k2_pay28 k) (k2_pay29 k) (k2_pay30 k) (k2_pay31 k) (k2_pay32 k) (k2_pay33 k) (k2_pay34 k) (k2_pay35 k) (k2_pay36 k) (k2_pay37 k) (k2_pay38 k) (ix3 0 p d) = k2_pay18 k (ix2 j d) := by
  unfold k2_pay39
  refine (shapeCast_apply _ _ _ (ix2 p d) (by rw [Shape.rowMajor_val_two, Shape.rowMajor_val_three]; show p.val * 128 + d.val = (0 * 1408 + p.val) * 128 + d.val; omega)).trans ?_
  exact pieces_row (F := F) (t := S1408x128) 0 0 22 (fun n => by have := n.isLt; omega) (k2_pay18 k) rfl rfl concatenates_S64x128_S64x128_S64x128_S64x128_S64x128_S64x128_S64x128_S64x128_S64x128_S64x128_S64x128_S64x128_S64x128_S64x128_S64x128_S64x128_S64x128_S64x128_S64x128_S64x128_S64x128_S64x128_S1408x128_d0 (ix2 p d) p d rfl j hj
theorem k1_row (p : Fin 1344) (hj : j.val = 64 * (1 + 3 * (p.val / 64)) + p.val % 64) :
    k2_pay55 (k2_pay18 k) (k2_pay41 (k2_pay18 k)) (k2_pay42 (k2_pay18 k)) (k2_pay43 (k2_pay18 k)) (k2_pay44 (k2_pay18 k)) (k2_pay45 (k2_pay18 k)) (k2_pay46 (k2_pay18 k)) (k2_pay47 (k2_pay18 k)) (k2_pay48 (k2_pay18 k)) (k2_pay49 (k2_pay18 k)) (k2_pay50 (k2_pay18 k)) (k2_pay51 (k2_pay18 k)) (k2_pay52 (k2_pay18 k)) (k2_pay53 (k2_pay18 k)) (k2_pay54 (k2_pay18 k)) (ix3 0 p d) = k2_pay18 k (ix2 j d) := by
  unfold k2_pay55
  refine (shapeCast_apply _ _ _ (ix2 p d) (by rw [Shape.rowMajor_val_two, Shape.rowMajor_val_three]; show p.val * 128 + d.val = (0 * 1344 + p.val) * 128 + d.val; omega)).trans ?_
  exact pieces_row (F := F) (t := S1344x128) 0 1 21 (fun n => by have := n.isLt; omega) (k2_pay18 k) rfl rfl concatenates_S64x128_S64x128_S64x128_S64x128_S64x128_S64x128_S64x128_S64x128_S64x128_S64x128_S64x128_S64x128_S64x128_S64x128_S64x128_S64x128_S64x128_S64x128_S64x128_S64x128_S64x128_S1344x128_d0 (ix2 p d) p d rfl j hj
theorem k2_row (p : Fin 1344) (hj : j.val = 64 * (2 + 3 * (p.val / 64)) + p.val % 64) :
    k2_pay73 (k2_pay18 k) (k2_pay57 (k2_pay18 k)) (k2_pay58 (k2_pay18 k)) (k2_pay59 (k2_pay18 k)) (k2_pay60 (k2_pay18 k)) (k2_pay61 (k2_pay18 k)) (k2_pay62 (k2_pay18 k)) (k2_pay63 (k2_pay18 k)) (k2_pay64 (k2_pay18 k)) (k2_pay65 (k2_pay18 k)) (k2_pay66 (k2_pay18 k)) (k2_pay67 (k2_pay18 k)) (k2_pay68 (k2_pay18 k)) (k2_pay69 (k2_pay18 k)) (k2_pay70 (k2_pay18 k)) (k2_pay71 (k2_pay18 k)) (k2_pay72 (k2_pay18 k)) (ix3 0 p d) = k2_pay18 k (ix2 j d) := by
  unfold k2_pay73
  refine (shapeCast_apply _ _ _ (ix2 p d) (by rw [Shape.rowMajor_val_two, Shape.rowMajor_val_three]; show p.val * 128 + d.val = (0 * 1344 + p.val) * 128 + d.val; omega)).trans ?_
  exact pieces_row (F := F) (t := S1344x128) 0 2 21 (fun n => by have := n.isLt; omega) (k2_pay18 k) rfl rfl concatenates_S64x128_S64x128_S64x128_S64x128_S64x128_S64x128_S64x128_S64x128_S64x128_S64x128_S64x128_S64x128_S64x128_S64x128_S64x128_S64x128_S64x128_S64x128_S64x128_S64x128_S64x128_S1344x128_d0 (ix2 p d) p d rfl j hj
theorem v0_row (p : Fin 1408) (hj : j.val = 64 * (0 + 3 * (p.val / 64)) + p.val % 64) :
    k2_pay40 (k2_pay19 k) (ix3 0 p d) = k2_pay19 k (ix2 j d) := by
  unfold k2_pay40
  refine (shapeCast_apply _ _ _ (ix2 p d) (by rw [Shape.rowMajor_val_two, Shape.rowMajor_val_three]; show p.val * 128 + d.val = (0 * 1408 + p.val) * 128 + d.val; omega)).trans ?_
  exact pieces_row (F := F) (t := S1408x128) 0 0 22 (fun n => by have := n.isLt; omega) (k2_pay19 k) rfl rfl concatenates_S64x128_S64x128_S64x128_S64x128_S64x128_S64x128_S64x128_S64x128_S64x128_S64x128_S64x128_S64x128_S64x128_S64x128_S64x128_S64x128_S64x128_S64x128_S64x128_S64x128_S64x128_S64x128_S1408x128_d0 (ix2 p d) p d rfl j hj
theorem v1_row (p : Fin 1344) (hj : j.val = 64 * (1 + 3 * (p.val / 64)) + p.val % 64) :
    k2_pay56 (k2_pay19 k) (ix3 0 p d) = k2_pay19 k (ix2 j d) := by
  unfold k2_pay56
  refine (shapeCast_apply _ _ _ (ix2 p d) (by rw [Shape.rowMajor_val_two, Shape.rowMajor_val_three]; show p.val * 128 + d.val = (0 * 1344 + p.val) * 128 + d.val; omega)).trans ?_
  exact pieces_row (F := F) (t := S1344x128) 0 1 21 (fun n => by have := n.isLt; omega) (k2_pay19 k) rfl rfl concatenates_S64x128_S64x128_S64x128_S64x128_S64x128_S64x128_S64x128_S64x128_S64x128_S64x128_S64x128_S64x128_S64x128_S64x128_S64x128_S64x128_S64x128_S64x128_S64x128_S64x128_S64x128_S1344x128_d0 (ix2 p d) p d rfl j hj
theorem v2_row (p : Fin 1344) (hj : j.val = 64 * (2 + 3 * (p.val / 64)) + p.val % 64) :
    k2_pay74 (k2_pay19 k) (ix3 0 p d) = k2_pay19 k (ix2 j d) := by
  unfold k2_pay74
  refine (shapeCast_apply _ _ _ (ix2 p d) (by rw [Shape.rowMajor_val_two, Shape.rowMajor_val_three]; show p.val * 128 + d.val = (0 * 1344 + p.val) * 128 + d.val; omega)).trans ?_
  exact pieces_row (F := F) (t := S1344x128) 0 2 21 (fun n => by have := n.isLt; omega) (k2_pay19 k) rfl rfl concatenates_S64x128_S64x128_S64x128_S64x128_S64x128_S64x128_S64x128_S64x128_S64x128_S64x128_S64x128_S64x128_S64x128_S64x128_S64x128_S64x128_S64x128_S64x128_S64x128_S64x128_S64x128_S1344x128_d0 (ix2 p d) p d rfl j hj

end rows

/-- Row p of class a, from the rows of all the keys. -/
def clsRow (a : Fin 3) (g : FVec F S4096x128 .bf16) (p : Fin 1408) (d : Fin 128) : F .bf16 :=
  if h : p.val < 1344 ∨ a.val = 0 then g (ix2 ⟨64 * (a.val + 3 * (p.val / 64)) + p.val % 64, key_lt p.isLt a.isLt h⟩ d) else Scalar.ofBits .bf16 0x0000#16

theorem classes_row (a : Fin 3) (g : FVec F S4096x128 .bf16) (p0 : Vec F S1x1408x128 .bf16) (p1 p2 : Vec F S1x1344x128 .bf16)
    (h0 : ∀ (p : Fin 1408) (d : Fin 128) (j : Fin 4096), j.val = 64 * (0 + 3 * (p.val / 64)) + p.val % 64 → p0 (ix3 0 p d) = g (ix2 j d))
    (h1 : ∀ (p : Fin 1344) (d : Fin 128) (j : Fin 4096), j.val = 64 * (1 + 3 * (p.val / 64)) + p.val % 64 → p1 (ix3 0 p d) = g (ix2 j d))
    (h2 : ∀ (p : Fin 1344) (d : Fin 128) (j : Fin 4096), j.val = 64 * (2 + 3 * (p.val / 64)) + p.val % 64 → p2 (ix3 0 p d) = g (ix2 j d))
    (p : Fin 1408) (d : Fin 128) : rdC a (setB 2 (setB 1 (setA 0 zp p0) p1) p2) (ix3 0 p d) = clsRow a g p d := by
  have e1 : (setB 2 (setB 1 (setA 0 zp p0) p1) p2) (ix3 a p d) = clsRow a g p d := by
    unfold clsRow
    by_cases hp : p.val < 1344
    · rw [dif_pos (.inl hp)]
      fin_cases a
      · refine (dif_neg (fun q => absurd q.1 (by show ¬ (0:ℕ) = 2; decide))).trans ((dif_neg (fun q => absurd q.1 (by show ¬ (0:ℕ) = 1; decide))).trans ((if_pos rfl).trans ?_))
        refine Eq.trans (congrArg p0 ?_) (h0 p d _ rfl)
        funext b; fin_cases b <;> rfl
      · refine (dif_neg (fun q => absurd q.1 (by show ¬ (1:ℕ) = 2; decide))).trans ((dif_pos ⟨rfl, hp⟩).trans ?_)
        refine Eq.trans (congrArg p1 ?_) (h1 ⟨p.val, hp⟩ d _ rfl)
        funext b; fin_cases b <;> rfl
      · refine (dif_pos ⟨rfl, hp⟩).trans ?_
        refine Eq.trans (congrArg p2 ?_) (h2 ⟨p.val, hp⟩ d _ rfl)
        funext b; fin_cases b <;> rfl
    · fin_cases a
      · rw [dif_pos (.inr rfl)]
        refine (dif_neg (fun q => absurd q.1 (by show ¬ (0:ℕ) = 2; decide))).trans ((dif_neg (fun q => absurd q.1 (by show ¬ (0:ℕ) = 1; decide))).trans ((if_pos rfl).trans ?_))
        refine Eq.trans (congrArg p0 ?_) (h0 p d _ rfl)
        funext b; fin_cases b <;> rfl
      · rw [dif_neg (fun q => q.elim hp (by show ¬ (1:ℕ) = 0; decide))]
        exact (dif_neg (fun q => hp q.2)).trans ((dif_neg (fun q => hp q.2)).trans (if_neg (by show ¬ (1:ℕ) = 0; decide)))
      · rw [dif_neg (fun q => q.elim hp (by show ¬ (2:ℕ) = 0; decide))]
        exact (dif_neg (fun q => hp q.2)).trans ((dif_neg (fun q => hp q.2)).trans (if_neg (by show ¬ (2:ℕ) = 0; decide)))
  refine Eq.trans ?_ e1
  unfold rdC
  refine congrArg _ ?_
  funext b; fin_cases b <;> rfl

/-- The key classes' rows. -/
theorem kcF_row (k : Vec F S1x4096x128 .bf16) (a : Fin 3) (p : Fin 1408) (d : Fin 128) : rdC a (kcF k zp) (ix3 0 p d) = clsRow a (k2_pay18 k) p d :=
  classes_row a _ _ _ _ (fun p d j h => k0_row k d j p h) (fun p d j h => k1_row k d j p h) (fun p d j h => k2_row k d j p h) p d
/-- The value classes' rows. -/
theorem vcF_row (k : Vec F S1x4096x128 .bf16) (a : Fin 3) (p : Fin 1408) (d : Fin 128) : rdC a (vcF k zp) (ix3 0 p d) = clsRow a (k2_pay19 k) p d :=
  classes_row a _ _ _ _ (fun p d j h => v0_row k d j p h) (fun p d j h => v1_row k d j p h) (fun p d j h => v2_row k d j p h) p d

end Cert.KernelIdeal.Talk

end
-- ==== Proof.Plain.lean ====
/- Softmax over a masked row, with and without subtracting the row's greatest score. -/
module

public import Idealize.ShloMosaic.PureOps.Ideal.Laws

@[expose] public section

noncomputable section

namespace Cert.Attn

open Idealize.ShloMosaic

/-- A nonnegative real goes into a sum of extended reals. -/
theorem mul_into {ι : Type*} (s : Finset ι) (r : ℝ) (hr : 0 ≤ r) (f : ι → EReal) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- A sum of reals, read as extended reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient by a positive real. -/
theorem div_pos (x : EReal) {r : ℝ} (hr : 0 < r) : Ideal.div x (r : EReal) = x * ((r⁻¹ : ℝ) : EReal) := by
  unfold Ideal.div
  rw [if_neg (fun h => hr.ne' (EReal.coe_eq_zero.mp h)), EReal.coe_inv]

variable {ι : Type*} [Fintype ι] (σ : ι → ℝ) (K : ι → Prop) [DecidablePred K]

/-- The scores, minus infinity where they are masked. -/
def sc (i : ι) : EReal := if K i then (σ i : EReal) else ⊥
/-- The greatest. -/
def top : EReal := Finset.univ.fold max ⊥ (sc σ K)
/-- A weight, nothing where masked. -/
def wt (i : ι) : ℝ := if K i then Real.exp (σ i) else 0

theorem top_real (hK : ∃ i, K i) : ∃ μ : ℝ, top σ K = μ := by
  obtain ⟨i, hi⟩ := hK
  have h1 : (σ i : EReal) ≤ top σ K := Finset.le_fold_max _ |>.mpr (Or.inr ⟨i, Finset.mem_univ i, by unfold sc; rw [if_pos hi]⟩)
  have h2 : top σ K < ⊤ := (Finset.fold_max_lt _).mpr ⟨bot_lt_top, fun k _ => by unfold sc; split_ifs <;> [exact EReal.coe_lt_top _; exact bot_lt_top]⟩
  exact ⟨(top σ K).toReal, (EReal.coe_toReal h2.ne (ne_of_gt (lt_of_lt_of_le (EReal.bot_lt_coe _) h1))).symm⟩

theorem wt_nonneg (i : ι) : 0 ≤ wt σ K i := by unfold wt; split_ifs <;> [exact (Real.exp_pos _).le; exact le_rfl]
theorem wt_pos (hK : ∃ i, K i) : 0 < ∑ i, wt σ K i := by
  obtain ⟨i, hi⟩ := hK
  refine Finset.sum_pos' (fun i _ => wt_nonneg σ K i) ⟨i, Finset.mem_univ i, ?_⟩
  unfold wt; rw [if_pos hi]; exact Real.exp_pos _

theorem exp_sc (μ : ℝ) (i : ι) : Ideal.exp (sc σ K i - (μ : EReal)) = ((wt σ K i * Real.exp (-μ) : ℝ) : EReal) := by
  unfold sc wt
  split_ifs with h
  · rw [← EReal.coe_sub, Ideal.exp_coe, sub_eq_add_neg, Real.exp_add]
  · rw [show (⊥ : EReal) - (μ : EReal) = ⊥ from EReal.bot_sub _, Ideal.exp_bot, zero_mul, EReal.coe_zero]

/-- The mean of the values by the softmax of the scores is the sum by the bare exponentials, over their sum. -/
theorem softmax (hK : ∃ i, K i) (v : ι → EReal) :
    ∑ i, v i * Ideal.div (Ideal.exp (sc σ K i - top σ K)) (∑ k, Ideal.exp (sc σ K k - top σ K))
      = Ideal.div (∑ i, (wt σ K i : EReal) * v i) (∑ i, (wt σ K i : EReal)) := by
  obtain ⟨μ, hμ⟩ := top_real σ K hK
  have hp := wt_pos σ K hK
  rw [hμ]
  simp only [exp_sc]
  rw [sum_coe, sum_coe, ← Finset.sum_mul, div_pos _ hp, mul_into _ _ (inv_nonneg.mpr hp.le)]
  refine Finset.sum_congr rfl fun i _ => ?_
  rw [div_pos _ (mul_pos hp (Real.exp_pos _)), ← EReal.coe_mul, mul_comm (v i), mul_right_comm (wt σ K i : EReal), ← EReal.coe_mul]
  congr 2
  have := (Real.exp_pos (-μ)).ne'
  have := hp.ne'
  field_simp

/-- The scale of the scores, as a real. -/
def scale : ℝ := (Ideal.ofBits .f32 0x3DB504F3#32).toReal
theorem scale_eq : Ideal.ofBits .f32 0x3DB504F3#32 = (scale : EReal) := by
  refine (EReal.coe_toReal ?_ ?_).symm <;> simp [Ideal.ofBits, Ideal.ieee] <;> norm_cast <;> simp
theorem minus_inf : Ideal.ofBits .f32 0xFF800000#32 = (⊥ : EReal) := by simp [Ideal.ofBits, Ideal.ieee]

/-- Column d of head h among all the heads' columns. -/
def col (h : Fin 8) (d : Fin 128) : Fin 1024 := ⟨128 * h.val + d.val, by omega⟩
/-- A query's entry. -/
def qd (x : Fin 256 → Fin 1024 → ℝ) (wq : Fin 1024 → Fin 1024 → ℝ) (r : Fin 256) (e : Fin 1024) : ℝ := ∑ t, x r t * wq t e
/-- A score. -/
def score (x : Fin 256 → Fin 1024 → ℝ) (wq : Fin 1024 → Fin 1024 → ℝ) (k : Fin 32768 → Fin 8 → Fin 128 → ℝ) (r : Fin 256) (h : Fin 8) (j : Fin 32768) : ℝ :=
  (∑ d, qd x wq r (col h d) * k j h d) * scale

end Cert.Attn

end
-- ==== Proof.HeadVal.lean ====
/- A head's outputs and denominators: the sums over a device's kept keys. -/
module

public import proofs.«01_k».proof.Proof.ClassVal
public import proofs.«01_k».proof.Proof.Plain
public import Idealize.ShloMosaic.Lib.IdealHost

@[expose] public section

noncomputable section

namespace Cert.KernelIdeal.Talk

open Cert.KernelIdeal Cert.KernelIdeal.Gen Idealize.ShloMosaic Idealize.ShloMosaic.ValueIdx Cert.Attn

/-- A product over one axis, into zeros. -/
theorem mm_sum {sl sr so : Shape} {φ₁ φ₂ : FTy} (d : DotDims sl sr so) (n : ℕ) (hr : d.contr.rank = 1) (hs : d.contr.size ⟨0, by omega⟩ = n) (lhs : FVec Ideal sl φ₁) (rhs : FVec Ideal sr φ₂) (j : so.Idx)
    (L R : Fin n → EReal) (hl : ∀ k, lhs (d.lhsIdx j k) = L (contrEquiv1 d n hr hs k)) (hr' : ∀ k, rhs (d.rhsIdx j k) = R (contrEquiv1 d n hr hs k)) :
    matmul d none lhs rhs (constant so .f32 0x00000000#32) j = ∑ k, L k * R k := by
  refine (Ideal.matmul_constant_zero_apply d none lhs rhs j).trans ?_
  rw [← Equiv.sum_comp (contrEquiv1 d n hr hs)]
  exact Finset.sum_congr rfl fun k _ => by rw [hl, hr']

/-- Row o of query block n. -/
def rowOf (n : Fin 4) (o : Fin 64) : Fin 256 := ⟨64 * n.val + o.val, by omega⟩

section pieces
variable (v15 : FVec Ideal S256x128 .bf16) (n : Fin 4)

theorem q_slices (n : Fin 4) : S256x128.Slices ![64 * n.val, 0] S64x128 := ⟨rfl, fun b => by fin_cases b; exacts [by have := n.isLt; show 64 * n.val + 64 ≤ 256; omega, Nat.le_refl 128]⟩
/-- The queries of block n. -/
def qPart : FVec Ideal S64x128 .bf16 := extractStridedSlice S64x128 ![64 * n.val, 0] v15 (q_slices n)
theorem qPart_apply (o : Fin 64) (d : Fin 128) : qPart v15 n (ix2 o d) = v15 (ix2 (rowOf n o) d) := by
  unfold qPart extractStridedSlice
  refine congrArg v15 (funext fun b => Fin.ext ?_)
  fin_cases b
  · rfl
  · exact Nat.zero_add _

/-- A class as a matrix. -/
def castC (K : Vec Ideal S1x1408x128 .bf16) : FVec Ideal S1408x128 .bf16 := shapeCast S1408x128 K shapeCasts_S1x1408x128_S1408x128
/-- The weights of a block's queries over a class. -/
def wPart (w : BitVec 32) (K : Vec Ideal S1x1408x128 .bf16) : FVec Ideal S64x1408 .bf16 :=
  select (ori (cmpi .slt (iota .tc S64x1408 32 [1] iota_S64x1408_d1_w32) (broadcast S64x1408 1344#32)) (broadcast S64x1408 (Scalar.cmpi .eq w 0#32)))
    (exp (truncf .bf16 (matmul dot_S64x128_S1408x128_S64x1408_1_1_0_0_n_n none (qPart v15 n) (castC K) (constant S64x1408 .f32 0x00000000#32)) bitsLt_bf16_f32))
    (broadcast S64x1408 (Scalar.ofBits .bf16 0x0000#16))

theorem lt_word : ∀ p : Fin 1408, IntOp.cmpi .slt (BitVec.ofNat 32 (0 * 1408 + p.val)) 1344#32 = if p.val < 1344 then 1#1 else 0#1 := by decide +kernel
theorem eq_word (w : BitVec 32) : (Scalar.cmpi .eq w 0#32 : BitVec 1) = if w = 0#32 then 1#1 else 0#1 := by
  by_cases h : w = 0#32
  · simp [Scalar.cmpi, IntOp.cmpi, h]
  · rw [if_neg h]
    show BitVec.ofBool (w == 0#32) = 0#1
    rw [beq_eq_false_iff_ne.2 h]; rfl
theorem ori_word (a b : Prop) [Decidable a] [Decidable b] : ((if a then 1#1 else 0#1 : BitVec 1) ||| (if b then 1#1 else 0#1)) = 1#1 ↔ a ∨ b := by
  by_cases a <;> by_cases b <;> simp [*]

theorem cast_row (K : Vec Ideal S1x1408x128 .bf16) (p : Fin 1408) (d : Fin 128) : castC K (ix2 p d) = K (ix3 0 p d) :=
  shapeCast_apply _ _ _ _ (by rw [Shape.rowMajor_val_two, Shape.rowMajor_val_three]; show (0 * 1408 + p.val) * 128 + d.val = p.val * 128 + d.val; omega)

theorem wPart_apply (w : BitVec 32) (K : Vec Ideal S1x1408x128 .bf16) (o : Fin 64) (p : Fin 1408) : wPart v15 n w K (ix2 o p)
    = if p.val < 1344 ∨ w = 0#32 then Ideal.exp (∑ d : Fin 128, v15 (ix2 (rowOf n o) d) * K (ix3 0 p d)) else 0 := by
  have hm : matmul dot_S64x128_S1408x128_S64x1408_1_1_0_0_n_n none (qPart v15 n) (castC K) (constant S64x1408 .f32 0x00000000#32) (ix2 o p)
      = ∑ d : Fin 128, v15 (ix2 (rowOf n o) d) * K (ix3 0 p d) := by
    refine mm_sum _ 128 rfl rfl _ _ _ _ _ (fun k => ?_) (fun k => ?_)
    · refine Eq.trans (congrArg (qPart v15 n) ?_) (qPart_apply v15 n o _)
      funext a; fin_cases a <;> rfl
    · refine Eq.trans (congrArg (castC K) ?_) (cast_row K p _)
      funext a; fin_cases a <;> rfl
  have hc : (ori (cmpi .slt (iota .tc S64x1408 32 [1] iota_S64x1408_d1_w32) (broadcast S64x1408 1344#32)) (broadcast S64x1408 (Scalar.cmpi .eq w 0#32))) (ix2 o p) = 1#1 ↔ (p.val < 1344 ∨ w = 0#32) := by
    rw [← ori_word, ← lt_word p, ← eq_word w]; rfl
  rw [← hm]
  exact if_congr hc rfl (Ideal.ofBits_zero_bf16)

/-- The keys, or the values, of the first and the m-th block. -/
def xRows (m : ℕ) (hm : S4096x128.Slices ![64 * m, 0] S64x128) (k : FVec Ideal S4096x128 .bf16) : FVec Ideal S128x128 .bf16 :=
  concatenate S128x128 0 [⟨S64x128, extractStridedSlice S64x128 ![0, 0] k slices_S4096x128_o0_0_S64x128⟩, ⟨S64x128, extractStridedSlice S64x128 ![64 * m, 0] k hm⟩] concatenates_S64x128_S64x128_S128x128_d0
theorem xRows_apply (m : ℕ) (h64 : m < 64) (hm : S4096x128.Slices ![64 * m, 0] S64x128) (k : FVec Ideal S4096x128 .bf16) (p d : Fin 128) : xRows m hm k (ix2 p d) = k (ix2 (ext m h64 p) d) := by
  unfold xRows
  by_cases hp : p.val < 64
  · refine (concatenate_apply_piece 0 _ _ (ix2 p d) 0 (by exact Nat.zero_lt_two) S64x128 _ rfl rfl 0 rfl (ix2 ⟨p.val, hp⟩ d) (fun b hb => ?_) (Nat.zero_add _)).trans ?_
    · fin_cases b
      · exact absurd rfl hb
      · rfl
    · refine congrArg k (funext fun b => Fin.ext ?_)
      fin_cases b
      · show 0 + p.val = if p.val < 64 then p.val else _
        rw [if_pos hp, Nat.zero_add]
      · exact Nat.zero_add _
  · have hp' := p.isLt
    refine (concatenate_apply_piece 0 _ _ (ix2 p d) 1 (by exact Nat.one_lt_two) S64x128 _ rfl rfl 64 rfl (ix2 ⟨p.val - 64, by omega⟩ d) (fun b hb => ?_) (by show 64 + (p.val - 64) = p.val; omega)).trans ?_
    · fin_cases b
      · exact absurd rfl hb
      · rfl
    · refine congrArg k (funext fun b => Fin.ext ?_)
      fin_cases b
      · show 64 * m + (p.val - 64) = if p.val < 64 then _ else 64 * m + (p.val - 64)
        rw [if_neg hp]
      · exact Nat.zero_add _

/-- The weights of a block's queries over the two further blocks. -/
def xPart (v2 : BitVec 32) (m : ℕ) (hm : S4096x128.Slices ![64 * m, 0] S64x128) (v17 : FVec Ideal S4096x128 .bf16) : FVec Ideal S64x128 .bf16 :=
  Scalar.select (Scalar.cmpi .eq v2 0#32)
    (exp (truncf .bf16 (matmul dot_S64x128_S128x128_S64x128_1_1_0_0_n_n none (qPart v15 n) (xRows m hm v17) (constant S64x128 .f32 0x00000000#32)) bitsLt_bf16_f32))
    (broadcast S64x128 (Scalar.ofBits .bf16 0x0000#16))

theorem xPart_apply (v2 : BitVec 32) (m : ℕ) (h64 : m < 64) (hm : S4096x128.Slices ![64 * m, 0] S64x128) (v17 : FVec Ideal S4096x128 .bf16) (o : Fin 64) (p : Fin 128) : xPart v15 n v2 m hm v17 (ix2 o p)
    = if v2 = 0#32 then Ideal.exp (∑ d : Fin 128, v15 (ix2 (rowOf n o) d) * v17 (ix2 (ext m h64 p) d)) else 0 := by
  have hmm : matmul dot_S64x128_S128x128_S64x128_1_1_0_0_n_n none (qPart v15 n) (xRows m hm v17) (constant S64x128 .f32 0x00000000#32) (ix2 o p)
      = ∑ d : Fin 128, v15 (ix2 (rowOf n o) d) * v17 (ix2 (ext m h64 p) d) := by
    refine mm_sum _ 128 rfl rfl _ _ _ _ _ (fun k => ?_) (fun k => ?_)
    · refine Eq.trans (congrArg (qPart v15 n) ?_) (qPart_apply v15 n o _)
      funext a; fin_cases a <;> rfl
    · refine Eq.trans (congrArg (xRows m hm v17) ?_) (xRows_apply m h64 hm v17 p _)
      funext a; fin_cases a <;> rfl
  unfold xPart
  rw [eq_word]
  by_cases h : v2 = 0#32
  · rw [if_pos h, if_pos h, ← hmm]; rfl
  · rw [if_neg h, if_neg h]; exact Ideal.ofBits_zero_bf16

/-- A block's sums of weights over a class. -/
theorem sum_w (w : FVec Ideal S64x1408 .bf16) (o : Fin 64) : multiReduction .add [1] S64 (extf .f32 w bitsLt_bf16_f32) 0x00000000#32 reduces_S64x1408_S64 (.inl rfl) rfl (ix1 o) = ∑ p : Fin 1408, w (ix2 o p) := by
  refine (Ideal.multiReduction_add_single _ _ reduces_S64x1408_S64 _ _ (ix1 o)).trans (Finset.sum_congr rfl fun p _ => congrArg w ?_)
  funext a; fin_cases a <;> rfl
theorem sum_x (w : FVec Ideal S64x128 .bf16) (o : Fin 64) : multiReduction .add [1] S64 (extf .f32 w bitsLt_bf16_f32) 0x00000000#32 reduces_S64x128_S64 (.inl rfl) rfl (ix1 o) = ∑ p : Fin 128, w (ix2 o p) := by
  refine (Ideal.multiReduction_add_single _ _ reduces_S64x128_S64 _ _ (ix1 o)).trans (Finset.sum_congr rfl fun p _ => congrArg w ?_)
  funext a; fin_cases a <;> rfl
/-- A block's sums of weighted values over a class. -/
theorem mul_w (w : FVec Ideal S64x1408 .bf16) (V : Vec Ideal S1x1408x128 .bf16) (o : Fin 64) (d : Fin 128) :
    matmul dot_S64x1408_S1408x128_S64x128_1_0_0_1_n_n none w (castC V) (constant S64x128 .f32 0x00000000#32) (ix2 o d) = ∑ p : Fin 1408, w (ix2 o p) * V (ix3 0 p d) := by
  refine mm_sum _ 1408 rfl rfl _ _ _ (fun p => w (ix2 o p)) (fun p => V (ix3 0 p d)) (fun k => congrArg w ?_) (fun k => ?_)
  · funext a; fin_cases a <;> rfl
  · refine Eq.trans (congrArg (castC V) ?_) (cast_row V _ d)
    funext a; fin_cases a <;> rfl
theorem mul_x (w : FVec Ideal S64x128 .bf16) (m : ℕ) (h64 : m < 64) (hm : S4096x128.Slices ![64 * m, 0] S64x128) (v19 : FVec Ideal S4096x128 .bf16) (o : Fin 64) (d : Fin 128) :
    matmul dot_S64x128_S128x128_S64x128_1_0_0_1_n_n none w (xRows m hm v19) (constant S64x128 .f32 0x00000000#32) (ix2 o d) = ∑ p : Fin 128, w (ix2 o p) * v19 (ix2 (ext m h64 p) d) := by
  refine mm_sum _ 128 rfl rfl _ _ _ (fun p => w (ix2 o p)) (fun p => v19 (ix2 (ext m h64 p) d)) (fun k => congrArg w ?_) (fun k => ?_)
  · funext a; fin_cases a <;> rfl
  · refine Eq.trans (congrArg (xRows m hm v19) ?_) (xRows_apply m h64 hm v19 _ d)
    funext a; fin_cases a <;> rfl

end pieces

end Cert.KernelIdeal.Talk

end
-- ==== Proof.HeadSum.lean ====
/- A head's outputs and denominators on a device, as sums over the device's kept keys. -/
module

public import proofs.«01_k».proof.Proof.HeadVal

@[expose] public section

noncomputable section

namespace Cert.KernelIdeal.Talk

open Cert.KernelIdeal Cert.KernelIdeal.Gen Idealize.ShloMosaic Idealize.ShloMosaic.ValueIdx Cert.Attn

section sums
variable (v15 : FVec Ideal S256x128 .bf16) (v17 v19 : FVec Ideal S4096x128 .bf16) (q : Fin 256 → Fin 128 → ℝ) (kr : Fin 4096 → Fin 128 → ℝ)
variable (hq : ∀ r d, v15 (ix2 r d) = (q r d : EReal)) (hk : ∀ j d, v17 (ix2 j d) = (kr j d : EReal))

/-- A key's weight for a query. -/
def wE (r : Fin 256) (j : Fin 4096) : ℝ := Real.exp (∑ d, q r d * kr j d)

include hq hk
theorem exp_dot (r : Fin 256) (j : Fin 4096) : Ideal.exp (∑ d : Fin 128, v15 (ix2 r d) * v17 (ix2 j d)) = (wE q kr r j : EReal) := by
  simp only [hq, hk, ← EReal.coe_mul, sum_coe]; rfl

/-- A class's weights, kept where the class has a row. -/
theorem w_row (n : Fin 4) (a : Fin 3) (w : BitVec 32) (hw : w = 0#32 ↔ a.val = 0) (K : Vec Ideal S1x1408x128 .bf16) (hK : ∀ p d, K (ix3 0 p d) = clsRow a v17 p d) (o : Fin 64) (p : Fin 1408) :
    wPart v15 n w K (ix2 o p) = if h : p.val < 1344 ∨ a.val = 0 then (wE q kr (rowOf n o) ⟨64 * (a.val + 3 * (p.val / 64)) + p.val % 64, key_lt p.isLt a.isLt h⟩ : EReal) else 0 := by
  rw [wPart_apply]
  by_cases h : p.val < 1344 ∨ a.val = 0
  · rw [if_pos (h.imp id hw.2), dif_pos h, ← exp_dot v15 v17 q kr hq hk]
    refine congrArg Ideal.exp (Finset.sum_congr rfl fun d _ => congrArg _ ?_)
    rw [hK]; exact dif_pos h
  · rw [if_neg (fun h' => h (h'.imp id hw.1)), dif_neg h]

/-- The sum of a class's weights. -/
theorem sum_w_eq (n : Fin 4) (a : Fin 3) (w : BitVec 32) (hw : w = 0#32 ↔ a.val = 0) (K : Vec Ideal S1x1408x128 .bf16) (hK : ∀ p d, K (ix3 0 p d) = clsRow a v17 p d) (o : Fin 64) :
    (∑ p : Fin 1408, wPart v15 n w K (ix2 o p)) = ∑ j : Fin 4096, if j.val / 64 % 3 = a.val then (wE q kr (rowOf n o) j : EReal) else 0 := by
  rw [← sum_class a.val a.isLt]
  exact Finset.sum_congr rfl fun p _ => w_row v15 v17 q kr hq hk n a w hw K hK o p

/-- The sum of a class's weighted values. -/
theorem sum_wv_eq (n : Fin 4) (a : Fin 3) (w : BitVec 32) (hw : w = 0#32 ↔ a.val = 0) (K V : Vec Ideal S1x1408x128 .bf16) (hK : ∀ p d, K (ix3 0 p d) = clsRow a v17 p d) (hV : ∀ p d, V (ix3 0 p d) = clsRow a v19 p d) (o : Fin 64) (d : Fin 128) :
    (∑ p : Fin 1408, wPart v15 n w K (ix2 o p) * V (ix3 0 p d)) = ∑ j : Fin 4096, if j.val / 64 % 3 = a.val then (wE q kr (rowOf n o) j : EReal) * v19 (ix2 j d) else 0 := by
  rw [← sum_class a.val a.isLt]
  refine Finset.sum_congr rfl fun p _ => ?_
  rw [w_row v15 v17 q kr hq hk n a w hw K hK o p, hV]
  unfold clsRow
  by_cases h : p.val < 1344 ∨ a.val = 0
  · rw [dif_pos h, dif_pos h, dif_pos h]
  · rw [dif_neg h, dif_neg h, zero_mul, dif_neg h]

/-- The further blocks' weights. -/
theorem x_row (n : Fin 4) (v2 : BitVec 32) (m : ℕ) (h64 : m < 64) (hm : S4096x128.Slices ![64 * m, 0] S64x128) (o : Fin 64) (p : Fin 128) :
    xPart v15 n v2 m hm v17 (ix2 o p) = if v2 = 0#32 then (wE q kr (rowOf n o) (ext m h64 p) : EReal) else 0 := by
  rw [xPart_apply v15 n v2 m h64, exp_dot v15 v17 q kr hq hk]

/-- A query block's denominators, with further blocks. -/
theorem den_ext (c : Fin 8) (n : Fin 4) (h12 : n.val = 1 ∨ n.val = 2) (w v2 : BitVec 32) (hw : w = 0#32 ↔ (cls c n).val = 0) (hv2 : v2 = 0#32 ↔ c.val = 0) (hm : S4096x128.Slices ![64 * n.val, 0] S64x128)
    (K : Vec Ideal S1x1408x128 .bf16) (hK : ∀ p d, K (ix3 0 p d) = clsRow (cls c n) v17 p d) (o : Fin 64) :
    (∑ p : Fin 1408, wPart v15 n w K (ix2 o p)) + (∑ p : Fin 128, xPart v15 n v2 n.val hm v17 (ix2 o p))
      = ∑ j : Fin 4096, if Here c.val n.val (j.val / 64) then (wE q kr (rowOf n o) j : EReal) else 0 := by
  rw [sum_w_eq v15 v17 q kr hq hk n (cls c n) w hw K hK o]
  simp only [x_row v15 v17 q kr hq hk n v2 n.val (by omega) hm o]
  by_cases hc : c.val = 0
  · simp only [if_pos (hv2.2 hc)]
    rw [sum_ext n.val (by omega) (by omega) (fun j => (wE q kr (rowOf n o) j : EReal)), sum_here_ext c.val n.val c.isLt n.isLt ⟨hc, h12⟩]; rfl
  · simp only [if_neg (fun h => hc (hv2.1 h)), Finset.sum_const_zero, add_zero]
    rw [sum_here_plain c.val n.val c.isLt n.isLt (fun h => hc h.1)]; rfl
/-- A query block's outputs, with further blocks. -/
theorem num_ext (c : Fin 8) (n : Fin 4) (h12 : n.val = 1 ∨ n.val = 2) (w v2 : BitVec 32) (hw : w = 0#32 ↔ (cls c n).val = 0) (hv2 : v2 = 0#32 ↔ c.val = 0) (hm : S4096x128.Slices ![64 * n.val, 0] S64x128)
    (K V : Vec Ideal S1x1408x128 .bf16) (hK : ∀ p d, K (ix3 0 p d) = clsRow (cls c n) v17 p d) (hV : ∀ p d, V (ix3 0 p d) = clsRow (cls c n) v19 p d) (o : Fin 64) (d : Fin 128) :
    (∑ p : Fin 1408, wPart v15 n w K (ix2 o p) * V (ix3 0 p d)) + (∑ p : Fin 128, xPart v15 n v2 n.val hm v17 (ix2 o p) * v19 (ix2 (ext n.val (by omega) p) d))
      = ∑ j : Fin 4096, if Here c.val n.val (j.val / 64) then (wE q kr (rowOf n o) j : EReal) * v19 (ix2 j d) else 0 := by
  rw [sum_wv_eq v15 v17 v19 q kr hq hk n (cls c n) w hw K V hK hV o d]
  simp only [x_row v15 v17 q kr hq hk n v2 n.val (by omega) hm o]
  by_cases hc : c.val = 0
  · simp only [if_pos (hv2.2 hc)]
    rw [sum_ext n.val (by omega) (by omega) (fun j => (wE q kr (rowOf n o) j : EReal) * v19 (ix2 j d)), sum_here_ext c.val n.val c.isLt n.isLt ⟨hc, h12⟩]; rfl
  · simp only [if_neg (fun h => hc (hv2.1 h)), zero_mul, Finset.sum_const_zero, add_zero]
    rw [sum_here_plain c.val n.val c.isLt n.isLt (fun h => hc h.1)]; rfl
/-- A query block's denominators, without. -/
theorem den_plain (c : Fin 8) (n : Fin 4) (h12 : ¬ (n.val = 1 ∨ n.val = 2)) (w : BitVec 32) (hw : w = 0#32 ↔ (cls c n).val = 0)
    (K : Vec Ideal S1x1408x128 .bf16) (hK : ∀ p d, K (ix3 0 p d) = clsRow (cls c n) v17 p d) (o : Fin 64) :
    (∑ p : Fin 1408, wPart v15 n w K (ix2 o p)) = ∑ j : Fin 4096, if Here c.val n.val (j.val / 64) then (wE q kr (rowOf n o) j : EReal) else 0 := by
  rw [sum_w_eq v15 v17 q kr hq hk n (cls c n) w hw K hK o, sum_here_plain c.val n.val c.isLt n.isLt (fun h => h12 h.2)]; rfl
/-- A query block's outputs, without. -/
theorem num_plain (c : Fin 8) (n : Fin 4) (h12 : ¬ (n.val = 1 ∨ n.val = 2)) (w : BitVec 32) (hw : w = 0#32 ↔ (cls c n).val = 0)
    (K V : Vec Ideal S1x1408x128 .bf16) (hK : ∀ p d, K (ix3 0 p d) = clsRow (cls c n) v17 p d) (hV : ∀ p d, V (ix3 0 p d) = clsRow (cls c n) v19 p d) (o : Fin 64) (d : Fin 128) :
    (∑ p : Fin 1408, wPart v15 n w K (ix2 o p) * V (ix3 0 p d)) = ∑ j : Fin 4096, if Here c.val n.val (j.val / 64) then (wE q kr (rowOf n o) j : EReal) * v19 (ix2 j d) else 0 := by
  rw [sum_wv_eq v15 v17 v19 q kr hq hk n (cls c n) w hw K V hK hV o d, sum_here_plain c.val n.val c.isLt n.isLt (fun h => h12 h.2)]; rfl

end sums

/-- The class word of a query block, as the kernel computes it. -/
def clsWord (c : Fin 8) (n : BitVec 32) : BitVec 32 :=
  let a : BitVec 32 := Scalar.muli 2#32 (Scalar.addi n (myWord c))
  let m : BitVec 32 := Scalar.select (Scalar.cmpi .eq 3#32 0#32) 1#32 3#32
  let r : BitVec 32 := Scalar.remsi a m
  Scalar.select (Scalar.andi (Scalar.xori (Scalar.cmpi .slt r 0#32) (Scalar.cmpi .slt m 0#32)) (Scalar.cmpi .ne r 0#32)) (Scalar.addi r m) r
theorem clsWord_0 : ∀ c : Fin 8, clsWord c 0#32 = 0#32 ↔ (cls c 0).val = 0 := by decide +kernel
theorem clsWord_1 : ∀ c : Fin 8, clsWord c 1#32 = 0#32 ↔ (cls c 1).val = 0 := by decide +kernel
theorem clsWord_2 : ∀ c : Fin 8, clsWord c 2#32 = 0#32 ↔ (cls c 2).val = 0 := by decide +kernel
theorem clsWord_3 : ∀ c : Fin 8, clsWord c 3#32 = 0#32 ↔ (cls c 3).val = 0 := by decide +kernel
theorem myWord_zero : ∀ c : Fin 8, myWord c = 0#32 ↔ c.val = 0 := by decide +kernel

section parts
variable (c : Fin 8) (v15 : FVec Ideal S256x128 .bf16) (v17 v19 : FVec Ideal S4096x128 .bf16) (f g : Vec Ideal S3x1408x128 .bf16)

/-- The sums of a block's weights. -/
def den (w : FVec Ideal S64x1408 .bf16) : FVec Ideal S64 .f32 := multiReduction .add [1] S64 (extf .f32 w bitsLt_bf16_f32) 0x00000000#32 reduces_S64x1408_S64 (.inl rfl) rfl
def denX (w : FVec Ideal S64x128 .bf16) : FVec Ideal S64 .f32 := multiReduction .add [1] S64 (extf .f32 w bitsLt_bf16_f32) 0x00000000#32 reduces_S64x128_S64 (.inl rfl) rfl
/-- The weighted values. -/
def num (w : FVec Ideal S64x1408 .bf16) (V : Vec Ideal S1x1408x128 .bf16) : FVec Ideal S64x128 .f32 := matmul dot_S64x1408_S1408x128_S64x128_1_0_0_1_n_n none w (castC V) (constant S64x128 .f32 0x00000000#32)
def numX (w : FVec Ideal S64x128 .bf16) (v : FVec Ideal S128x128 .bf16) : FVec Ideal S64x128 .f32 := matmul dot_S64x128_S128x128_S64x128_1_0_0_1_n_n none w v (constant S64x128 .f32 0x00000000#32)

/-- The four query blocks' denominators. -/
def dens (n : Fin 4) : FVec Ideal S64 .f32 := ![den (wPart v15 0 (clsWord c 0#32) (rdC (cls c 0) f)),
  addf (den (wPart v15 1 (clsWord c 1#32) (rdC (cls c 1) f))) (denX (xPart v15 1 (myWord c) 1 slices_S4096x128_o64_0_S64x128 v17)),
  addf (den (wPart v15 2 (clsWord c 2#32) (rdC (cls c 2) f))) (denX (xPart v15 2 (myWord c) 2 slices_S4096x128_o128_0_S64x128 v17)),
  den (wPart v15 3 (clsWord c 3#32) (rdC (cls c 3) f))] n
/-- The four query blocks' outputs. -/
def nums (n : Fin 4) : FVec Ideal S64x128 .f32 := ![num (wPart v15 0 (clsWord c 0#32) (rdC (cls c 0) f)) (rdC (cls c 0) g),
  addf (num (wPart v15 1 (clsWord c 1#32) (rdC (cls c 1) f)) (rdC (cls c 1) g)) (numX (xPart v15 1 (myWord c) 1 slices_S4096x128_o64_0_S64x128 v17) (xRows 1 slices_S4096x128_o64_0_S64x128 v19)),
  addf (num (wPart v15 2 (clsWord c 2#32) (rdC (cls c 2) f)) (rdC (cls c 2) g)) (numX (xPart v15 2 (myWord c) 2 slices_S4096x128_o128_0_S64x128 v17) (xRows 2 slices_S4096x128_o128_0_S64x128 v19)),
  num (wPart v15 3 (clsWord c 3#32) (rdC (cls c 3) f)) (rdC (cls c 3) g)] n

theorem headV_den : (headV c v15 v17 v19 f g).2 = concatenate S256 0 (List.ofFn fun n : Fin 4 => (⟨S64, dens c v15 v17 f n⟩ : (s : Shape) × (s.Idx → Ideal .f32))) concatenates_S64_S64_S64_S64_S256_d0 := rfl
theorem headV_num : (headV c v15 v17 v19 f g).1 = shapeCast S1x256x128 (truncf .bf16 (concatenate S256x128 0 (List.ofFn fun n : Fin 4 => (⟨S64x128, nums c v15 v17 v19 f g n⟩ : (s : Shape) × (s.Idx → Ideal .f32))) concatenates_S64x128_S64x128_S64x128_S64x128_S256x128_d0 : FVec Ideal S256x128 .f32) bitsLt_bf16_f32) shapeCasts_S256x128_S1x256x128 := rfl

end parts

section head
variable (c : Fin 8) (v15 : FVec Ideal S256x128 .bf16) (v17 v19 : FVec Ideal S4096x128 .bf16) (f g : Vec Ideal S3x1408x128 .bf16) (q : Fin 256 → Fin 128 → ℝ) (kr : Fin 4096 → Fin 128 → ℝ)
variable (hq : ∀ r d, v15 (ix2 r d) = (q r d : EReal)) (hk : ∀ j d, v17 (ix2 j d) = (kr j d : EReal)) (hf : ∀ a p d, rdC a f (ix3 0 p d) = clsRow a v17 p d) (hg : ∀ a p d, rdC a g (ix3 0 p d) = clsRow a v19 p d)
include hq hk hf

theorem dens_apply (n : Fin 4) (o : Fin 64) : dens c v15 v17 f n (ix1 o) = ∑ j : Fin 4096, if Here c.val n.val (j.val / 64) then (wE q kr (rowOf n o) j : EReal) else 0 := by
  fin_cases n
  · exact (sum_w _ o).trans (den_plain v15 v17 q kr hq hk c 0 (by decide) _ (clsWord_0 c) _ (hf _) o)
  · exact (congrArg₂ (· + ·) (sum_w _ o) (sum_x _ o)).trans (den_ext v15 v17 q kr hq hk c 1 (by decide) _ _ (clsWord_1 c) (myWord_zero c) _ _ (hf _) o)
  · exact (congrArg₂ (· + ·) (sum_w _ o) (sum_x _ o)).trans (den_ext v15 v17 q kr hq hk c 2 (by decide) _ _ (clsWord_2 c) (myWord_zero c) _ _ (hf _) o)
  · exact (sum_w _ o).trans (den_plain v15 v17 q kr hq hk c 3 (by decide) _ (clsWord_3 c) _ (hf _) o)
theorem head_den (r : Fin 256) : (headV c v15 v17 v19 f g).2 (ix1 r) = ∑ j : Fin 4096, if Here c.val (r.val / 64) (j.val / 64) then (wE q kr r j : EReal) else 0 := by
  have hr := r.isLt
  rw [headV_den]
  refine (concatenate_ofFn_apply (t := S256) (s₁ := S64) _ (fun n => dens c v15 v17 f n) _ rfl 64 rfl (ix1 r) ⟨r.val / 64, by omega⟩ rfl (ix1 ⟨r.val % 64, by omega⟩) rfl (fun b hb => ?_)).trans ((dens_apply c v15 v17 f q kr hq hk hf _ _).trans ?_)
  · fin_cases b; exact absurd rfl hb
  · have e : rowOf ⟨r.val / 64, by omega⟩ ⟨r.val % 64, by omega⟩ = r := Fin.ext (by show 64 * (r.val / 64) + r.val % 64 = r.val; omega)
    rw [e]
include hg
theorem nums_apply (n : Fin 4) (o : Fin 64) (d : Fin 128) : nums c v15 v17 v19 f g n (ix2 o d) = ∑ j : Fin 4096, if Here c.val n.val (j.val / 64) then (wE q kr (rowOf n o) j : EReal) * v19 (ix2 j d) else 0 := by
  fin_cases n
  · exact (mul_w _ _ o d).trans (num_plain v15 v17 v19 q kr hq hk c 0 (by decide) _ (clsWord_0 c) _ _ (hf _) (hg _) o d)
  · exact (congrArg₂ (· + ·) (mul_w _ _ o d) (mul_x _ 1 (by decide) _ _ o d)).trans (num_ext v15 v17 v19 q kr hq hk c 1 (by decide) _ _ (clsWord_1 c) (myWord_zero c) _ _ _ (hf _) (hg _) o d)
  · exact (congrArg₂ (· + ·) (mul_w _ _ o d) (mul_x _ 2 (by decide) _ _ o d)).trans (num_ext v15 v17 v19 q kr hq hk c 2 (by decide) _ _ (clsWord_2 c) (myWord_zero c) _ _ _ (hf _) (hg _) o d)
  · exact (mul_w _ _ o d).trans (num_plain v15 v17 v19 q kr hq hk c 3 (by decide) _ (clsWord_3 c) _ _ (hf _) (hg _) o d)
theorem head_num (r : Fin 256) (d : Fin 128) : (headV c v15 v17 v19 f g).1 (ix3 0 r d) = ∑ j : Fin 4096, if Here c.val (r.val / 64) (j.val / 64) then (wE q kr r j : EReal) * v19 (ix2 j d) else 0 := by
  have hr := r.isLt
  rw [headV_num]
  refine (shapeCast_apply _ _ _ (ix2 r d) (by rw [Shape.rowMajor_val_two, Shape.rowMajor_val_three]; show r.val * 128 + d.val = (0 * 256 + r.val) * 128 + d.val; omega)).trans ?_
  refine (concatenate_ofFn_apply (t := S256x128) (s₁ := S64x128) _ (fun n => nums c v15 v17 v19 f g n) concatenates_S64x128_S64x128_S64x128_S64x128_S256x128_d0 rfl 64 rfl (ix2 r d) ⟨r.val / 64, by omega⟩ rfl (ix2 ⟨r.val % 64, by omega⟩ d) rfl (fun b hb => ?_)).trans ((nums_apply c v15 v17 v19 f g q kr hq hk hf hg _ _ d).trans ?_)
  · fin_cases b
    · exact absurd rfl hb
    · rfl
  · have e : rowOf ⟨r.val / 64, by omega⟩ ⟨r.val % 64, by omega⟩ = r := Fin.ext (by show 64 * (r.val / 64) + r.val % 64 = r.val; omega)
    rw [e]

end head

end Cert.KernelIdeal.Talk

end
-- ==== Proof.Ref.lean ====
/- The reference's result, named in steps. -/
module

public import proofs.«01_k».proof.Proof.Gen.ReferenceIdeal.Run

@[expose] public section

noncomputable section

namespace Cert.ReferenceIdeal.Steps

open Cert.ReferenceIdeal Cert.ReferenceIdeal.Gen Idealize.ShloMosaic Idealize.ShloMosaic.TcCoe

variable {F : FTy → Type} [FloatOps F]

/-- The block number of every query row. -/
def qblk : IVec S256 32 :=
  (select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32)))))
/-- The block number of every key. -/
def kblk : IVec S32768 32 :=
  (select (andi (cmpi .ne (signi (iotaInDim S32768 32 0)) (broadcastInDim S32768 ![] bcast_S_S32768 (signi (id (constantI S_ 32 64#32))))) (cmpi .ne (Host.remsi (iotaInDim S32768 32 0) (broadcastInDim S32768 ![] bcast_S_S32768 (id (constantI S_ 32 64#32)))) (broadcastInDim S32768 ![] bcast_S_S32768 (constantI S_ 32 0#32)))) (subi (Host.divsi (iotaInDim S32768 32 0) (broadcastInDim S32768 ![] bcast_S_S32768 (id (constantI S_ 32 64#32)))) (broadcastInDim S32768 ![] bcast_S_S32768 (constantI S_ 32 1#32))) (Host.divsi (iotaInDim S32768 32 0) (broadcastInDim S32768 ![] bcast_S_S32768 (id (constantI S_ 32 64#32)))))
/-- The sum of the two. -/
def sumblk : IVec S256x32768 32 :=
  (addi (broadcastInDim S256x32768 ![0, 1] bcast_S256x1_S256x32768_0_1 (broadcastInDim S256x1 ![0] bcast_S256_S256x1_0 qblk)) (broadcastInDim S256x32768 ![0, 1] bcast_S1x32768_S256x32768_0_1 (broadcastInDim S1x32768 ![1] bcast_S32768_S1x32768_1 kblk)))
/-- The divisor three. -/
def three : IVec S_ 32 :=
  (select (cmpi .eq (id (constantI S_ 32 3#32)) (constantI S_ 32 0#32)) (constantI S_ 32 1#32) (id (constantI S_ 32 3#32)))
/-- What is left of the sum by three. -/
def remblk : IVec S256x32768 32 :=
  (Host.remsi sumblk (broadcastInDim S256x32768 ![] bcast_S_S256x32768 three))
/-- Which keys a row attends to. -/
def maskR : IVec S256x32768 1 :=
  (ori (ori (cmpi .eq (broadcastInDim S256x32768 ![0, 1] bcast_S256x1_S256x32768_0_1 (broadcastInDim S256x1 ![0] bcast_S256_S256x1_0 qblk)) (broadcastInDim S256x32768 ![0, 1] bcast_S1x32768_S256x32768_0_1 (broadcastInDim S1x32768 ![1] bcast_S32768_S1x32768_1 kblk))) (broadcastInDim S256x32768 ![0, 1] bcast_S1x32768_S256x32768_0_1 (cmpi .eq (broadcastInDim S1x32768 ![1] bcast_S32768_S1x32768_1 kblk) (broadcastInDim S1x32768 ![] bcast_S_S1x32768 (constantI S_ 32 0#32))))) (cmpi .eq (select (andi (cmpi .ne (cmpi .slt remblk (broadcastInDim S256x32768 ![] bcast_S_S256x32768 (constantI S_ 32 0#32))) (broadcastInDim S256x32768 ![] bcast_S_S256x32768 (cmpi .slt three (constantI S_ 32 0#32)))) (cmpi .ne remblk (broadcastInDim S256x32768 ![] bcast_S_S256x32768 (constantI S_ 32 0#32)))) (addi remblk (broadcastInDim S256x32768 ![] bcast_S_S256x32768 three)) remblk) (broadcastInDim S256x32768 ![] bcast_S_S256x32768 (constantI S_ 32 0#32))))
/-- Which rows attend to any. -/
def keepR : IVec S256 1 :=
  (Host.reduce IntOp.ori maskR (constantI S_ 1 0#1) reducesTo_S256x32768_S256_d1 h_S_)
variable (x : FVec F S1x256x1024 .f32) (wq : FVec F S1024x1024 .f32) (k v : FVec F S1x32768x8x128 .f32) (wo : FVec F S1024x1024 .f32)

/-- The queries, by head. -/
def queries : FVec F S1x256x8x128 .f32 :=
  (shapeCast _ (Host.dotGeneral dot_S1x256x1024_S1024x1024_S1x256x1024_2_0_01_1_n_n none x wq) shapeCasts_S1x256x1024_S1x256x8x128)
/-- The scores, masked. -/
def scores : FVec F S1x8x256x32768 .f32 :=
  (select (broadcastInDim S1x8x256x32768 ![0, 1, 2, 3] bcast_S1x1x256x32768_S1x8x256x32768_0_1_2_3 (broadcastInDim S1x1x256x32768 ![2, 3] bcast_S256x32768_S1x1x256x32768_2_3 maskR)) (mulf (Host.dotGeneral dot_S1x256x8x128_S1x32768x8x128_S1x8x256x32768_3_3_1_1_02_02 none (queries x wq) k) (broadcastInDim S1x8x256x32768 ![] bcast_S_S1x8x256x32768 (constant S_ .f32 0x3DB504F3#32))) (broadcastInDim S1x8x256x32768 ![] bcast_S_S1x8x256x32768 (id (constant S_ .f32 0xFF800000#32))))
/-- The greatest score of each row. -/
def greatest : FVec F S1x8x256 .f32 :=
  (Host.reduce FloatOps.maximumf (scores x wq k) (constant S_ .f32 0xFF800000#32) reducesTo_S1x8x256x32768_S1x8x256_d3 h_S_)
/-- The exponentials. -/
def expo : FVec F S1x8x256x32768 .f32 :=
  (Host.exp (subf (scores x wq k) (broadcastInDim S1x8x256x32768 ![0, 1, 2, 3] bcast_S1x8x256x1_S1x8x256x32768_0_1_2_3 (broadcastInDim S1x8x256x1 ![0, 1, 2] bcast_S1x8x256_S1x8x256x1_0_1_2 (greatest x wq k)))))
/-- Their sum along each row. -/
def total : FVec F S1x8x256 .f32 :=
  (Host.reduceAdd (expo x wq k) (constant S_ .f32 0x00000000#32) reducesTo_S1x8x256x32768_S1x8x256_d3 h_S_)
/-- What each row is divided by. -/
def denom : FVec F S1x8x256x1 .f32 :=
  (select (broadcastInDim S1x8x256x1 ![0, 1, 2, 3] bcast_S1x1x256x1_S1x8x256x1_0_1_2_3 (broadcastInDim S1x1x256x1 ![2] bcast_S256_S1x1x256x1_2 keepR)) (broadcastInDim S1x8x256x1 ![0, 1, 2] bcast_S1x8x256_S1x8x256x1_0_1_2 (total x wq k)) (broadcastInDim S1x8x256x1 ![] bcast_S_S1x8x256x1 (id (constant S_ .f32 0x3F800000#32))))
/-- The weights. -/
def weights : FVec F S1x8x256x32768 .f32 :=
  (select (broadcastInDim S1x8x256x32768 ![0, 1, 2, 3] bcast_S1x1x256x1_S1x8x256x32768_0_1_2_3 (broadcastInDim S1x1x256x1 ![2] bcast_S256_S1x1x256x1_2 keepR)) (Host.divf (expo x wq k) (broadcastInDim S1x8x256x32768 ![0, 1, 2, 3] bcast_S1x8x256x1_S1x8x256x32768_0_1_2_3 (denom x wq k))) (broadcastInDim S1x8x256x32768 ![] bcast_S_S1x8x256x32768 (id (constant S_ .f32 0x00000000#32))))
/-- The weighted values. -/
def mixed : FVec F S1x8x128x256 .f32 :=
  (Host.dotGeneral dot_S1x32768x8x128_S1x8x256x32768_S1x8x128x256_1_3_3_2_02_01 none v (weights x wq k))
/-- The reference, in steps. -/
def refOut : FVec F S1x256x1024 .f32 :=
  Host.dotGeneral dot_S1x256x1024_S1024x1024_S1x256x1024_2_0_01_1_n_n none (shapeCast _ (transpose S1x256x8x128 [0, 3, 1, 2] (mixed x wq k v) transposes_S1x8x128x256_S1x256x8x128_0_3_1_2) shapeCasts_S1x256x8x128_S1x256x1024) wo

/-- They make up what the program computes. -/
theorem refOut_eq (m : (ℓ : Loc nD τ sig) → Buf (Elt F) ℓ) (c : Dev nD) :
    Value.res_main_v44 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Steps

end
-- ==== Proof.RefMask.lean ====
/- The reference's mask, by block numbers. -/
module

public import proofs.«01_k».proof.Proof.Ref
public import Idealize.ShloMosaic.Lib.Routing.Words
public import Idealize.ShloMosaic.Lib.ValueIdx

@[expose] public section

noncomputable section

namespace Cert.ReferenceIdeal.Steps

open Cert.ReferenceIdeal Cert.ReferenceIdeal.Gen Idealize.ShloMosaic Idealize.ShloMosaic.ValueIdx

/-- Query block a attends to key block b. -/
abbrev Kept (a b : ℕ) : Prop := a = b ∨ b = 0 ∨ (a + b) % 3 = 0

/-- The sign of a word. -/
def sg (w : BitVec 32) : BitVec 32 := if w = 0 then 0 else if w.msb then -1 else 1
/-- Division by 64 rounding down, as it is spelt. -/
def fdiv (w : BitVec 32) : BitVec 32 :=
  Scalar.select (IntOp.andi (IntOp.cmpi .ne (sg w) (sg 64#32)) (IntOp.cmpi .ne (IntOp.remsi .host w 64#32) 0#32)) (IntOp.subi (IntOp.divsi .host w 64#32) 1#32) (IntOp.divsi .host w 64#32)
/-- The remainder by 3 with the divisor's sign, as it is spelt. -/
def fmod (w : BitVec 32) : BitVec 32 :=
  Scalar.select (IntOp.andi (IntOp.cmpi .ne (IntOp.cmpi .slt (IntOp.remsi .host w 3#32) 0#32) (IntOp.cmpi .slt 3#32 0#32)) (IntOp.cmpi .ne (IntOp.remsi .host w 3#32) 0#32))
    (IntOp.addi (IntOp.remsi .host w 3#32) 3#32) (IntOp.remsi .host w 3#32)

theorem sg_pos {n : ℕ} (h0 : 0 < n) (h : n < 2 ^ 31) : sg (BitVec.ofNat 32 n) = 1 := by
  unfold sg
  rw [if_neg, if_neg]
  · rw [BitVec.msb_eq_decide]; simp; omega
  · intro e; have := congrArg BitVec.toNat e; simp at this; omega
theorem fdiv_word {n : ℕ} (h : n < 2 ^ 31) : fdiv (BitVec.ofNat 32 n) = BitVec.ofNat 32 (n / 64) := by
  unfold fdiv
  have e64 : (64#32) = BitVec.ofNat 32 64 := rfl
  rw [e64, Routing.divsi_word .host h (by omega) (by omega), Routing.remsi_word .host h (by omega) (by omega)]
  rcases Nat.eq_zero_or_pos n with rfl | h0
  · rfl
  · rw [sg_pos h0 h]
    unfold Scalar.select
    rw [if_neg]
    rw [show IntOp.cmpi .ne (1 : BitVec 32) (sg (BitVec.ofNat 32 64)) = 0#1 from by decide]
    rw [show IntOp.andi 0#1 _ = 0#1 from BitVec.zero_and]
    decide
theorem fmod_word {n : ℕ} (h : n < 2 ^ 31) : fmod (BitVec.ofNat 32 n) = BitVec.ofNat 32 (n % 3) := by
  unfold fmod
  have e3 : (3#32) = BitVec.ofNat 32 3 := rfl
  rw [e3, Routing.remsi_word .host h (by omega) (by omega)]
  have : n % 3 < 3 := Nat.mod_lt _ (by omega)
  generalize n % 3 = k at this
  interval_cases k <;> rfl

theorem qblk_apply (r : Fin 256) : qblk (ix1 r) = BitVec.ofNat 32 (r.val / 64) := (show qblk (ix1 r) = fdiv (BitVec.ofNat 32 r.val) from rfl).trans (fdiv_word (by omega))
theorem kblk_apply (j : Fin 32768) : kblk (ix1 j) = BitVec.ofNat 32 (j.val / 64) := (show kblk (ix1 j) = fdiv (BitVec.ofNat 32 j.val) from rfl).trans (fdiv_word (by omega))

theorem word_ne {a b : ℕ} (ha : a < 2 ^ 31) (hb : b < 2 ^ 31) : IntOp.cmpi .eq (BitVec.ofNat 32 a) (BitVec.ofNat 32 b) = 1#1 ↔ a = b := by
  constructor
  · intro h
    by_contra hn
    have : (BitVec.ofNat 32 a == BitVec.ofNat 32 b) = false := by
      rw [beq_eq_false_iff_ne]; intro e; have := congrArg BitVec.toNat e; simp at this; omega
    unfold IntOp.cmpi at h
    simp only [this] at h
    exact absurd h (by decide)
  · rintro rfl; unfold IntOp.cmpi; simp
theorem or_one (a b : BitVec 1) : IntOp.ori a b = 1#1 ↔ a = 1#1 ∨ b = 1#1 := by revert a b; decide

/-- The mask at a row and a key. -/
theorem maskR_apply (r : Fin 256) (j : Fin 32768) : maskR (ix2 r j) = 1#1 ↔ Kept (r.val / 64) (j.val / 64) := by
  have e : maskR (ix2 r j) = IntOp.ori (IntOp.ori (IntOp.cmpi .eq (qblk (ix1 r)) (kblk (ix1 j))) (IntOp.cmpi .eq (kblk (ix1 j)) 0#32))
      (IntOp.cmpi .eq (fmod (IntOp.addi (qblk (ix1 r)) (kblk (ix1 j)))) 0#32) := by
    have hq : broadcastInDim S256x32768 ![0, 1] bcast_S256x1_S256x32768_0_1 (broadcastInDim S256x1 ![0] bcast_S256_S256x1_0 qblk) (ix2 r j) = qblk (ix1 r) := by
      rw [broadcastInDim_apply _ _ _ _ (ix2 r (0 : Fin 1)) (fun a => by fin_cases a <;> rfl)]
      exact broadcastInDim_apply _ _ _ _ _ (fun a => by fin_cases a <;> rfl)
    have hk : broadcastInDim S256x32768 ![0, 1] bcast_S1x32768_S256x32768_0_1 (broadcastInDim S1x32768 ![1] bcast_S32768_S1x32768_1 kblk) (ix2 r j) = kblk (ix1 j) := by
      rw [broadcastInDim_apply _ _ _ _ (ix2 (0 : Fin 1) j) (fun a => by fin_cases a <;> rfl)]
      exact broadcastInDim_apply _ _ _ _ _ (fun a => by fin_cases a <;> rfl)
    have hs : sumblk (ix2 r j) = IntOp.addi (qblk (ix1 r)) (kblk (ix1 j)) := by
      rw [← hq, ← hk]; rfl
    have hz : broadcastInDim S256x32768 ![0, 1] bcast_S1x32768_S256x32768_0_1 (cmpi .eq (broadcastInDim S1x32768 ![1] bcast_S32768_S1x32768_1 kblk) (broadcastInDim S1x32768 ![] bcast_S_S1x32768 (constantI S_ 32 0#32))) (ix2 r j)
        = IntOp.cmpi .eq (kblk (ix1 j)) 0#32 := by
      rw [broadcastInDim_apply _ _ _ _ (ix2 (0 : Fin 1) j) (fun a => by fin_cases a <;> rfl)]
      show IntOp.cmpi .eq (broadcastInDim S1x32768 ![1] bcast_S32768_S1x32768_1 kblk (ix2 (0 : Fin 1) j)) 0#32 = _
      rw [broadcastInDim_apply _ _ _ _ (ix1 j) (fun a => by fin_cases a <;> rfl)]
    rw [← hz, ← hs, ← hq, ← hk]
    rfl
  have h1 : r.val / 64 < 4 := by omega
  have h2 : j.val / 64 < 512 := by omega
  rw [e, qblk_apply, kblk_apply, or_one, or_one, word_ne (by omega) (by omega), show (0#32) = BitVec.ofNat 32 0 from rfl, word_ne (by omega) (by omega)]
  rw [show IntOp.addi (BitVec.ofNat 32 (r.val / 64)) (BitVec.ofNat 32 (j.val / 64)) = BitVec.ofNat 32 (r.val / 64 + j.val / 64) from (BitVec.ofNat_add _ _).symm]
  rw [fmod_word (by omega), word_ne (by omega) (by omega), or_assoc]

theorem one_of_fold {ι : Type*} [DecidableEq ι] (s : Finset ι) (f : ι → BitVec 1) (b : BitVec 1) (i : ι) (hi : i ∈ s) (h : f i = 1#1) [Std.Commutative (IntOp.ori (w := 1))] [Std.Associative (IntOp.ori (w := 1))] :
    s.fold IntOp.ori b f = 1#1 := by
  rw [← Finset.insert_erase hi, Finset.fold_insert (Finset.notMem_erase i s), h]
  exact (or_one _ _).mpr (Or.inl rfl)

/-- Every row attends to the first block. -/
theorem keepR_apply (r : Fin 256) : keepR (ix1 r) = 1#1 := by
  unfold keepR
  rw [Host.reduce_eq_fold_single IntOp.ori maskR _ _ (show S256x32768.Reduces [1] S256 by decide)]
  refine one_of_fold _ _ _ (⟨0, by decide⟩ : Fin 32768) (Finset.mem_univ _) ?_
  show maskR _ = 1#1
  have e : ∀ h : S256x32768.Reduces [1] S256, h.lift (ix1 r) (⟨0, by decide⟩ : Fin 32768) = ix2 r (⟨0, by decide⟩ : Fin 32768) := fun h => by
    funext a; fin_cases a <;> rfl
  rw [e, maskR_apply]
  exact Or.inr (Or.inl rfl)

end Cert.ReferenceIdeal.Steps

end
-- ==== Proof.Whole.lean ====
/- A device's heads, over the whole cache: what each device adds to a head's outputs and denominators, and what all the devices add up to. -/
module

public import proofs.«01_k».proof.Proof.HeadSum
public import proofs.«01_k».proof.Proof.ClassVal
public import proofs.«01_k».proof.Proof.RefMask

@[expose] public section

noncomputable section

namespace Cert.KernelIdeal.Talk

open Cert.KernelIdeal Cert.KernelIdeal.Gen Idealize.ShloMosaic Idealize.ShloMosaic.ValueIdx Cert.Attn Cert.ReferenceIdeal.Steps

/-- Key j of device s, in the whole cache. -/
def key (s : Fin 8) (j : Fin 4096) : Fin 32768 := ⟨4096 * s.val + j.val, by omega⟩

/-- A sum over the devices and their keys is a sum over all keys. -/
theorem sum_keys (g : Fin 32768 → EReal) : (∑ s : Fin 8, ∑ j : Fin 4096, g (key s j)) = ∑ J : Fin 32768, g J := by
  rw [← Fintype.sum_prod_type' (f := fun (s : Fin 8) (j : Fin 4096) => g (key s j))]
  refine Fintype.sum_equiv (finProdFinEquiv : Fin 8 × Fin 4096 ≃ Fin (8 * 4096)) _ (fun J => g J) fun p => congrArg g (Fin.ext ?_)
  show 4096 * p.1.val + p.2.val = p.2.val + 4096 * p.1.val
  omega

/-- The block of a device's key. -/
theorem key_block (s : Fin 8) (j : Fin 4096) : (key s j).val / 64 = 64 * s.val + j.val / 64 := by
  show (4096 * s.val + j.val) / 64 = _; omega

/-- Inputs and weights as the queries' product takes them. -/
def flatX (X : Vec Ideal S1x256x1024 .f32) : FVec Ideal S256x1024 .f32 := shapeCast S256x1024 X shapeCasts_S1x256x1024_S256x1024
def flatW (W : Vec Ideal S1024x128 .f32) : FVec Ideal S1024x128 .f32 := shapeCast S1024x128 W shapeCasts_S1024x128_S1024x128
theorem flatX_apply (X : Vec Ideal S1x256x1024 .f32) (r : Fin 256) (t : Fin 1024) : flatX X (ix2 r t) = X (ix3 0 r t) :=
  shapeCast_apply _ _ _ _ (by rw [Shape.rowMajor_val_two, Shape.rowMajor_val_three]; show (0 * 256 + r.val) * 1024 + t.val = r.val * 1024 + t.val; omega)
theorem flatW_apply (W : Vec Ideal S1024x128 .f32) (t : Fin 1024) (d : Fin 128) : flatW W (ix2 t d) = W (ix2 t d) :=
  shapeCast_apply _ _ _ _ rfl

/-- The queries, scaled. -/
theorem query_apply (X : Vec Ideal S1x256x1024 .f32) (W : Vec Ideal S1024x128 .f32) (xr : Fin 256 → Fin 1024 → ℝ) (w : Fin 1024 → Fin 128 → ℝ)
    (hX : ∀ r t, X (ix3 0 r t) = (xr r t : EReal)) (hW : ∀ t d, W (ix2 t d) = (w t d : EReal)) (r : Fin 256) (d : Fin 128) :
    k2_pay17 X W (ix2 r d) = (((∑ t, xr r t * w t d) * scale : ℝ) : EReal) := by
  have e : k2_pay17 X W (ix2 r d) = matmul dot_S256x1024_S1024x128_S256x128_1_0_0_1_n_n none (truncf .bf16 (flatX X) bitsLt_bf16_f32 : FVec Ideal S256x1024 .bf16) (truncf .bf16 (flatW W) bitsLt_bf16_f32 : FVec Ideal S1024x128 .bf16) (constant S256x128 .f32 0x00000000#32) (ix2 r d)
      * Ideal.ofBits .f32 0x3DB504F3#32 := rfl
  rw [e, scale_eq, mm_sum _ 1024 rfl rfl _ _ _ (fun t => (xr r t : EReal)) (fun t => (w t d : EReal)) (fun t => ?_) (fun t => ?_)]
  · simp only [← EReal.coe_mul, sum_coe]
  · refine Eq.trans ?_ ((flatX_apply X r _).trans (hX r _))
    refine congrArg (flatX X) ?_
    funext a; fin_cases a <;> rfl
  · refine Eq.trans ?_ ((flatW_apply W _ d).trans (hW _ d))
    refine congrArg (flatW W) ?_
    funext a; fin_cases a <;> rfl

/-- A head's keys and values, as a matrix. -/
theorem pay18_apply (k : Vec Ideal S1x4096x128 .bf16) (j : Fin 4096) (d : Fin 128) : k2_pay18 k (ix2 j d) = k (ix3 0 j d) :=
  shapeCast_apply (s := S1x4096x128) (t := S4096x128) _ _ _ _ (by rw [Shape.rowMajor_val_two, Shape.rowMajor_val_three]; show (0 * 4096 + j.val) * 128 + d.val = j.val * 128 + d.val; omega)
theorem pay19_apply (k : Vec Ideal S1x4096x128 .bf16) (j : Fin 4096) (d : Fin 128) : k2_pay19 k (ix2 j d) = k (ix3 0 j d) :=
  shapeCast_apply (s := S1x4096x128) (t := S4096x128) _ _ _ _ (by rw [Shape.rowMajor_val_two, Shape.rowMajor_val_three]; show (0 * 4096 + j.val) * 128 + d.val = j.val * 128 + d.val; omega)

variable (xI' : Dev nD → Vec Ideal S1x256x1024 .f32) (wqI' : Dev nD → Fin 8 → Vec Ideal S1024x128 .f32) (kI' vI' : Dev nD → Fin 8 → Vec Ideal S1x4096x128 .bf16)
variable (v : FVec Ideal ReferenceIdeal.S1x32768x8x128 .f32)
variable (xr : Fin 256 → Fin 1024 → ℝ) (wr : Fin 1024 → Fin 1024 → ℝ) (kr : Fin 32768 → Fin 8 → Fin 128 → ℝ)
variable (hx : ∀ c r t, xI' c (ix3 0 r t) = (xr r t : EReal)) (hw : ∀ c h t d, wqI' c h (ix2 t d) = (wr t (col h d) : EReal))
variable (hk : ∀ c h j d, kI' c h (ix3 0 j d) = (kr (key c j) h d : EReal)) (hv' : ∀ c h j d, vI' c h (ix3 0 j d) = v (ix4 0 (key c j) h d))

/-- The scaled queries against a device's key: the key's weight among all. -/
theorem weight_eq (s h : Fin 8) (r : Fin 256) (j : Fin 4096) :
    wE (fun r d => (∑ t, xr r t * wr t (col h d)) * scale) (fun j d => kr (key s j) h d) r j = Real.exp (score xr wr kr r h (key s j)) := by
  unfold wE score
  refine congrArg Real.exp ?_
  rw [Finset.sum_mul]
  exact Finset.sum_congr rfl fun d _ => by unfold qd; ring

theorem wt_key (s h : Fin 8) (r : Fin 256) (j : Fin 4096) :
    wt (score xr wr kr r h) (fun J : Fin 32768 => Kept (r.val / 64) (J.val / 64)) (key s j)
      = if Here s.val (r.val / 64) (j.val / 64) then Real.exp (score xr wr kr r h (key s j)) else 0 := by
  unfold wt
  show (if Kept (r.val / 64) ((key s j).val / 64) then _ else _) = _
  rw [key_block]

include hx hw hk

/-- The denominators the devices add up to. -/
theorem den_all (r : Fin 256) (h : Fin 8) :
    (∑ s : Fin 8, llF xI' wqI' kI' vI' s (ix2 r h)) = ∑ J : Fin 32768, (wt (score xr wr kr r h) (fun J : Fin 32768 => Kept (r.val / 64) (J.val / 64)) J : EReal) := by
  rw [← sum_keys]
  refine Finset.sum_congr rfl fun s _ => ?_
  have e : llF xI' wqI' kI' vI' s (ix2 r h) = (headV s (k2_pay17 (xI' s) (wqI' s h)) (k2_pay18 (kI' s h)) (k2_pay19 (vI' s h)) (kcF (kI' s h) zp) (vcF (vI' s h) zp)).2 (ix1 r) := by
    unfold llF hv
    refine congrArg _ ?_
    funext a; fin_cases a; rfl
  rw [e, head_den s _ _ _ _ _ (fun r d => (∑ t, xr r t * wr t (col h d)) * scale) (fun j d => kr (key s j) h d)
    (fun r d => query_apply _ _ xr (fun t d => wr t (col h d)) (hx s) (hw s h) r d) (fun j d => (pay18_apply _ j d).trans (hk s h j d)) (fun a p d => kcF_row _ a p d)]
  refine Finset.sum_congr rfl fun j _ => ?_
  rw [weight_eq, wt_key]
  split <;> simp

include hv'

/-- The outputs the devices add up to. -/
theorem num_all (r : Fin 256) (h : Fin 8) (d : Fin 128) :
    (∑ s : Fin 8, loF xI' wqI' kI' vI' s (ix3 h r d)) = ∑ J : Fin 32768, (wt (score xr wr kr r h) (fun J : Fin 32768 => Kept (r.val / 64) (J.val / 64)) J : EReal) * v (ix4 0 J h d) := by
  rw [← sum_keys]
  refine Finset.sum_congr rfl fun s _ => ?_
  have e : loF xI' wqI' kI' vI' s (ix3 h r d) = (headV s (k2_pay17 (xI' s) (wqI' s h)) (k2_pay18 (kI' s h)) (k2_pay19 (vI' s h)) (kcF (kI' s h) zp) (vcF (vI' s h) zp)).1 (ix3 0 r d) := by
    unfold loF hv
    refine congrArg _ ?_
    funext a; fin_cases a <;> rfl
  rw [e, head_num s _ _ _ _ _ (fun r d => (∑ t, xr r t * wr t (col h d)) * scale) (fun j d => kr (key s j) h d)
    (fun r d => query_apply _ _ xr (fun t d => wr t (col h d)) (hx s) (hw s h) r d) (fun j d => (pay18_apply _ j d).trans (hk s h j d)) (fun a p d => kcF_row _ a p d) (fun a p d => vcF_row _ a p d)]
  refine Finset.sum_congr rfl fun j _ => ?_
  rw [weight_eq, wt_key, pay19_apply, hv']
  split <;> simp

end Cert.KernelIdeal.Talk

end
-- ==== Proof.Rows.lean ====
/- The finished rows: the devices' sums, their quotient, and its product with the output weights. -/
module

public import proofs.«01_k».proof.Proof.HeadVal
public import proofs.«01_k».proof.Proof.Access

@[expose] public section

noncomputable section

namespace Cert.KernelIdeal.Talk

open Cert.KernelIdeal Cert.KernelIdeal.Gen Idealize.ShloMosaic Idealize.ShloMosaic.ValueIdx Cert.Attn

theorem rdO_apply (p : Fin 8) (f : Vec Ideal S8x8x32x128 .bf16) (h : Fin 8) (i : Fin 32) (d : Fin 128) : rdO p f (ix4 0 h i d) = f (ix4 p h i d) :=
  congrArg f (funext fun a => Fin.ext (by fin_cases a <;> simp <;> rfl))
theorem rdL_apply (f : Vec Ideal S8x32x8 .f32) (j : S8x32x8.Idx) : rdL f j = f j :=
  congrArg f (funext fun a => Fin.ext ((ValueKit.rect_emb_unit_val _ _ _ _ a).trans (by fin_cases a <;> exact Nat.zero_add _)))
theorem rdW_apply (f : Vec Ideal S1024x1024 .f32) (j : S1024x1024.Idx) : rdW f j = f j :=
  congrArg f (funext fun a => Fin.ext ((ValueKit.rect_emb_unit_val _ _ _ _ a).trans (by fin_cases a <;> exact Nat.zero_add _)))
theorem rdG_apply (p : Fin 8) (f : Vec Ideal S8x32x1024 .bf16) (i : Fin 32) (n : Fin 1024) : rdG p f (ix3 0 i n) = f (ix3 p i n) :=
  congrArg f (funext fun a => Fin.ext (by fin_cases a <;> simp <;> rfl))

section
variable (lo : Dev nD → Vec Ideal S8x256x128 .bf16) (ll : Dev nD → Vec Ideal S256x8 .f32) (wo : Dev nD → Vec Ideal S1024x1024 .f32) (d : Fin 8)

theorem gatO_apply (s h : Fin 8) (i : Fin 32) (e : Fin 128) : gatO lo d (ix4 s h i e) = lo s (ix3 h (chRow d i) e) :=
  congrArg (lo s) (funext fun a => by fin_cases a <;> rfl)
theorem gatL_apply (s h : Fin 8) (i : Fin 32) : gatL ll d (ix3 s i h) = ll s (ix2 (chRow d i) h) :=
  congrArg (ll s) (funext fun a => by fin_cases a <;> rfl)

/-- The sum of the denominators over the devices. -/
theorem sumL_apply (h : Fin 8) (i : Fin 32) : sumL ll d (ix2 h i) = ∑ s : Fin 8, ll s (ix2 (chRow d i) h) := by
  unfold sumL k2_pay4
  refine (transpose_apply _ _ _ _ (ix2 i h) (fun b => by fin_cases b <;> rfl)).trans ?_
  refine (Ideal.multiReduction_add_single _ _ reduces_S8x32x8_S32x8 _ _ (ix2 i h)).trans (Finset.sum_congr rfl fun s _ => ?_)
  rw [rdL_apply]
  refine Eq.trans (congrArg (gatL ll d) ?_) (gatL_apply ll d s h i)
  funext a; fin_cases a <;> rfl

/-- A device's outputs, without their leading axis. -/
def flatO (v : Vec Ideal S1x8x32x128 .bf16) : FVec Ideal S8x32x128 .bf16 := shapeCast S8x32x128 v shapeCasts_S1x8x32x128_S8x32x128
theorem flatO_apply (s h : Fin 8) (i : Fin 32) (e : Fin 128) : flatO (rdO s (gatO lo d)) (ix3 h i e) = lo s (ix3 h (chRow d i) e) := by
  unfold flatO
  refine (shapeCast_apply _ _ _ (ix4 0 h i e) (by rw [Shape.rowMajor_val_four, Shape.rowMajor_val_three]; show ((0 * 8 + h.val) * 32 + i.val) * 128 + e.val = (h.val * 32 + i.val) * 128 + e.val; omega)).trans ?_
  rw [rdO_apply, gatO_apply]

/-- The sum of the outputs over the devices. -/
def allO : FVec Ideal S8x32x128 .f32 := addf (addf (sumO lo d) (extf .f32 (flatO (rdO 6 (gatO lo d))) bitsLt_bf16_f32)) (extf .f32 (flatO (rdO 7 (gatO lo d))) bitsLt_bf16_f32)
theorem allO_apply (h : Fin 8) (i : Fin 32) (e : Fin 128) : allO lo d (ix3 h i e) = ∑ s : Fin 8, lo s (ix3 h (chRow d i) e) := by
  rw [Fin.sum_univ_eight]
  simp only [← flatO_apply]
  rfl

/-- The quotients. -/
def quot (t : FVec Ideal S8x32x128 .f32) (l : FVec Ideal S8x32 .f32) : FVec Ideal S8x32x128 .f32 :=
  divf t (broadcastTo S8x32x128 (shapeCast S8x32x1 l shapeCasts_S8x32_S8x32x1) broadcasts_S8x32x1_S8x32x128)
theorem quot_apply (t : FVec Ideal S8x32x128 .f32) (l : FVec Ideal S8x32 .f32) (h : Fin 8) (i : Fin 32) (e : Fin 128) : quot t l (ix3 h i e) = Ideal.div (t (ix3 h i e)) (l (ix2 h i)) := by
  have hb : broadcastTo S8x32x128 (shapeCast S8x32x1 l shapeCasts_S8x32_S8x32x1) broadcasts_S8x32x1_S8x32x128 (ix3 h i e) = l (ix2 h i) := by
    refine (broadcastTo_apply _ _ _ (ix3 h i (0 : Fin 1)) (fun a => by fin_cases a <;> rfl)).trans ?_
    exact shapeCast_apply _ _ _ _ (by rw [Shape.rowMajor_val_two, Shape.rowMajor_val_three]; show h.val * 32 + i.val = (h.val * 32 + i.val) * 1 + 0; omega)
  exact congrArg (Ideal.div (t (ix3 h i e))) hb

theorem h_slices (h : Fin 8) : S8x32x128.Slices ![h.val, 0, 0] S1x32x128 := ⟨rfl, fun b => by fin_cases b; exacts [h.isLt, Nat.le_refl 32, Nat.le_refl 128]⟩
/-- A head's quotients. -/
def headPart (t : FVec Ideal S8x32x128 .f32) (h : Fin 8) : FVec Ideal S32x128 .f32 := shapeCast S32x128 (extractStridedSlice S1x32x128 ![h.val, 0, 0] t (h_slices h)) shapeCasts_S1x32x128_S32x128
theorem headPart_apply (t : FVec Ideal S8x32x128 .f32) (h : Fin 8) (i : Fin 32) (e : Fin 128) : headPart t h (ix2 i e) = t (ix3 h i e) := by
  unfold headPart
  refine (shapeCast_apply _ _ _ (ix3 (0 : Fin 1) i e) (by rw [Shape.rowMajor_val_two, Shape.rowMajor_val_three]; show (0 * 32 + i.val) * 128 + e.val = i.val * 128 + e.val; omega)).trans ?_
  refine congrArg t (funext fun b => Fin.ext ?_)
  fin_cases b
  · rfl
  · exact Nat.zero_add _
  · exact Nat.zero_add _
/-- The heads side by side. -/
def sideBySide (t : FVec Ideal S8x32x128 .f32) : FVec Ideal S32x1024 .f32 :=
  concatenate S32x1024 1 (List.ofFn fun h : Fin 8 => (⟨S32x128, headPart t h⟩ : (s : Shape) × (s.Idx → Ideal .f32))) concatenates_S32x128_S32x128_S32x128_S32x128_S32x128_S32x128_S32x128_S32x128_S32x1024_d1
theorem sideBySide_apply (t : FVec Ideal S8x32x128 .f32) (i : Fin 32) (e : Fin 1024) : sideBySide t (ix2 i e) = t (ix3 (⟨e.val / 128, by omega⟩ : Fin 8) i (⟨e.val % 128, by omega⟩ : Fin 128)) := by
  unfold sideBySide
  refine (concatenate_ofFn_apply (t := S32x1024) (s₁ := S32x128) _ (fun h => headPart t h) concatenates_S32x128_S32x128_S32x128_S32x128_S32x128_S32x128_S32x128_S32x128_S32x1024_d1 rfl 128 rfl (ix2 i e) ⟨e.val / 128, by omega⟩ rfl (ix2 i ⟨e.val % 128, by omega⟩) rfl (fun b hb => ?_)).trans (headPart_apply t _ i _)
  fin_cases b
  · rfl
  · exact absurd rfl hb

/-- The finished rows, as a matrix. -/
def rowsM : FVec Ideal S32x1024 .f32 := k2_pay6 (sumL ll d) (sumO lo d) (rdO 6 (gatO lo d)) (rdO 7 (gatO lo d)) (rdW (wo d))
theorem rowsM_eq : rowsM lo ll wo d = matmul dot_S32x1024_S1024x1024_S32x1024_1_0_0_1_n_n none (truncf .bf16 (sideBySide (quot (allO lo d) (sumL ll d))) bitsLt_bf16_f32)
    (truncf .bf16 (shapeCast S1024x1024 (rdW (wo d)) shapeCasts_S1024x1024_S1024x1024 : FVec Ideal S1024x1024 .f32) bitsLt_bf16_f32) (constant S32x1024 .f32 0x00000000#32) := rfl

theorem rowsM_apply (i : Fin 32) (n : Fin 1024) : rowsM lo ll wo d (ix2 i n)
    = ∑ e : Fin 1024, Ideal.div (∑ s : Fin 8, lo s (ix3 (⟨e.val / 128, by omega⟩ : Fin 8) (chRow d i) (⟨e.val % 128, by omega⟩ : Fin 128))) (∑ s : Fin 8, ll s (ix2 (chRow d i) (⟨e.val / 128, by omega⟩ : Fin 8))) * wo d (ix2 e n) := by
  rw [rowsM_eq]
  refine mm_sum _ 1024 rfl rfl _ _ _ _ (fun e => wo d (ix2 e n)) (fun k => ?_) (fun k => ?_)
  · refine Eq.trans (congrArg (sideBySide (quot (allO lo d) (sumL ll d))) (?_ : _ = ix2 i (k ⟨0, by decide⟩))) ((sideBySide_apply _ i _).trans ((quot_apply _ _ _ _ _).trans ?_))
    · funext a; fin_cases a <;> rfl
    · rw [allO_apply, sumL_apply]; rfl
  · refine Eq.trans (congrArg (shapeCast S1024x1024 (rdW (wo d)) shapeCasts_S1024x1024_S1024x1024 : FVec Ideal S1024x1024 .f32) (?_ : _ = ix2 (k ⟨0, by decide⟩) n)) ((shapeCast_apply _ _ _ _ rfl).trans (rdW_apply _ _))
    funext a; fin_cases a <;> rfl

/-- The result at an index, whichever device holds it. -/
theorem outF_apply (r : Fin 256) (n : Fin 1024) : outF lo ll wo d (ix3 0 r n)
    = ∑ e : Fin 1024, Ideal.div (∑ s : Fin 8, lo s (ix3 (⟨e.val / 128, by omega⟩ : Fin 8) r (⟨e.val % 128, by omega⟩ : Fin 128))) (∑ s : Fin 8, ll s (ix2 r (⟨e.val / 128, by omega⟩ : Fin 8))) * wo (rowPart r) (ix2 e n) := by
  have hr : chRow (rowPart r) (rowIn r) = r := Fin.ext (by show 32 * (r.val / 32) + r.val % 32 = r.val; omega)
  have key := rowsM_apply lo ll wo (rowPart r) (rowIn r) n
  rw [hr] at key
  rw [← key]
  have hc : ∀ (x : FVec Ideal S32x1024 .f32), shapeCast S1x32x1024 x shapeCasts_S32x1024_S1x32x1024 (ix3 0 (rowIn r) n) = x (ix2 (rowIn r) n) := fun x =>
    shapeCast_apply _ _ _ _ (by rw [Shape.rowMajor_val_two, Shape.rowMajor_val_three]; show (rowIn r).val * 1024 + n.val = (0 * 32 + (rowIn r).val) * 1024 + n.val; omega)
  have hi : (fun | 0 => ⟨0, Nat.one_pos⟩ | 1 => rowIn r | 2 => n : S1x32x1024.Idx) = ix3 0 (rowIn r) n := by funext a; fin_cases a <;> rfl
  unfold outF
  show (if rowPart r = d then rowsF lo ll wo d (fun | 0 => ⟨0, Nat.one_pos⟩ | 1 => rowIn r | 2 => n : S1x32x1024.Idx) else k2_pay9 (rdG (rowPart r) (agF lo ll wo)) (fun | 0 => ⟨0, Nat.one_pos⟩ | 1 => rowIn r | 2 => n : S1x32x1024.Idx)) = _
  rw [hi]
  by_cases h : rowPart r = d
  · rw [if_pos h, h]; exact hc (rowsM lo ll wo d)
  · rw [if_neg h]
    unfold k2_pay9
    refine (hc _).trans ?_
    refine (shapeCast_apply (s := S1x32x1024) (t := S32x1024) (rdG (rowPart r) (agF lo ll wo)) shapeCasts_S1x32x1024_S32x1024 (ix2 (rowIn r) n) (ix3 0 (rowIn r) n) (by rw [Shape.rowMajor_val_two, Shape.rowMajor_val_three]; show (0 * 32 + (rowIn r).val) * 1024 + n.val = (rowIn r).val * 1024 + n.val; omega)).trans ?_
    rw [rdG_apply]
    refine Eq.trans (congrArg (rowsB lo ll wo (rowPart r)) (?_ : _ = ix3 0 (rowIn r) n)) (hc (rowsM lo ll wo (rowPart r)))
    funext a; fin_cases a <;> rfl

end

end Cert.KernelIdeal.Talk

end
-- ==== Proof.Arrays.lean ====
/- The arrays the main call works on, of the arguments; and the array it leaves. -/
module

public import proofs.«01_k».proof.Proof.HeadVal
public import proofs.«01_k».proof.Proof.Talk
public import Idealize.ShloMosaic.Lib.Pipeline.ValueKit

@[expose] public section

noncomputable section

namespace Cert.KernelIdeal.Talk

open Cert.KernelIdeal Cert.KernelIdeal.Gen Idealize.ShloMosaic.ValueIdx Idealize.ShloMosaic.Pipeline Cert.Attn
open Idealize.ShloMosaic hiding ix1 ix2 ix3 ix4 ix5
open Idealize.ShloMosaic.TcCoe

variable (m : (ℓ : Loc nD τ sig) → Buf (Elt Ideal) ℓ) (c : Dev nD)

/-- A cache with its heads side by side. -/
def flat (A : Vec Ideal S1x4096x8x128 .f32) : Vec Ideal S1x4096x1024 .bf16 := fun i =>
  A (ix4 0 (i 1 : Fin 4096) (⟨(i 2).val / 128, by have h : (i 2).val < 1024 := (i 2).isLt; omega⟩ : Fin 8) (⟨(i 2).val % 128, Nat.mod_lt _ (by decide)⟩ : Fin 128))

/-- A block of a cache without its leading axis, and with its heads side by side. -/
def cut3 (v : Vec Ideal S1x512x8x128 .f32) : FVec Ideal S512x8x128 .f32 := shapeCast S512x8x128 v shapeCasts_S1x512x8x128_S512x8x128
theorem cut3_apply (v : Vec Ideal S1x512x8x128 .f32) (r : Fin 512) (h : Fin 8) (d : Fin 128) : cut3 v (ix3 r h d) = v (ix4 0 r h d) :=
  shapeCast_apply _ _ _ _ (by rw [Shape.rowMajor_val_four, Shape.rowMajor_val_three]; show ((0 * 512 + r.val) * 8 + h.val) * 128 + d.val = (r.val * 8 + h.val) * 128 + d.val; omega)
def cut2 (v : Vec Ideal S1x512x8x128 .f32) : FVec Ideal S512x1024 .f32 := shapeCast S512x1024 (cut3 v) shapeCasts_S512x8x128_S512x1024
theorem cut2_apply (v : Vec Ideal S1x512x8x128 .f32) (r : Fin 512) (e : Fin 1024) (h : Fin 8) (d : Fin 128) (he : e.val = 128 * h.val + d.val) : cut2 v (ix2 r e) = cut3 v (ix3 r h d) :=
  shapeCast_apply _ _ _ _ (by rw [Shape.rowMajor_val_two, Shape.rowMajor_val_three]; show (r.val * 8 + h.val) * 128 + d.val = r.val * 1024 + e.val; omega)
theorem pay_apply (v : Vec Ideal S1x512x8x128 .f32) (r : Fin 512) (e : Fin 1024) (h : Fin 8) (d : Fin 128) (he : e.val = 128 * h.val + d.val) : k0_pay1 v (ix3 0 r e) = v (ix4 0 r h d) := by
  have e1 : k0_pay1 v = shapeCast S1x512x1024 (truncf .bf16 (cut2 v) bitsLt_bf16_f32 : FVec Ideal S512x1024 .bf16) shapeCasts_S512x1024_S1x512x1024 := rfl
  rw [e1]
  refine Eq.trans ?_ ((cut2_apply v r e h d he).trans (cut3_apply v r h d))
  exact shapeCast_apply _ _ _ (ix2 r e) (by rw [Shape.rowMajor_val_two, Shape.rowMajor_val_three]; show r.val * 1024 + e.val = (0 * 512 + r.val) * 1024 + e.val; omega)

theorem ix0_0 : ∀ t : Fin cfg0.N, win0_0.index t = ![0, t.val, 0, 0] := (by decide +kernel : ∀ t : Fin grid0.N, win0_0.index t = ![0, t.val, 0, 0])
theorem ix0_1 : ∀ t : Fin cfg0.N, win0_1.index t = ![0, t.val, 0] := (by decide +kernel : ∀ t : Fin grid0.N, win0_1.index t = ![0, t.val, 0])
theorem ix1_0 : ∀ t : Fin cfg1.N, win1_0.index t = ![0, t.val, 0, 0] := (by decide +kernel : ∀ t : Fin grid1.N, win1_0.index t = ![0, t.val, 0, 0])
theorem ix1_1 : ∀ t : Fin cfg1.N, win1_1.index t = ![0, t.val, 0] := (by decide +kernel : ∀ t : Fin grid1.N, win1_1.index t = ![0, t.val, 0])
theorem ix2_0 : ∀ t : Fin cfg2.N, win2_0.index t = ![0, 0, 0] := (by decide +kernel : ∀ t : Fin grid2.N, win2_0.index t = ![0, 0, 0])
theorem ix2_1 : ∀ t : Fin cfg2.N, win2_1.index t = ![0, t.val] := (by decide +kernel : ∀ t : Fin grid2.N, win2_1.index t = ![0, t.val])
theorem ix2_2 : ∀ t : Fin cfg2.N, win2_2.index t = ![0, 0, t.val] := (by decide +kernel : ∀ t : Fin grid2.N, win2_2.index t = ![0, 0, t.val])
theorem ix2_3 : ∀ t : Fin cfg2.N, win2_3.index t = ![0, 0, t.val] := (by decide +kernel : ∀ t : Fin grid2.N, win2_3.index t = ![0, 0, t.val])
theorem ix2_4 : ∀ t : Fin cfg2.N, win2_4.index t = ![0, 0] := (by decide +kernel : ∀ t : Fin grid2.N, win2_4.index t = ![0, 0])
theorem ix2_5 : ∀ t : Fin cfg2.N, win2_5.index t = ![0, 0, 0] := (by decide +kernel : ∀ t : Fin grid2.N, win2_5.index t = ![0, 0, 0])

theorem pay_apply1 (v : Vec Ideal S1x512x8x128 .f32) (r : Fin 512) (e : Fin 1024) (h : Fin 8) (d : Fin 128) (he : e.val = 128 * h.val + d.val) : k1_pay1 v (ix3 0 r e) = v (ix4 0 r h d) := pay_apply v r e h d he
theorem kArr_eq : kArr m c = flat (m ((c : Thread nD τ).loc main_arg2)) := by
  unfold kArr
  refine (dat0 m c).arrAt_eq_of_covers 1 _ (by decide +kernel) fun t hf y => ?_
  blk_simp
  have hy : y = ix3 (0 : Fin 1) (y 1 : Fin 512) (y 2 : Fin 1024) := by
    funext a; fin_cases a
    · exact Subsingleton.elim (α := Fin 1) _ _
    · rfl
    · rfl
  have h2 : (y 2).val < 1024 := (y 2).isLt
  refine Eq.trans (?_ : _ = blk0 m c t (ix4 (0 : Fin 1) (y 1 : Fin 512) (⟨(y 2).val / 128, by omega⟩ : Fin 8) (⟨(y 2).val % 128, Nat.mod_lt _ (by decide)⟩ : Fin 128))) ?_
  · refine Eq.trans (congrArg (k0_pay1 (blk0 m c t)) hy) (pay_apply _ _ _ _ _ ?_)
    show (y 2).val = 128 * ((y 2).val / 128) + (y 2).val % 128
    omega
  · unfold blk0 flat
    blk_simp
    refine congrArg _ ?_
    blk_ext [ix0_0, ix0_1]
    show t.val * 512 + (y 1).val = ((win0_1.blk t).view.emb y 1).val
    blk_simp [ix0_1]

theorem vArr_eq : vArr m c = flat (m ((c : Thread nD τ).loc main_arg3)) := by
  unfold vArr
  refine (dat1 m c).arrAt_eq_of_covers 1 _ (by decide +kernel) fun t hf y => ?_
  blk_simp
  have hy : y = ix3 (0 : Fin 1) (y 1 : Fin 512) (y 2 : Fin 1024) := by
    funext a; fin_cases a
    · exact Subsingleton.elim (α := Fin 1) _ _
    · rfl
    · rfl
  have h2 : (y 2).val < 1024 := (y 2).isLt
  refine Eq.trans (?_ : _ = blk1 m c t (ix4 (0 : Fin 1) (y 1 : Fin 512) (⟨(y 2).val / 128, by omega⟩ : Fin 8) (⟨(y 2).val % 128, Nat.mod_lt _ (by decide)⟩ : Fin 128))) ?_
  · refine Eq.trans (congrArg (k1_pay1 (blk1 m c t)) hy) (pay_apply1 _ _ _ _ _ ?_)
    show (y 2).val = 128 * ((y 2).val / 128) + (y 2).val % 128
    omega
  · unfold blk1 flat
    blk_simp
    refine congrArg _ ?_
    blk_ext [ix1_0, ix1_1]
    show t.val * 512 + (y 1).val = ((win1_1.blk t).view.emb y 1).val
    blk_simp [ix1_1]

/-- A window that is its array reads the array. -/
theorem xI_eq : xI m c = (m ((c : Thread nD τ).loc main_arg0) : Vec Ideal S1x256x1024 .f32) := by
  unfold xI
  funext y
  blk_simp
  refine congrArg _ ?_
  blk_ext [ix2_0]
theorem woI_eq : woI m c = (m ((c : Thread nD τ).loc main_arg4) : Vec Ideal S1024x1024 .f32) := by
  unfold woI
  funext y
  blk_simp
  refine congrArg _ ?_
  blk_ext [ix2_4]
theorem wqI_apply (h : Fin 8) (t : Fin 1024) (d : Fin 128) : wqI m c h (ix2 t d) = (m ((c : Thread nD τ).loc main_arg1) : Vec Ideal S1024x1024 .f32) (ix2 t (col h d)) := by
  unfold wqI
  blk_simp
  refine congrArg _ ?_
  funext a
  refine Fin.ext ?_
  fin_cases a
  · show ((win2_1.blk (pt h)).view.emb (ix2 t d) 0).val = t.val
    blk_simp [ix2_1]
    rfl
  · show ((win2_1.blk (pt h)).view.emb (ix2 t d) 1).val = 128 * h.val + d.val
    blk_simp [ix2_1]
    show h.val * 128 + d.val = 128 * h.val + d.val
    omega
theorem kI_apply (h : Fin 8) (j : Fin 4096) (d : Fin 128) : kI m c h (ix3 0 j d) = (m ((c : Thread nD τ).loc main_arg2) : Vec Ideal S1x4096x8x128 .f32) (ix4 0 j h d) := by
  unfold kI
  rw [kArr_eq]
  unfold flat
  blk_simp
  refine congrArg _ ?_
  blk_ext [ix2_2, pt]
  · show ((win2_2.blk (pt h)).view.emb (ix3 0 j d) 1).val = j.val
    blk_simp [ix2_2]
    rfl
  · show (h.val * 128 + d.val) / 128 = h.val
    omega
  · show (h.val * 128 + d.val) % 128 = d.val
    omega
theorem vI_apply (h : Fin 8) (j : Fin 4096) (d : Fin 128) : vI m c h (ix3 0 j d) = (m ((c : Thread nD τ).loc main_arg3) : Vec Ideal S1x4096x8x128 .f32) (ix4 0 j h d) := by
  unfold vI
  rw [vArr_eq]
  unfold flat
  blk_simp
  refine congrArg _ ?_
  blk_ext [ix2_3, pt]
  · show ((win2_3.blk (pt h)).view.emb (ix3 0 j d) 1).val = j.val
    blk_simp [ix2_3]
    rfl
  · show (h.val * 128 + d.val) / 128 = h.val
    omega
  · show (h.val * 128 + d.val) % 128 = d.val
    omega

/-- The array the main call leaves. -/
theorem out_arr : (dat2 m c).arrAt 5 cfg2.N = outI m c := by
  refine (dat2 m c).arrAt_eq_of_covers 5 _ (by decide +kernel) fun t hf y => ?_
  blk_simp
  refine congrArg (outI m c) ?_
  blk_ext [ix2_5]

end Cert.KernelIdeal.Talk

end
-- ==== Proof.RefVal.lean ====
/- The reference's result at an index, where the scores are finite. -/
module

public import proofs.«01_k».proof.Proof.RefMask
public import proofs.«01_k».proof.Proof.Plain

@[expose] public section

noncomputable section

namespace Cert.ReferenceIdeal.Steps

open Cert.ReferenceIdeal Cert.ReferenceIdeal.Gen Idealize.ShloMosaic Idealize.ShloMosaic.ValueIdx Cert.Attn

/-- The host's product over one axis. -/
theorem dot_sum {sl sr so : Shape} {φ₁ φ₂ : FTy} (d : DotDims sl sr so) (n : ℕ) (hr : d.contr.rank = 1) (hs : d.contr.size ⟨0, by omega⟩ = n) (lhs : FVec Ideal sl φ₁) (rhs : FVec Ideal sr φ₂) (j : so.Idx)
    (L R : Fin n → EReal) (hl : ∀ k, lhs (d.lhsIdx j k) = L (contrEquiv1 d n hr hs k)) (hr' : ∀ k, rhs (d.rhsIdx j k) = R (contrEquiv1 d n hr hs k)) :
    Host.dotGeneral d none lhs rhs j = ∑ k, L k * R k := by
  refine (Ideal.dotGeneral_apply d none .single lhs rhs j).trans ?_
  rw [← Equiv.sum_comp (contrEquiv1 d n hr hs)]
  exact Finset.sum_congr rfl fun k _ => by rw [hl, hr']

/-- A selection where the condition holds. -/
theorem select_one {s : Shape} (c : IVec s 1) (a b : FVec Ideal s .f32) (i : s.Idx) (h : c i = 1#1) : select c a b i = a i := if_pos h
/-- The host's quotient at an index. -/
theorem host_div {s : Shape} (a b : FVec Ideal s .f32) (i : s.Idx) : Host.divf a b i = Ideal.div (a i) (b i) := rfl

variable (x : FVec Ideal S1x256x1024 .f32) (wq : FVec Ideal S1024x1024 .f32) (k v : FVec Ideal S1x32768x8x128 .f32) (wo : FVec Ideal S1024x1024 .f32)
variable (xr : Fin 256 → Fin 1024 → ℝ) (wr : Fin 1024 → Fin 1024 → ℝ) (kr : Fin 32768 → Fin 8 → Fin 128 → ℝ)
variable (hx : ∀ r t, x (ix3 0 r t) = (xr r t : EReal)) (hw : ∀ t e, wq (ix2 t e) = (wr t e : EReal)) (hk : ∀ j h d, k (ix4 0 j h d) = (kr j h d : EReal))
include hx hw

theorem queries_apply (r : Fin 256) (h : Fin 8) (d : Fin 128) : queries x wq (ix4 0 r h d) = (qd xr wr r (col h d) : EReal) := by
  unfold queries
  rw [shapeCast_apply _ _ _ (ix3 0 r (col h d)) (by
    rw [Shape.rowMajor_val_three, Shape.rowMajor_val_four]
    show (0 * 256 + r.val) * 1024 + (128 * h.val + d.val) = ((0 * 256 + r.val) * 8 + h.val) * 128 + d.val
    omega)]
  refine (dot_sum _ 1024 rfl rfl x wq _ (fun t => x (ix3 0 r t)) (fun t => wq (ix2 t (col h d))) (fun t => congrArg x ?_) (fun t => congrArg wq ?_)).trans ?_
  · funext a; fin_cases a <;> rfl
  · funext a; fin_cases a <;> rfl
  · simp only [hx, hw, ← EReal.coe_mul, sum_coe]; rfl
include hk

theorem scores_apply (r : Fin 256) (h : Fin 8) (j : Fin 32768) : scores x wq k (ix4 0 h r j) = sc (score xr wr kr r h) (fun j => Kept (r.val / 64) (j.val / 64)) j := by
  unfold scores
  have hm : broadcastInDim S1x8x256x32768 ![0, 1, 2, 3] bcast_S1x1x256x32768_S1x8x256x32768_0_1_2_3 (broadcastInDim S1x1x256x32768 ![2, 3] bcast_S256x32768_S1x1x256x32768_2_3 maskR) (ix4 0 h r j) = maskR (ix2 r j) := by
    rw [broadcastInDim_apply _ _ _ _ (ix4 (0 : Fin 1) (0 : Fin 1) r j) (fun a => by fin_cases a <;> rfl)]
    exact broadcastInDim_apply _ _ _ _ _ (fun a => by fin_cases a <;> rfl)
  have hd : Host.dotGeneral dot_S1x256x8x128_S1x32768x8x128_S1x8x256x32768_3_3_1_1_02_02 none (queries x wq) k (ix4 0 h r j) = ((∑ d, qd xr wr r (col h d) * kr j h d : ℝ) : EReal) := by
    refine (dot_sum _ 128 rfl rfl (queries x wq) k _ (fun d => queries x wq (ix4 0 r h d)) (fun d => k (ix4 0 j h d)) (fun t => congrArg _ ?_) (fun t => congrArg _ ?_)).trans ?_
    · funext a; fin_cases a <;> rfl
    · funext a; fin_cases a <;> rfl
    · simp only [queries_apply x wq xr wr hx hw, hk, ← EReal.coe_mul, sum_coe]
  show (if (broadcastInDim S1x8x256x32768 ![0, 1, 2, 3] bcast_S1x1x256x32768_S1x8x256x32768_0_1_2_3 (broadcastInDim S1x1x256x32768 ![2, 3] bcast_S256x32768_S1x1x256x32768_2_3 maskR) (ix4 0 h r j)) = 1#1
    then Host.dotGeneral dot_S1x256x8x128_S1x32768x8x128_S1x8x256x32768_3_3_1_1_02_02 none (queries x wq) k (ix4 0 h r j) * Ideal.ofBits .f32 0x3DB504F3#32 else Ideal.ofBits .f32 0xFF800000#32) = _
  rw [hm, hd, scale_eq, minus_inf, ← EReal.coe_mul]
  unfold sc
  exact if_congr (maskR_apply r j) rfl rfl

theorem greatest_apply (r : Fin 256) (h : Fin 8) : greatest x wq k (ix3 0 h r) = top (score xr wr kr r h) (fun j => Kept (r.val / 64) (j.val / 64)) := by
  unfold greatest
  have hR : S1x8x256x32768.Reduces [3] S1x8x256 := by decide
  rw [Host.reduce_eq_fold_single (FloatOps.maximumf (F := Ideal) (φ := .f32)) _ _ _ hR]
  unfold top
  refine (congrArg₂ (fun b f => (Finset.univ : Finset (Fin 32768)).fold max b f) minus_inf (funext fun j => ?_) : _)
  refine Eq.trans ?_ (scores_apply x wq k xr wr kr hx hw hk r h j)
  refine congrArg (scores x wq k) ?_
  funext a; fin_cases a <;> rfl

theorem expo_apply (r : Fin 256) (h : Fin 8) (j : Fin 32768) : expo x wq k (ix4 0 h r j)
    = Ideal.exp (sc (score xr wr kr r h) (fun j => Kept (r.val / 64) (j.val / 64)) j - top (score xr wr kr r h) (fun j => Kept (r.val / 64) (j.val / 64))) := by
  have hg : broadcastInDim S1x8x256x32768 ![0, 1, 2, 3] bcast_S1x8x256x1_S1x8x256x32768_0_1_2_3 (broadcastInDim S1x8x256x1 ![0, 1, 2] bcast_S1x8x256_S1x8x256x1_0_1_2 (greatest x wq k)) (ix4 0 h r j) = greatest x wq k (ix3 0 h r) := by
    rw [broadcastInDim_apply _ _ _ _ (ix4 (0 : Fin 1) h r (0 : Fin 1)) (fun a => by fin_cases a <;> rfl)]
    exact broadcastInDim_apply _ _ _ _ _ (fun a => by fin_cases a <;> rfl)
  rw [← greatest_apply x wq k xr wr kr hx hw hk r h, ← scores_apply x wq k xr wr kr hx hw hk r h j, ← hg]
  rfl

theorem total_apply (r : Fin 256) (h : Fin 8) : total x wq k (ix3 0 h r)
    = ∑ j, Ideal.exp (sc (score xr wr kr r h) (fun j => Kept (r.val / 64) (j.val / 64)) j - top (score xr wr kr r h) (fun j => Kept (r.val / 64) (j.val / 64))) := by
  have hR : S1x8x256x32768.Reduces [3] S1x8x256 := by decide
  refine (Ideal.hostReduceAdd_single reducesTo_S1x8x256x32768_S1x8x256_d3 hR (expo x wq k) (Ideal.ofBits .f32 0x00000000#32) (ix3 0 h r)).trans ?_
  rw [Ideal.ofBits_zero_f32, zero_add]
  refine Finset.sum_congr rfl fun j _ => ?_
  refine Eq.trans (congrArg (expo x wq k) ?_) (expo_apply x wq k xr wr kr hx hw hk r h j)
  funext a; fin_cases a <;> rfl

theorem weights_apply (r : Fin 256) (h : Fin 8) (j : Fin 32768) : weights x wq k (ix4 0 h r j)
    = Ideal.div (Ideal.exp (sc (score xr wr kr r h) (fun j => Kept (r.val / 64) (j.val / 64)) j - top (score xr wr kr r h) (fun j => Kept (r.val / 64) (j.val / 64))))
      (∑ j, Ideal.exp (sc (score xr wr kr r h) (fun j => Kept (r.val / 64) (j.val / 64)) j - top (score xr wr kr r h) (fun j => Kept (r.val / 64) (j.val / 64)))) := by
  have h1 : broadcastInDim S1x8x256x32768 ![0, 1, 2, 3] bcast_S1x1x256x1_S1x8x256x32768_0_1_2_3 (broadcastInDim S1x1x256x1 ![2] bcast_S256_S1x1x256x1_2 keepR) (ix4 0 h r j) = 1#1 := by
    rw [broadcastInDim_apply _ _ _ _ (ix4 (0 : Fin 1) (0 : Fin 1) r (0 : Fin 1)) (fun a => by fin_cases a <;> rfl)]
    exact (broadcastInDim_apply _ _ _ _ (ix1 r) (fun a => by fin_cases a <;> rfl)).trans (keepR_apply r)
  have h2 : broadcastInDim S1x8x256x1 ![0, 1, 2, 3] bcast_S1x1x256x1_S1x8x256x1_0_1_2_3 (broadcastInDim S1x1x256x1 ![2] bcast_S256_S1x1x256x1_2 keepR) (ix4 0 h r (0 : Fin 1)) = 1#1 := by
    rw [broadcastInDim_apply _ _ _ _ (ix4 (0 : Fin 1) (0 : Fin 1) r (0 : Fin 1)) (fun a => by fin_cases a <;> rfl)]
    exact (broadcastInDim_apply _ _ _ _ (ix1 r) (fun a => by fin_cases a <;> rfl)).trans (keepR_apply r)
  have h3 : broadcastInDim S1x8x256x1 ![0, 1, 2] bcast_S1x8x256_S1x8x256x1_0_1_2 (total x wq k) (ix4 0 h r (0 : Fin 1)) = total x wq k (ix3 0 h r) :=
    broadcastInDim_apply _ _ _ _ _ (fun a => by fin_cases a <;> rfl)
  have h4 : denom x wq k (ix4 0 h r (0 : Fin 1)) = total x wq k (ix3 0 h r) := by
    exact (select_one _ _ _ _ h2).trans h3
  have h5 : broadcastInDim S1x8x256x32768 ![0, 1, 2, 3] bcast_S1x8x256x1_S1x8x256x32768_0_1_2_3 (denom x wq k) (ix4 0 h r j) = total x wq k (ix3 0 h r) :=
    (broadcastInDim_apply _ _ _ _ (ix4 (0 : Fin 1) h r (0 : Fin 1)) (fun a => by fin_cases a <;> rfl)).trans h4
  unfold weights
  refine (select_one _ _ _ _ h1).trans ?_
  rw [host_div, h5, expo_apply x wq k xr wr kr hx hw hk, total_apply x wq k xr wr kr hx hw hk]

/-- The attention of a row, in a head's column. -/
theorem mixed_apply (r : Fin 256) (h : Fin 8) (d : Fin 128) : mixed x wq k v (ix4 0 h d r)
    = Ideal.div (∑ j, (wt (score xr wr kr r h) (fun j => Kept (r.val / 64) (j.val / 64)) j : EReal) * v (ix4 0 j h d)) (∑ j : Fin 32768, (wt (score xr wr kr r h) (fun j => Kept (r.val / 64) (j.val / 64)) j : EReal)) := by
  rw [← softmax _ _ ⟨(0 : Fin 32768), Or.inr (Or.inl rfl)⟩]
  unfold mixed
  refine dot_sum _ 32768 rfl rfl v (weights x wq k) _ (fun j => v (ix4 0 j h d)) _ (fun t => congrArg _ ?_) (fun t => ?_)
  · funext a; fin_cases a <;> rfl
  · refine Eq.trans (congrArg (weights x wq k) ?_) (weights_apply x wq k xr wr kr hx hw hk r h _)
    funext a; fin_cases a <;> rfl

/-- The head and the column in it. -/
theorem refOut_apply (r : Fin 256) (n : Fin 1024) : refOut x wq k v wo (ix3 0 r n)
    = ∑ e : Fin 1024, mixed x wq k v (ix4 0 (⟨e.val / 128, by omega⟩ : Fin 8) (⟨e.val % 128, by omega⟩ : Fin 128) r) * wo (ix2 e n) := by
  unfold refOut
  refine dot_sum _ 1024 rfl rfl _ wo _ _ (fun e => wo (ix2 e n)) (fun t => ?_) (fun t => congrArg _ ?_)
  · rw [shapeCast_apply _ _ _ (ix4 0 r (⟨(t ⟨0, by decide⟩).val / 128, by have := (t ⟨0, by decide⟩).isLt; change _ < 1024 at this; omega⟩ : Fin 8) (⟨(t ⟨0, by decide⟩).val % 128, by omega⟩ : Fin 128)) (by
      rw [Shape.rowMajor_val_three, Shape.rowMajor_val_four]
      show ((0 * 256 + r.val) * 8 + (t ⟨0, by decide⟩).val / 128) * 128 + (t ⟨0, by decide⟩).val % 128 = (0 * 256 + r.val) * 1024 + (t ⟨0, by decide⟩).val
      omega)]
    exact transpose_apply _ _ _ _ _ (fun b => by fin_cases b <;> rfl)
  · funext a; fin_cases a <;> rfl

end Cert.ReferenceIdeal.Steps

end
-- ==== Proof.Finite.lean ====
/- What the precondition says of one device's arrays: every input of the scores is a real number. -/
module

public import proofs.«01_k».proof.Defs
public import Idealize.ShloMosaic.Lib.ReduceAll

@[expose] public section

noncomputable section

namespace Cert.Pre_finite_scores_KernelIdeal

open Idealize.ShloMosaic

/-- An extended real whose magnitude is below the word of plus infinity is a real number. -/
theorem real_of_lt (x : EReal) (h : FloatOps.cmpf (F := Ideal) (φ := .f32) .olt (FloatOps.hostAbsf (F := Ideal) (φ := .f32) x) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have h' : max x (-x) < (⊤ : EReal) := by
    by_contra hn
    exact absurd h (by show ¬ (BitVec.ofBool (decide (max x (-x) < (⊤ : EReal))) = 1#1); rw [decide_eq_false hn]; decide)
  induction x with
  | coe r => exact ⟨r, rfl⟩
  | bot => simp at h'
  | top => simp at h'

variable [Facts]
open Facts

/-- Where all the comparisons of an array's magnitudes with infinity hold, the array is an array of reals. -/
theorem real_of_all {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant S_ .f32 0x7F800000#32))) (constantI S_ 1 1#1) hr h_S_ (fun a => a.elim0) = 1#1) (i : s.Idx) :
    ∃ r : ℝ, x i = (r : EReal) := by
  haveI : Subsingleton S_.Idx := ⟨fun a b => funext fun d => d.elim0⟩
  exact real_of_lt _ (Host.reduce_andi_all _ _ hr h_S_ _ h i)

/-- The precondition on one device: its queries' inputs and its keys are arrays of reals. -/
theorem real_args (a0 : FVec Ideal S1x256x1024 .f32) (a1 : FVec Ideal S1024x1024 .f32) (a2 a3 : FVec Ideal S1x4096x8x128 .f32) (a4 : FVec Ideal S1024x1024 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h (fun a => a.elim0)
  obtain ⟨h12, h3⟩ := IntOp.andi_eq_one.1 h0
  obtain ⟨h1, h2⟩ := IntOp.andi_eq_one.1 h12
  exact ⟨real_of_all a0 _ _ h1, real_of_all a1 _ _ h2, real_of_all a2 _ _ h3⟩

end Cert.Pre_finite_scores_KernelIdeal

end
-- ==== Proof.Value.lean ====
/- The value claim: every device's result is the reference's. -/
module

public import proofs.«01_k».proof.Proof.Whole
public import proofs.«01_k».proof.Proof.Rows
public import proofs.«01_k».proof.Proof.Arrays
public import proofs.«01_k».proof.Proof.RefVal
public import proofs.«01_k».proof.Proof.Finite
public import proofs.«01_k».proof.Proof.Frames
public import proofs.«01_k».proof.Proof.Gen.Pre_finite_scores_KernelIdeal
public import Idealize.ShloMosaic.Lib.Layout
public import proofs.«01_k».proof.Defs

@[expose] public section

noncomputable section

namespace Cert.KernelIdeal.Talk

open Cert.KernelIdeal Cert.KernelIdeal.Gen Idealize.ShloMosaic.ValueIdx Cert.Attn Cert.ReferenceIdeal.Steps Idealize.SL.Sem
open Idealize.ShloMosaic hiding ix1 ix2 ix3 ix4 ix5
open Idealize.ShloMosaic.TcCoe

section out
variable (m : (ℓ : Loc nD τ sig) → Buf (Elt Ideal) ℓ)
variable (x : FVec Ideal ReferenceIdeal.S1x256x1024 .f32) (wq : FVec Ideal ReferenceIdeal.S1024x1024 .f32) (k v : FVec Ideal ReferenceIdeal.S1x32768x8x128 .f32) (wo : FVec Ideal ReferenceIdeal.S1024x1024 .f32)
variable (xr : Fin 256 → Fin 1024 → ℝ) (wr : Fin 1024 → Fin 1024 → ℝ) (kr : Fin 32768 → Fin 8 → Fin 128 → ℝ)
variable (hx : ∀ r t, x (ix3 0 r t) = (xr r t : EReal)) (hw : ∀ t e, wq (ix2 t e) = (wr t e : EReal)) (hk : ∀ j h d, k (ix4 0 j h d) = (kr j h d : EReal))
variable (h0 : ∀ c : Dev nD, (m ((c : Thread nD τ).loc main_arg0) : Vec Ideal S1x256x1024 .f32) = x)
variable (h1 : ∀ c : Dev nD, (m ((c : Thread nD τ).loc main_arg1) : Vec Ideal S1024x1024 .f32) = wq)
variable (h2 : ∀ (c : Dev nD) (j : Fin 4096) (h : Fin 8) (d : Fin 128), (m ((c : Thread nD τ).loc main_arg2) : Vec Ideal S1x4096x8x128 .f32) (ix4 0 j h d) = k (ix4 0 (key c j) h d))
variable (h3 : ∀ (c : Dev nD) (j : Fin 4096) (h : Fin 8) (d : Fin 128), (m ((c : Thread nD τ).loc main_arg3) : Vec Ideal S1x4096x8x128 .f32) (ix4 0 j h d) = v (ix4 0 (key c j) h d))
variable (h4 : ∀ c : Dev nD, (m ((c : Thread nD τ).loc main_arg4) : Vec Ideal S1024x1024 .f32) = wo)
include hx hw hk h0 h1 h2 h3 h4

/-- An element of a device's result. -/
theorem out_elem (c : Dev nD) (r : Fin 256) (n : Fin 1024) : outI m c (ix3 0 r n) = refOut x wq k v wo (ix3 0 r n) := by
  have hX : ∀ (c : Dev nD) r t, xI m c (ix3 0 r t) = (xr r t : EReal) := fun c r t => by rw [xI_eq, h0, hx]
  have hW : ∀ (c : Dev nD) h t d, wqI m c h (ix2 t d) = (wr t (col h d) : EReal) := fun c h t d => by rw [wqI_apply, h1, hw]
  have hK : ∀ (c : Dev nD) h j d, kI m c h (ix3 0 j d) = (kr (key c j) h d : EReal) := fun c h j d => by rw [kI_apply, h2, hk]
  have hV : ∀ (c : Dev nD) h j d, vI m c h (ix3 0 j d) = v (ix4 0 (key c j) h d) := fun c h j d => by rw [vI_apply, h3]
  rw [refOut_apply x wq k v wo xr wr kr hx hw hk, show outI m c (ix3 0 r n) = _ from outF_apply _ _ _ c r n]
  refine Finset.sum_congr rfl fun e _ => ?_
  rw [mixed_apply x wq k v xr wr kr hx hw hk, num_all _ _ _ _ v xr wr kr hX hW hK hV, den_all _ _ _ _ xr wr kr hX hW hK, woI_eq, h4]

/-- A device's result. -/
theorem out_eq (c : Dev nD) : outI m c = refOut x wq k v wo := by
  funext i
  have e : i = ix3 (0 : Fin 1) (i 1 : Fin 256) (i 2 : Fin 1024) := by
    funext a; fin_cases a
    · exact Subsingleton.elim (α := Fin 1) _ _
    · rfl
    · rfl
  rw [e]
  exact out_elem m x wq k v wo xr wr kr hx hw hk h0 h1 h2 h3 h4 c _ _

end out

/-- A block of a cache cut over the devices, by coordinates. -/
theorem block_key {α : Type} (A : (⟨4, ![1, 32768, 8, 128]⟩ : Shape).Idx → α) (c : Fin 8) (j : Fin 4096) (h : Fin 8) (d : Fin 128) :
    Layout.block ⟨4, ![1, 4096, 8, 128]⟩ ⟨4, ![1, 32768, 8, 128]⟩ 1 8 c A (by decide) (ix4 0 j h d) = A (ix4 0 (key c j) h d) := by
  rw [Layout.block_apply]
  refine congrArg A ?_
  funext a
  apply Fin.ext
  rw [Layout.Tiles.idx_val]
  fin_cases a
  · rfl
  · show c.val * 4096 + j.val = 4096 * c.val + j.val; omega
  · rfl
  · rfl

/-- The value claim. -/
theorem value : Cert.algebraic_KernelIdeal_ReferenceIdeal_pre_finite_scores_KernelIdeal := by
  intro m g m' g' hp hargs
  have h0 := fun c => (hargs c).1
  have h1 := fun c => (hargs c).2.1
  have h2 := fun c => (hargs c).2.2.1
  have h3 := fun c => (hargs c).2.2.2.1
  have h4 := fun c => (hargs c).2.2.2.2
  have hr := fun c : Dev nD => Cert.Pre_finite_scores_KernelIdeal.real_args _ _ _ _ _ (hp c)
  have h2' : ∀ (c : Dev nD) (j : Fin 4096) (h : Fin 8) (d : Fin 128), (m ((c : Thread nD τ).loc main_arg2) : Vec Ideal S1x4096x8x128 .f32) (ix4 0 j h d)
      = (m' (((0 : Dev Cert.ReferenceIdeal.nD).tc : Thread Cert.ReferenceIdeal.nD Cert.ReferenceIdeal.τ).loc Cert.ReferenceIdeal.main_arg2) : FVec Ideal ReferenceIdeal.S1x32768x8x128 .f32) (ix4 0 (key c j) h d) :=
    fun c j h d => (congrFun (h2 c) _).trans (block_key _ c j h d)
  have h3' : ∀ (c : Dev nD) (j : Fin 4096) (h : Fin 8) (d : Fin 128), (m ((c : Thread nD τ).loc main_arg3) : Vec Ideal S1x4096x8x128 .f32) (ix4 0 j h d)
      = (m' (((0 : Dev Cert.ReferenceIdeal.nD).tc : Thread Cert.ReferenceIdeal.nD Cert.ReferenceIdeal.τ).loc Cert.ReferenceIdeal.main_arg3) : FVec Ideal ReferenceIdeal.S1x32768x8x128 .f32) (ix4 0 (key c j) h d) :=
    fun c j h d => (congrFun (h3 c) _).trans (block_key _ c j h d)
  choose fx hfx using (hr 0).1
  choose fw hfw using (hr 0).2.1
  choose fk hfk using fun c => (hr c).2.2
  have hout := fun c => out_eq m _ _ _ _ _ (fun r t => fx (ix3 0 r t)) (fun t e => fw (ix2 t e))
    (fun J h d => fk (⟨J.val / 4096, by have := J.isLt; change _ < 8; omega⟩ : Dev nD) (ix4 0 (⟨J.val % 4096, by omega⟩ : Fin 4096) h d))
    (fun r t => (congrFun (h0 0) _).symm.trans (hfx _)) (fun t e => (congrFun (h1 0) _).symm.trans (hfw _))
    (fun J h d => by
      rw [← hfk]
      refine Eq.trans ?_ (h2' _ _ h d).symm
      refine congrArg (fun J' : Fin 32768 => (m' (((0 : Dev Cert.ReferenceIdeal.nD).tc : Thread Cert.ReferenceIdeal.nD Cert.ReferenceIdeal.τ).loc Cert.ReferenceIdeal.main_arg2) : FVec Ideal ReferenceIdeal.S1x32768x8x128 .f32) (ix4 0 J' h d)) (Fin.ext ?_)
      show J.val = 4096 * (J.val / 4096) + J.val % 4096
      omega)
    h0 h1 h2' h3' h4 c
  refine ⟨_, (θ_run Cert.KernelIdeal.defs _ _).mono (fun r h c => ⟨?_, (h.1 c).1⟩) (run_main (F := Ideal) m g),
    (θ_run Cert.ReferenceIdeal.defs _ _).mono (fun r h => ⟨(h 0).1.trans (refOut_eq m' 0), (h 0).2⟩) (Cert.ReferenceIdeal.Value.run (F := Ideal) m' g')⟩
  exact (h.1 c).2.trans ((out_arr m c).trans (hout c))

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.KernelIdeal.Talk.frame_kernel, Cert.KernelIdeal.Talk.frame_ideal, fun m g _ => Cert.KernelIdeal.Talk.frame_ideal m g trivial,
  Cert.KernelIdeal.Talk.frame_reference, fun m g _ => Cert.KernelIdeal.Talk.frame_reference m g trivial, trivial, Cert.KernelIdeal.Talk.value⟩

end Cert.Proof

end
